-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite2 [hPre_finite2 : Cert.Pre_finite2.Facts] (m : (ℓ : Loc Cert.AttnIdeal.nD Cert.AttnIdeal.τ Cert.AttnIdeal.sig) → Buf (Elt Ideal) ℓ) : Prop :=
  ∀ c : Dev Cert.AttnIdeal.nD,
    (Cert.Pre_finite2.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite2 [hPre_finite2 : Cert.Pre_finite2.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite2.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4)) (m ((c.tc : Thread Cert.AttnReferenceIdeal.nD Cert.AttnReferenceIdeal.τ).loc Cert.AttnReferenceIdeal.main_arg5)) (m ((c.tc : Thread Cert.AttnReferenceIdeal.nD Cert.AttnReferenceIdeal.τ).loc Cert.AttnReferenceIdeal.main_arg6))) = (fun _ => 1#1)

def Pre_MemProj (m : (ℓ : Loc Cert.MemProj.nD Cert.MemProj.τ Cert.MemProj.sig) → Buf (Elt Bits) ℓ) : Prop :=
  True

def Pre_MemProjIdeal (m : (ℓ : Loc Cert.MemProjIdeal.nD Cert.MemProjIdeal.τ Cert.MemProjIdeal.sig) → Buf (Elt Ideal) ℓ) : Prop :=
  True

def Pre_MemProjReferenceIdeal (m : (ℓ : Loc Cert.MemProjReferenceIdeal.nD Cert.MemProjReferenceIdeal.τ Cert.MemProjReferenceIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasReferenceIdeal (m : (ℓ : Loc Cert.BiasReferenceIdeal.nD Cert.BiasReferenceIdeal.τ Cert.BiasReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite2 [hAttnIdeal : Cert.AttnIdeal.Facts] [hPre_finite2 : Cert.Pre_finite2.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite2 m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6))
      ∧ r.2.sem = fun _ => 0)

def quiescent_AttnReferenceIdeal_pre_finite2 [hAttnReferenceIdeal : Cert.AttnReferenceIdeal.Facts] [hPre_finite2 : Cert.Pre_finite2.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite2 m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6))
      ∧ r.2.sem = fun _ => 0)

def quiescent_MemProj [hMemProj : Cert.MemProj.Facts] : Prop :=
  ∀ (m : (ℓ : Loc Cert.MemProj.nD Cert.MemProj.τ Cert.MemProj.sig) → Buf (Elt Bits) ℓ) (g : Dev Cert.MemProj.nD → PrngReg), Pre_MemProj m →
    θ_run (Cert.MemProj.defs (F := Bits)) (onTc (τ := Cert.MemProj.τ) (Cert.MemProj.main (F := Bits))) ⟨m, fun _ => 0, g⟩ (fun r => (∀ c : Dev Cert.MemProj.nD,
      r.2.mem ((c.tc : Thread Cert.MemProj.nD Cert.MemProj.τ).loc Cert.MemProj.main_arg0) = m ((c.tc : Thread Cert.MemProj.nD Cert.MemProj.τ).loc Cert.MemProj.main_arg0)
      ∧ r.2.mem ((c.tc : Thread Cert.MemProj.nD Cert.MemProj.τ).loc Cert.MemProj.main_arg1) = m ((c.tc : Thread Cert.MemProj.nD Cert.MemProj.τ).loc Cert.MemProj.main_arg1))
      ∧ r.2.sem = fun _ => 0)

def quiescent_MemProjIdeal [hMemProjIdeal : Cert.MemProjIdeal.Facts] : Prop :=
  ∀ (m : (ℓ : Loc Cert.MemProjIdeal.nD Cert.MemProjIdeal.τ Cert.MemProjIdeal.sig) → Buf (Elt Ideal) ℓ) (g : Dev Cert.MemProjIdeal.nD → PrngReg), Pre_MemProjIdeal m →
    θ_run (Cert.MemProjIdeal.defs (F := Ideal)) (onTc (τ := Cert.MemProjIdeal.τ) (Cert.MemProjIdeal.main (F := Ideal))) ⟨m, fun _ => 0, g⟩ (fun r => (∀ c : Dev Cert.MemProjIdeal.nD,
      r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
      ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1))
      ∧ r.2.sem = fun _ => 0)

def quiescent_MemProjReferenceIdeal [hMemProjReferenceIdeal : Cert.MemProjReferenceIdeal.Facts] : Prop :=
  ∀ (m : (ℓ : Loc Cert.MemProjReferenceIdeal.nD Cert.MemProjReferenceIdeal.τ Cert.MemProjReferenceIdeal.sig) → Buf (Elt Ideal) ℓ) (g : Dev Cert.MemProjReferenceIdeal.nD → PrngReg), Pre_MemProjReferenceIdeal m →
    θ_run (Cert.MemProjReferenceIdeal.defs (F := Ideal)) (onTc (τ := Cert.MemProjReferenceIdeal.τ) (Cert.MemProjReferenceIdeal.main (F := Ideal))) ⟨m, fun _ => 0, g⟩ (fun r => (∀ c : Dev Cert.MemProjReferenceIdeal.nD,
      r.2.mem ((c.tc : Thread Cert.MemProjReferenceIdeal.nD Cert.MemProjReferenceIdeal.τ).loc Cert.MemProjReferenceIdeal.main_arg0) = m ((c.tc : Thread Cert.MemProjReferenceIdeal.nD Cert.MemProjReferenceIdeal.τ).loc Cert.MemProjReferenceIdeal.main_arg0)
      ∧ r.2.mem ((c.tc : Thread Cert.MemProjReferenceIdeal.nD Cert.MemProjReferenceIdeal.τ).loc Cert.MemProjReferenceIdeal.main_arg1) = m ((c.tc : Thread Cert.MemProjReferenceIdeal.nD Cert.MemProjReferenceIdeal.τ).loc Cert.MemProjReferenceIdeal.main_arg1))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0))
      ∧ r.2.sem = fun _ => 0)

def preserves_Kernel_KernelIdeal : Prop :=
  IdealRules.named_const.Statement Cert.KernelIdeal.κ "qm_scale" .f32 0x3E0293EE#32 (((Real.log 2)⁻¹ * (Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Attn_AttnIdeal : Prop :=
  IdealRules.named_const.Statement Cert.AttnIdeal.κ "q_scale" .f32 0x3E38AA3B#32 (((Real.log 2)⁻¹ * (Real.sqrt 64)⁻¹ : ℝ) : EReal)
  ∧ IdealRules.named_const.Statement Cert.AttnIdeal.κ "mask" .f32 0xF149F2CA#32 ⊥
  ∧ IdealRules.named_const.Statement Cert.AttnIdeal.κ "qm_scale" .f32 0x3E0293EE#32 (((Real.log 2)⁻¹ * (Real.sqrt 128)⁻¹ : ℝ) : EReal)

def algebraic_AttnIdeal_AttnReferenceIdeal_pre_finite2 [hAttnIdeal : Cert.AttnIdeal.Facts] [hAttnReferenceIdeal : Cert.AttnReferenceIdeal.Facts] [hPre_finite2 : Cert.Pre_finite2.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite2 m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)
      ∧ m' ((c.tc : Thread Cert.AttnReferenceIdeal.nD Cert.AttnReferenceIdeal.τ).loc Cert.AttnReferenceIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v123) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6))

def preserves_MemProj_MemProjIdeal : Prop :=
  True

def algebraic_MemProjIdeal_MemProjReferenceIdeal [hMemProjIdeal : Cert.MemProjIdeal.Facts] [hMemProjReferenceIdeal : Cert.MemProjReferenceIdeal.Facts] : Prop :=
  ∀ (m : (ℓ : Loc Cert.MemProjIdeal.nD Cert.MemProjIdeal.τ Cert.MemProjIdeal.sig) → Buf (Elt Ideal) ℓ) (g : Dev Cert.MemProjIdeal.nD → PrngReg)
    (m' : (ℓ : Loc Cert.MemProjReferenceIdeal.nD Cert.MemProjReferenceIdeal.τ Cert.MemProjReferenceIdeal.sig) → Buf (Elt Ideal) ℓ) (g' : Dev Cert.MemProjReferenceIdeal.nD → PrngReg), Pre_MemProjIdeal m →
    (∀ c : Dev Cert.MemProjIdeal.nD,
      m' ((c.tc : Thread Cert.MemProjReferenceIdeal.nD Cert.MemProjReferenceIdeal.τ).loc Cert.MemProjReferenceIdeal.main_arg0) = m ((c.tc : Thread Cert.MemProjIdeal.nD Cert.MemProjIdeal.τ).loc Cert.MemProjIdeal.main_arg0)
      ∧ m' ((c.tc : Thread Cert.MemProjReferenceIdeal.nD Cert.MemProjReferenceIdeal.τ).loc Cert.MemProjReferenceIdeal.main_arg1) = m ((c.tc : Thread Cert.MemProjIdeal.nD Cert.MemProjIdeal.τ).loc Cert.MemProjIdeal.main_arg1)) →
    ∃ (v0 : (c : Dev Cert.MemProjIdeal.nD) → Buf (Elt Ideal) ((c.tc : Thread Cert.MemProjIdeal.nD Cert.MemProjIdeal.τ).loc Cert.MemProjIdeal.main_v2)),
      θ_run (Cert.MemProjIdeal.defs (F := Ideal)) (onTc (τ := Cert.MemProjIdeal.τ) (Cert.MemProjIdeal.main (F := Ideal))) ⟨m, fun _ => 0, g⟩ (fun r => ∀ c : Dev Cert.MemProjIdeal.nD,
          r.2.mem ((c.tc : Thread Cert.MemProjIdeal.nD Cert.MemProjIdeal.τ).loc Cert.MemProjIdeal.main_v2) = v0 c
          ∧ r.2.mem ((c.tc : Thread Cert.MemProjIdeal.nD Cert.MemProjIdeal.τ).loc Cert.MemProjIdeal.main_arg0) = m ((c.tc : Thread Cert.MemProjIdeal.nD Cert.MemProjIdeal.τ).loc Cert.MemProjIdeal.main_arg0)
          ∧ r.2.mem ((c.tc : Thread Cert.MemProjIdeal.nD Cert.MemProjIdeal.τ).loc Cert.MemProjIdeal.main_arg1) = m ((c.tc : Thread Cert.MemProjIdeal.nD Cert.MemProjIdeal.τ).loc Cert.MemProjIdeal.main_arg1))
      ∧ θ_run (Cert.MemProjReferenceIdeal.defs (F := Ideal)) (onTc (τ := Cert.MemProjReferenceIdeal.τ) (Cert.MemProjReferenceIdeal.main (F := Ideal))) ⟨m', fun _ => 0, g'⟩ (fun r => ∀ c : Dev Cert.MemProjReferenceIdeal.nD,
          r.2.mem ((c.tc : Thread Cert.MemProjReferenceIdeal.nD Cert.MemProjReferenceIdeal.τ).loc Cert.MemProjReferenceIdeal.main_v3) = v0 c
          ∧ r.2.mem ((c.tc : Thread Cert.MemProjReferenceIdeal.nD Cert.MemProjReferenceIdeal.τ).loc Cert.MemProjReferenceIdeal.main_arg0) = m' ((c.tc : Thread Cert.MemProjReferenceIdeal.nD Cert.MemProjReferenceIdeal.τ).loc Cert.MemProjReferenceIdeal.main_arg0)
          ∧ r.2.mem ((c.tc : Thread Cert.MemProjReferenceIdeal.nD Cert.MemProjReferenceIdeal.τ).loc Cert.MemProjReferenceIdeal.main_arg1) = m' ((c.tc : Thread Cert.MemProjReferenceIdeal.nD Cert.MemProjReferenceIdeal.τ).loc Cert.MemProjReferenceIdeal.main_arg1))

def preserves_Bias_BiasIdeal : Prop :=
  IdealRules.named_const.Statement Cert.BiasIdeal.κ "log2e" .f32 0x3FB8AA3B#32 (((Real.log 2)⁻¹ : ℝ) : EReal)
  ∧ IdealRules.named_const.Statement Cert.BiasIdeal.κ "mask" .f32 0xF149F2CA#32 ⊥

def algebraic_BiasIdeal_BiasReferenceIdeal [hBiasIdeal : Cert.BiasIdeal.Facts] [hBiasReferenceIdeal : Cert.BiasReferenceIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasIdeal m →
    (∀ c : Dev Cert.BiasIdeal.nD,
      m' ((c.tc : Thread Cert.BiasReferenceIdeal.nD Cert.BiasReferenceIdeal.τ).loc Cert.BiasReferenceIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v2)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v2) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v34) = v0 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnReferenceIdeal : Cert.AttnReferenceIdeal.Facts) (hMemProj : Cert.MemProj.Facts) (hMemProjIdeal : Cert.MemProjIdeal.Facts) (hMemProjReferenceIdeal : Cert.MemProjReferenceIdeal.Facts) (hBias : Cert.Bias.Facts) (hBiasIdeal : Cert.BiasIdeal.Facts) (hBiasReferenceIdeal : Cert.BiasReferenceIdeal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Attn (hAttn := hAttn)
    ∧ quiescent_AttnIdeal (hAttnIdeal := hAttnIdeal)
    ∧ quiescent_AttnIdeal_pre_finite2 (hAttnIdeal := hAttnIdeal) (hPre_finite2 := hPre_finite2)
    ∧ quiescent_AttnReferenceIdeal (hAttnReferenceIdeal := hAttnReferenceIdeal)
    ∧ quiescent_AttnReferenceIdeal_pre_finite2 (hAttnReferenceIdeal := hAttnReferenceIdeal) (hPre_finite2 := hPre_finite2)
    ∧ quiescent_MemProj (hMemProj := hMemProj)
    ∧ quiescent_MemProjIdeal (hMemProjIdeal := hMemProjIdeal)
    ∧ quiescent_MemProjReferenceIdeal (hMemProjReferenceIdeal := hMemProjReferenceIdeal)
    ∧ quiescent_Bias (hBias := hBias)
    ∧ quiescent_BiasIdeal (hBiasIdeal := hBiasIdeal)
    ∧ quiescent_BiasReferenceIdeal (hBiasReferenceIdeal := hBiasReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Attn_AttnIdeal
    ∧ algebraic_AttnIdeal_AttnReferenceIdeal_pre_finite2 (hAttnIdeal := hAttnIdeal) (hAttnReferenceIdeal := hAttnReferenceIdeal) (hPre_finite2 := hPre_finite2)
    ∧ preserves_MemProj_MemProjIdeal
    ∧ algebraic_MemProjIdeal_MemProjReferenceIdeal (hMemProjIdeal := hMemProjIdeal) (hMemProjReferenceIdeal := hMemProjReferenceIdeal)
    ∧ preserves_Bias_BiasIdeal
    ∧ algebraic_BiasIdeal_BiasReferenceIdeal (hBiasIdeal := hBiasIdeal) (hBiasReferenceIdeal := hBiasReferenceIdeal)
-- ==== Pre_finite.lean ====
abbrev S4x8192x1024 : Shape := ⟨3, ![4, 8192, 1024]⟩
abbrev S1024x5120 : Shape := ⟨2, ![1024, 5120]⟩
abbrev S1536x1024 : Shape := ⟨2, ![1536, 1024]⟩
abbrev S4x256x1024 : Shape := ⟨3, ![4, 256, 1024]⟩
abbrev S3x1024 : Shape := ⟨2, ![3, 1024]⟩
abbrev S1x1024 : Shape := ⟨2, ![1, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bitsLt_bf16_f32 : FTy.bits .bf16 < FTy.bits .f32
  bcast_S_S1024x5120 : S_.BroadcastsInDim S1024x5120 (![] : Fin 0 → Fin S1024x5120.rank)
  reducesTo_S1024x5120_S_d0_1 : S1024x5120.ReducesTo [0, 1] S_
  bcast_S_S4x256x1024 : S_.BroadcastsInDim S4x256x1024 (![] : Fin 0 → Fin S4x256x1024.rank)
  reducesTo_S4x256x1024_S_d0_1_2 : S4x256x1024.ReducesTo [0, 1, 2] S_

variable [Facts]

def fn {F : FTy → Type} [FloatOps F] (main_arg0 : FVec F S4x8192x1024 .f32) (main_arg1 : FVec F S1024x5120 .bf16) (main_arg2 : FVec F S1536x1024 .bf16) (main_arg3 : FVec F S4x256x1024 .bf16) (main_arg4 : FVec F S3x1024 .f32) (main_arg5 : FVec F S1x1024 .f32) (main_arg6 : FVec F S1x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x5120 .f32 := (extf .f32 · bitsLt_bf16_f32) main_arg1
  let main_v5 : FVec F S1024x5120 .f32 := Host.absf main_v4
  let main_cst_0 : FVec F S_ .f32 := constant S_ .f32 0x7F800000#32
  let main_v6 : FVec F S1024x5120 .f32 := broadcastInDim S1024x5120 ![] bcast_S_S1024x5120 main_cst_0
  let main_v7 : IVec S1024x5120 1 := cmpf .olt main_v5 main_v6
  let main_c_1 : IVec S_ 1 := constantI S_ 1 1#1
  let main_v8 : IVec S_ 1 := (fun x v => Host.reduce IntOp.andi x v reducesTo_S1024x5120_S_d0_1 h_S_) main_v7 main_c_1
  let main_v9 : IVec S_ 1 := andi main_v3 main_v8
  let main_v10 : FVec F S4x256x1024 .f32 := (extf .f32 · bitsLt_bf16_f32) main_arg3
  let main_v11 : FVec F S4x256x1024 .f32 := Host.absf main_v10
  let main_cst_2 : FVec F S_ .f32 := constant S_ .f32 0x7F800000#32
  let main_v12 : FVec F S4x256x1024 .f32 := broadcastInDim S4x256x1024 ![] bcast_S_S4x256x1024 main_cst_2
  let main_v13 : IVec S4x256x1024 1 := cmpf .olt main_v11 main_v12
  let main_c_3 : IVec S_ 1 := constantI S_ 1 1#1
  let main_v14 : IVec S_ 1 := (fun x v => Host.reduce IntOp.andi x v reducesTo_S4x256x1024_S_d0_1_2 h_S_) main_v13 main_c_3
  let main_v15 : IVec S_ 1 := andi main_v9 main_v14
  main_v15
-- ==== Pre_finite2.lean ====
abbrev S4x8192x1024 : Shape := ⟨3, ![4, 8192, 1024]⟩
abbrev S1024x5120 : Shape := ⟨2, ![1024, 5120]⟩
abbrev S1536x1024 : Shape := ⟨2, ![1536, 1024]⟩
abbrev S4x256x1024 : Shape := ⟨3, ![4, 256, 1024]⟩
abbrev S16x640x128 : Shape := ⟨3, ![16, 640, 128]⟩
abbrev S1x1024 : Shape := ⟨2, ![1, 1024]⟩
abbrev S640 : Shape := ⟨1, ![640]⟩
abbrev S640x1 : Shape := ⟨2, ![640, 1]⟩
abbrev S128 : Shape := ⟨1, ![128]⟩
abbrev S1x128 : Shape := ⟨2, ![1, 128]⟩
abbrev S_ : Shape := ⟨0, ![]⟩
abbrev S640x128 : Shape := ⟨2, ![640, 128]⟩

class Facts : Prop where
  bcast_S640_S640x1_0 : S640.BroadcastsInDim S640x1 (![0] : Fin 1 → Fin S640x1.rank)
  bcast_S128_S1x128_1 : S128.BroadcastsInDim S1x128 (![1] : Fin 1 → Fin S1x128.rank)
  bcast_S_S1x128 : S_.BroadcastsInDim S1x128 (![] : Fin 0 → Fin S1x128.rank)
  bcast_S640x1_S640x128_0_1 : S640x1.BroadcastsInDim S640x128 (![0, 1] : Fin 2 → Fin S640x128.rank)
  bcast_S1x128_S640x128_0_1 : S1x128.BroadcastsInDim S640x128 (![0, 1] : Fin 2 → Fin S640x128.rank)
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bitsLt_bf16_f32 : FTy.bits .bf16 < FTy.bits .f32
  bcast_S_S1024x5120 : S_.BroadcastsInDim S1024x5120 (![] : Fin 0 → Fin S1024x5120.rank)
  reducesTo_S1024x5120_S_d0_1 : S1024x5120.ReducesTo [0, 1] S_
  bcast_S_S4x256x1024 : S_.BroadcastsInDim S4x256x1024 (![] : Fin 0 → Fin S4x256x1024.rank)
  reducesTo_S4x256x1024_S_d0_1_2 : S4x256x1024.ReducesTo [0, 1, 2] S_
  bcast_S_S16x640x128 : S_.BroadcastsInDim S16x640x128 (![] : Fin 0 → Fin S16x640x128.rank)
  reducesTo_S16x640x128_S_d0_1_2 : S16x640x128.ReducesTo [0, 1, 2] S_
  bcast_S640x128_S16x640x128_1_2 : S640x128.BroadcastsInDim S16x640x128 (![1, 2] : Fin 2 → Fin S16x640x128.rank)

variable [Facts]

def fn_where {F : FTy → Type} [FloatOps F] (arg0 : IVec S640x128 1) (arg1 : FVec F S16x640x128 .f32) (arg2 : FVec F S_ .f32) : FVec F S16x640x128 .f32 :=
  let v0 : FVec F S_ .f32 := id arg2
  let v1 : IVec S16x640x128 1 := broadcastInDim S16x640x128 ![1, 2] bcast_S640x128_S16x640x128_1_2 arg0
  let v2 : FVec F S16x640x128 .f32 := broadcastInDim S16x640x128 ![] bcast_S_S16x640x128 v0
  let v3 : FVec F S16x640x128 .f32 := select v1 arg1 v2
  v3

def fn_part1 {F : FTy → Type} [FloatOps F] (main_arg3 : FVec F S4x256x1024 .bf16) (main_arg4 : FVec F S16x640x128 .f32) (main_v8 : IVec S640x128 1) (main_v18 : IVec S_ 1) : IVec S_ 1 :=
  let main_v19 : FVec F S4x256x1024 .f32 := (extf .f32 · bitsLt_bf16_f32) main_arg3
  let main_v20 : FVec F S4x256x1024 .f32 := Host.absf main_v19
  let main_cst_3 : FVec F S_ .f32 := constant S_ .f32 0x7F800000#32
  let main_v21 : FVec F S4x256x1024 .f32 := broadcastInDim S4x256x1024 ![] bcast_S_S4x256x1024 main_cst_3
  let main_v22 : IVec S4x256x1024 1 := cmpf .olt main_v20 main_v21
  let main_c_4 : IVec S_ 1 := constantI S_ 1 1#1
  let main_v23 : IVec S_ 1 := (fun x v => Host.reduce IntOp.andi x v reducesTo_S4x256x1024_S_d0_1_2 h_S_) main_v22 main_c_4
  let main_v24 : IVec S_ 1 := andi main_v18 main_v23
  let main_cst_5 : FVec F S_ .f32 := constant S_ .f32 0x7F800000#32
  let main_v25 : FVec F S16x640x128 .f32 := broadcastInDim S16x640x128 ![] bcast_S_S16x640x128 main_cst_5
  let main_v26 : IVec S16x640x128 1 := cmpf .olt main_arg4 main_v25
  let main_c_6 : IVec S_ 1 := constantI S_ 1 1#1
  let main_v27 : IVec S_ 1 := (fun x v => Host.reduce IntOp.andi x v reducesTo_S16x640x128_S_d0_1_2 h_S_) main_v26 main_c_6
  let main_v28 : IVec S_ 1 := andi main_v24 main_v27
  let main_cst_7 : FVec F S_ .f32 := constant S_ .f32 0x00000000#32
  let main_v29 : FVec F S16x640x128 .f32 := fn_where (F := F) main_v8 main_arg4 main_cst_7
  let main_cst_8 : FVec F S_ .f32 := constant S_ .f32 0xFF800000#32
  let main_v30 : FVec F S16x640x128 .f32 := broadcastInDim S16x640x128 ![] bcast_S_S16x640x128 main_cst_8
  let main_v31 : IVec S16x640x128 1 := cmpf .ogt main_v29 main_v30
  let main_c_9 : IVec S_ 1 := constantI S_ 1 1#1
  let main_v32 : IVec S_ 1 := (fun x v => Host.reduce IntOp.andi x v reducesTo_S16x640x128_S_d0_1_2 h_S_) main_v31 main_c_9
  let main_v33 : IVec S_ 1 := andi main_v28 main_v32
  main_v33

def fn {F : FTy → Type} [FloatOps F] (main_arg0 : FVec F S4x8192x1024 .f32) (main_arg1 : FVec F S1024x5120 .bf16) (main_arg2 : FVec F S1536x1024 .bf16) (main_arg3 : FVec F S4x256x1024 .bf16) (main_arg4 : FVec F S16x640x128 .f32) (main_arg5 : FVec F S1x1024 .f32) (main_arg6 : FVec F S1x1024 .f32) : IVec S_ 1 :=
  let main_v0 : IVec S640 32 := iotaInDim S640 32 0
  let main_v1 : IVec S640x1 32 := broadcastInDim S640x1 ![0] bcast_S640_S640x1_0 main_v0
  let main_v2 : IVec S128 32 := iotaInDim S128 32 0
  let main_v3 : IVec S1x128 32 := broadcastInDim S1x128 ![1] bcast_S128_S1x128_1 main_v2
  let main_c : IVec S_ 32 := constantI S_ 32 512#32
  let main_v4 : IVec S1x128 32 := broadcastInDim S1x128 ![] bcast_S_S1x128 main_c
  let main_v5 : IVec S1x128 32 := addi main_v4 main_v3
  let main_v6 : IVec S640x128 32 := broadcastInDim S640x128 ![0, 1] bcast_S640x1_S640x128_0_1 main_v1
  let main_v7 : IVec S640x128 32 := broadcastInDim S640x128 ![0, 1] bcast_S1x128_S640x128_0_1 main_v5
  let main_v8 : IVec S640x128 1 := cmpi .eq main_v6 main_v7
  let main_v9 : FVec F S4x8192x1024 .f32 := Host.absf main_arg0
  let main_cst : FVec F S_ .f32 := constant S_ .f32 0x7F800000#32
  let main_v10 : FVec F S4x8192x1024 .f32 := broadcastInDim S4x8192x1024 ![] bcast_S_S4x8192x1024 main_cst
  let main_v11 : IVec S4x8192x1024 1 := cmpf .olt main_v9 main_v10
  let main_c_0 : IVec S_ 1 := constantI S_ 1 1#1
  let main_v12 : IVec S_ 1 := (fun x v => Host.reduce IntOp.andi x v reducesTo_S4x8192x1024_S_d0_1_2 h_S_) main_v11 main_c_0
  let main_v13 : FVec F S1024x5120 .f32 := (extf .f32 · bitsLt_bf16_f32) main_arg1
  let main_v14 : FVec F S1024x5120 .f32 := Host.absf main_v13
  let main_cst_1 : FVec F S_ .f32 := constant S_ .f32 0x7F800000#32
  let main_v15 : FVec F S1024x5120 .f32 := broadcastInDim S1024x5120 ![] bcast_S_S1024x5120 main_cst_1
  let main_v16 : IVec S1024x5120 1 := cmpf .olt main_v14 main_v15
  let main_c_2 : IVec S_ 1 := constantI S_ 1 1#1
  let main_v17 : IVec S_ 1 := (fun x v => Host.reduce IntOp.andi x v reducesTo_S1024x5120_S_d0_1 h_S_) main_v16 main_c_2
  let main_v18 : IVec S_ 1 := andi main_v12 main_v17
  fn_part1 (F := F) main_arg3 main_arg4 main_v8 main_v18
-- ==== Kernel.lean ====
abbrev S4x8192x1024 : Shape := ⟨3, ![4, 8192, 1024]⟩
abbrev S1024x5120 : Shape := ⟨2, ![1024, 5120]⟩
abbrev S1536x1024 : Shape := ⟨2, ![1536, 1024]⟩
abbrev S4x256x1024 : Shape := ⟨3, ![4, 256, 1024]⟩
abbrev S3x1024 : Shape := ⟨2, ![3, 1024]⟩
abbrev S1x1024 : Shape := ⟨2, ![1, 1024]⟩
abbrev S1x512x1024 : Shape := ⟨3, ![1, 512, 1024]⟩
abbrev S1x256x1024 : Shape := ⟨3, ![1, 256, 1024]⟩
abbrev S512x1024 : Shape := ⟨2, ![512, 1024]⟩
abbrev S520x1024 : Shape := ⟨2, ![520, 1024]⟩
abbrev S32x1024 : Shape := ⟨2, ![32, 1024]⟩
abbrev S32 : Shape := ⟨1, ![32]⟩
abbrev S32x1 : Shape := ⟨2, ![32, 1]⟩
abbrev S1x32x1024 : Shape := ⟨3, ![1, 32, 1024]⟩
abbrev S8x1024 : Shape := ⟨2, ![8, 1024]⟩
abbrev S256x1024 : Shape := ⟨2, ![256, 1024]⟩
abbrev S1024x1024 : Shape := ⟨2, ![1024, 1024]⟩
abbrev S1024x512 : Shape := ⟨2, ![1024, 512]⟩
abbrev S1024x1536 : Shape := ⟨2, ![1024, 1536]⟩
abbrev S256x512 : Shape := ⟨2, ![256, 512]⟩
abbrev S256x128 : Shape := ⟨2, ![256, 128]⟩
abbrev S1x256x128 : Shape := ⟨3, ![1, 256, 128]⟩
abbrev S256x256 : Shape := ⟨2, ![256, 256]⟩
abbrev S256 : Shape := ⟨1, ![256]⟩
abbrev S256x1 : Shape := ⟨2, ![256, 1]⟩
abbrev S256x1536 : Shape := ⟨2, ![256, 1536]⟩

abbrev nBuf : Space → Nat
  | .hbm => 8
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S1024x5120, .bf16⟩
  | .hbm, ⟨2, _⟩ => ⟨S1536x1024, .bf16⟩
  | .hbm, ⟨3, _⟩ => ⟨S4x256x1024, .bf16⟩
  | .hbm, ⟨4, _⟩ => ⟨S3x1024, .f32⟩
  | .hbm, ⟨5, _⟩ => ⟨S1x1024, .f32⟩
  | .hbm, ⟨6, _⟩ => ⟨S1x1024, .f32⟩
  | .hbm, ⟨7, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x5120, .bf16⟩
  | .local _ .vmem, ⟨3, _⟩ => ⟨S1536x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S3x1024, .f32⟩
  | .local _ .vmem, ⟨7, _⟩ => ⟨S1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | .local _ .vmem, ⟨11, _⟩ => ⟨S512x1024, .f32⟩
  | .local _ .vmem, ⟨12, _⟩ => ⟨S520x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v4 : BitVec 1 := Scalar.cmpi .eq arg0 c64_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c64_i32_2 : BitVec 32 := 64#32
  let v7 : BitVec 1 := Scalar.cmpi .slt arg0 c64_i32_2
  let v8 : BitVec 32 := Scalar.extui v7
  let c0_i32_3 : BitVec 32 := 0#32
  let v9 : BitVec 1 := Scalar.cmpi .ne v8 c0_i32_3
  v9

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "qm_scale" => some (((Real.log 2)⁻¹ * (Real.sqrt 128)⁻¹ : ℝ) : EReal)
  | _ => none
-- ==== ReferenceIdeal.lean ====
abbrev S4x8192x1024 : Shape := ⟨3, ![4, 8192, 1024]⟩
abbrev S1024x5120 : Shape := ⟨2, ![1024, 5120]⟩
abbrev S1536x1024 : Shape := ⟨2, ![1536, 1024]⟩
abbrev S4x256x1024 : Shape := ⟨3, ![4, 256, 1024]⟩
abbrev S3x1024 : Shape := ⟨2, ![3, 1024]⟩
abbrev S1x1024 : Shape := ⟨2, ![1, 1024]⟩
abbrev S4x8192x5120 : Shape := ⟨3, ![4, 8192, 5120]⟩
abbrev S4x8192x512 : Shape := ⟨3, ![4, 8192, 512]⟩
abbrev S4x8192x1536 : Shape := ⟨3, ![4, 8192, 1536]⟩
abbrev S_ : Shape := ⟨0, ![]⟩
abbrev S4x8194x1024 : Shape := ⟨3, ![4, 8194, 1024]⟩
abbrev S1024 : Shape := ⟨1, ![1024]⟩
abbrev S1x1x1024 : Shape := ⟨3, ![1, 1, 1024]⟩
abbrev S4x8192x4x128 : Shape := ⟨4, ![4, 8192, 4, 128]⟩
abbrev S4x256x512 : Shape := ⟨3, ![4, 256, 512]⟩
abbrev S4x256x4x128 : Shape := ⟨4, ![4, 256, 4, 128]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S4x8192 : Shape := ⟨2, ![4, 8192]⟩
abbrev S4x8192x1 : Shape := ⟨3, ![4, 8192, 1]⟩

abbrev nBuf : Space → Nat
  | .hbm => 118
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x5120, .bf16⟩
  | .hbm, ⟨2, _⟩ => ⟨S1536x1024, .bf16⟩
  | .hbm, ⟨3, _⟩ => ⟨S4x256x1024, .bf16⟩
  | .hbm, ⟨4, _⟩ => ⟨S3x1024, .f32⟩
  | .hbm, ⟨5, _⟩ => ⟨S1x1024, .f32⟩
  | .hbm, ⟨6, _⟩ => ⟨S1x1024, .f32⟩
  | .hbm, ⟨7, _⟩ => ⟨S1024x5120, .f32⟩
  | .hbm, ⟨8, _⟩ => ⟨S4x8192x5120, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x512, .f32⟩
  | .hbm, ⟨13, _⟩ => ⟨S4x8192x1536, .f32⟩
  | .hbm, ⟨14, _⟩ => ⟨S4x8192x1024, .f32⟩
  | .hbm, ⟨15, _⟩ => ⟨S_, .i32⟩
  | .hbm, ⟨16, _⟩ => ⟨S_, .f32⟩
  | .hbm, ⟨17, _⟩ => ⟨S4x8194x1024, .f32⟩
  | .hbm, ⟨18, _⟩ => ⟨S4x8192x1024, .f32⟩
  | .hbm, ⟨19, _⟩ => ⟨S1x1024, .f32⟩
  | .hbm, ⟨20, _⟩ => ⟨S1024, .f32⟩
  | .hbm, ⟨21, _⟩ => ⟨S1x1x1024, .f32⟩
  | .hbm, ⟨22, _⟩ => ⟨S4x8192x1024, .f32⟩
  | .hbm, ⟨23, _⟩ => ⟨S4x8192x1024, .f32⟩
  | .hbm, ⟨24, _⟩ => ⟨S_, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S1x1024, .f32⟩
  | .hbm, ⟨36, _⟩ => ⟨S1024, .f32⟩
  | .hbm, ⟨37, _⟩ => ⟨S1x1x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S4x8192x1024, .f32⟩
  | .hbm, ⟨42, _⟩ => ⟨S4x256x1024, .f32⟩
  | .hbm, ⟨43, _⟩ => ⟨S4x8192x4x128, .f32⟩
  | .hbm, ⟨44, _⟩ => ⟨S4x256x512, .f32⟩
  | .hbm, ⟨45, _⟩ => ⟨S4x256x4x128, .f32⟩
  | .hbm, ⟨46, _⟩ => ⟨S4x256x512, .f32⟩
  | .hbm, ⟨47, _⟩ => ⟨S4x256x4x128, .f32⟩
  | .hbm, ⟨48, _⟩ => ⟨S4x4x8192x256, .f32⟩
  | .hbm, ⟨49, _⟩ => ⟨S_, .f32⟩
  | .hbm, ⟨50, _⟩ => ⟨S_, .f32⟩
  | .hbm, ⟨51, _⟩ => ⟨S4x4x8192x256, .f32⟩
  | .hbm, ⟨52, _⟩ => ⟨S4x4x8192x256, .f32⟩
  | .hbm, ⟨53, _⟩ => ⟨S_, .f32⟩
  | .hbm, ⟨54, _⟩ => ⟨S4x4x8192, .f32⟩
  | .hbm, ⟨55, _⟩ => ⟨S_, .f32⟩
  | .hbm, ⟨56, _⟩ => ⟨S4x4x8192, .f32⟩
  | .hbm, ⟨57, _⟩ => ⟨S4x4x8192, .f32⟩
  | .hbm, ⟨58, _⟩ => ⟨S4x4x8192x1, .f32⟩
  | .hbm, ⟨59, _⟩ => ⟨S4x4x8192x256, .f32⟩
  | .hbm, ⟨60, _⟩ => ⟨S4x4x8192x256, .f32⟩
  | .hbm, ⟨61, _⟩ => ⟨S4x4x8192x256, .f32⟩
  | .hbm, ⟨62, _⟩ => ⟨S_, .f32⟩
  | .hbm, ⟨63, _⟩ => ⟨S4x4x8192, .f32⟩
  | .hbm, ⟨64, _⟩ => ⟨S4x4x8192x1, .f32⟩
  | .hbm, ⟨65, _⟩ => ⟨S4x4x8192x256, .f32⟩
  | .hbm, ⟨66, _⟩ => ⟨S4x4x8192x256, .f32⟩
  | .hbm, ⟨67, _⟩ => ⟨S4x4x128x8192, .f32⟩
  | .hbm, ⟨68, _⟩ => ⟨S4x8192x4x128, .f32⟩
  | .hbm, ⟨69, _⟩ => ⟨S4x8192x512, .f32⟩
  | .hbm, ⟨70, _⟩ => ⟨S4x8192x1536, .f32⟩
  | .hbm, ⟨71, _⟩ => ⟨S4x8192x1536, .f32⟩
  | .hbm, ⟨72, _⟩ => ⟨S4x8192x1536, .f32⟩
  | .hbm, ⟨73, _⟩ => ⟨S_, .f32⟩
  | .hbm, ⟨74, _⟩ => ⟨S4x8192x1536, .f32⟩
  | .hbm, ⟨75, _⟩ => ⟨S4x8192x1536, .f32⟩
  | .hbm, ⟨76, _⟩ => ⟨S_, .f32⟩
  | .hbm, ⟨77, _⟩ => ⟨S4x8192x1536, .f32⟩
  | .hbm, ⟨78, _⟩ => ⟨S4x8192x1536, .f32⟩
  | .hbm, ⟨79, _⟩ => ⟨S4x8192x1536, .f32⟩
  | .hbm, ⟨80, _⟩ => ⟨S4x8192x1536, .f32⟩
  | .hbm, ⟨81, _⟩ => ⟨S1536x1024, .f32⟩
  | .hbm, ⟨82, _⟩ => ⟨S4x8192x1024, .f32⟩
  | .hbm, ⟨83, _⟩ => ⟨S_, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S4x8192, .f32⟩
  | .hbm, ⟨91, _⟩ => ⟨S4x8192x1, .f32⟩
  | .hbm, ⟨92, _⟩ => ⟨S_, .f32⟩
  | .hbm, ⟨93, _⟩ => ⟨S4x8192x1, .f32⟩
  | .hbm, ⟨94, _⟩ => ⟨S4x8192x1, .f32⟩
  | .hbm, ⟨95, _⟩ => ⟨S4x8192x1024, .f32⟩
  | .hbm, ⟨96, _⟩ => ⟨S4x8192x1024, .f32⟩
  | .hbm, ⟨97, _⟩ => ⟨S4x8192x1024, .f32⟩
  | .hbm, ⟨98, _⟩ => ⟨S_, .f32⟩
  | .hbm, ⟨99, _⟩ => ⟨S4x8192, .f32⟩
  | .hbm, ⟨100, _⟩ => ⟨S4x8192x1, .f32⟩
  | .hbm, ⟨101, _⟩ => ⟨S_, .f32⟩
  | .hbm, ⟨102, _⟩ => ⟨S4x8192x1, .f32⟩
  | .hbm, ⟨103, _⟩ => ⟨S4x8192x1, .f32⟩
  | .hbm, ⟨104, _⟩ => ⟨S4x8192x1024, .f32⟩
  | .hbm, ⟨105, _⟩ => ⟨S4x8192x1024, .f32⟩
  | .hbm, ⟨106, _⟩ => ⟨S_, .f32⟩
  | .hbm, ⟨107, _⟩ => ⟨S4x8192x1, .f32⟩
  | .hbm, ⟨108, _⟩ => ⟨S4x8192x1, .f32⟩
  | .hbm, ⟨109, _⟩ => ⟨S4x8192x1, .f32⟩
  | .hbm, ⟨110, _⟩ => ⟨S4x8192x1024, .f32⟩
  | .hbm, ⟨111, _⟩ => ⟨S4x8192x1024, .f32⟩
  | .hbm, ⟨112, _⟩ => ⟨S1x1x1024, .f32⟩
  | .hbm, ⟨113, _⟩ => ⟨S4x8192x1024, .f32⟩
  | .hbm, ⟨114, _⟩ => ⟨S4x8192x1024, .f32⟩
  | .hbm, ⟨115, _⟩ => ⟨S1x1x1024, .f32⟩
  | .hbm, ⟨116, _⟩ => ⟨S4x8192x1024, .f32⟩
  | .hbm, ⟨117, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_0 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_1 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_4 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_5 : Ref sig .tc := ⟨.hbm, 89, rfl⟩
abbrev main_v66 : Ref sig .tc := ⟨.hbm, 90, rfl⟩
abbrev main_v67 : Ref sig .tc := ⟨.hbm, 91, rfl⟩
abbrev main_cst_6 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_7 : Ref sig .tc := ⟨.hbm, 98, rfl⟩
abbrev main_v73 : Ref sig .tc := ⟨.hbm, 99, rfl⟩
abbrev main_v74 : Ref sig .tc := ⟨.hbm, 100, rfl⟩
abbrev main_cst_8 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_9 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩

abbrev nD : Nat := 1
abbrev τ : Topo := Topo.v7x

variable {F : FTy → Type} [FloatOps F]
-- ==== Attn.lean ====
abbrev S4x8192x1024 : Shape := ⟨3, ![4, 8192, 1024]⟩
abbrev S1024x5120 : Shape := ⟨2, ![1024, 5120]⟩
abbrev S1536x1024 : Shape := ⟨2, ![1536, 1024]⟩
abbrev S4x256x1024 : Shape := ⟨3, ![4, 256, 1024]⟩
abbrev S16x640x128 : Shape := ⟨3, ![16, 640, 128]⟩
abbrev S1x1024 : Shape := ⟨2, ![1, 1024]⟩
abbrev S1024x1024 : Shape := ⟨2, ![1024, 1024]⟩
abbrev S1024x2048 : Shape := ⟨2, ![1024, 2048]⟩
abbrev S2048x1024 : Shape := ⟨2, ![2048, 1024]⟩
abbrev S1x512x1024 : Shape := ⟨3, ![1, 512, 1024]⟩
abbrev S1x256x1024 : Shape := ⟨3, ![1, 256, 1024]⟩
abbrev S512x1024 : Shape := ⟨2, ![512, 1024]⟩
abbrev S8x128x256 : Shape := ⟨3, ![8, 128, 256]⟩
abbrev S8x1024x256 : Shape := ⟨3, ![8, 1024, 256]⟩
abbrev S8x160x1024 : Shape := ⟨3, ![8, 160, 1024]⟩
abbrev S2x768x256 : Shape := ⟨3, ![2, 768, 256]⟩
abbrev S32x1024 : Shape := ⟨2, ![32, 1024]⟩
abbrev S32 : Shape := ⟨1, ![32]⟩
abbrev S32x1 : Shape := ⟨2, ![32, 1]⟩
abbrev S1x32x1024 : Shape := ⟨3, ![1, 32, 1024]⟩
abbrev S8x1024x128 : Shape := ⟨3, ![8, 1024, 128]⟩
abbrev S2x128x128 : Shape := ⟨3, ![2, 128, 128]⟩
abbrev S8x512x256 : Shape := ⟨3, ![8, 512, 256]⟩
abbrev S8x160x512 : Shape := ⟨3, ![8, 160, 512]⟩
abbrev S256x1024 : Shape := ⟨2, ![256, 1024]⟩
abbrev S1024x256 : Shape := ⟨2, ![1024, 256]⟩
abbrev S8x16x256 : Shape := ⟨3, ![8, 16, 256]⟩
abbrev S256x128 : Shape := ⟨2, ![256, 128]⟩
abbrev S1x256x128 : Shape := ⟨3, ![1, 256, 128]⟩
abbrev S64x256 : Shape := ⟨2, ![64, 256]⟩
abbrev S128x256 : Shape := ⟨2, ![128, 256]⟩
abbrev S1x64x256 : Shape := ⟨3, ![1, 64, 256]⟩
abbrev S256x256 : Shape := ⟨2, ![256, 256]⟩
abbrev S1x128x256 : Shape := ⟨3, ![1, 128, 256]⟩
abbrev S128x128 : Shape := ⟨2, ![128, 128]⟩
abbrev S1x128x128 : Shape := ⟨3, ![1, 128, 128]⟩
abbrev S128 : Shape := ⟨1, ![128]⟩
abbrev S1x128 : Shape := ⟨2, ![1, 128]⟩
abbrev S1x640x128 : Shape := ⟨3, ![1, 640, 128]⟩
abbrev S640x128 : Shape := ⟨2, ![640, 128]⟩
abbrev S1x80x768 : Shape := ⟨3, ![1, 80, 768]⟩
abbrev S80x768 : Shape := ⟨2, ![80, 768]⟩
abbrev S1x768x256 : Shape := ⟨3, ![1, 768, 256]⟩
abbrev S768x256 : Shape := ⟨2, ![768, 256]⟩
abbrev S80x256 : Shape := ⟨2, ![80, 256]⟩
abbrev S1x256 : Shape := ⟨2, ![1, 256]⟩
abbrev S1024x512 : Shape := ⟨2, ![1024, 512]⟩
abbrev S1024x1536 : Shape := ⟨2, ![1024, 1536]⟩
abbrev S256x512 : Shape := ⟨2, ![256, 512]⟩
abbrev S256 : Shape := ⟨1, ![256]⟩
abbrev S256x1 : Shape := ⟨2, ![256, 1]⟩
abbrev S256x1536 : Shape := ⟨2, ![256, 1536]⟩

abbrev nBuf : Space → Nat
  | .hbm => 12
  | .vmem => 19
  | .smem => 0
  | _ => 0

abbrev bufTy : (tb : Table) → Fin (tcTables nBuf tb) → BufTy
  | .hbm, ⟨0, _⟩ => ⟨S4x8192x1024, .f32⟩
  | .hbm, ⟨1, _⟩ => ⟨S1024x5120, .bf16⟩
  | .hbm, ⟨2, _⟩ => ⟨S1536x1024, .bf16⟩
  | .hbm, ⟨3, _⟩ => ⟨S4x256x1024, .bf16⟩
  | .hbm, ⟨4, _⟩ => ⟨S16x640x128, .f32⟩
  | .hbm, ⟨5, _⟩ => ⟨S1x1024, .f32⟩
  | .hbm, ⟨6, _⟩ => ⟨S1x1024, .f32⟩
  | .hbm, ⟨7, _⟩ => ⟨S1024x1024, .bf16⟩
  | .hbm, ⟨8, _⟩ => ⟨S1024x1024, .bf16⟩
  | .hbm, ⟨9, _⟩ => ⟨S1024x2048, .bf16⟩
  | .hbm, ⟨10, _⟩ => ⟨S2048x1024, .bf16⟩
  | .hbm, ⟨11, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x5120, .bf16⟩
  | .local _ .vmem, ⟨3, _⟩ => ⟨S2048x1024, .bf16⟩
  | .local _ .vmem, ⟨4, _⟩ => ⟨S1536x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S16x640x128, .f32⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S512x1024, .f32⟩
  | .local _ .vmem, ⟨13, _⟩ => ⟨S8x128x256, .bf16⟩
  | .local _ .vmem, ⟨14, _⟩ => ⟨S8x1024x256, .bf16⟩
  | .local _ .vmem, ⟨15, _⟩ => ⟨S8x160x1024, .bf16⟩
  | .local _ .vmem, ⟨16, _⟩ => ⟨S2x768x256, .f32⟩
  | .local _ .vmem, ⟨17, _⟩ => ⟨S2x768x256, .bf16⟩
  | .local _ .vmem, ⟨18, _⟩ => ⟨S8x128x256, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v4 : BitVec 1 := Scalar.cmpi .eq arg0 c64_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg0 : BitVec 32 := BitVec.ofNat 32 (i 0).val
  let c64_i32_2 : BitVec 32 := 64#32
  let v7 : BitVec 1 := Scalar.cmpi .slt arg0 c64_i32_2
  let v8 : BitVec 32 := Scalar.extui v7
  let c0_i32_3 : BitVec 32 := 0#32
  let v9 : BitVec 1 := Scalar.cmpi .ne v8 c0_i32_3
  v9

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c16_i32_6 : BitVec 32 := 16#32
  let c0_i32_7 : BitVec 32 := 0#32
  let v19 : BitVec 1 := Scalar.cmpi .eq c16_i32_6 c0_i32_7
  let c1_i32_8 : BitVec 32 := 1#32
  let v20 : BitVec 32 := Scalar.select v19 c1_i32_8 c16_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x640x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnIdeal.lean ====
variable {F : FTy → Type} [FloatOps F] [Named F]
def κ : String → Option EReal := fun
  | "mask" => some ⊥
  | "q_scale" => some (((Real.log 2)⁻¹ * (Real.sqrt 64)⁻¹ : ℝ) : EReal)
  | "qm_scale" => some (((Real.log 2)⁻¹ * (Real.sqrt 128)⁻¹ : ℝ) : EReal)
  | _ => none
-- ==== AttnReferenceIdeal.lean ====
abbrev S4x8192x1024 : Shape := ⟨3, ![4, 8192, 1024]⟩
abbrev S1024x5120 : Shape := ⟨2, ![1024, 5120]⟩
abbrev S1536x1024 : Shape := ⟨2, ![1536, 1024]⟩
abbrev S4x256x1024 : Shape := ⟨3, ![4, 256, 1024]⟩
abbrev S16x640x128 : Shape := ⟨3, ![16, 640, 128]⟩
abbrev S1x1024 : Shape := ⟨2, ![1, 1024]⟩
abbrev S4x8192x5120 : Shape := ⟨3, ![4, 8192, 5120]⟩
abbrev S4x8192x16x64 : Shape := ⟨4, ![4, 8192, 16, 64]⟩
abbrev S4x8192x512 : Shape := ⟨3, ![4, 8192, 512]⟩
abbrev S4x8192x1536 : Shape := ⟨3, ![4, 8192, 1536]⟩
abbrev S64 : Shape := ⟨1, ![64]⟩
abbrev S64x1 : Shape := ⟨2, ![64, 1]⟩
abbrev S_ : Shape := ⟨0, ![]⟩
abbrev S640 : Shape := ⟨1, ![640]⟩
abbrev S1x640 : Shape := ⟨2, ![1, 640]⟩
abbrev S64x640 : Shape := ⟨2, ![64, 640]⟩
abbrev S4x64x128x16x64 : Shape := ⟨5, ![4, 64, 128, 16, 64]⟩
abbrev S4x8704x16x64 : Shape := ⟨4, ![4, 8704, 16, 64]⟩
abbrev S4x68x128x16x64 : Shape := ⟨5, ![4, 68, 128, 16, 64]⟩
abbrev S4x64x640x16x64 : Shape := ⟨5, ![4, 64, 640, 16, 64]⟩
abbrev S4x64x16x128x640 : Shape := ⟨5, ![4, 64, 16, 128, 640]⟩
abbrev S16x128x640 : Shape := ⟨3, ![16, 128, 640]⟩
abbrev S1x1x16x128x640 : Shape := ⟨5, ![1, 1, 16, 128, 640]⟩
abbrev S1x64x1x1x640 : Shape := ⟨5, ![1, 64, 1, 1, 640]⟩
abbrev S4x64x16x128 : Shape := ⟨4, ![4, 64, 16, 128]⟩
abbrev S4x64x16x128x1 : Shape := ⟨5, ![4, 64, 16, 128, 1]⟩
abbrev S4x64x16x64x128 : Shape := ⟨5, ![4, 64, 16, 64, 128]⟩
abbrev S4x8192x4x128 : Shape := ⟨4, ![4, 8192, 4, 128]⟩
abbrev S4x256x512 : Shape := ⟨3, ![4, 256, 512]⟩
abbrev S4x256x4x128 : Shape := ⟨4, ![4, 256, 4, 128]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S1024 : Shape := ⟨1, ![1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 165
  | .vmem => 0
  | .smem => 0
  | _ => 0

abbrev hbmTy0_0 (i : Nat) : BufTy := match i % 128 with
  | 0 => ⟨S4x8192x1024, .f32⟩
  | 1 => ⟨S1024x5120, .bf16⟩
  | 2 => ⟨S1536x1024, .bf16⟩
  | 3 => ⟨S4x256x1024, .bf16⟩
  | 4 => ⟨S16x640x128, .f32⟩
  | 5 => ⟨S1x1024, .f32⟩
  | 6 => ⟨S1x1024, .f32⟩
  | 7 => ⟨S1024x5120, .f32⟩
  | 8 => ⟨S4x8192x5120, .f32⟩
  | 9 => ⟨S4x8192x1024, .f32⟩
  | 10 => ⟨S4x8192x16x64, .f32⟩
  | 11 => ⟨S4x8192x1024, .f32⟩
  | 12 => ⟨S4x8192x16x64, .f32⟩
  | 13 => ⟨S4x8192x1024, .f32⟩
  | 14 => ⟨S4x8192x16x64, .f32⟩
  | 15 => ⟨S4x8192x512, .f32⟩
  | 16 => ⟨S4x8192x1536, .f32⟩
  | 17 => ⟨S64, .i32⟩
  | 18 => ⟨S64x1, .i32⟩
  | 19 => ⟨S_, .i32⟩
  | 20 => ⟨S64x1, .i32⟩
  | 21 => ⟨S64x1, .i32⟩
  | 22 => ⟨S_, .i32⟩
  | 23 => ⟨S64x1, .i32⟩
  | 24 => ⟨S64x1, .i32⟩
  | 25 => ⟨S640, .i32⟩
  | 26 => ⟨S1x640, .i32⟩
  | 27 => ⟨S64x640, .i32⟩
  | 28 => ⟨S64x640, .i32⟩
  | 29 => ⟨S64x640, .i32⟩
  | 30 => ⟨S4x64x128x16x64, .f32⟩
  | 31 => ⟨S_, .i32⟩
  | 32 => ⟨S_, .f32⟩
  | 33 => ⟨S4x8704x16x64, .f32⟩
  | 34 => ⟨S4x68x128x16x64, .f32⟩
  | 35 => ⟨S4x64x128x16x64, .f32⟩
  | 36 => ⟨S4x64x128x16x64, .f32⟩
  | 37 => ⟨S4x64x128x16x64, .f32⟩
  | 38 => ⟨S4x64x128x16x64, .f32⟩
  | 39 => ⟨S4x64x128x16x64, .f32⟩
  | 40 => ⟨S4x64x640x16x64, .f32⟩
  | 41 => ⟨S4x64x16x128x640, .f32⟩
  | 42 => ⟨S_, .f32⟩
  | 43 => ⟨S4x64x16x128x640, .f32⟩
  | 44 => ⟨S4x64x16x128x640, .f32⟩
  | 45 => ⟨S16x128x640, .f32⟩
  | 46 => ⟨S_, .f32⟩
  | 47 => ⟨S_, .f32⟩
  | 48 => ⟨S16x128x640, .f32⟩
  | 49 => ⟨S16x128x640, .f32⟩
  | 50 => ⟨S1x1x16x128x640, .f32⟩
  | 51 => ⟨S4x64x16x128x640, .f32⟩
  | 52 => ⟨S4x64x16x128x640, .f32⟩
  | 53 => ⟨S_, .i32⟩
  | 54 => ⟨S64x640, .i32⟩
  | 55 => ⟨S64x640, .i1⟩
  | 56 => ⟨S1x64x1x1x640, .i1⟩
  | 57 => ⟨S_, .f32⟩
  | 58 => ⟨S_, .f32⟩
  | 59 => ⟨S4x64x16x128x640, .i1⟩
  | 60 => ⟨S4x64x16x128x640, .f32⟩
  | 61 => ⟨S4x64x16x128x640, .f32⟩
  | 62 => ⟨S_, .f32⟩
  | 63 => ⟨S4x64x16x128, .f32⟩
  | 64 => ⟨S_, .f32⟩
  | 65 => ⟨S4x64x16x128, .f32⟩
  | 66 => ⟨S4x64x16x128, .f32⟩
  | 67 => ⟨S4x64x16x128x1, .f32⟩
  | 68 => ⟨S4x64x16x128x640, .f32⟩
  | 69 => ⟨S4x64x16x128x640, .f32⟩
  | 70 => ⟨S4x64x16x128x640, .f32⟩
  | 71 => ⟨S_, .f32⟩
  | 72 => ⟨S4x64x16x128, .f32⟩
  | 73 => ⟨S4x64x16x128x1, .f32⟩
  | 74 => ⟨S4x64x16x128x640, .f32⟩
  | 75 => ⟨S4x64x16x128x640, .f32⟩
  | 76 => ⟨S_, .i32⟩
  | 77 => ⟨S_, .f32⟩
  | 78 => ⟨S4x8704x16x64, .f32⟩
  | 79 => ⟨S4x68x128x16x64, .f32⟩
  | 80 => ⟨S4x64x128x16x64, .f32⟩
  | 81 => ⟨S4x64x128x16x64, .f32⟩
  | 82 => ⟨S4x64x128x16x64, .f32⟩
  | 83 => ⟨S4x64x128x16x64, .f32⟩
  | 84 => ⟨S4x64x128x16x64, .f32⟩
  | 85 => ⟨S4x64x640x16x64, .f32⟩
  | 86 => ⟨S4x64x16x64x128, .f32⟩
  | 87 => ⟨S4x64x128x16x64, .f32⟩
  | 88 => ⟨S4x8192x1024, .f32⟩
  | 89 => ⟨S4x256x1024, .f32⟩
  | 90 => ⟨S4x8192x4x128, .f32⟩
  | 91 => ⟨S4x256x512, .f32⟩
  | 92 => ⟨S4x256x4x128, .f32⟩
  | 93 => ⟨S4x256x512, .f32⟩
  | 94 => ⟨S4x256x4x128, .f32⟩
  | 95 => ⟨S4x4x8192x256, .f32⟩
  | 96 => ⟨S_, .f32⟩
  | 97 => ⟨S_, .f32⟩
  | 98 => ⟨S4x4x8192x256, .f32⟩
  | 99 => ⟨S4x4x8192x256, .f32⟩
  | 100 => ⟨S_, .f32⟩
  | 101 => ⟨S4x4x8192, .f32⟩
  | 102 => ⟨S_, .f32⟩
  | 103 => ⟨S4x4x8192, .f32⟩
  | 104 => ⟨S4x4x8192, .f32⟩
  | 105 => ⟨S4x4x8192x1, .f32⟩
  | 106 => ⟨S4x4x8192x256, .f32⟩
  | 107 => ⟨S4x4x8192x256, .f32⟩
  | 108 => ⟨S4x4x8192x256, .f32⟩
  | 109 => ⟨S_, .f32⟩
  | 110 => ⟨S4x4x8192, .f32⟩
  | 111 => ⟨S4x4x8192x1, .f32⟩
  | 112 => ⟨S4x4x8192x256, .f32⟩
  | 113 => ⟨S4x4x8192x256, .f32⟩
  | 114 => ⟨S4x4x128x8192, .f32⟩
  | 115 => ⟨S4x8192x4x128, .f32⟩
  | 116 => ⟨S4x8192x512, .f32⟩
  | 117 => ⟨S4x8192x1536, .f32⟩
  | 118 => ⟨S4x8192x1536, .f32⟩
  | 119 => ⟨S4x8192x1536, .f32⟩
  | 120 => ⟨S_, .f32⟩
  | 121 => ⟨S4x8192x1536, .f32⟩
  | 122 => ⟨S4x8192x1536, .f32⟩
  | 123 => ⟨S_, .f32⟩
  | 124 => ⟨S4x8192x1536, .f32⟩
  | 125 => ⟨S4x8192x1536, .f32⟩
  | 126 => ⟨S4x8192x1536, .f32⟩
  | 127 => ⟨S4x8192x1536, .f32⟩
  | _ => ⟨S4x8192x1024, .f32⟩

abbrev hbmTy0_1 (i : Nat) : BufTy := match i % 128 with
  | 0 => ⟨S1536x1024, .f32⟩
  | 1 => ⟨S4x8192x1024, .f32⟩
  | 2 => ⟨S_, .f32⟩
  | 3 => ⟨S4x8192x1024, .f32⟩
  | 4 => ⟨S4x8192x1024, .f32⟩
  | 5 => ⟨S4x8192x1024, .f32⟩
  | 6 => ⟨S1024, .f32⟩
  | 7 => ⟨S1024, .f32⟩
  | 8 => ⟨S_, .f32⟩
  | 9 => ⟨S4x8192, .f32⟩
  | 10 => ⟨S4x8192x1, .f32⟩
  | 11 => ⟨S_, .f32⟩
  | 12 => ⟨S4x8192x1, .f32⟩
  | 13 => ⟨S4x8192x1, .f32⟩
  | 14 => ⟨S4x8192x1024, .f32⟩
  | 15 => ⟨S4x8192x1024, .f32⟩
  | 16 => ⟨S4x8192x1024, .f32⟩
  | 17 => ⟨S_, .f32⟩
  | 18 => ⟨S4x8192, .f32⟩
  | 19 => ⟨S4x8192x1, .f32⟩
  | 20 => ⟨S_, .f32⟩
  | 21 => ⟨S4x8192x1, .f32⟩
  | 22 => ⟨S4x8192x1, .f32⟩
  | 23 => ⟨S4x8192x1024, .f32⟩
  | 24 => ⟨S4x8192x1024, .f32⟩
  | 25 => ⟨S_, .f32⟩
  | 26 => ⟨S4x8192x1, .f32⟩
  | 27 => ⟨S4x8192x1, .f32⟩
  | 28 => ⟨S4x8192x1, .f32⟩
  | 29 => ⟨S4x8192x1024, .f32⟩
  | 30 => ⟨S4x8192x1024, .f32⟩
  | 31 => ⟨S1x1x1024, .f32⟩
  | 32 => ⟨S4x8192x1024, .f32⟩
  | 33 => ⟨S4x8192x1024, .f32⟩
  | 34 => ⟨S1x1x1024, .f32⟩
  | 35 => ⟨S4x8192x1024, .f32⟩
  | 36 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_7 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_8 : Ref sig .tc := ⟨.hbm, 76, rfl⟩
abbrev main_call2_v0 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_9 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_10 : Ref sig .tc := ⟨.hbm, 100, rfl⟩
abbrev main_v76 : Ref sig .tc := ⟨.hbm, 101, rfl⟩
abbrev main_cst_11 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_12 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_call3_v0 : Ref sig .tc := ⟨.hbm, 118, rfl⟩
abbrev main_call3_v1 : Ref sig .tc := ⟨.hbm, 119, rfl⟩
abbrev main_call3_cst : Ref sig .tc := ⟨.hbm, 120, rfl⟩
abbrev main_call3_v2 : Ref sig .tc := ⟨.hbm, 121, rfl⟩
abbrev main_call3_v3 : Ref sig .tc := ⟨.hbm, 122, rfl⟩
abbrev main_call3_cst_0 : Ref sig .tc := ⟨.hbm, 123, rfl⟩
abbrev main_call3_v4 : Ref sig .tc := ⟨.hbm, 124, rfl⟩
abbrev main_call3_v5 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_13 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_14 : Ref sig .tc := ⟨.hbm, 136, rfl⟩
abbrev main_v100 : Ref sig .tc := ⟨.hbm, 137, rfl⟩
abbrev main_v101 : Ref sig .tc := ⟨.hbm, 138, rfl⟩
abbrev main_cst_15 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_16 : Ref sig .tc := ⟨.hbm, 145, rfl⟩
abbrev main_v107 : Ref sig .tc := ⟨.hbm, 146, rfl⟩
abbrev main_v108 : Ref sig .tc := ⟨.hbm, 147, rfl⟩
abbrev main_cst_17 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_18 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩

abbrev nD : Nat := 1
abbrev τ : Topo := Topo.v7x

variable {F : FTy → Type} [FloatOps F]
-- ==== MemProj.lean ====
abbrev S4x256x1024 : Shape := ⟨3, ![4, 256, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S4x1024x1024, .f32⟩
  | .hbm, ⟨2, _⟩ => ⟨S1024x1024, .f32⟩
  | .hbm, ⟨3, _⟩ => ⟨S4x1024x1024, .bf16⟩
  | .hbm, ⟨4, _⟩ => ⟨S4x1024x1024, .bf16⟩
  | .local _ .vmem, ⟨0, _⟩ => ⟨S1024x1024, .f32⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemProjReferenceIdeal.lean ====
abbrev S4x256x1024 : Shape := ⟨3, ![4, 256, 1024]⟩
abbrev S4x1024x1024 : Shape := ⟨3, ![4, 1024, 1024]⟩
abbrev S4x1024x4x256 : Shape := ⟨4, ![4, 1024, 4, 256]⟩
abbrev S4x4x256x1024 : Shape := ⟨4, ![4, 4, 256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1024x1024, .f32⟩
  | .hbm, ⟨2, _⟩ => ⟨S4x1024x4x256, .f32⟩
  | .hbm, ⟨3, _⟩ => ⟨S4x4x256x1024, .f32⟩
  | .hbm, ⟨4, _⟩ => ⟨S4x1024x1024, .f32⟩
  | .hbm, ⟨5, _⟩ => ⟨S4x1024x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Bias.lean ====
abbrev S16x257 : Shape := ⟨2, ![16, 257]⟩
abbrev S16x256 : Shape := ⟨2, ![16, 256]⟩
abbrev S_ : Shape := ⟨0, ![]⟩
abbrev S16x384 : Shape := ⟨2, ![16, 384]⟩
abbrev S16x640x128 : Shape := ⟨3, ![16, 640, 128]⟩
abbrev S16x1 : Shape := ⟨2, ![16, 1]⟩
abbrev S16x128 : Shape := ⟨2, ![16, 128]⟩
abbrev S16x384x128 : Shape := ⟨3, ![16, 384, 128]⟩
abbrev S16x1x128 : Shape := ⟨3, ![16, 1, 128]⟩

abbrev nBuf : Space → Nat
  | .hbm => 6
  | .vmem => 2
  | .smem => 0
  | _ => 0

abbrev bufTy : (tb : Table) → Fin (tcTables nBuf tb) → BufTy
  | .hbm, ⟨0, _⟩ => ⟨S16x257, .f32⟩
  | .hbm, ⟨1, _⟩ => ⟨S16x256, .f32⟩
  | .hbm, ⟨2, _⟩ => ⟨S_, .i32⟩
  | .hbm, ⟨3, _⟩ => ⟨S_, .f32⟩
  | .hbm, ⟨4, _⟩ => ⟨S16x384, .f32⟩
  | .hbm, ⟨5, _⟩ => ⟨S16x640x128, .f32⟩
  | .local _ .vmem, ⟨0, _⟩ => ⟨S16x384, .f32⟩
  | .local _ .vmem, ⟨1, _⟩ => ⟨S16x640x128, .f32⟩
  | _, _ => ⟨S16x257, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c384_i32 : BitVec 32 := 384#32
  let c256_i32_24 : BitVec 32 := 256#32
  let v96 : BitVec 32 := Scalar.addi c384_i32 c256_i32_24
  let c1_i32_25 : BitVec 32 := 1#32
  ⟨c384_i32, v96, c1_i32_25⟩
def k0_off1 (k0_t1 : Fin k0_t1_loop.trips) : Fin 3 → Nat :=
  let c0_41 : Index := 0#32
  let c384_i32 : BitVec 32 := 384#32
  let c1_i32_25 : BitVec 32 := 1#32
  let arg2 : BitVec 32 := Scf.iv c384_i32 c1_i32_25 k0_t1
  let v134 : Index := Scalar.indexCast arg2
  let c0_42 : Index := 0#32
  ![0, v134.toNat, 0]
abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== BiasIdeal.lean ====
variable {F : FTy → Type} [FloatOps F] [Named F]
def κ : String → Option EReal := fun
  | "log2e" => some (((Real.log 2)⁻¹ : ℝ) : EReal)
  | "mask" => some ⊥
  | _ => none
-- ==== BiasReferenceIdeal.lean ====
abbrev S16x257 : Shape := ⟨2, ![16, 257]⟩
abbrev S128 : Shape := ⟨1, ![128]⟩
abbrev S1x128 : Shape := ⟨2, ![1, 128]⟩
abbrev S640 : Shape := ⟨1, ![640]⟩
abbrev S640x1 : Shape := ⟨2, ![640, 1]⟩
abbrev S_ : Shape := ⟨0, ![]⟩
abbrev S640x128 : Shape := ⟨2, ![640, 128]⟩
abbrev S640x128x1 : Shape := ⟨3, ![640, 128, 1]⟩
abbrev S16x640x128 : Shape := ⟨3, ![16, 640, 128]⟩

abbrev nBuf : Space → Nat
  | .hbm => 93
  | .vmem => 0
  | .smem => 0
  | _ => 0

abbrev bufTy : (tb : Table) → Fin (tcTables nBuf tb) → BufTy
  | .hbm, ⟨0, _⟩ => ⟨S16x257, .f32⟩
  | .hbm, ⟨1, _⟩ => ⟨S128, .i32⟩
  | .hbm, ⟨2, _⟩ => ⟨S1x128, .i32⟩
  | .hbm, ⟨3, _⟩ => ⟨S640, .i32⟩
  | .hbm, ⟨4, _⟩ => ⟨S640x1, .i32⟩
  | .hbm, ⟨5, _⟩ => ⟨S_, .i32⟩
  | .hbm, ⟨6, _⟩ => ⟨S_, .i32⟩
  | .hbm, ⟨7, _⟩ => ⟨S1x128, .i32⟩
  | .hbm, ⟨8, _⟩ => ⟨S1x128, .i32⟩
  | .hbm, ⟨9, _⟩ => ⟨S1x128, .i32⟩
  | .hbm, ⟨10, _⟩ => ⟨S_, .i32⟩
  | .hbm, ⟨11, _⟩ => ⟨S1x128, .i32⟩
  | .hbm, ⟨12, _⟩ => ⟨S1x128, .i1⟩
  | .hbm, ⟨13, _⟩ => ⟨S1x128, .i32⟩
  | .hbm, ⟨14, _⟩ => ⟨S1x128, .i32⟩
  | .hbm, ⟨15, _⟩ => ⟨S_, .i32⟩
  | .hbm, ⟨16, _⟩ => ⟨S1x128, .i32⟩
  | .hbm, ⟨17, _⟩ => ⟨S1x128, .i1⟩
  | .hbm, ⟨18, _⟩ => ⟨S1x128, .i1⟩
  | .hbm, ⟨19, _⟩ => ⟨S_, .i32⟩
  | .hbm, ⟨20, _⟩ => ⟨S1x128, .i32⟩
  | .hbm, ⟨21, _⟩ => ⟨S1x128, .i32⟩
  | .hbm, ⟨22, _⟩ => ⟨S1x128, .i32⟩
  | .hbm, ⟨23, _⟩ => ⟨S_, .i32⟩
  | .hbm, ⟨24, _⟩ => ⟨S1x128, .i32⟩
  | .hbm, ⟨25, _⟩ => ⟨S1x128, .i32⟩
  | .hbm, ⟨26, _⟩ => ⟨S640x128, .i32⟩
  | .hbm, ⟨27, _⟩ => ⟨S640x128, .i32⟩
  | .hbm, ⟨28, _⟩ => ⟨S640x128, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S1x128, .i32⟩
  | .hbm, ⟨36, _⟩ => ⟨S1x128, .i32⟩
  | .hbm, ⟨37, _⟩ => ⟨S_, .i32⟩
  | .hbm, ⟨38, _⟩ => ⟨S1x128, .i32⟩
  | .hbm, ⟨39, _⟩ => ⟨S1x128, .i1⟩
  | .hbm, ⟨40, _⟩ => ⟨S_, .i32⟩
  | .hbm, ⟨41, _⟩ => ⟨S1x128, .i32⟩
  | .hbm, ⟨42, _⟩ => ⟨S1x128, .i1⟩
  | .hbm, ⟨43, _⟩ => ⟨S_, .i32⟩
  | .hbm, ⟨44, _⟩ => ⟨S_, .i1⟩
  | .hbm, ⟨45, _⟩ => ⟨S1x128, .i1⟩
  | .hbm, ⟨46, _⟩ => ⟨S1x128, .i1⟩
  | .hbm, ⟨47, _⟩ => ⟨S1x128, .i1⟩
  | .hbm, ⟨48, _⟩ => ⟨S1x128, .i32⟩
  | .hbm, ⟨49, _⟩ => ⟨S1x128, .i32⟩
  | .hbm, ⟨50, _⟩ => ⟨S1x128, .i32⟩
  | .hbm, ⟨51, _⟩ => ⟨S_, .i32⟩
  | .hbm, ⟨52, _⟩ => ⟨S1x128, .i32⟩
  | .hbm, ⟨53, _⟩ => ⟨S1x128, .i32⟩
  | .hbm, ⟨54, _⟩ => ⟨S640x128, .i32⟩
  | .hbm, ⟨55, _⟩ => ⟨S640x128, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S640x128, .i32⟩
  | .hbm, ⟨60, _⟩ => ⟨S640x128, .i32⟩
  | .hbm, ⟨61, _⟩ => ⟨S_, .i32⟩
  | .hbm, ⟨62, _⟩ => ⟨S640x128, .i32⟩
  | .hbm, ⟨63, _⟩ => ⟨S640x128, .i32⟩
  | .hbm, ⟨64, _⟩ => ⟨S_, .i32⟩
  | .hbm, ⟨65, _⟩ => ⟨S640x128, .i32⟩
  | .hbm, ⟨66, _⟩ => ⟨S640x128, .i32⟩
  | .hbm, ⟨67, _⟩ => ⟨S_, .i32⟩
  | .hbm, ⟨68, _⟩ => ⟨S640x128, .i32⟩
  | .hbm, ⟨69, _⟩ => ⟨S640x128, .i1⟩
  | .hbm, ⟨70, _⟩ => ⟨S_, .i32⟩
  | .hbm, ⟨71, _⟩ => ⟨S640x128, .i32⟩
  | .hbm, ⟨72, _⟩ => ⟨S640x128, .i32⟩
  | .hbm, ⟨73, _⟩ => ⟨S640x128, .i32⟩
  | .hbm, ⟨74, _⟩ => ⟨S640x128x1, .i32⟩
  | .hbm, ⟨75, _⟩ => ⟨S16x640x128, .f32⟩
  | .hbm, ⟨76, _⟩ => ⟨S_, .i32⟩
  | .hbm, ⟨77, _⟩ => ⟨S640x128, .i32⟩
  | .hbm, ⟨78, _⟩ => ⟨S640x128, .i1⟩
  | .hbm, ⟨79, _⟩ => ⟨S_, .i32⟩
  | .hbm, ⟨80, _⟩ => ⟨S640x128, .i32⟩
  | .hbm, ⟨81, _⟩ => ⟨S640x128, .i1⟩
  | .hbm, ⟨82, _⟩ => ⟨S640x128, .i1⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S16x640x128, .f32⟩
  | .hbm, ⟨87, _⟩ => ⟨S16x640x128, .f32⟩
  | .hbm, ⟨88, _⟩ => ⟨S_, .f32⟩
  | .hbm, ⟨89, _⟩ => ⟨S_, .f32⟩
  | .hbm, ⟨90, _⟩ => ⟨S16x640x128, .i1⟩
  | .hbm, ⟨91, _⟩ => ⟨S16x640x128, .f32⟩
  | .hbm, ⟨92, _⟩ => ⟨S16x640x128, .f32⟩
  | _, _ => ⟨S16x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v10 : Ref sig .tc := ⟨.hbm, 50, rfl⟩
abbrev main_c_2 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_c_3 : Ref sig .tc := ⟨.hbm, 56, rfl⟩
abbrev main_c_4 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v15 : Ref sig .tc := ⟨.hbm, 63, rfl⟩
abbrev main_c_5 : Ref sig .tc := ⟨.hbm, 64, rfl⟩
abbrev main_v16 : Ref sig .tc := ⟨.hbm, 65, rfl⟩
abbrev main_v17 : Ref sig .tc := ⟨.hbm, 66, rfl⟩
abbrev main_c_6 : Ref sig .tc := ⟨.hbm, 67, rfl⟩
abbrev main_v18 : Ref sig .tc := ⟨.hbm, 68, rfl⟩
abbrev main_v19 : Ref sig .tc := ⟨.hbm, 69, rfl⟩
abbrev main_c_7 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_c_8 : Ref sig .tc := ⟨.hbm, 76, rfl⟩
abbrev main_v25 : Ref sig .tc := ⟨.hbm, 77, rfl⟩
abbrev main_v26 : Ref sig .tc := ⟨.hbm, 78, rfl⟩
abbrev main_c_9 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_cst : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_cst_10 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v34 : Ref sig .tc := ⟨.hbm, 92, rfl⟩

abbrev nD : Nat := 1
abbrev τ : Topo := Topo.v7x

variable {F : FTy → Type} [FloatOps F]
-- ==== Proof.Spec.lean ====
module

public import Idealize.ShloMosaic.Lib.Pointwise
public import Idealize.ShloMosaic.PureOps.Ideal.Laws

/-! The layer's arithmetic over the extended reals, one token at a time, as plain functions of rows. Both programs
are read as these functions. -/

@[expose] public section
noncomputable section
namespace Layer
open Idealize.ShloMosaic

/-- The mean of a row of 1024 entries. -/
def mean (u : Fin 1024 → EReal) : EReal := Ideal.div (∑ x, u x) (Ideal.ofBits .f32 1149239296#32)

/-- One entry of the layer norm of the row `u` with scale `g` and shift `b`. -/
def norm (u g b : Fin 1024 → EReal) (d : Fin 1024) : EReal :=
  (u d - mean u) * Ideal.rsqrt (mean (fun x => (u x - mean u) * (u x - mean u)) + Ideal.ofBits .f32 925353388#32) * g d + b d

/-- One entry of a row times a matrix with 1024 rows. -/
def proj {n : ℕ} (x : Fin 1024 → EReal) (w : Fin 1024 → Fin n → EReal) (e : Fin n) : EReal := ∑ k, x k * w k e

/-- A value times its logistic. -/
def silu (z : EReal) : EReal := z * Ideal.logistic z

/-- The factor the kernel multiplies memory queries with. -/
def qscale : EReal := (((Real.log 2)⁻¹ * (Real.sqrt 128)⁻¹ : ℝ) : EReal)

/-- The scores of one scaled query against 256 keys. -/
def scoreK (q : Fin 128 → EReal) (K : Fin 256 → Fin 128 → EReal) (m : Fin 256) : EReal := ∑ j, q j * qscale * K m j

/-- The kernel's weight of one score: a power of two, relative to the largest score. -/
def weightK (t : Fin 256 → EReal) (m : Fin 256) : EReal :=
  FloatOps.exp2 (F := Ideal) (φ := .f32) (t m - Finset.univ.fold max (Ideal.ofBits .f32 4286578688#32) t)

/-- Memory attention of one head as the kernel computes it: weights are powers of two, the division is last. -/
def memK (q : Fin 128 → EReal) (K V : Fin 256 → Fin 128 → EReal) (j : Fin 128) : EReal :=
  Ideal.div (∑ m, weightK (scoreK q K) m * V m j) (∑ m, weightK (scoreK q K) m)

theorem memK_congr {q q' : Fin 128 → EReal} {K K' V V' : Fin 256 → Fin 128 → EReal} (hq : ∀ i, q i = q' i)
    (hK : ∀ m i, K m i = K' m i) (hV : ∀ m i, V m i = V' m i) : memK q K V = memK q' K' V' := by
  rw [funext hq, funext fun m => funext (hK m), funext fun m => funext (hV m)]

/-- A family of four is the function with these four values. -/
theorem four_eq {α : Type} (a b c d : α) (g : Fin 4 → α) (h0 : a = g 0) (h1 : b = g 1) (h2 : c = g 2) (h3 : d = g 3) :
    ![a, b, c, d] = g := by
  refine funext fun h => ?_
  fin_cases h
  · exact h0
  · exact h1
  · exact h2
  · exact h3

/-- The scores of one query against 256 keys, divided by √128. -/
def scoreR (q : Fin 128 → EReal) (K : Fin 256 → Fin 128 → EReal) (m : Fin 256) : EReal :=
  Ideal.div (∑ j, q j * K m j) (Ideal.sqrt (Ideal.ofBits .f32 1124073472#32))

/-- The exponential of a score relative to the largest score. -/
def weightR (t : Fin 256 → EReal) (m : Fin 256) : EReal :=
  Ideal.exp (t m - max (Ideal.ofBits .f32 4286578688#32) (Finset.univ.fold max (Ideal.ofBits .f32 4286578688#32) t))

/-- Memory attention of one head as the reference writes it: a softmax, then the weighted sum of the values. -/
def memR (q : Fin 128 → EReal) (K V : Fin 256 → Fin 128 → EReal) (j : Fin 128) : EReal :=
  ∑ m, V m j * Ideal.div (weightR (scoreR q K) m) (∑ m, weightR (scoreR q K) m)

/-- The layer's output row before the norm: the residual plus the gated mixing output times the output matrix.
`z` is the gate row, `mix` the first 1024 channels and `mem h` the 128 channels of memory head `h`. -/
def pre (x : Fin 1024 → EReal) (z : Fin 1536 → EReal) (mix : Fin 1024 → EReal) (mem : Fin 4 → Fin 128 → EReal)
    (wo : Fin 1536 → Fin 1024 → EReal) (d : Fin 1024) : EReal :=
  Ideal.ofBits .f32 1071072509#32 * x d
    + ((∑ e : Fin 1024, mix e * silu (z ⟨e.val, by omega⟩) * wo ⟨e.val, by omega⟩ d)
      + ∑ e : Fin 512, mem ⟨e.val / 128, by omega⟩ ⟨e.val % 128, by omega⟩ * silu (z ⟨1024 + e.val, by omega⟩)
          * wo ⟨1024 + e.val, by omega⟩ d)

/-- A sum over 1536 channels is the sum over the first 1024 and the sum over the other 512. -/
theorem sum_split (f : Fin 1536 → EReal) :
    ∑ e, f e = (∑ e : Fin 1024, f ⟨e.val, by omega⟩) + ∑ e : Fin 512, f ⟨1024 + e.val, by omega⟩ :=
  Fin.sum_univ_add (a := 1024) (b := 512) f

/-- The row before the norm, with the channels written as one row of 1536 chosen by nested tests, as the kernel joins them. -/
theorem pre_joined (x : Fin 1024 → EReal) (z : Fin 1536 → EReal) (mix : Fin 1024 → EReal) (mem : Fin 4 → Fin 128 → EReal)
    (wo : Fin 1536 → Fin 1024 → EReal) (d : Fin 1024) :
    Ideal.ofBits .f32 1071072509#32 * x d + ∑ e : Fin 1536,
      (if h : e.val < 1024 then mix ⟨e.val, h⟩
        else if h1 : e.val - 1024 < 128 then mem 0 ⟨e.val - 1024, h1⟩
        else if h2 : e.val - 1024 - 128 < 128 then mem 1 ⟨e.val - 1024 - 128, h2⟩
        else if h3 : e.val - 1024 - 128 - 128 < 128 then mem 2 ⟨e.val - 1024 - 128 - 128, h3⟩
        else mem 3 ⟨e.val - 1024 - 128 - 128 - 128, by omega⟩) * silu (z e) * wo e d
      = pre x z mix mem wo d := by
  unfold pre
  congr 1
  rw [sum_split]
  refine congrArg₂ (· + ·) (Finset.sum_congr rfl fun e _ => ?_) ?_
  · rw [dif_pos e.isLt]
  · refine Finset.sum_congr rfl fun e _ => ?_
    have hv : (⟨1024 + e.val, by omega⟩ : Fin 1536).val = 1024 + e.val := rfl
    rw [dif_neg (by omega)]
    refine congrArg₂ (· * ·) (congrArg₂ (· * ·) ?_ rfl) rfl
    have he := e.isLt
    have key : ∀ (a : Fin 4) (b : Fin 128), a.val * 128 + b.val = e.val →
        mem a b = mem ⟨e.val / 128, by omega⟩ ⟨e.val % 128, by omega⟩ := by
      intro a b hab
      congr 1 <;> apply Fin.ext <;> simp only <;> omega
    split_ifs with h1 h2 h3
    · exact key 0 _ (by simp only [Fin.val_zero]; omega)
    · exact key 1 _ (by simp only [show ((1 : Fin 4) : ℕ) = 1 from rfl]; omega)
    · exact key 2 _ (by simp only [show ((2 : Fin 4) : ℕ) = 2 from rfl]; omega)
    · exact key 3 _ (by simp only [show ((3 : Fin 4) : ℕ) = 3 from rfl]; omega)

/-- The gated input of the convolution: the product of two projections. -/
def gated (h : Fin 5120 → EReal) (e : Fin 1024) : EReal := h ⟨1024 + e.val, by omega⟩ * h ⟨2048 + e.val, by omega⟩

/-- The short convolution of one channel: `c0` is the present token's entry, `c1` and `c2` those one and two before. -/
def conv (p0 c0 c1 c2 : Fin 1024 → EReal) (cw : Fin 3 → Fin 1024 → EReal) (e : Fin 1024) : EReal :=
  p0 e * (c0 e * cw 2 e + c1 e * cw 1 e + c2 e * cw 0 e)

end Layer
-- ==== Proof.Pay.lean ====
module

public import proofs.«01_k».proof.Proof.Gen.KernelIdeal.Skeleton
public import proofs.«01_k».proof.Proof.Spec
public import Idealize.ShloMosaic.PureOps.IdealRules

/-! What the kernel's stored values are, entry by entry, as the layer's functions of rows. -/

@[expose] public section
noncomputable section
namespace Cert.KernelIdeal.Gen
open Idealize.ShloMosaic Idealize.ShloMosaic.TcCoe Layer Cert.KernelIdeal

theorem named_qscale : (Named.named κ "qm_scale" 1040356334#32 : Ideal .f32) = qscale :=
  IdealRules.named_const.ideal_named_scalar κ _ _ _ (by rfl)

theorem pay59_at (x : Vec Ideal S1x256x1024 .f32) (r : Fin 256) (d : Fin 1024) :
    k0_pay59 x (ix2 r d) = x (ix3 0 r d) := by
  pointwise [k0_pay59]

/-- Head 0 of the first half of a block. -/
theorem head0_at (x : Vec Ideal S1x256x1024 .f32) (w : Vec Ideal S1024x512 .bf16) (k v : Vec Ideal S1x256x128 .bf16)
    (r : Fin 256) (j : Fin 128) :
    k0_pay70 (k0_pay66 v) (k0_pay68 (k0_pay60 x) w k) (k0_pay69 (k0_pay60 x) w k) (constant S256x128 FTy.f32 0#32) (ix2 r j)
      = memK (fun i => proj (fun d => x (ix3 0 r d)) (fun d e => w (ix2 d e)) ⟨i.val, by omega⟩)
          (fun m i => k (ix3 0 m i)) (fun m i => v (ix3 0 m i)) j := by
  pointwise [k0_pay70, k0_pay66, k0_pay68, k0_pay69, k0_pay67, k0_pay65, k0_pay60, k0_pay59]
  simp only [named_qscale]
  rfl

/-- A later head: its queries start at column `128 * h`. -/
theorem head1_at (x : Vec Ideal S1x256x1024 .f32) (w : Vec Ideal S1024x512 .bf16) (k v : Vec Ideal S1x256x128 .bf16)
    (r : Fin 256) (j : Fin 128) :
    k0_pay71 (k0_pay65 (k0_pay60 x) w) k v (ix2 r j)
      = memK (fun i => proj (fun d => x (ix3 0 r d)) (fun d e => w (ix2 d e)) ⟨128 + i.val, by omega⟩)
          (fun m i => k (ix3 0 m i)) (fun m i => v (ix3 0 m i)) j := by
  pointwise [k0_pay71, k0_pay65, k0_pay60, k0_pay59]
  simp only [named_qscale]
  rfl

theorem head2_at (x : Vec Ideal S1x256x1024 .f32) (w : Vec Ideal S1024x512 .bf16) (k v : Vec Ideal S1x256x128 .bf16)
    (r : Fin 256) (j : Fin 128) :
    k0_pay72 (k0_pay65 (k0_pay60 x) w) k v (ix2 r j)
      = memK (fun i => proj (fun d => x (ix3 0 r d)) (fun d e => w (ix2 d e)) ⟨256 + i.val, by omega⟩)
          (fun m i => k (ix3 0 m i)) (fun m i => v (ix3 0 m i)) j := by
  pointwise [k0_pay72, k0_pay65, k0_pay60, k0_pay59]
  simp only [named_qscale]
  rfl

theorem head0'_at (x : Vec Ideal S1x256x1024 .f32) (w : Vec Ideal S1024x512 .bf16) (k v : Vec Ideal S1x256x128 .bf16)
    (r : Fin 256) (j : Fin 128) :
    k0_pay83 (k0_pay81 (k0_pay76 x) w) (k0_pay82 k) v (ix2 r j)
      = memK (fun i => proj (fun d => x (ix3 0 r d)) (fun d e => w (ix2 d e)) ⟨i.val, by omega⟩)
          (fun m i => k (ix3 0 m i)) (fun m i => v (ix3 0 m i)) j := by
  pointwise [k0_pay83, k0_pay81, k0_pay82, k0_pay80, k0_pay76, k0_pay75]
  simp only [named_qscale]
  rfl

theorem head1'_at (x : Vec Ideal S1x256x1024 .f32) (w : Vec Ideal S1024x512 .bf16) (k v : Vec Ideal S1x256x128 .bf16)
    (r : Fin 256) (j : Fin 128) :
    k0_pay84 (k0_pay80 (k0_pay76 x) w) k v (ix2 r j)
      = memK (fun i => proj (fun d => x (ix3 0 r d)) (fun d e => w (ix2 d e)) ⟨128 + i.val, by omega⟩)
          (fun m i => k (ix3 0 m i)) (fun m i => v (ix3 0 m i)) j := by
  pointwise [k0_pay84, k0_pay80, k0_pay76, k0_pay75]
  simp only [named_qscale]
  rfl

theorem u0_at (x : Vec Ideal S1x256x1024 .f32) (mixv : FVec Ideal S256x1024 .f32) (wg : Vec Ideal S1024x1536 .bf16) (h0 h1 h2 : FVec Ideal S256x128 .f32)
    (wq : Vec Ideal S1024x512 .bf16) (k v : Vec Ideal S1x256x128 .bf16) (wo : Vec Ideal S1536x1024 .bf16) (r : Fin 256) (d : Fin 1024) :
    k0_pay74 (k0_pay59 x) (k0_pay60 x) mixv wg h0 h1 h2 (k0_pay73 (k0_pay65 (k0_pay60 x) wq)) k v wo (ix2 r d)
      = pre (fun d => x (ix3 0 r d)) (proj (fun d => x (ix3 0 r d)) (fun d e => wg (ix2 d e))) (fun e => mixv (ix2 r e))
          ![fun j => h0 (ix2 r j), fun j => h1 (ix2 r j), fun j => h2 (ix2 r j),
            memK (fun i => proj (fun d => x (ix3 0 r d)) (fun d e => wq (ix2 d e)) ⟨384 + i.val, by omega⟩)
              (fun m i => k (ix3 0 m i)) (fun m i => v (ix3 0 m i))]
          (fun e d => wo (ix2 e d)) d := by
  pointwise [k0_pay74, k0_pay73, k0_pay65, k0_pay60, k0_pay59]
  simp only [named_qscale]
  refine Eq.trans ?_ (pre_joined _ _ _ _ _ _)
  rfl

theorem u1_at (x : Vec Ideal S1x256x1024 .f32) (mixv : FVec Ideal S256x1024 .f32) (wg : Vec Ideal S1024x1536 .bf16) (h0 h1 : FVec Ideal S256x128 .f32)
    (wq : Vec Ideal S1024x512 .bf16) (k2 v2 k v : Vec Ideal S1x256x128 .bf16) (wo : Vec Ideal S1536x1024 .bf16) (r : Fin 256) (d : Fin 1024) :
    k0_pay3 (k0_pay87 (k0_pay75 x) (k0_pay76 x) mixv wg (k0_pay80 (k0_pay76 x) wq) h0 h1 (k0_pay85 v2) (k0_pay86 (k0_pay80 (k0_pay76 x) wq) k2) k v wo) (ix2 r d)
      = pre (fun d => x (ix3 0 r d)) (proj (fun d => x (ix3 0 r d)) (fun d e => wg (ix2 d e))) (fun e => mixv (ix2 r e))
          ![fun j => h0 (ix2 r j), fun j => h1 (ix2 r j),
            memK (fun i => proj (fun d => x (ix3 0 r d)) (fun d e => wq (ix2 d e)) ⟨256 + i.val, by omega⟩)
              (fun m i => k2 (ix3 0 m i)) (fun m i => v2 (ix3 0 m i)),
            memK (fun i => proj (fun d => x (ix3 0 r d)) (fun d e => wq (ix2 d e)) ⟨384 + i.val, by omega⟩)
              (fun m i => k (ix3 0 m i)) (fun m i => v (ix3 0 m i))]
          (fun e d => wo (ix2 e d)) d := by
  pointwise [k0_pay3, k0_pay87, k0_pay85, k0_pay86, k0_pay80, k0_pay76, k0_pay75]
  simp only [named_qscale]
  refine Eq.trans ?_ (pre_joined _ _ _ _ _ _)
  rfl

/-- The convolution of the first half of a block, from three shifted reads of the gated input. -/
theorem mix0_at (x : Vec Ideal S1x256x1024 .f32) (w : Vec Ideal S1024x1024 .bf16) (cw : Vec Ideal S3x1024 .f32)
    (c0 c1 c2 : Vec Ideal S256x1024 .f32) (r : Fin 256) (e : Fin 1024) :
    k0_pay64 cw (k0_pay61 x w) c0 c1 c2 (ix2 r e)
      = conv (proj (fun d => x (ix3 0 r d)) (fun d e => w (ix2 d e))) (fun e => c0 (ix2 r e)) (fun e => c1 (ix2 r e))
          (fun e => c2 (ix2 r e)) (fun i e => cw (ix2 i e)) e := by
  pointwise [k0_pay64, k0_pay61, k0_pay60, k0_pay59]
  rfl

/-- The convolution of the second half of a block. -/
theorem mix1_at (x : Vec Ideal S1x256x1024 .f32) (w : Vec Ideal S1024x1024 .bf16) (cw : Vec Ideal S3x1024 .f32)
    (c0 c1 c2 : Vec Ideal S256x1024 .f32) (r : Fin 256) (e : Fin 1024) :
    k0_pay79 cw (k0_pay77 x w) c0 c1 c2 (ix2 r e)
      = conv (proj (fun d => x (ix3 0 r d)) (fun d e => w (ix2 d e))) (fun e => c0 (ix2 r e)) (fun e => c1 (ix2 r e))
          (fun e => c2 (ix2 r e)) (fun i e => cw (ix2 i e)) e := by
  pointwise [k0_pay79, k0_pay77, k0_pay76, k0_pay75]
  rfl

/-- The gated input of the first half of a block. -/
theorem cu0_at (x : Vec Ideal S1x256x1024 .f32) (w1 w2 : Vec Ideal S1024x1024 .bf16) (r : Fin 256) (e : Fin 1024) :
    k0_pay63 (k0_pay62 x w1 w2) (ix2 r e)
      = proj (fun d => x (ix3 0 r d)) (fun d e => w1 (ix2 d e)) e * proj (fun d => x (ix3 0 r d)) (fun d e => w2 (ix2 d e)) e := by
  pointwise [k0_pay63, k0_pay62, k0_pay60, k0_pay59]
  rfl

/-- The gated input of the second half of a block. -/
theorem cu1_at (x : Vec Ideal S1x256x1024 .f32) (w1 w2 : Vec Ideal S1024x1024 .bf16) (r : Fin 256) (e : Fin 1024) :
    k0_pay78 (k0_pay76 x) w1 w2 (ix2 r e)
      = proj (fun d => x (ix3 0 r d)) (fun d e => w1 (ix2 d e)) e * proj (fun d => x (ix3 0 r d)) (fun d e => w2 (ix2 d e)) e := by
  pointwise [k0_pay78, k0_pay76, k0_pay75]
  rfl

/-- The rows carried from the block before are copied unchanged. -/
theorem carry_at (v : Vec Ideal S8x1024 .f32) (r : Fin 8) (e : Fin 1024) : k0_pay30 v (ix2 r e) = v (ix2 r e) := by
  pointwise [k0_pay30]

end Cert.KernelIdeal.Gen
-- ==== Proof.State.lean ====
module

public import proofs.«01_k».proof.Proof.Gen.KernelIdeal.Value
public import proofs.«01_k».proof.Proof.Pay
public import Idealize.ShloMosaic.Lib.Pipeline.ValueKit

/-! One grid point of the kernel, read entry by entry: what it leaves in the two carried buffers. -/

@[expose] public section
noncomputable section

namespace Layer
open Idealize.ShloMosaic

/-- A block of whole rows of a matrix, agreeing with `G` row by row, has the value `G` gives wherever it lies. -/
theorem tile2 {N n o M : ℕ} (w : (⟨2, ![n, M]⟩ : Shape).Idx → EReal) (G : Fin N → Fin M → EReal)
    (h : ∀ (r : Fin n) (e : Fin M) (hr : o + r.val < N), w (ix2 r e) = G ⟨o + r.val, hr⟩ e) (y : Fin N) (e : Fin M) :
    View.TileAt (S := ⟨2, ![N, M]⟩) (Val := fun _ : EltTy => EReal) (e := .f32) (ix2 y e) ![o, 0] ![n, M] w (G y e) := by
  intro x hx
  obtain ⟨r, k, rfl⟩ : ∃ r k, x = ix2 r k := ⟨_, _, eq_ix2 x⟩
  have h0 : y.val = o + r.val := hx 0
  have h1 : e.val = 0 + k.val := hx 1
  obtain rfl : k = e := Fin.ext (by omega)
  rw [h r k (by have := y.isLt; omega)]
  exact congrArg (fun q => G q k) (Fin.ext h0.symm)

/-- A row lies in the block of rows that holds its number. -/
theorem mem_rows {N n o M : ℕ} (inb : ∀ a, (![o, 0] : Fin 2 → ℕ) a + (![n, M] : Fin 2 → ℕ) a ≤ (⟨2, ![N, M]⟩ : Shape).size a)
    (y : Fin N) (e : Fin M) (h : o ≤ y.val) (h' : y.val < o + n) :
    (ix2 y e : (⟨2, ![N, M]⟩ : Shape).Idx) ∈ (Rect.unit (s := ⟨2, ![N, M]⟩) ![o, 0] ![n, M] inb).set := by
  refine Rect.mem_set_unit.mpr ?_
  intro a; fin_cases a
  · exact ⟨h, h'⟩
  · exact ⟨Nat.zero_le _, by show e.val < 0 + M; omega⟩

/-- The same for one plane of rows. -/
theorem tile3 {N n o M : ℕ} (w : (⟨3, ![1, n, M]⟩ : Shape).Idx → EReal) (G : Fin N → Fin M → EReal)
    (h : ∀ (r : Fin n) (e : Fin M) (hr : o + r.val < N), w (ix3 0 r e) = G ⟨o + r.val, hr⟩ e) (y : Fin N) (e : Fin M) :
    View.TileAt (S := ⟨3, ![1, N, M]⟩) (Val := fun _ : EltTy => EReal) (e := .f32) (ix3 0 y e) ![0, o, 0] ![1, n, M] w (G y e) := by
  intro x hx
  obtain ⟨q, r, k, rfl⟩ : ∃ q r k, x = ix3 q r k := ⟨_, _, _, eq_ix3 x⟩
  have h0 : y.val = o + r.val := hx 1
  have h1 : e.val = 0 + k.val := hx 2
  obtain rfl : q = 0 := Subsingleton.elim _ _
  obtain rfl : k = e := Fin.ext (by omega)
  rw [h r k (by have := y.isLt; omega)]
  exact congrArg (fun q => G q k) (Fin.ext h0.symm)

end Layer

namespace Cert.KernelIdeal.Gen
open Idealize.ShloMosaic Idealize.ShloMosaic.TcCoe Idealize.SL.Sem Layer Cert.KernelIdeal

section Block
variable (X : Vec Ideal S1x512x1024 .f32) (W : Vec Ideal S1024x5120 .bf16) (WO : Vec Ideal S1536x1024 .bf16)
  (KV : Vec Ideal S1x256x1024 .bf16) (CW : Vec Ideal S3x1024 .f32) (z : Vec Ideal S8x1024 .f32)

/-- The stores of the gated input before the first half's output: the carried rows, then the first half. -/
def cuFirst : List (View.Piece (Elt Ideal) S520x1024 .f32) := [⟨Rect.unit ![8, 0] ![256, 1024] inb_S520x1024_S256x1024_8_0,
      k0_pay63 (k0_pay62 (View.ld X (Rect.unit ![0, 0, 0] ![1, 256, 1024] inb_S1x512x1024_S1x256x1024_0_0_0)) (View.ld W (Rect.unit ![0, 1024] ![1024, 1024] inb_S1024x5120_S1024x1024_0_1024)) (View.ld W (Rect.unit ![0, 2048] ![1024, 1024] inb_S1024x5120_S1024x1024_0_2048)))⟩,
    ⟨Rect.unit ![0, 0] ![8, 1024] inb_S520x1024_S8x1024_0_0, z⟩]

/-- All stores of the gated input at a point. -/
def cuBoth : List (View.Piece (Elt Ideal) S520x1024 .f32) := [⟨Rect.unit ![264, 0] ![256, 1024] inb_S520x1024_S256x1024_264_0,
      k0_pay78 (k0_pay76 (View.ld X (Rect.unit ![0, 256, 0] ![1, 256, 1024] inb_S1x512x1024_S1x256x1024_0_256_0))) (View.ld W (Rect.unit ![0, 1024] ![1024, 1024] inb_S1024x5120_S1024x1024_0_1024)) (View.ld W (Rect.unit ![0, 2048] ![1024, 1024] inb_S1024x5120_S1024x1024_0_2048))⟩,
    ⟨Rect.unit ![8, 0] ![256, 1024] inb_S520x1024_S256x1024_8_0,
      k0_pay63 (k0_pay62 (View.ld X (Rect.unit ![0, 0, 0] ![1, 256, 1024] inb_S1x512x1024_S1x256x1024_0_0_0)) (View.ld W (Rect.unit ![0, 1024] ![1024, 1024] inb_S1024x5120_S1024x1024_0_1024)) (View.ld W (Rect.unit ![0, 2048] ![1024, 1024] inb_S1024x5120_S1024x1024_0_2048)))⟩,
    ⟨Rect.unit ![0, 0] ![8, 1024] inb_S520x1024_S8x1024_0_0, z⟩]

/-- What the first half stores as its output rows before the norm. -/
def uFirst : Vec Ideal S256x1024 .f32 :=
    k0_pay74 (k0_pay59 (View.ld X (Rect.unit ![0, 0, 0] ![1, 256, 1024] inb_S1x512x1024_S1x256x1024_0_0_0))) (k0_pay60 (View.ld X (Rect.unit ![0, 0, 0] ![1, 256, 1024] inb_S1x512x1024_S1x256x1024_0_0_0)))
      (k0_pay64 (View.ld CW (Rect.unit ![0, 0] ![3, 1024] inb_S3x1024_S3x1024_0_0)) (k0_pay61 (View.ld X (Rect.unit ![0, 0, 0] ![1, 256, 1024] inb_S1x512x1024_S1x256x1024_0_0_0)) (View.ld W (Rect.unit ![0, 0] ![1024, 1024] inb_S1024x5120_S1024x1024_0_0)))
        ((View.whole cc0_scratch1).readCov (Val := Elt Ideal) (cuFirst X W z) (Rect.unit (s := S520x1024) ![8, 0] ![256, 1024] inb_S520x1024_S256x1024_8_0).toLoadRect)
        ((View.whole cc0_scratch1).readCov (Val := Elt Ideal) (cuFirst X W z) (Rect.unit (s := S520x1024) ![7, 0] ![256, 1024] inb_S520x1024_S256x1024_7_0).toLoadRect)
        ((View.whole cc0_scratch1).readCov (Val := Elt Ideal) (cuFirst X W z) (Rect.unit (s := S520x1024) ![6, 0] ![256, 1024] inb_S520x1024_S256x1024_6_0).toLoadRect))
      (View.ld W (Rect.unit ![0, 3584] ![1024, 1536] inb_S1024x5120_S1024x1536_0_3584))
      (k0_pay70 (k0_pay66 (View.ld KV (Rect.unit ![0, 0, 512] ![1, 256, 128] inb_S1x256x1024_S1x256x128_0_0_512))) (k0_pay68 (k0_pay60 (View.ld X (Rect.unit ![0, 0, 0] ![1, 256, 1024] inb_S1x512x1024_S1x256x1024_0_0_0))) (View.ld W (Rect.unit ![0, 3072] ![1024, 512] inb_S1024x5120_S1024x512_0_3072)) (View.ld KV (Rect.unit ![0, 0, 0] ![1, 256, 128] inb_S1x256x1024_S1x256x128_0_0_0)))
        (k0_pay69 (k0_pay60 (View.ld X (Rect.unit ![0, 0, 0] ![1, 256, 1024] inb_S1x512x1024_S1x256x1024_0_0_0))) (View.ld W (Rect.unit ![0, 3072] ![1024, 512] inb_S1024x5120_S1024x512_0_3072)) (View.ld KV (Rect.unit ![0, 0, 0] ![1, 256, 128] inb_S1x256x1024_S1x256x128_0_0_0))) (constant S256x128 FTy.f32 0#32))
      (k0_pay71 (k0_pay65 (k0_pay60 (View.ld X (Rect.unit ![0, 0, 0] ![1, 256, 1024] inb_S1x512x1024_S1x256x1024_0_0_0))) (View.ld W (Rect.unit ![0, 3072] ![1024, 512] inb_S1024x5120_S1024x512_0_3072))) (View.ld KV (Rect.unit ![0, 0, 128] ![1, 256, 128] inb_S1x256x1024_S1x256x128_0_0_128)) (View.ld KV (Rect.unit ![0, 0, 640] ![1, 256, 128] inb_S1x256x1024_S1x256x128_0_0_640)))
      (k0_pay72 (k0_pay65 (k0_pay60 (View.ld X (Rect.unit ![0, 0, 0] ![1, 256, 1024] inb_S1x512x1024_S1x256x1024_0_0_0))) (View.ld W (Rect.unit ![0, 3072] ![1024, 512] inb_S1024x5120_S1024x512_0_3072))) (View.ld KV (Rect.unit ![0, 0, 256] ![1, 256, 128] inb_S1x256x1024_S1x256x128_0_0_256)) (View.ld KV (Rect.unit ![0, 0, 768] ![1, 256, 128] inb_S1x256x1024_S1x256x128_0_0_768)))
      (k0_pay73 (k0_pay65 (k0_pay60 (View.ld X (Rect.unit ![0, 0, 0] ![1, 256, 1024] inb_S1x512x1024_S1x256x1024_0_0_0))) (View.ld W (Rect.unit ![0, 3072] ![1024, 512] inb_S1024x5120_S1024x512_0_3072)))) (View.ld KV (Rect.unit ![0, 0, 384] ![1, 256, 128] inb_S1x256x1024_S1x256x128_0_0_384)) (View.ld KV (Rect.unit ![0, 0, 896] ![1, 256, 128] inb_S1x256x1024_S1x256x128_0_0_896)) (View.ld WO (Rect.unit ![0, 0] ![1536, 1024] inb_S1536x1024_S1536x1024_0_0))

/-- What the second half stores as its output rows before the norm. -/
def uSecond : Vec Ideal S256x1024 .f32 :=
    k0_pay3 (k0_pay87 (k0_pay75 (View.ld X (Rect.unit ![0, 256, 0] ![1, 256, 1024] inb_S1x512x1024_S1x256x1024_0_256_0))) (k0_pay76 (View.ld X (Rect.unit ![0, 256, 0] ![1, 256, 1024] inb_S1x512x1024_S1x256x1024_0_256_0)))
      (k0_pay79 (View.ld CW (Rect.unit ![0, 0] ![3, 1024] inb_S3x1024_S3x1024_0_0)) (k0_pay77 (View.ld X (Rect.unit ![0, 256, 0] ![1, 256, 1024] inb_S1x512x1024_S1x256x1024_0_256_0)) (View.ld W (Rect.unit ![0, 0] ![1024, 1024] inb_S1024x5120_S1024x1024_0_0)))
        ((View.whole cc0_scratch1).readCov (Val := Elt Ideal) (cuBoth X W z) (Rect.unit (s := S520x1024) ![264, 0] ![256, 1024] inb_S520x1024_S256x1024_264_0).toLoadRect)
        ((View.whole cc0_scratch1).readCov (Val := Elt Ideal) (cuBoth X W z) (Rect.unit (s := S520x1024) ![263, 0] ![256, 1024] inb_S520x1024_S256x1024_263_0).toLoadRect)
        ((View.whole cc0_scratch1).readCov (Val := Elt Ideal) (cuBoth X W z) (Rect.unit (s := S520x1024) ![262, 0] ![256, 1024] inb_S520x1024_S256x1024_262_0).toLoadRect))
      (View.ld W (Rect.unit ![0, 3584] ![1024, 1536] inb_S1024x5120_S1024x1536_0_3584))
      (k0_pay80 (k0_pay76 (View.ld X (Rect.unit ![0, 256, 0] ![1, 256, 1024] inb_S1x512x1024_S1x256x1024_0_256_0))) (View.ld W (Rect.unit ![0, 3072] ![1024, 512] inb_S1024x5120_S1024x512_0_3072)))
      (k0_pay83 (k0_pay81 (k0_pay76 (View.ld X (Rect.unit ![0, 256, 0] ![1, 256, 1024] inb_S1x512x1024_S1x256x1024_0_256_0))) (View.ld W (Rect.unit ![0, 3072] ![1024, 512] inb_S1024x5120_S1024x512_0_3072))) (k0_pay82 (View.ld KV (Rect.unit ![0, 0, 0] ![1, 256, 128] inb_S1x256x1024_S1x256x128_0_0_0))) (View.ld KV (Rect.unit ![0, 0, 512] ![1, 256, 128] inb_S1x256x1024_S1x256x128_0_0_512)))
      (k0_pay84 (k0_pay80 (k0_pay76 (View.ld X (Rect.unit ![0, 256, 0] ![1, 256, 1024] inb_S1x512x1024_S1x256x1024_0_256_0))) (View.ld W (Rect.unit ![0, 3072] ![1024, 512] inb_S1024x5120_S1024x512_0_3072))) (View.ld KV (Rect.unit ![0, 0, 128] ![1, 256, 128] inb_S1x256x1024_S1x256x128_0_0_128)) (View.ld KV (Rect.unit ![0, 0, 640] ![1, 256, 128] inb_S1x256x1024_S1x256x128_0_0_640)))
      (k0_pay85 (View.ld KV (Rect.unit ![0, 0, 768] ![1, 256, 128] inb_S1x256x1024_S1x256x128_0_0_768))) (k0_pay86 (k0_pay80 (k0_pay76 (View.ld X (Rect.unit ![0, 256, 0] ![1, 256, 1024] inb_S1x512x1024_S1x256x1024_0_256_0))) (View.ld W (Rect.unit ![0, 3072] ![1024, 512] inb_S1024x5120_S1024x512_0_3072))) (View.ld KV (Rect.unit ![0, 0, 256] ![1, 256, 128] inb_S1x256x1024_S1x256x128_0_0_256)))
      (View.ld KV (Rect.unit ![0, 0, 384] ![1, 256, 128] inb_S1x256x1024_S1x256x128_0_0_384)) (View.ld KV (Rect.unit ![0, 0, 896] ![1, 256, 128] inb_S1x256x1024_S1x256x128_0_0_896)) (View.ld WO (Rect.unit ![0, 0] ![1536, 1024] inb_S1536x1024_S1536x1024_0_0)))

/-- One row of the block times the input matrix. -/
def hrow (r : Fin 512) : Fin 5120 → EReal := proj (fun d => X (ix3 0 r d)) (fun d e => W (ix2 d e))

/-- One row of the block's output before the norm, when `Hs` is the gated input of the block with the 8 rows before it. -/
def ublk (Hs : ℕ → Fin 1024 → EReal) (r : Fin 512) (d : Fin 1024) : EReal :=
  pre (fun d => X (ix3 0 r d)) (fun e => hrow X W r ⟨3584 + e.val, by omega⟩)
    (conv (fun e => hrow X W r ⟨e.val, by omega⟩) (Hs (r.val + 8)) (Hs (r.val + 7)) (Hs (r.val + 6)) (fun i e => CW (ix2 i e)))
    (fun h j => memK (fun i => hrow X W r ⟨3072 + (h.val * 128 + i.val), by omega⟩)
      (fun m i => KV (ix3 0 m ⟨h.val * 128 + i.val, by omega⟩)) (fun m i => KV (ix3 0 m ⟨512 + (h.val * 128 + i.val), by omega⟩)) j)
    (fun e d => WO (ix2 e d)) d

variable (Hs : ℕ → Fin 1024 → EReal)

/-- The gated input after all stores of a point is `Hs`, when the carried rows and the block's own rows are. -/
theorem cuBoth_at (hz : ∀ (r : Fin 8) (e : Fin 1024), z (ix2 r e) = Hs r.val e)
    (hc : ∀ (r : Fin 512) (e : Fin 1024), gated (hrow X W r) e = Hs (8 + r.val) e) (n : Fin 520) (e : Fin 1024) :
    View.canon (cuBoth X W z) (ix2 n e) = Hs n.val e := by
  refine View.canon_eq_of_allAt _ _ _ ?_ ?_
  · rcases lt_or_ge n.val 8 with h | h
    · refine ⟨_, List.mem_cons_of_mem _ (List.mem_cons_of_mem _ List.mem_cons_self), mem_rows inb_S520x1024_S8x1024_0_0 n e (Nat.zero_le _) (by omega)⟩
    rcases lt_or_ge n.val 264 with h' | h'
    · refine ⟨_, List.mem_cons_of_mem _ List.mem_cons_self, mem_rows inb_S520x1024_S256x1024_8_0 n e h (by omega)⟩
    · refine ⟨_, List.mem_cons_self, mem_rows inb_S520x1024_S256x1024_264_0 n e h' (by omega)⟩
  · refine View.allAt_cons_unit _ _ _ _ _ ?_ (View.allAt_cons_unit _ _ _ _ _ ?_ (View.allAt_cons_unit _ _ _ _ _ ?_ (View.allAt_nil _ _)))
    · refine tile2 (N := 520) _ (fun n e => Hs n.val e) (fun r e hr => ?_) n e
      rw [cu1_at]
      pointwise
      exact (hc ⟨256 + r.val, by omega⟩ e).trans (congrArg (fun q => Hs q e) (by show 8 + (256 + r.val) = 264 + r.val; omega))
    · refine tile2 (N := 520) _ (fun n e => Hs n.val e) (fun r e hr => ?_) n e
      rw [cu0_at]
      pointwise
      exact hc ⟨r.val, by omega⟩ e
    · refine tile2 (N := 520) _ (fun n e => Hs n.val e) (fun r e hr => ?_) n e
      exact (hz r e).trans (congrArg (fun q => Hs q e) (by show r.val = 0 + r.val; omega))

/-- The gated input before the first half's output is `Hs` on the rows stored by then. -/
theorem cuFirst_at (hz : ∀ (r : Fin 8) (e : Fin 1024), z (ix2 r e) = Hs r.val e)
    (hc : ∀ (r : Fin 512) (e : Fin 1024), gated (hrow X W r) e = Hs (8 + r.val) e) (n : Fin 520) (hn : n.val < 264) (e : Fin 1024) :
    View.canon (cuFirst X W z) (ix2 n e) = Hs n.val e := by
  refine View.canon_eq_of_allAt _ _ _ ?_ ?_
  · rcases lt_or_ge n.val 8 with h | h
    · refine ⟨_, List.mem_cons_of_mem _ List.mem_cons_self, mem_rows inb_S520x1024_S8x1024_0_0 n e (Nat.zero_le _) (by omega)⟩
    · refine ⟨_, List.mem_cons_self, mem_rows inb_S520x1024_S256x1024_8_0 n e h (by omega)⟩
  · refine View.allAt_cons_unit _ _ _ _ _ ?_ (View.allAt_cons_unit _ _ _ _ _ ?_ (View.allAt_nil _ _))
    · refine tile2 (N := 520) _ (fun n e => Hs n.val e) (fun r e hr => ?_) n e
      rw [cu0_at]
      pointwise
      exact hc ⟨r.val, by omega⟩ e
    · refine tile2 (N := 520) _ (fun n e => Hs n.val e) (fun r e hr => ?_) n e
      exact (hz r e).trans (congrArg (fun q => Hs q e) (by show r.val = 0 + r.val; omega))

theorem rc_8 (hz : ∀ (r : Fin 8) (e : Fin 1024), z (ix2 r e) = Hs r.val e)
    (hc : ∀ (r : Fin 512) (e : Fin 1024), gated (hrow X W r) e = Hs (8 + r.val) e) (r : Fin 256) (e : Fin 1024) :
    (View.whole cc0_scratch1).readCov (Val := Elt Ideal) (cuFirst X W z) (Rect.unit (s := S520x1024) ![8, 0] ![256, 1024] inb_S520x1024_S256x1024_8_0).toLoadRect (ix2 r e) = Hs (8 + r.val) e := by
  rw [View.readCov_eq_canon']
  have hi : (Rect.unit ![8, 0] ![256, 1024] inb_S520x1024_S256x1024_8_0).toLoadRect.idx (ix2 r e) = (ix2 ⟨8 + r.val, by omega⟩ e : S520x1024.Idx) := by
    refine funext fun a => Fin.ext ?_
    refine (Rect.idx_unit_val (s := S520x1024) ![8, 0] ![256, 1024] inb_S520x1024_S256x1024_8_0 (ix2 r e) a).trans ?_
    fin_cases a
    · rfl
    · exact Nat.zero_add _
  show View.canon (cuFirst X W z) _ = _
  rw [hi]
  exact cuFirst_at X W z Hs hz hc ⟨8 + r.val, by omega⟩ (by show 8 + r.val < 264; omega) e

theorem rc_7 (hz : ∀ (r : Fin 8) (e : Fin 1024), z (ix2 r e) = Hs r.val e)
    (hc : ∀ (r : Fin 512) (e : Fin 1024), gated (hrow X W r) e = Hs (8 + r.val) e) (r : Fin 256) (e : Fin 1024) :
    (View.whole cc0_scratch1).readCov (Val := Elt Ideal) (cuFirst X W z) (Rect.unit (s := S520x1024) ![7, 0] ![256, 1024] inb_S520x1024_S256x1024_7_0).toLoadRect (ix2 r e) = Hs (7 + r.val) e := by
  rw [View.readCov_eq_canon']
  have hi : (Rect.unit ![7, 0] ![256, 1024] inb_S520x1024_S256x1024_7_0).toLoadRect.idx (ix2 r e) = (ix2 ⟨7 + r.val, by omega⟩ e : S520x1024.Idx) := by
    refine funext fun a => Fin.ext ?_
    refine (Rect.idx_unit_val (s := S520x1024) ![7, 0] ![256, 1024] inb_S520x1024_S256x1024_7_0 (ix2 r e) a).trans ?_
    fin_cases a
    · rfl
    · exact Nat.zero_add _
  show View.canon (cuFirst X W z) _ = _
  rw [hi]
  exact cuFirst_at X W z Hs hz hc ⟨7 + r.val, by omega⟩ (by show 7 + r.val < 264; omega) e

theorem rc_6 (hz : ∀ (r : Fin 8) (e : Fin 1024), z (ix2 r e) = Hs r.val e)
    (hc : ∀ (r : Fin 512) (e : Fin 1024), gated (hrow X W r) e = Hs (8 + r.val) e) (r : Fin 256) (e : Fin 1024) :
    (View.whole cc0_scratch1).readCov (Val := Elt Ideal) (cuFirst X W z) (Rect.unit (s := S520x1024) ![6, 0] ![256, 1024] inb_S520x1024_S256x1024_6_0).toLoadRect (ix2 r e) = Hs (6 + r.val) e := by
  rw [View.readCov_eq_canon']
  have hi : (Rect.unit ![6, 0] ![256, 1024] inb_S520x1024_S256x1024_6_0).toLoadRect.idx (ix2 r e) = (ix2 ⟨6 + r.val, by omega⟩ e : S520x1024.Idx) := by
    refine funext fun a => Fin.ext ?_
    refine (Rect.idx_unit_val (s := S520x1024) ![6, 0] ![256, 1024] inb_S520x1024_S256x1024_6_0 (ix2 r e) a).trans ?_
    fin_cases a
    · rfl
    · exact Nat.zero_add _
  show View.canon (cuFirst X W z) _ = _
  rw [hi]
  exact cuFirst_at X W z Hs hz hc ⟨6 + r.val, by omega⟩ (by show 6 + r.val < 264; omega) e

theorem rc_264 (hz : ∀ (r : Fin 8) (e : Fin 1024), z (ix2 r e) = Hs r.val e)
    (hc : ∀ (r : Fin 512) (e : Fin 1024), gated (hrow X W r) e = Hs (8 + r.val) e) (r : Fin 256) (e : Fin 1024) :
    (View.whole cc0_scratch1).readCov (Val := Elt Ideal) (cuBoth X W z) (Rect.unit (s := S520x1024) ![264, 0] ![256, 1024] inb_S520x1024_S256x1024_264_0).toLoadRect (ix2 r e) = Hs (264 + r.val) e := by
  rw [View.readCov_eq_canon']
  have hi : (Rect.unit ![264, 0] ![256, 1024] inb_S520x1024_S256x1024_264_0).toLoadRect.idx (ix2 r e) = (ix2 ⟨264 + r.val, by omega⟩ e : S520x1024.Idx) := by
    refine funext fun a => Fin.ext ?_
    refine (Rect.idx_unit_val (s := S520x1024) ![264, 0] ![256, 1024] inb_S520x1024_S256x1024_264_0 (ix2 r e) a).trans ?_
    fin_cases a
    · rfl
    · exact Nat.zero_add _
  show View.canon (cuBoth X W z) _ = _
  rw [hi]
  exact cuBoth_at X W z Hs hz hc ⟨264 + r.val, by omega⟩ e

theorem rc_263 (hz : ∀ (r : Fin 8) (e : Fin 1024), z (ix2 r e) = Hs r.val e)
    (hc : ∀ (r : Fin 512) (e : Fin 1024), gated (hrow X W r) e = Hs (8 + r.val) e) (r : Fin 256) (e : Fin 1024) :
    (View.whole cc0_scratch1).readCov (Val := Elt Ideal) (cuBoth X W z) (Rect.unit (s := S520x1024) ![263, 0] ![256, 1024] inb_S520x1024_S256x1024_263_0).toLoadRect (ix2 r e) = Hs (263 + r.val) e := by
  rw [View.readCov_eq_canon']
  have hi : (Rect.unit ![263, 0] ![256, 1024] inb_S520x1024_S256x1024_263_0).toLoadRect.idx (ix2 r e) = (ix2 ⟨263 + r.val, by omega⟩ e : S520x1024.Idx) := by
    refine funext fun a => Fin.ext ?_
    refine (Rect.idx_unit_val (s := S520x1024) ![263, 0] ![256, 1024] inb_S520x1024_S256x1024_263_0 (ix2 r e) a).trans ?_
    fin_cases a
    · rfl
    · exact Nat.zero_add _
  show View.canon (cuBoth X W z) _ = _
  rw [hi]
  exact cuBoth_at X W z Hs hz hc ⟨263 + r.val, by omega⟩ e

theorem rc_262 (hz : ∀ (r : Fin 8) (e : Fin 1024), z (ix2 r e) = Hs r.val e)
    (hc : ∀ (r : Fin 512) (e : Fin 1024), gated (hrow X W r) e = Hs (8 + r.val) e) (r : Fin 256) (e : Fin 1024) :
    (View.whole cc0_scratch1).readCov (Val := Elt Ideal) (cuBoth X W z) (Rect.unit (s := S520x1024) ![262, 0] ![256, 1024] inb_S520x1024_S256x1024_262_0).toLoadRect (ix2 r e) = Hs (262 + r.val) e := by
  rw [View.readCov_eq_canon']
  have hi : (Rect.unit ![262, 0] ![256, 1024] inb_S520x1024_S256x1024_262_0).toLoadRect.idx (ix2 r e) = (ix2 ⟨262 + r.val, by omega⟩ e : S520x1024.Idx) := by
    refine funext fun a => Fin.ext ?_
    refine (Rect.idx_unit_val (s := S520x1024) ![262, 0] ![256, 1024] inb_S520x1024_S256x1024_262_0 (ix2 r e) a).trans ?_
    fin_cases a
    · rfl
    · exact Nat.zero_add _
  show View.canon (cuBoth X W z) _ = _
  rw [hi]
  exact cuBoth_at X W z Hs hz hc ⟨262 + r.val, by omega⟩ e

/-- The half's output rows are the layer's row function. -/
theorem uFirst_at (hz : ∀ (r : Fin 8) (e : Fin 1024), z (ix2 r e) = Hs r.val e)
    (hc : ∀ (r : Fin 512) (e : Fin 1024), gated (hrow X W r) e = Hs (8 + r.val) e) (r : Fin 256) (d : Fin 1024) :
    uFirst X W WO KV CW z (ix2 r d) = ublk X W WO KV CW Hs ⟨r.val, by omega⟩ d := by
  unfold uFirst
  rw [u0_at, funext (head0_at _ _ _ _ r), funext (head1_at _ _ _ _ r), funext (head2_at _ _ _ _ r), funext (mix0_at _ _ _ _ _ _ r), funext (rc_8 X W z Hs hz hc r), funext (rc_7 X W z Hs hz hc r), funext (rc_6 X W z Hs hz hc r)]
  pointwise
  unfold ublk
  congr 1
  · refine funext fun e => ?_
    rw [show 8 + r.val = r.val + 8 by omega, show 7 + r.val = r.val + 7 by omega, show 6 + r.val = r.val + 6 by omega]
    rfl
  · refine four_eq _ _ _ _ _ ?_ ?_ ?_ ?_
    · refine memK_congr (fun i => ?_) (fun m i => ?_) (fun m i => ?_)
      · exact congrArg (hrow X W ⟨r.val, by omega⟩) (Fin.ext (by show 3072 + (i.val) = 3072 + (0 * 128 + i.val); omega))
      · exact congrArg (fun q => KV (ix3 0 m q)) (Fin.ext (by show i.val = 0 * 128 + i.val; omega))
      · exact congrArg (fun q => KV (ix3 0 m q)) (Fin.ext (by show 512 + i.val = 512 + (0 * 128 + i.val); omega))
    · refine memK_congr (fun i => ?_) (fun m i => ?_) (fun m i => ?_)
      · exact congrArg (hrow X W ⟨r.val, by omega⟩) (Fin.ext (by show 3072 + (128 + i.val) = 3072 + (1 * 128 + i.val); omega))
      · exact congrArg (fun q => KV (ix3 0 m q)) (Fin.ext (by show 128 + i.val = 1 * 128 + i.val; omega))
      · exact congrArg (fun q => KV (ix3 0 m q)) (Fin.ext (by show 640 + i.val = 512 + (1 * 128 + i.val); omega))
    · refine memK_congr (fun i => ?_) (fun m i => ?_) (fun m i => ?_)
      · exact congrArg (hrow X W ⟨r.val, by omega⟩) (Fin.ext (by show 3072 + (256 + i.val) = 3072 + (2 * 128 + i.val); omega))
      · exact congrArg (fun q => KV (ix3 0 m q)) (Fin.ext (by show 256 + i.val = 2 * 128 + i.val; omega))
      · exact congrArg (fun q => KV (ix3 0 m q)) (Fin.ext (by show 768 + i.val = 512 + (2 * 128 + i.val); omega))
    · refine memK_congr (fun i => ?_) (fun m i => ?_) (fun m i => ?_)
      · exact congrArg (hrow X W ⟨r.val, by omega⟩) (Fin.ext (by show 3072 + (384 + i.val) = 3072 + (3 * 128 + i.val); omega))
      · exact congrArg (fun q => KV (ix3 0 m q)) (Fin.ext (by show 384 + i.val = 3 * 128 + i.val; omega))
      · exact congrArg (fun q => KV (ix3 0 m q)) (Fin.ext (by show 896 + i.val = 512 + (3 * 128 + i.val); omega))

/-- The half's output rows are the layer's row function. -/
theorem uSecond_at (hz : ∀ (r : Fin 8) (e : Fin 1024), z (ix2 r e) = Hs r.val e)
    (hc : ∀ (r : Fin 512) (e : Fin 1024), gated (hrow X W r) e = Hs (8 + r.val) e) (r : Fin 256) (d : Fin 1024) :
    uSecond X W WO KV CW z (ix2 r d) = ublk X W WO KV CW Hs ⟨256 + r.val, by omega⟩ d := by
  unfold uSecond
  rw [u1_at, funext (head0'_at _ _ _ _ r), funext (head1'_at _ _ _ _ r), funext (mix1_at _ _ _ _ _ _ r), funext (rc_264 X W z Hs hz hc r), funext (rc_263 X W z Hs hz hc r), funext (rc_262 X W z Hs hz hc r)]
  pointwise
  unfold ublk
  congr 1
  · refine funext fun e => ?_
    rw [show 264 + r.val = (256 + r.val) + 8 by omega, show 263 + r.val = (256 + r.val) + 7 by omega, show 262 + r.val = (256 + r.val) + 6 by omega]
    rfl
  · refine four_eq _ _ _ _ _ ?_ ?_ ?_ ?_
    · refine memK_congr (fun i => ?_) (fun m i => ?_) (fun m i => ?_)
      · exact congrArg (hrow X W ⟨256 + r.val, by omega⟩) (Fin.ext (by show 3072 + (i.val) = 3072 + (0 * 128 + i.val); omega))
      · exact congrArg (fun q => KV (ix3 0 m q)) (Fin.ext (by show i.val = 0 * 128 + i.val; omega))
      · exact congrArg (fun q => KV (ix3 0 m q)) (Fin.ext (by show 512 + i.val = 512 + (0 * 128 + i.val); omega))
    · refine memK_congr (fun i => ?_) (fun m i => ?_) (fun m i => ?_)
      · exact congrArg (hrow X W ⟨256 + r.val, by omega⟩) (Fin.ext (by show 3072 + (128 + i.val) = 3072 + (1 * 128 + i.val); omega))
      · exact congrArg (fun q => KV (ix3 0 m q)) (Fin.ext (by show 128 + i.val = 1 * 128 + i.val; omega))
      · exact congrArg (fun q => KV (ix3 0 m q)) (Fin.ext (by show 640 + i.val = 512 + (1 * 128 + i.val); omega))
    · refine memK_congr (fun i => ?_) (fun m i => ?_) (fun m i => ?_)
      · exact congrArg (hrow X W ⟨256 + r.val, by omega⟩) (Fin.ext (by show 3072 + (256 + i.val) = 3072 + (2 * 128 + i.val); omega))
      · exact congrArg (fun q => KV (ix3 0 m q)) (Fin.ext (by show 256 + i.val = 2 * 128 + i.val; omega))
      · exact congrArg (fun q => KV (ix3 0 m q)) (Fin.ext (by show 768 + i.val = 512 + (2 * 128 + i.val); omega))
    · refine memK_congr (fun i => ?_) (fun m i => ?_) (fun m i => ?_)
      · exact congrArg (hrow X W ⟨256 + r.val, by omega⟩) (Fin.ext (by show 3072 + (384 + i.val) = 3072 + (3 * 128 + i.val); omega))
      · exact congrArg (fun q => KV (ix3 0 m q)) (Fin.ext (by show 384 + i.val = 3 * 128 + i.val; omega))
      · exact congrArg (fun q => KV (ix3 0 m q)) (Fin.ext (by show 896 + i.val = 512 + (3 * 128 + i.val); omega))

end Block
end Cert.KernelIdeal.Gen
-- ==== Proof.Steps.lean ====
module

public import proofs.«01_k».proof.Proof.State
public import Idealize.ShloMosaic.Lib.Pipeline.ReadBack

/-! What each grid point leaves in the two carried buffers, by cases of the point. -/

@[expose] public section
noncomputable section

namespace Cert.KernelIdeal.Gen
open Idealize.ShloMosaic Idealize.ShloMosaic.TcCoe Idealize.SL.Sem Layer Cert.KernelIdeal

variable (m : (ℓ : Loc nD τ sig) → Buf (Elt Ideal) ℓ) (c : Dev nD) (t : Fin cfg0.N)

/-- The gated input the point before left. -/
abbrev prevCu : Vec Ideal S520x1024 .f32 := (outsAt0 m c (t.val - 1) (Nat.lt_of_le_of_lt (Nat.sub_le _ _) t.isLt)).2.2

/-- The output rows before the norm that the point before left. -/
abbrev prevU : Vec Ideal S512x1024 .f32 := (outsAt0 m c (t.val - 1) (Nat.lt_of_le_of_lt (Nat.sub_le _ _) t.isLt)).2.1

/-- The last 8 rows of a gated input, as they are moved to its front. -/
def carried (p : Vec Ideal S520x1024 .f32) : Vec Ideal S8x1024 .f32 :=
  k0_pay30 (View.ld p (Rect.unit ![512, 0] ![8, 1024] inb_S520x1024_S8x1024_512_0))

/-- The rows before the first token. -/
def zeros : Vec Ideal S8x1024 .f32 := k0_pay29 (F := Ideal)

/-- What the first point stores in the output rows before anything else. -/
def zeros512 : Vec Ideal S512x1024 .f32 := k0_pay1 (F := Ideal)

/-- The stores of the output rows before the norm at a point. -/
def uBoth (X : Vec Ideal S1x512x1024 .f32) (W : Vec Ideal S1024x5120 .bf16) (WO : Vec Ideal S1536x1024 .bf16)
    (KV : Vec Ideal S1x256x1024 .bf16) (CW : Vec Ideal S3x1024 .f32) (z : Vec Ideal S8x1024 .f32) :
    List (View.Piece (Elt Ideal) S512x1024 .f32) :=
  [⟨Rect.unit ![256, 0] ![256, 1024] inb_S512x1024_S256x1024_256_0, uSecond X W WO KV CW z⟩,
   ⟨Rect.unit ![0, 0] ![256, 1024] inb_S512x1024_S256x1024_0_0, uFirst X W WO KV CW z⟩]

theorem cu_B (h0 : ¬t.val % 65 = 0) (h1 : ¬t.val % 65 = 64) (h2 : t.val < 64) (h3 : ¬t.val % 16 = 0) :
    (outsAt0 m c t.val t.isLt).2.2 = View.canon (cuBoth (iblk m c 0 t) (iblk m c 1 t) (carried (prevCu m c t))) := by
  rw [outsAt0_B m c t h0 h1 h2 h3]; dsimp only; unfold sout0_B_1
  rw [View.read_writes_eq_canon _ _ _ (scover0_B_1 c _ _ _ _ _ _ _ _ _ _ _ _ _ _ _ _ _ _ _ _ _ _ _ _ _ _ _ _ _ _ _ _ _ _ )]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  rfl

theorem u_B (h0 : ¬t.val % 65 = 0) (h1 : ¬t.val % 65 = 64) (h2 : t.val < 64) (h3 : ¬t.val % 16 = 0) :
    (outsAt0 m c t.val t.isLt).2.1 = View.canon (uBoth (iblk m c 0 t) (iblk m c 1 t) (iblk m c 2 t) (iblk m c 3 t) (iblk m c 4 t) (carried (prevCu m c t))) := by
  rw [outsAt0_B m c t h0 h1 h2 h3]; dsimp only; unfold sout0_B_0
  rw [View.read_writes_eq_canon _ _ _ (scover0_B_0 c _ _ _ _ _ _ _ _ _ _ _ _ _ _ _ _ _ _ _ _ _ _ _ _ _ _ _ _ _ _ _ _ _ _ )]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  rfl

theorem cu_C (h0 : ¬t.val % 65 = 0) (h1 : ¬t.val % 65 = 64) (h2 : t.val < 64) (h3 : t.val % 16 = 0) :
    (outsAt0 m c t.val t.isLt).2.2 = View.canon (cuBoth (iblk m c 0 t) (iblk m c 1 t) zeros) := by
  rw [outsAt0_C m c t h0 h1 h2 h3]; dsimp only; unfold sout0_C_1
  rw [View.read_writes_eq_canon _ _ _ (scover0_C_1 c _ _ _ _ _ _ _ _ _ _ _ _ _ _ _ _ _ _ _ _ _ _ _ _ _ _ _ _ _ _ _ _ _ )]
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem u_C (h0 : ¬t.val % 65 = 0) (h1 : ¬t.val % 65 = 64) (h2 : t.val < 64) (h3 : t.val % 16 = 0) :
    (outsAt0 m c t.val t.isLt).2.1 = View.canon (uBoth (iblk m c 0 t) (iblk m c 1 t) (iblk m c 2 t) (iblk m c 3 t) (iblk m c 4 t) zeros) := by
  rw [outsAt0_C m c t h0 h1 h2 h3]; dsimp only; unfold sout0_C_0
  rw [View.read_writes_eq_canon _ _ _ (scover0_C_0 c _ _ _ _ _ _ _ _ _ _ _ _ _ _ _ _ _ _ _ _ _ _ _ _ _ _ _ _ _ _ _ _ _ )]
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem cu_A (h0 : t.val % 65 = 0) (h1 : ¬t.val % 65 = 64) (h2 : t.val < 64) (h3 : t.val % 16 = 0) :
    (outsAt0 m c t.val t.isLt).2.2 = View.canon (cuBoth (iblk m c 0 t) (iblk m c 1 t) zeros) := by
  rw [outsAt0_A m c t h0 h1 h2 h3]; dsimp only; unfold sout0_A_1
  rw [View.read_writes_eq_canon _ _ _ (scover0_A_1 c _ _ _ _ _ _ _ _ _ _ _ _ _ _ _ _ _ _ _ _ _ _ _ _ _ _ _ _ _ _ _ _ )]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

theorem u_A (h0 : t.val % 65 = 0) (h1 : ¬t.val % 65 = 64) (h2 : t.val < 64) (h3 : t.val % 16 = 0) :
    (outsAt0 m c t.val t.isLt).2.1 = View.canon (uBoth (iblk m c 0 t) (iblk m c 1 t) (iblk m c 2 t) (iblk m c 3 t) (iblk m c 4 t) zeros ++ [⟨Rect.unit ![0, 0] ![512, 1024] inb_S512x1024_S512x1024_0_0, zeros512⟩]) := by
  rw [outsAt0_A m c t h0 h1 h2 h3]; dsimp only; unfold sout0_A_0
  rw [View.read_writes_eq_canon _ _ _ (scover0_A_0 c _ _ _ _ _ _ _ _ _ _ _ _ _ _ _ _ _ _ _ _ _ _ _ _ _ _ _ _ _ _ _ _ )]
  unfold kernelRun0_A; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread]
  rfl

end Cert.KernelIdeal.Gen
-- ==== Proof.Outs.lean ====
module

public import proofs.«01_k».proof.Proof.Steps

/-! The layer norm of a block's 512 output rows, stored 32 rows at a time. -/

@[expose] public section
noncomputable section

namespace Cert.KernelIdeal.Gen
open Idealize.ShloMosaic Idealize.ShloMosaic.TcCoe Idealize.SL.Sem Layer Cert.KernelIdeal

/-- A row lies in the block of rows of one plane that holds its number. -/
theorem mem_plane {N n o M : ℕ} (inb : ∀ a, (![0, o, 0] : Fin 3 → ℕ) a + (![1, n, M] : Fin 3 → ℕ) a ≤ (⟨3, ![1, N, M]⟩ : Shape).size a)
    (y : Fin N) (e : Fin M) (h : o ≤ y.val) (h' : y.val < o + n) :
    (ix3 0 y e : (⟨3, ![1, N, M]⟩ : Shape).Idx) ∈ (Rect.unit (s := ⟨3, ![1, N, M]⟩) ![0, o, 0] ![1, n, M] inb).set := by
  refine Rect.mem_set_unit.mpr ?_
  intro a; fin_cases a
  · exact ⟨Nat.zero_le _, Nat.one_pos⟩
  · exact ⟨h, h'⟩
  · exact ⟨Nat.zero_le _, by show e.val < 0 + M; omega⟩

variable (G B : Vec Ideal S1x1024 .f32) (u : Vec Ideal S512x1024 .f32)

/-- The stores of the normed rows at a point that has a next one. -/
def lnLater : List (View.Piece (Elt Ideal) S1x512x1024 .f32) :=
  [⟨Rect.unit ![0, 480, 0] ![1, 32, 1024] inb_S1x512x1024_S1x32x1024_0_480_0, k0_pay58 (View.ld G (Rect.unit ![0, 0] ![1, 1024] inb_S1x1024_S1x1024_0_0)) (View.ld B (Rect.unit ![0, 0] ![1, 1024] inb_S1x1024_S1x1024_0_0)) (View.ld u (Rect.unit ![480, 0] ![32, 1024] inb_S512x1024_S32x1024_480_0))⟩,
   ⟨Rect.unit ![0, 448, 0] ![1, 32, 1024] inb_S1x512x1024_S1x32x1024_0_448_0, k0_pay57 (View.ld G (Rect.unit ![0, 0] ![1, 1024] inb_S1x1024_S1x1024_0_0)) (View.ld B (Rect.unit ![0, 0] ![1, 1024] inb_S1x1024_S1x1024_0_0)) (View.ld u (Rect.unit ![448, 0] ![32, 1024] inb_S512x1024_S32x1024_448_0))⟩,
   ⟨Rect.unit ![0, 416, 0] ![1, 32, 1024] inb_S1x512x1024_S1x32x1024_0_416_0, k0_pay56 (View.ld G (Rect.unit ![0, 0] ![1, 1024] inb_S1x1024_S1x1024_0_0)) (View.ld B (Rect.unit ![0, 0] ![1, 1024] inb_S1x1024_S1x1024_0_0)) (k0_pay54 (View.ld u (Rect.unit ![416, 0] ![32, 1024] inb_S512x1024_S32x1024_416_0))) (k0_pay55 (View.ld u (Rect.unit ![416, 0] ![32, 1024] inb_S512x1024_S32x1024_416_0)))⟩,
   ⟨Rect.unit ![0, 384, 0] ![1, 32, 1024] inb_S1x512x1024_S1x32x1024_0_384_0, k0_pay53 (View.ld G (Rect.unit ![0, 0] ![1, 1024] inb_S1x1024_S1x1024_0_0)) (View.ld B (Rect.unit ![0, 0] ![1, 1024] inb_S1x1024_S1x1024_0_0)) (View.ld u (Rect.unit ![384, 0] ![32, 1024] inb_S512x1024_S32x1024_384_0))⟩,
   ⟨Rect.unit ![0, 352, 0] ![1, 32, 1024] inb_S1x512x1024_S1x32x1024_0_352_0, k0_pay52 (View.ld G (Rect.unit ![0, 0] ![1, 1024] inb_S1x1024_S1x1024_0_0)) (View.ld B (Rect.unit ![0, 0] ![1, 1024] inb_S1x1024_S1x1024_0_0)) (k0_pay50 (View.ld u (Rect.unit ![352, 0] ![32, 1024] inb_S512x1024_S32x1024_352_0))) (k0_pay51 (View.ld u (Rect.unit ![352, 0] ![32, 1024] inb_S512x1024_S32x1024_352_0)))⟩,
   ⟨Rect.unit ![0, 320, 0] ![1, 32, 1024] inb_S1x512x1024_S1x32x1024_0_320_0, k0_pay49 (View.ld G (Rect.unit ![0, 0] ![1, 1024] inb_S1x1024_S1x1024_0_0)) (View.ld B (Rect.unit ![0, 0] ![1, 1024] inb_S1x1024_S1x1024_0_0)) (View.ld u (Rect.unit ![320, 0] ![32, 1024] inb_S512x1024_S32x1024_320_0))⟩,
   ⟨Rect.unit ![0, 288, 0] ![1, 32, 1024] inb_S1x512x1024_S1x32x1024_0_288_0, k0_pay48 (k0_pay47 (View.ld G (Rect.unit ![0, 0] ![1, 1024] inb_S1x1024_S1x1024_0_0)) (View.ld B (Rect.unit ![0, 0] ![1, 1024] inb_S1x1024_S1x1024_0_0)) (View.ld u (Rect.unit ![288, 0] ![32, 1024] inb_S512x1024_S32x1024_288_0)))⟩,
   ⟨Rect.unit ![0, 256, 0] ![1, 32, 1024] inb_S1x512x1024_S1x32x1024_0_256_0, k0_pay46 (View.ld G (Rect.unit ![0, 0] ![1, 1024] inb_S1x1024_S1x1024_0_0)) (View.ld B (Rect.unit ![0, 0] ![1, 1024] inb_S1x1024_S1x1024_0_0)) (View.ld u (Rect.unit ![256, 0] ![32, 1024] inb_S512x1024_S32x1024_256_0)) (k0_pay44 (View.ld u (Rect.unit ![256, 0] ![32, 1024] inb_S512x1024_S32x1024_256_0))) k0_pay45⟩,
   ⟨Rect.unit ![0, 224, 0] ![1, 32, 1024] inb_S1x512x1024_S1x32x1024_0_224_0, k0_pay43 (View.ld G (Rect.unit ![0, 0] ![1, 1024] inb_S1x1024_S1x1024_0_0)) (View.ld B (Rect.unit ![0, 0] ![1, 1024] inb_S1x1024_S1x1024_0_0)) (View.ld u (Rect.unit ![224, 0] ![32, 1024] inb_S512x1024_S32x1024_224_0))⟩,
   ⟨Rect.unit ![0, 192, 0] ![1, 32, 1024] inb_S1x512x1024_S1x32x1024_0_192_0, k0_pay42 (View.ld G (Rect.unit ![0, 0] ![1, 1024] inb_S1x1024_S1x1024_0_0)) (View.ld B (Rect.unit ![0, 0] ![1, 1024] inb_S1x1024_S1x1024_0_0)) (k0_pay40 (View.ld u (Rect.unit ![192, 0] ![32, 1024] inb_S512x1024_S32x1024_192_0))) (k0_pay41 (View.ld u (Rect.unit ![192, 0] ![32, 1024] inb_S512x1024_S32x1024_192_0)))⟩,
   ⟨Rect.unit ![0, 160, 0] ![1, 32, 1024] inb_S1x512x1024_S1x32x1024_0_160_0, k0_pay39 (View.ld G (Rect.unit ![0, 0] ![1, 1024] inb_S1x1024_S1x1024_0_0)) (View.ld B (Rect.unit ![0, 0] ![1, 1024] inb_S1x1024_S1x1024_0_0)) (View.ld u (Rect.unit ![160, 0] ![32, 1024] inb_S512x1024_S32x1024_160_0))⟩,
   ⟨Rect.unit ![0, 128, 0] ![1, 32, 1024] inb_S1x512x1024_S1x32x1024_0_128_0, k0_pay38 (k0_pay37 (View.ld G (Rect.unit ![0, 0] ![1, 1024] inb_S1x1024_S1x1024_0_0)) (View.ld B (Rect.unit ![0, 0] ![1, 1024] inb_S1x1024_S1x1024_0_0)) (View.ld u (Rect.unit ![128, 0] ![32, 1024] inb_S512x1024_S32x1024_128_0)))⟩,
   ⟨Rect.unit ![0, 96, 0] ![1, 32, 1024] inb_S1x512x1024_S1x32x1024_0_96_0, k0_pay36 (View.ld G (Rect.unit ![0, 0] ![1, 1024] inb_S1x1024_S1x1024_0_0)) (View.ld B (Rect.unit ![0, 0] ![1, 1024] inb_S1x1024_S1x1024_0_0)) (View.ld u (Rect.unit ![96, 0] ![32, 1024] inb_S512x1024_S32x1024_96_0))⟩,
   ⟨Rect.unit ![0, 64, 0] ![1, 32, 1024] inb_S1x512x1024_S1x32x1024_0_64_0, k0_pay35 (View.ld G (Rect.unit ![0, 0] ![1, 1024] inb_S1x1024_S1x1024_0_0)) (View.ld B (Rect.unit ![0, 0] ![1, 1024] inb_S1x1024_S1x1024_0_0)) (View.ld u (Rect.unit ![64, 0] ![32, 1024] inb_S512x1024_S32x1024_64_0))⟩,
   ⟨Rect.unit ![0, 32, 0] ![1, 32, 1024] inb_S1x512x1024_S1x32x1024_0_32_0, k0_pay34 (View.ld G (Rect.unit ![0, 0] ![1, 1024] inb_S1x1024_S1x1024_0_0)) (View.ld B (Rect.unit ![0, 0] ![1, 1024] inb_S1x1024_S1x1024_0_0)) (k0_pay32 (View.ld u (Rect.unit ![32, 0] ![32, 1024] inb_S512x1024_S32x1024_32_0))) (k0_pay33 (View.ld u (Rect.unit ![32, 0] ![32, 1024] inb_S512x1024_S32x1024_32_0)))⟩,
   ⟨Rect.unit ![0, 0, 0] ![1, 32, 1024] inb_S1x512x1024_S1x32x1024_0_0_0, k0_pay31 (View.ld G (Rect.unit ![0, 0] ![1, 1024] inb_S1x1024_S1x1024_0_0)) (View.ld B (Rect.unit ![0, 0] ![1, 1024] inb_S1x1024_S1x1024_0_0)) (View.ld u (Rect.unit ![0, 0] ![32, 1024] inb_S512x1024_S32x1024_0_0))⟩]

/-- Each stored row at a point that has a next one is the layer norm of the row. -/
theorem lnLater_at (n : Fin 512) (d : Fin 1024) : View.canon (lnLater G B u) (ix3 0 n d) =
    norm (fun x => u (ix2 n x)) (fun x => G (ix2 0 x)) (fun x => B (ix2 0 x)) d := by
  refine View.canon_eq_of_allAt _ _ _ ?_ ?_
  · rcases lt_or_ge n.val 32 with h32 | h32
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), mem_plane inb_S1x512x1024_S1x32x1024_0_0_0 n d (by omega) (by omega)⟩
    rcases lt_or_ge n.val 64 with h64 | h64
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_plane inb_S1x512x1024_S1x32x1024_0_32_0 n d (by omega) (by omega)⟩
    rcases lt_or_ge n.val 96 with h96 | h96
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_plane inb_S1x512x1024_S1x32x1024_0_64_0 n d (by omega) (by omega)⟩
    rcases lt_or_ge n.val 128 with h128 | h128
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_plane inb_S1x512x1024_S1x32x1024_0_96_0 n d (by omega) (by omega)⟩
    rcases lt_or_ge n.val 160 with h160 | h160
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_plane inb_S1x512x1024_S1x32x1024_0_128_0 n d (by omega) (by omega)⟩
    rcases lt_or_ge n.val 192 with h192 | h192
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_plane inb_S1x512x1024_S1x32x1024_0_160_0 n d (by omega) (by omega)⟩
    rcases lt_or_ge n.val 224 with h224 | h224
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_plane inb_S1x512x1024_S1x32x1024_0_192_0 n d (by omega) (by omega)⟩
    rcases lt_or_ge n.val 256 with h256 | h256
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_plane inb_S1x512x1024_S1x32x1024_0_224_0 n d (by omega) (by omega)⟩
    rcases lt_or_ge n.val 288 with h288 | h288
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_plane inb_S1x512x1024_S1x32x1024_0_256_0 n d (by omega) (by omega)⟩
    rcases lt_or_ge n.val 320 with h320 | h320
    · exact ⟨_, (List.mem_cons_of_mem _ (List.mem_cons_of_mem _ (List.mem_cons_of_mem _ (List.mem_cons_of_mem _ (List.mem_cons_of_mem _ (List.mem_cons_of_mem _ List.mem_cons_self)))))), mem_plane inb_S1x512x1024_S1x32x1024_0_288_0 n d (by omega) (by omega)⟩
    rcases lt_or_ge n.val 352 with h352 | h352
    · exact ⟨_, (List.mem_cons_of_mem _ (List.mem_cons_of_mem _ (List.mem_cons_of_mem _ (List.mem_cons_of_mem _ (List.mem_cons_of_mem _ List.mem_cons_self))))), mem_plane inb_S1x512x1024_S1x32x1024_0_320_0 n d (by omega) (by omega)⟩
    rcases lt_or_ge n.val 384 with h384 | h384
    · exact ⟨_, (List.mem_cons_of_mem _ (List.mem_cons_of_mem _ (List.mem_cons_of_mem _ (List.mem_cons_of_mem _ List.mem_cons_self)))), mem_plane inb_S1x512x1024_S1x32x1024_0_352_0 n d (by omega) (by omega)⟩
    rcases lt_or_ge n.val 416 with h416 | h416
    · exact ⟨_, (List.mem_cons_of_mem _ (List.mem_cons_of_mem _ (List.mem_cons_of_mem _ List.mem_cons_self))), mem_plane inb_S1x512x1024_S1x32x1024_0_384_0 n d (by omega) (by omega)⟩
    rcases lt_or_ge n.val 448 with h448 | h448
    · exact ⟨_, (List.mem_cons_of_mem _ (List.mem_cons_of_mem _ List.mem_cons_self)), mem_plane inb_S1x512x1024_S1x32x1024_0_416_0 n d (by omega) (by omega)⟩
    rcases lt_or_ge n.val 480 with h480 | h480
    · exact ⟨_, (List.mem_cons_of_mem _ List.mem_cons_self), mem_plane inb_S1x512x1024_S1x32x1024_0_448_0 n d (by omega) (by omega)⟩
    exact ⟨_, List.mem_cons_self, mem_plane inb_S1x512x1024_S1x32x1024_0_480_0 n d (by omega) (by omega)⟩
  · unfold lnLater
    refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))))))))))
    · refine tile3 (N := 512) _ (fun n d => norm (fun x => u (ix2 n x)) (fun x => G (ix2 0 x)) (fun x => B (ix2 0 x)) d) (fun r e hr => ?_) n d
      pointwise [k0_pay58]
      rfl
    · refine tile3 (N := 512) _ (fun n d => norm (fun x => u (ix2 n x)) (fun x => G (ix2 0 x)) (fun x => B (ix2 0 x)) d) (fun r e hr => ?_) n d
      pointwise [k0_pay57]
      rfl
    · refine tile3 (N := 512) _ (fun n d => norm (fun x => u (ix2 n x)) (fun x => G (ix2 0 x)) (fun x => B (ix2 0 x)) d) (fun r e hr => ?_) n d
      pointwise [k0_pay56, k0_pay54, k0_pay55]
      rfl
    · refine tile3 (N := 512) _ (fun n d => norm (fun x => u (ix2 n x)) (fun x => G (ix2 0 x)) (fun x => B (ix2 0 x)) d) (fun r e hr => ?_) n d
      pointwise [k0_pay53]
      rfl
    · refine tile3 (N := 512) _ (fun n d => norm (fun x => u (ix2 n x)) (fun x => G (ix2 0 x)) (fun x => B (ix2 0 x)) d) (fun r e hr => ?_) n d
      pointwise [k0_pay52, k0_pay50, k0_pay51]
      rfl
    · refine tile3 (N := 512) _ (fun n d => norm (fun x => u (ix2 n x)) (fun x => G (ix2 0 x)) (fun x => B (ix2 0 x)) d) (fun r e hr => ?_) n d
      pointwise [k0_pay49]
      rfl
    · refine tile3 (N := 512) _ (fun n d => norm (fun x => u (ix2 n x)) (fun x => G (ix2 0 x)) (fun x => B (ix2 0 x)) d) (fun r e hr => ?_) n d
      pointwise [k0_pay48, k0_pay47]
      rfl
    · refine tile3 (N := 512) _ (fun n d => norm (fun x => u (ix2 n x)) (fun x => G (ix2 0 x)) (fun x => B (ix2 0 x)) d) (fun r e hr => ?_) n d
      pointwise [k0_pay46, k0_pay44, k0_pay45]
      rfl
    · refine tile3 (N := 512) _ (fun n d => norm (fun x => u (ix2 n x)) (fun x => G (ix2 0 x)) (fun x => B (ix2 0 x)) d) (fun r e hr => ?_) n d
      pointwise [k0_pay43]
      rfl
    · refine tile3 (N := 512) _ (fun n d => norm (fun x => u (ix2 n x)) (fun x => G (ix2 0 x)) (fun x => B (ix2 0 x)) d) (fun r e hr => ?_) n d
      pointwise [k0_pay42, k0_pay40, k0_pay41]
      rfl
    · refine tile3 (N := 512) _ (fun n d => norm (fun x => u (ix2 n x)) (fun x => G (ix2 0 x)) (fun x => B (ix2 0 x)) d) (fun r e hr => ?_) n d
      pointwise [k0_pay39]
      rfl
    · refine tile3 (N := 512) _ (fun n d => norm (fun x => u (ix2 n x)) (fun x => G (ix2 0 x)) (fun x => B (ix2 0 x)) d) (fun r e hr => ?_) n d
      pointwise [k0_pay38, k0_pay37]
      rfl
    · refine tile3 (N := 512) _ (fun n d => norm (fun x => u (ix2 n x)) (fun x => G (ix2 0 x)) (fun x => B (ix2 0 x)) d) (fun r e hr => ?_) n d
      pointwise [k0_pay36]
      rfl
    · refine tile3 (N := 512) _ (fun n d => norm (fun x => u (ix2 n x)) (fun x => G (ix2 0 x)) (fun x => B (ix2 0 x)) d) (fun r e hr => ?_) n d
      pointwise [k0_pay35]
      rfl
    · refine tile3 (N := 512) _ (fun n d => norm (fun x => u (ix2 n x)) (fun x => G (ix2 0 x)) (fun x => B (ix2 0 x)) d) (fun r e hr => ?_) n d
      pointwise [k0_pay34, k0_pay32, k0_pay33]
      rfl
    · refine tile3 (N := 512) _ (fun n d => norm (fun x => u (ix2 n x)) (fun x => G (ix2 0 x)) (fun x => B (ix2 0 x)) d) (fun r e hr => ?_) n d
      pointwise [k0_pay31]
      rfl

/-- The stores of the normed rows at the last point. -/
def lnLast : List (View.Piece (Elt Ideal) S1x512x1024 .f32) :=
  [⟨Rect.unit ![0, 480, 0] ![1, 32, 1024] inb_S1x512x1024_S1x32x1024_0_480_0, k0_pay2 (View.ld G (Rect.unit ![0, 0] ![1, 1024] inb_S1x1024_S1x1024_0_0)) (View.ld B (Rect.unit ![0, 0] ![1, 1024] inb_S1x1024_S1x1024_0_0)) (View.ld u (Rect.unit ![480, 0] ![32, 1024] inb_S512x1024_S32x1024_480_0)) (k0_pay28 (View.ld u (Rect.unit ![480, 0] ![32, 1024] inb_S512x1024_S32x1024_480_0)))⟩,
   ⟨Rect.unit ![0, 448, 0] ![1, 32, 1024] inb_S1x512x1024_S1x32x1024_0_448_0, k0_pay27 (View.ld G (Rect.unit ![0, 0] ![1, 1024] inb_S1x1024_S1x1024_0_0)) (View.ld B (Rect.unit ![0, 0] ![1, 1024] inb_S1x1024_S1x1024_0_0)) (View.ld u (Rect.unit ![448, 0] ![32, 1024] inb_S512x1024_S32x1024_448_0))⟩,
   ⟨Rect.unit ![0, 416, 0] ![1, 32, 1024] inb_S1x512x1024_S1x32x1024_0_416_0, k0_pay26 (View.ld G (Rect.unit ![0, 0] ![1, 1024] inb_S1x1024_S1x1024_0_0)) (View.ld B (Rect.unit ![0, 0] ![1, 1024] inb_S1x1024_S1x1024_0_0)) (k0_pay24 (View.ld u (Rect.unit ![416, 0] ![32, 1024] inb_S512x1024_S32x1024_416_0))) (k0_pay25 (View.ld u (Rect.unit ![416, 0] ![32, 1024] inb_S512x1024_S32x1024_416_0))) (FloatOps.ofBits FTy.f32 925353388#32)⟩,
   ⟨Rect.unit ![0, 384, 0] ![1, 32, 1024] inb_S1x512x1024_S1x32x1024_0_384_0, k0_pay23 (View.ld G (Rect.unit ![0, 0] ![1, 1024] inb_S1x1024_S1x1024_0_0)) (View.ld B (Rect.unit ![0, 0] ![1, 1024] inb_S1x1024_S1x1024_0_0)) (View.ld u (Rect.unit ![384, 0] ![32, 1024] inb_S512x1024_S32x1024_384_0))⟩,
   ⟨Rect.unit ![0, 352, 0] ![1, 32, 1024] inb_S1x512x1024_S1x32x1024_0_352_0, k0_pay22 (k0_pay21 (View.ld G (Rect.unit ![0, 0] ![1, 1024] inb_S1x1024_S1x1024_0_0)) (View.ld B (Rect.unit ![0, 0] ![1, 1024] inb_S1x1024_S1x1024_0_0)) (View.ld u (Rect.unit ![352, 0] ![32, 1024] inb_S512x1024_S32x1024_352_0)))⟩,
   ⟨Rect.unit ![0, 320, 0] ![1, 32, 1024] inb_S1x512x1024_S1x32x1024_0_320_0, k0_pay20 (View.ld G (Rect.unit ![0, 0] ![1, 1024] inb_S1x1024_S1x1024_0_0)) (View.ld B (Rect.unit ![0, 0] ![1, 1024] inb_S1x1024_S1x1024_0_0)) (View.ld u (Rect.unit ![320, 0] ![32, 1024] inb_S512x1024_S32x1024_320_0))⟩,
   ⟨Rect.unit ![0, 288, 0] ![1, 32, 1024] inb_S1x512x1024_S1x32x1024_0_288_0, k0_pay19 (View.ld G (Rect.unit ![0, 0] ![1, 1024] inb_S1x1024_S1x1024_0_0)) (View.ld B (Rect.unit ![0, 0] ![1, 1024] inb_S1x1024_S1x1024_0_0)) (View.ld u (Rect.unit ![288, 0] ![32, 1024] inb_S512x1024_S32x1024_288_0))⟩,
   ⟨Rect.unit ![0, 256, 0] ![1, 32, 1024] inb_S1x512x1024_S1x32x1024_0_256_0, k0_pay18 (View.ld G (Rect.unit ![0, 0] ![1, 1024] inb_S1x1024_S1x1024_0_0)) (View.ld B (Rect.unit ![0, 0] ![1, 1024] inb_S1x1024_S1x1024_0_0)) (k0_pay16 (View.ld u (Rect.unit ![256, 0] ![32, 1024] inb_S512x1024_S32x1024_256_0))) (k0_pay17 (View.ld u (Rect.unit ![256, 0] ![32, 1024] inb_S512x1024_S32x1024_256_0)))⟩,
   ⟨Rect.unit ![0, 224, 0] ![1, 32, 1024] inb_S1x512x1024_S1x32x1024_0_224_0, k0_pay15 (View.ld G (Rect.unit ![0, 0] ![1, 1024] inb_S1x1024_S1x1024_0_0)) (View.ld B (Rect.unit ![0, 0] ![1, 1024] inb_S1x1024_S1x1024_0_0)) (View.ld u (Rect.unit ![224, 0] ![32, 1024] inb_S512x1024_S32x1024_224_0))⟩,
   ⟨Rect.unit ![0, 192, 0] ![1, 32, 1024] inb_S1x512x1024_S1x32x1024_0_192_0, k0_pay14 (View.ld G (Rect.unit ![0, 0] ![1, 1024] inb_S1x1024_S1x1024_0_0)) (View.ld B (Rect.unit ![0, 0] ![1, 1024] inb_S1x1024_S1x1024_0_0)) (k0_pay13 (View.ld u (Rect.unit ![192, 0] ![32, 1024] inb_S512x1024_S32x1024_192_0)))⟩,
   ⟨Rect.unit ![0, 160, 0] ![1, 32, 1024] inb_S1x512x1024_S1x32x1024_0_160_0, k0_pay12 (View.ld G (Rect.unit ![0, 0] ![1, 1024] inb_S1x1024_S1x1024_0_0)) (View.ld B (Rect.unit ![0, 0] ![1, 1024] inb_S1x1024_S1x1024_0_0)) (View.ld u (Rect.unit ![160, 0] ![32, 1024] inb_S512x1024_S32x1024_160_0))⟩,
   ⟨Rect.unit ![0, 128, 0] ![1, 32, 1024] inb_S1x512x1024_S1x32x1024_0_128_0, k0_pay11 (View.ld G (Rect.unit ![0, 0] ![1, 1024] inb_S1x1024_S1x1024_0_0)) (View.ld B (Rect.unit ![0, 0] ![1, 1024] inb_S1x1024_S1x1024_0_0)) (View.ld u (Rect.unit ![128, 0] ![32, 1024] inb_S512x1024_S32x1024_128_0))⟩,
   ⟨Rect.unit ![0, 96, 0] ![1, 32, 1024] inb_S1x512x1024_S1x32x1024_0_96_0, k0_pay10 (View.ld G (Rect.unit ![0, 0] ![1, 1024] inb_S1x1024_S1x1024_0_0)) (View.ld B (Rect.unit ![0, 0] ![1, 1024] inb_S1x1024_S1x1024_0_0)) (View.ld u (Rect.unit ![96, 0] ![32, 1024] inb_S512x1024_S32x1024_96_0)) (k0_pay9 (View.ld u (Rect.unit ![96, 0] ![32, 1024] inb_S512x1024_S32x1024_96_0)))⟩,
   ⟨Rect.unit ![0, 64, 0] ![1, 32, 1024] inb_S1x512x1024_S1x32x1024_0_64_0, k0_pay8 (View.ld G (Rect.unit ![0, 0] ![1, 1024] inb_S1x1024_S1x1024_0_0)) (View.ld B (Rect.unit ![0, 0] ![1, 1024] inb_S1x1024_S1x1024_0_0)) (View.ld u (Rect.unit ![64, 0] ![32, 1024] inb_S512x1024_S32x1024_64_0))⟩,
   ⟨Rect.unit ![0, 32, 0] ![1, 32, 1024] inb_S1x512x1024_S1x32x1024_0_32_0, k0_pay7 (View.ld G (Rect.unit ![0, 0] ![1, 1024] inb_S1x1024_S1x1024_0_0)) (View.ld B (Rect.unit ![0, 0] ![1, 1024] inb_S1x1024_S1x1024_0_0)) (k0_pay5 (View.ld u (Rect.unit ![32, 0] ![32, 1024] inb_S512x1024_S32x1024_32_0))) (k0_pay6 (View.ld u (Rect.unit ![32, 0] ![32, 1024] inb_S512x1024_S32x1024_32_0))) (FloatOps.ofBits FTy.f32 925353388#32)⟩,
   ⟨Rect.unit ![0, 0, 0] ![1, 32, 1024] inb_S1x512x1024_S1x32x1024_0_0_0, k0_pay4 (View.ld G (Rect.unit ![0, 0] ![1, 1024] inb_S1x1024_S1x1024_0_0)) (View.ld B (Rect.unit ![0, 0] ![1, 1024] inb_S1x1024_S1x1024_0_0)) (View.ld u (Rect.unit ![0, 0] ![32, 1024] inb_S512x1024_S32x1024_0_0))⟩]

/-- Each stored row at the last point is the layer norm of the row. -/
theorem lnLast_at (n : Fin 512) (d : Fin 1024) : View.canon (lnLast G B u) (ix3 0 n d) =
    norm (fun x => u (ix2 n x)) (fun x => G (ix2 0 x)) (fun x => B (ix2 0 x)) d := by
  refine View.canon_eq_of_allAt _ _ _ ?_ ?_
  · rcases lt_or_ge n.val 32 with h32 | h32
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), mem_plane inb_S1x512x1024_S1x32x1024_0_0_0 n d (by omega) (by omega)⟩
    rcases lt_or_ge n.val 64 with h64 | h64
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_plane inb_S1x512x1024_S1x32x1024_0_32_0 n d (by omega) (by omega)⟩
    rcases lt_or_ge n.val 96 with h96 | h96
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_plane inb_S1x512x1024_S1x32x1024_0_64_0 n d (by omega) (by omega)⟩
    rcases lt_or_ge n.val 128 with h128 | h128
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_plane inb_S1x512x1024_S1x32x1024_0_96_0 n d (by omega) (by omega)⟩
    rcases lt_or_ge n.val 160 with h160 | h160
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_plane inb_S1x512x1024_S1x32x1024_0_128_0 n d (by omega) (by omega)⟩
    rcases lt_or_ge n.val 192 with h192 | h192
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_plane inb_S1x512x1024_S1x32x1024_0_160_0 n d (by omega) (by omega)⟩
    rcases lt_or_ge n.val 224 with h224 | h224
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_plane inb_S1x512x1024_S1x32x1024_0_192_0 n d (by omega) (by omega)⟩
    rcases lt_or_ge n.val 256 with h256 | h256
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_plane inb_S1x512x1024_S1x32x1024_0_224_0 n d (by omega) (by omega)⟩
    rcases lt_or_ge n.val 288 with h288 | h288
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_plane inb_S1x512x1024_S1x32x1024_0_256_0 n d (by omega) (by omega)⟩
    rcases lt_or_ge n.val 320 with h320 | h320
    · exact ⟨_, (List.mem_cons_of_mem _ (List.mem_cons_of_mem _ (List.mem_cons_of_mem _ (List.mem_cons_of_mem _ (List.mem_cons_of_mem _ (List.mem_cons_of_mem _ List.mem_cons_self)))))), mem_plane inb_S1x512x1024_S1x32x1024_0_288_0 n d (by omega) (by omega)⟩
    rcases lt_or_ge n.val 352 with h352 | h352
    · exact ⟨_, (List.mem_cons_of_mem _ (List.mem_cons_of_mem _ (List.mem_cons_of_mem _ (List.mem_cons_of_mem _ (List.mem_cons_of_mem _ List.mem_cons_self))))), mem_plane inb_S1x512x1024_S1x32x1024_0_320_0 n d (by omega) (by omega)⟩
    rcases lt_or_ge n.val 384 with h384 | h384
    · exact ⟨_, (List.mem_cons_of_mem _ (List.mem_cons_of_mem _ (List.mem_cons_of_mem _ (List.mem_cons_of_mem _ List.mem_cons_self)))), mem_plane inb_S1x512x1024_S1x32x1024_0_352_0 n d (by omega) (by omega)⟩
    rcases lt_or_ge n.val 416 with h416 | h416
    · exact ⟨_, (List.mem_cons_of_mem _ (List.mem_cons_of_mem _ (List.mem_cons_of_mem _ List.mem_cons_self))), mem_plane inb_S1x512x1024_S1x32x1024_0_384_0 n d (by omega) (by omega)⟩
    rcases lt_or_ge n.val 448 with h448 | h448
    · exact ⟨_, (List.mem_cons_of_mem _ (List.mem_cons_of_mem _ List.mem_cons_self)), mem_plane inb_S1x512x1024_S1x32x1024_0_416_0 n d (by omega) (by omega)⟩
    rcases lt_or_ge n.val 480 with h480 | h480
    · exact ⟨_, (List.mem_cons_of_mem _ List.mem_cons_self), mem_plane inb_S1x512x1024_S1x32x1024_0_448_0 n d (by omega) (by omega)⟩
    exact ⟨_, List.mem_cons_self, mem_plane inb_S1x512x1024_S1x32x1024_0_480_0 n d (by omega) (by omega)⟩
  · unfold lnLast
    refine View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _))))))))))))))))
    · refine tile3 (N := 512) _ (fun n d => norm (fun x => u (ix2 n x)) (fun x => G (ix2 0 x)) (fun x => B (ix2 0 x)) d) (fun r e hr => ?_) n d
      pointwise [k0_pay2, k0_pay28]
      rfl
    · refine tile3 (N := 512) _ (fun n d => norm (fun x => u (ix2 n x)) (fun x => G (ix2 0 x)) (fun x => B (ix2 0 x)) d) (fun r e hr => ?_) n d
      pointwise [k0_pay27]
      rfl
    · refine tile3 (N := 512) _ (fun n d => norm (fun x => u (ix2 n x)) (fun x => G (ix2 0 x)) (fun x => B (ix2 0 x)) d) (fun r e hr => ?_) n d
      pointwise [k0_pay26, k0_pay24, k0_pay25]
      rfl
    · refine tile3 (N := 512) _ (fun n d => norm (fun x => u (ix2 n x)) (fun x => G (ix2 0 x)) (fun x => B (ix2 0 x)) d) (fun r e hr => ?_) n d
      pointwise [k0_pay23]
      rfl
    · refine tile3 (N := 512) _ (fun n d => norm (fun x => u (ix2 n x)) (fun x => G (ix2 0 x)) (fun x => B (ix2 0 x)) d) (fun r e hr => ?_) n d
      pointwise [k0_pay22, k0_pay21]
      rfl
    · refine tile3 (N := 512) _ (fun n d => norm (fun x => u (ix2 n x)) (fun x => G (ix2 0 x)) (fun x => B (ix2 0 x)) d) (fun r e hr => ?_) n d
      pointwise [k0_pay20]
      rfl
    · refine tile3 (N := 512) _ (fun n d => norm (fun x => u (ix2 n x)) (fun x => G (ix2 0 x)) (fun x => B (ix2 0 x)) d) (fun r e hr => ?_) n d
      pointwise [k0_pay19]
      rfl
    · refine tile3 (N := 512) _ (fun n d => norm (fun x => u (ix2 n x)) (fun x => G (ix2 0 x)) (fun x => B (ix2 0 x)) d) (fun r e hr => ?_) n d
      pointwise [k0_pay18, k0_pay16, k0_pay17]
      rfl
    · refine tile3 (N := 512) _ (fun n d => norm (fun x => u (ix2 n x)) (fun x => G (ix2 0 x)) (fun x => B (ix2 0 x)) d) (fun r e hr => ?_) n d
      pointwise [k0_pay15]
      rfl
    · refine tile3 (N := 512) _ (fun n d => norm (fun x => u (ix2 n x)) (fun x => G (ix2 0 x)) (fun x => B (ix2 0 x)) d) (fun r e hr => ?_) n d
      pointwise [k0_pay14, k0_pay13]
      rfl
    · refine tile3 (N := 512) _ (fun n d => norm (fun x => u (ix2 n x)) (fun x => G (ix2 0 x)) (fun x => B (ix2 0 x)) d) (fun r e hr => ?_) n d
      pointwise [k0_pay12]
      rfl
    · refine tile3 (N := 512) _ (fun n d => norm (fun x => u (ix2 n x)) (fun x => G (ix2 0 x)) (fun x => B (ix2 0 x)) d) (fun r e hr => ?_) n d
      pointwise [k0_pay11]
      rfl
    · refine tile3 (N := 512) _ (fun n d => norm (fun x => u (ix2 n x)) (fun x => G (ix2 0 x)) (fun x => B (ix2 0 x)) d) (fun r e hr => ?_) n d
      pointwise [k0_pay10, k0_pay9]
      rfl
    · refine tile3 (N := 512) _ (fun n d => norm (fun x => u (ix2 n x)) (fun x => G (ix2 0 x)) (fun x => B (ix2 0 x)) d) (fun r e hr => ?_) n d
      pointwise [k0_pay8]
      rfl
    · refine tile3 (N := 512) _ (fun n d => norm (fun x => u (ix2 n x)) (fun x => G (ix2 0 x)) (fun x => B (ix2 0 x)) d) (fun r e hr => ?_) n d
      pointwise [k0_pay7, k0_pay5, k0_pay6]
      rfl
    · refine tile3 (N := 512) _ (fun n d => norm (fun x => u (ix2 n x)) (fun x => G (ix2 0 x)) (fun x => B (ix2 0 x)) d) (fun r e hr => ?_) n d
      pointwise [k0_pay4]
      rfl

variable (m : (ℓ : Loc nD τ sig) → Buf (Elt Ideal) ℓ) (c : Dev nD) (t : Fin cfg0.N)

theorem out_B (h0 : ¬t.val % 65 = 0) (h1 : ¬t.val % 65 = 64) (h2 : t.val < 64) (h3 : ¬t.val % 16 = 0) :
    (outsAt0 m c t.val t.isLt).1 = View.canon (lnLater (iblk m c 5 t) (iblk m c 6 t) (prevU m c t)) := by
  rw [outsAt0_B m c t h0 h1 h2 h3]; dsimp only; unfold out0_B_7
  rw [View.read_writes_eq_canon _ _ _ (cover0_B_7 c _ _ _ _ _ _ _ _ _ _ _ _ _ _ _ _ _ _ _ _ _ _ _ _ _ _ _ _ _ _ _ _ _ _ )]
  unfold kernelRun0_B; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  rfl

theorem out_C (h0 : ¬t.val % 65 = 0) (h1 : ¬t.val % 65 = 64) (h2 : t.val < 64) (h3 : t.val % 16 = 0) :
    (outsAt0 m c t.val t.isLt).1 = View.canon (lnLater (iblk m c 5 t) (iblk m c 6 t) (prevU m c t)) := by
  rw [outsAt0_C m c t h0 h1 h2 h3]; dsimp only; unfold out0_C_7
  rw [View.read_writes_eq_canon _ _ _ (cover0_C_7 c _ _ _ _ _ _ _ _ _ _ _ _ _ _ _ _ _ _ _ _ _ _ _ _ _ _ _ _ _ _ _ _ _ )]
  unfold kernelRun0_C; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  rfl

theorem out_D (h0 : ¬t.val % 65 = 0) (h1 : t.val % 65 = 64) (h2 : ¬t.val < 64) :
    (outsAt0 m c t.val t.isLt).1 = View.canon (lnLast (iblk m c 5 t) (iblk m c 6 t) (prevU m c t)) := by
  rw [outsAt0_D m c t h0 h1 h2]; dsimp only; unfold out0_D_7
  rw [View.read_writes_eq_canon _ _ _ (cover0_D_7 c _ _ _ _ _ _ _ _ _ _ _ _ _ _ _ _ _ _ _ _ _ _ _ _ _ _ _ _ _ _ _ _ _ )]
  unfold kernelRun0_D; dsimp only; sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  rfl

end Cert.KernelIdeal.Gen
-- ==== Proof.Blocks.lean ====
module

public import proofs.«01_k».proof.Proof.Outs
public import Idealize.ShloMosaic.Lib.Pipeline.CanonAppend

/-! The blocks of the arguments read off the arguments, and the output array after the last point. -/

@[expose] public section
noncomputable section

namespace Cert.KernelIdeal.Gen
open Idealize.ShloMosaic Idealize.ShloMosaic.TcCoe Idealize.SL.Sem Layer Cert.KernelIdeal

/-- The block numbers of each window at a point. -/
theorem idx_facts : ∀ t : Fin cfg0.N,
    (win0_0.index t (0 : Fin 3) = min t.val 63 / 16 ∧ win0_0.index t (1 : Fin 3) = min t.val 63 % 16 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = min t.val 63 / 16 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) = (t.val - 1) / 16 ∧ win0_7.index t (1 : Fin 3) = (t.val - 1) % 16 ∧ win0_7.index t (2 : Fin 3) = 0) :=
  (by decide +kernel : ∀ t : Fin grid0.N, _)

/-- The output is written back at every point but the first. -/
theorem flush_out : ∀ t : Fin cfg0.N, (cfg0.win 7).flush t = true ↔ t.val ≠ 0 :=
  (by decide +kernel : ∀ t : Fin grid0.N, win0_7.flush t = true ↔ t.val ≠ 0)

/-- The output block has its full size at every point. -/
theorem full_out : ∀ t : Fin cfg0.N, win0_7.xsize (grid0.coords t) (0 : Fin 3) = 1 ∧ win0_7.xsize (grid0.coords t) (1 : Fin 3) = 512
    ∧ win0_7.xsize (grid0.coords t) (2 : Fin 3) = 1024 :=
  (by decide +kernel : ∀ t : Fin grid0.N, _)

variable (m : (ℓ : Loc nD τ sig) → Buf (Elt Ideal) ℓ) (c : Dev nD) (t : Fin cfg0.N)

/-- The layer's input. -/
abbrev xA : S4x8192x1024.Idx → EReal := m ((c : Thread nD τ).loc main_arg0)
/-- The input matrix. -/
abbrev wA : S1024x5120.Idx → EReal := m ((c : Thread nD τ).loc main_arg1)
/-- The output matrix. -/
abbrev woA : S1536x1024.Idx → EReal := m ((c : Thread nD τ).loc main_arg2)
/-- The keys and values of the memory. -/
abbrev kvA : S4x256x1024.Idx → EReal := m ((c : Thread nD τ).loc main_arg3)
/-- The taps of the convolution. -/
abbrev cwA : S3x1024.Idx → EReal := m ((c : Thread nD τ).loc main_arg4)
/-- The scale of the norm. -/
abbrev gA : S1x1024.Idx → EReal := m ((c : Thread nD τ).loc main_arg5)
/-- The shift of the norm. -/
abbrev bA : S1x1024.Idx → EReal := m ((c : Thread nD τ).loc main_arg6)

theorem iblk0_at (ht : t.val < 64) (r : Fin 512) (d : Fin 1024) :
    (iblk m c 0 t : Vec Ideal S1x512x1024 .f32) (ix3 0 r d) = xA m c (ix3 ⟨t.val / 16, by omega⟩ ⟨512 * (t.val % 16) + r.val, by omega⟩ d) := by
  obtain ⟨⟨e0, e1, e2⟩, -⟩ := idx_facts t
  show xA m c (((cfg0.win 0).blk t).view.emb (ix3 0 r d)) = _
  refine congrArg (xA m c) ?_
  funext a; apply Fin.ext
  match a with
  | ⟨0, _⟩ => show win0_0.index t (0 : Fin 3) * 1 + 1 * 0 = t.val / 16; omega
  | ⟨1, _⟩ => show win0_0.index t (1 : Fin 3) * 512 + 1 * r.val = 512 * (t.val % 16) + r.val; omega
  | ⟨2, _⟩ => show win0_0.index t (2 : Fin 3) * 1024 + 1 * d.val = d.val; omega

theorem iblk3_at (ht : t.val < 64) (r : Fin 256) (d : Fin 1024) :
    (iblk m c 3 t : Vec Ideal S1x256x1024 .bf16) (ix3 0 r d) = kvA m c (ix3 ⟨t.val / 16, by omega⟩ r d) := by
  obtain ⟨-, -, -, ⟨e0, e1, e2⟩, -⟩ := idx_facts t
  show kvA m c (((cfg0.win 3).blk t).view.emb (ix3 0 r d)) = _
  refine congrArg (kvA m c) ?_
  funext a; apply Fin.ext
  match a with
  | ⟨0, _⟩ => show win0_3.index t (0 : Fin 3) * 1 + 1 * 0 = t.val / 16; omega
  | ⟨1, _⟩ => show win0_3.index t (1 : Fin 3) * 256 + 1 * r.val = r.val; omega
  | ⟨2, _⟩ => show win0_3.index t (2 : Fin 3) * 1024 + 1 * d.val = d.val; omega

theorem iblk1_eq : (iblk m c 1 t : Vec Ideal S1024x5120 .bf16) = wA m c := by
  obtain ⟨-, ⟨e0, e1⟩, -⟩ := idx_facts t
  funext i
  show wA m c (((cfg0.win 1).blk t).view.emb i) = _
  refine congrArg (wA m c) ?_
  funext a; apply Fin.ext
  match a with
  | ⟨0, _⟩ => show win0_1.index t (0 : Fin 2) * 1024 + 1 * (i 0).val = (i 0).val; omega
  | ⟨1, _⟩ => show win0_1.index t (1 : Fin 2) * 5120 + 1 * (i 1).val = (i 1).val; omega

theorem iblk2_eq : (iblk m c 2 t : Vec Ideal S1536x1024 .bf16) = woA m c := by
  obtain ⟨-, -, ⟨e0, e1⟩, -⟩ := idx_facts t
  funext i
  show woA m c (((cfg0.win 2).blk t).view.emb i) = _
  refine congrArg (woA m c) ?_
  funext a; apply Fin.ext
  match a with
  | ⟨0, _⟩ => show win0_2.index t (0 : Fin 2) * 1536 + 1 * (i 0).val = (i 0).val; omega
  | ⟨1, _⟩ => show win0_2.index t (1 : Fin 2) * 1024 + 1 * (i 1).val = (i 1).val; omega

theorem iblk4_eq : (iblk m c 4 t : Vec Ideal S3x1024 .f32) = cwA m c := by
  obtain ⟨-, -, -, -, ⟨e0, e1⟩, -⟩ := idx_facts t
  funext i
  show cwA m c (((cfg0.win 4).blk t).view.emb i) = _
  refine congrArg (cwA m c) ?_
  funext a; apply Fin.ext
  match a with
  | ⟨0, _⟩ => show win0_4.index t (0 : Fin 2) * 3 + 1 * (i 0).val = (i 0).val; omega
  | ⟨1, _⟩ => show win0_4.index t (1 : Fin 2) * 1024 + 1 * (i 1).val = (i 1).val; omega

theorem iblk5_eq : (iblk m c 5 t : Vec Ideal S1x1024 .f32) = gA m c := by
  obtain ⟨-, -, -, -, -, ⟨e0, e1⟩, -⟩ := idx_facts t
  funext i
  show gA m c (((cfg0.win 5).blk t).view.emb i) = _
  refine congrArg (gA m c) ?_
  funext a; apply Fin.ext
  match a with
  | ⟨0, _⟩ => show win0_5.index t (0 : Fin 2) * 1 + 1 * (i 0).val = (i 0).val; omega
  | ⟨1, _⟩ => show win0_5.index t (1 : Fin 2) * 1024 + 1 * (i 1).val = (i 1).val; omega

theorem iblk6_eq : (iblk m c 6 t : Vec Ideal S1x1024 .f32) = bA m c := by
  obtain ⟨-, -, -, -, -, -, ⟨e0, e1⟩, -⟩ := idx_facts t
  funext i
  show bA m c (((cfg0.win 6).blk t).view.emb i) = _
  refine congrArg (bA m c) ?_
  funext a; apply Fin.ext
  match a with
  | ⟨0, _⟩ => show win0_6.index t (0 : Fin 2) * 1 + 1 * (i 0).val = (i 0).val; omega
  | ⟨1, _⟩ => show win0_6.index t (1 : Fin 2) * 1024 + 1 * (i 1).val = (i 1).val; omega

/-- Where an entry of the output block of a point lies in the output. -/
theorem emb7 (ht : 0 < t.val) (q : Fin 1) (r : Fin 512) (d : Fin 1024) :
    ((cfg0.win 7).blk t).view.emb (ix3 q r d) = (ix3 ⟨(t.val - 1) / 16, by have := t.isLt; have : cfg0.N = 65 := N_0; omega⟩
      ⟨512 * ((t.val - 1) % 16) + r.val, by omega⟩ d : S4x8192x1024.Idx) := by
  obtain ⟨-, -, -, -, -, -, -, e0, e1, e2⟩ := idx_facts t
  obtain rfl : q = 0 := Subsingleton.elim _ _
  funext a; apply Fin.ext
  match a with
  | ⟨0, _⟩ => show win0_7.index t (0 : Fin 3) * 1 + 1 * 0 = (t.val - 1) / 16; omega
  | ⟨1, _⟩ => show win0_7.index t (1 : Fin 3) * 512 + 1 * r.val = 512 * ((t.val - 1) % 16) + r.val; omega
  | ⟨2, _⟩ => show win0_7.index t (2 : Fin 3) * 1024 + 1 * d.val = d.val; omega

/-- Which entries of the output lie in the block of a point. -/
theorem mem_out (i : S4x8192x1024.Idx) (h0 : (i 0).val = (t.val - 1) / 16) (h1 : (i 1).val / 512 = (t.val - 1) % 16) :
    i ∈ ((cfg0.win 7).blk t).view.set := by
  show i ∈ ((View.whole main_v0).slice (win0_7.rect t)).set
  rw [View.set_slice_whole, Rect.mem_set_unit]
  obtain ⟨-, -, -, -, -, -, -, e0, e1, e2⟩ := idx_facts t
  obtain ⟨f0, f1, f2⟩ := full_out t
  have h2 : (i 2).val < 1024 := (i 2).isLt
  intro a
  match a with
  | ⟨0, _⟩ => show win0_7.index t (0 : Fin 3) * 1 ≤ (i 0).val ∧ (i 0).val < win0_7.index t (0 : Fin 3) * 1 + win0_7.xsize (grid0.coords t) (0 : Fin 3)
              rw [e0, f0]; omega
  | ⟨1, _⟩ => show win0_7.index t (1 : Fin 3) * 512 ≤ (i 1).val ∧ (i 1).val < win0_7.index t (1 : Fin 3) * 512 + win0_7.xsize (grid0.coords t) (1 : Fin 3)
              rw [e1, f1]; omega
  | ⟨2, _⟩ => show win0_7.index t (2 : Fin 3) * 1024 ≤ (i 2).val ∧ (i 2).val < win0_7.index t (2 : Fin 3) * 1024 + win0_7.xsize (grid0.coords t) (2 : Fin 3)
              rw [e2, f2]; omega

/-- Every entry of the output lies in the block of a point that is written back. -/
theorem cover_out (i : S4x8192x1024.Idx) : ∃ t : Fin cfg0.N, (cfg0.win 7).flush t = true ∧ i ∈ ((cfg0.win 7).blk t).view.set := by
  have h0 : (i 0).val < 4 := (i 0).isLt
  have h1 : (i 1).val < 8192 := (i 1).isLt
  have hN : cfg0.N = 65 := N_0
  refine ⟨⟨16 * (i 0).val + (i 1).val / 512 + 1, by omega⟩, (flush_out _).mpr (Nat.succ_ne_zero _), mem_out _ i ?_ ?_⟩
  · show (i 0).val = (16 * (i 0).val + (i 1).val / 512 + 1 - 1) / 16; omega
  · show (i 1).val / 512 = (16 * (i 0).val + (i 1).val / 512 + 1 - 1) % 16; omega

/-- The output array holds `G` when each point that is written back leaves its block of `G`. -/
theorem out_array (G : S4x8192x1024.Idx → EReal)
    (h : ∀ t : Fin cfg0.N, ∀ ht : 0 < t.val, ∀ (r : Fin 512) (d : Fin 1024), (outsAt0 m c t.val t.isLt).1 (ix3 0 r d)
      = G (ix3 ⟨(t.val - 1) / 16, by have := t.isLt; have : cfg0.N = 65 := N_0; omega⟩ ⟨512 * ((t.val - 1) % 16) + r.val, by omega⟩ d)) :
    (dats m 0 c).arrAt 7 cfg0.N = G := by
  refine (dats m 0 c).arrAt_eq_of_cover 7 G (fun t hf => ?_) cover_out
  have ht : 0 < t.val := Nat.pos_of_ne_zero ((flush_out t).mp hf)
  rw [Value.flushed7]
  funext y
  obtain ⟨q, r, d, rfl⟩ : ∃ (q : Fin 1) (r : Fin 512) (d : Fin 1024), y = ix3 q r d := ⟨_, _, _, eq_ix3 y⟩
  obtain rfl : q = 0 := Subsingleton.elim _ _
  refine Eq.trans ?_ ((h t ht r d).trans (congrArg G (emb7 t ht 0 r d)).symm)
  rfl

end Cert.KernelIdeal.Gen
-- ==== Proof.Layer.lean ====
module

public import proofs.«01_k».proof.Proof.Spec

/-! The layer's rows as functions of the arguments' coordinates. -/

@[expose] public section
noncomputable section

namespace Layer
open Idealize.ShloMosaic

section Rows
variable (x : Fin 4 → Fin 8192 → Fin 1024 → EReal) (w : Fin 1024 → Fin 5120 → EReal) (wo : Fin 1536 → Fin 1024 → EReal)
  (kv : Fin 4 → Fin 256 → Fin 1024 → EReal) (cw : Fin 3 → Fin 1024 → EReal)

/-- All 5120 projections of a token. -/
def proj5 (b : Fin 4) (s : Fin 8192) : Fin 5120 → EReal := proj (x b s) w

/-- The gated input of a sequence, with 8 rows of zeros before its first token. -/
def hist (b : Fin 4) (n : ℕ) (e : Fin 1024) : EReal :=
  if h : 8 ≤ n ∧ n - 8 < 8192 then gated (proj5 x w b ⟨n - 8, h.2⟩) e else 0

/-- The layer's row of a token before the norm, with the memory attention `mem` of its query, keys and values. -/
def row (mem : (Fin 128 → EReal) → (Fin 256 → Fin 128 → EReal) → (Fin 256 → Fin 128 → EReal) → Fin 128 → EReal)
    (b : Fin 4) (s : Fin 8192) (d : Fin 1024) : EReal :=
  pre (x b s) (fun e => proj5 x w b s ⟨3584 + e.val, by omega⟩)
    (conv (fun e => proj5 x w b s ⟨e.val, by omega⟩) (hist x w b (s.val + 8)) (hist x w b (s.val + 7)) (hist x w b (s.val + 6)) cw)
    (fun h j => mem (fun i => proj5 x w b s ⟨3072 + (h.val * 128 + i.val), by omega⟩)
      (fun m i => kv b m ⟨h.val * 128 + i.val, by omega⟩) (fun m i => kv b m ⟨512 + (h.val * 128 + i.val), by omega⟩) j)
    wo d

end Rows
end Layer
-- ==== Proof.Sweep.lean ====
module

public import proofs.«01_k».proof.Proof.Blocks
public import proofs.«01_k».proof.Proof.Layer

/-! The sweep over the grid: what the carried buffers hold after each point, and the array the kernel returns. -/

@[expose] public section
noncomputable section

namespace Cert.KernelIdeal.Gen
open Idealize.ShloMosaic Idealize.ShloMosaic.TcCoe Idealize.SL.Sem Layer Cert.KernelIdeal

section UBoth
variable (X : Vec Ideal S1x512x1024 .f32) (W : Vec Ideal S1024x5120 .bf16) (WO : Vec Ideal S1536x1024 .bf16)
  (KV : Vec Ideal S1x256x1024 .bf16) (CW : Vec Ideal S3x1024 .f32) (z : Vec Ideal S8x1024 .f32)
  (Hs : ℕ → Fin 1024 → EReal)

/-- The two halves' rows, whatever was stored before them. -/
theorem uBoth_at (hz : ∀ (r : Fin 8) (e : Fin 1024), z (ix2 r e) = Hs r.val e)
    (hc : ∀ (r : Fin 512) (e : Fin 1024), gated (hrow X W r) e = Hs (8 + r.val) e)
    (L : List (View.Piece (Elt Ideal) S512x1024 .f32)) (n : Fin 512) (d : Fin 1024) :
    View.canon (uBoth X W WO KV CW z ++ L) (ix2 n d) = ublk X W WO KV CW Hs n d := by
  refine View.canon_append_of_pieces (Val := Elt Ideal) (S := S512x1024) (e := .f32)
    (fun y => ublk X W WO KV CW Hs (y 0) (y 1)) L (uBoth X W WO KV CW z) ?_ (ix2 n d) ?_
  · intro p hp
    simp only [uBoth, List.mem_cons, List.not_mem_nil, or_false] at hp
    rcases hp with rfl | rfl
    · intro y
      obtain ⟨r, e, rfl⟩ : ∃ (r : Fin 256) (e : Fin 1024), y = ix2 r e := ⟨_, _, eq_ix2 y⟩
      refine (uSecond_at X W WO KV CW z Hs hz hc r e).trans ?_
      refine congrArg₂ (ublk X W WO KV CW Hs) (Fin.ext ?_) (Fin.ext ?_)
      · show 256 + r.val = 256 + 1 * r.val; omega
      · show e.val = 0 + 1 * e.val; omega
    · intro y
      obtain ⟨r, e, rfl⟩ : ∃ (r : Fin 256) (e : Fin 1024), y = ix2 r e := ⟨_, _, eq_ix2 y⟩
      refine (uFirst_at X W WO KV CW z Hs hz hc r e).trans ?_
      refine congrArg₂ (ublk X W WO KV CW Hs) (Fin.ext ?_) (Fin.ext ?_)
      · show r.val = 0 + 1 * r.val; omega
      · show e.val = 0 + 1 * e.val; omega
  · rcases lt_or_ge n.val 256 with h | h
    · exact ⟨_, List.mem_cons_of_mem _ List.mem_cons_self, mem_rows inb_S512x1024_S256x1024_0_0 n d (Nat.zero_le _) (by omega)⟩
    · exact ⟨_, List.mem_cons_self, mem_rows inb_S512x1024_S256x1024_256_0 n d h (by omega)⟩

end UBoth

theorem zeros_at (r : Fin 8) (e : Fin 1024) : zeros (ix2 r e) = 0 := by
  unfold zeros
  pointwise [k0_pay29]

variable (m : (ℓ : Loc nD τ sig) → Buf (Elt Ideal) ℓ) (c : Dev nD) (t : Fin cfg0.N)

/-- The arguments as functions of their coordinates. -/
abbrev xF (b : Fin 4) (s : Fin 8192) (d : Fin 1024) : EReal := xA m c (ix3 b s d)
abbrev wF (d : Fin 1024) (e : Fin 5120) : EReal := wA m c (ix2 d e)
abbrev woF (e : Fin 1536) (d : Fin 1024) : EReal := woA m c (ix2 e d)
abbrev kvF (b : Fin 4) (j : Fin 256) (d : Fin 1024) : EReal := kvA m c (ix3 b j d)
abbrev cwF (i : Fin 3) (e : Fin 1024) : EReal := cwA m c (ix2 i e)

theorem hrow_at (ht : t.val < 64) (r : Fin 512) :
    hrow (iblk m c 0 t) (iblk m c 1 t) r = proj5 (xF m c) (wF m c) ⟨t.val / 16, by omega⟩ ⟨512 * (t.val % 16) + r.val, by omega⟩ := by
  unfold hrow proj5
  refine congrArg₂ proj (funext fun d => iblk0_at m c t ht r d) ?_
  rw [iblk1_eq]

/-- The gated input around the block of a point. -/
def around : ℕ → Fin 1024 → EReal := fun n => hist (xF m c) (wF m c) ⟨t.val / 16 % 4, by omega⟩ (512 * (t.val % 16) + n)

theorem around_own (ht : t.val < 64) (r : Fin 512) (e : Fin 1024) :
    gated (hrow (iblk m c 0 t) (iblk m c 1 t) r) e = around m c t (8 + r.val) e := by
  rw [hrow_at m c t ht]
  unfold around hist
  rw [dif_pos (by omega)]
  congr 2
  · exact Fin.ext (by show t.val / 16 = t.val / 16 % 4; omega)
  · exact Fin.ext (by show 512 * (t.val % 16) + r.val = 512 * (t.val % 16) + (8 + r.val) - 8; omega)

/-- The block's rows before the norm are the layer's rows. -/
theorem ublk_at (ht : t.val < 64) (r : Fin 512) (d : Fin 1024) :
    ublk (iblk m c 0 t) (iblk m c 1 t) (iblk m c 2 t) (iblk m c 3 t) (iblk m c 4 t) (around m c t) r d
      = row (xF m c) (wF m c) (woF m c) (kvF m c) (cwF m c) memK ⟨t.val / 16, by omega⟩ ⟨512 * (t.val % 16) + r.val, by omega⟩ d := by
  have hb : (⟨t.val / 16 % 4, by omega⟩ : Fin 4) = ⟨t.val / 16, by omega⟩ := Fin.ext (by show t.val / 16 % 4 = t.val / 16; omega)
  unfold ublk row around
  rw [hrow_at m c t ht, iblk2_eq, iblk4_eq, hb]
  simp only [iblk0_at m c t ht, iblk3_at m c t ht, Nat.add_assoc]

theorem zeros_around (h3 : t.val % 16 = 0) (r : Fin 8) (e : Fin 1024) : zeros (ix2 r e) = around m c t r.val e := by
  rw [zeros_at]
  unfold around hist
  rw [dif_neg (by omega)]

theorem carried_around (h3 : ¬t.val % 16 = 0) (t' : Fin cfg0.N) (ht' : t'.val + 1 = t.val) (p : Vec Ideal S520x1024 .f32)
    (hp : ∀ (n : Fin 520) (e : Fin 1024), p (ix2 n e) = around m c t' n.val e) (r : Fin 8) (e : Fin 1024) :
    carried p (ix2 r e) = around m c t r.val e := by
  unfold carried
  rw [carry_at]
  pointwise
  refine (hp ⟨512 + r.val, by omega⟩ e).trans ?_
  unfold around
  have hb : (⟨t'.val / 16 % 4, by omega⟩ : Fin 4) = ⟨t.val / 16 % 4, by omega⟩ := Fin.ext (by show t'.val / 16 % 4 = t.val / 16 % 4; omega)
  rw [hb]
  refine congrArg (fun q => hist (xF m c) (wF m c) _ q e) ?_
  show 512 * (t'.val % 16) + (512 + r.val) = 512 * (t.val % 16) + r.val
  omega

/-- After each point but the last, the carried gated input is the one around the point's block. -/
theorem cu_after : ∀ (n : ℕ) (hn : n < cfg0.N), n < 64 → ∀ (r : Fin 520) (e : Fin 1024),
    (outsAt0 m c n hn).2.2 (ix2 r e) = around m c ⟨n, hn⟩ r.val e := by
  intro n
  induction n with
  | zero =>
    intro hn h2 r e
    rw [show outsAt0 m c 0 hn = outsAt0 m c (⟨0, hn⟩ : Fin cfg0.N).val (⟨0, hn⟩ : Fin cfg0.N).isLt from rfl,
      cu_A m c ⟨0, hn⟩ rfl (by show ¬0 % 65 = 64; omega) h2 rfl]
    exact cuBoth_at _ _ _ _ (zeros_around m c ⟨0, hn⟩ rfl) (around_own m c ⟨0, hn⟩ h2) r e
  | succ k ih =>
    intro hn h2 r e
    have h0 : ¬(⟨k + 1, hn⟩ : Fin cfg0.N).val % 65 = 0 := by show ¬(k + 1) % 65 = 0; omega
    have h1 : ¬(⟨k + 1, hn⟩ : Fin cfg0.N).val % 65 = 64 := by show ¬(k + 1) % 65 = 64; omega
    by_cases h3 : (k + 1) % 16 = 0
    · refine (congrFun (cu_C m c ⟨k + 1, hn⟩ h0 h1 h2 h3) _).trans ?_
      exact cuBoth_at _ _ _ _ (zeros_around m c ⟨k + 1, hn⟩ h3) (around_own m c ⟨k + 1, hn⟩ h2) r e
    · refine (congrFun (cu_B m c ⟨k + 1, hn⟩ h0 h1 h2 h3) _).trans ?_
      refine cuBoth_at _ _ _ _ (carried_around m c ⟨k + 1, hn⟩ h3 ⟨k, by omega⟩ rfl _ ?_) (around_own m c ⟨k + 1, hn⟩ h2) r e
      exact ih (by omega) (by omega)

/-- After each point but the last, the carried output rows are the layer's rows of the point's block. -/
theorem u_after (h2 : t.val < 64) (r : Fin 512) (d : Fin 1024) : (outsAt0 m c t.val t.isLt).2.1 (ix2 r d)
    = row (xF m c) (wF m c) (woF m c) (kvF m c) (cwF m c) memK ⟨t.val / 16, by omega⟩ ⟨512 * (t.val % 16) + r.val, by omega⟩ d := by
  rw [← ublk_at m c t h2]
  have h1 : ¬t.val % 65 = 64 := by omega
  by_cases h0 : t.val % 65 = 0
  · rw [u_A m c t h0 h1 h2 (by omega)]
    exact uBoth_at _ _ _ _ _ _ _ (zeros_around m c t (by omega)) (around_own m c t h2) _ r d
  by_cases h3 : t.val % 16 = 0
  · rw [u_C m c t h0 h1 h2 h3, ← List.append_nil (uBoth _ _ _ _ _ _)]
    exact uBoth_at _ _ _ _ _ _ _ (zeros_around m c t h3) (around_own m c t h2) _ r d
  · rw [u_B m c t h0 h1 h2 h3, ← List.append_nil (uBoth _ _ _ _ _ _)]
    refine uBoth_at _ _ _ _ _ _ _ (carried_around m c t h3 ⟨t.val - 1, by omega⟩ (by show t.val - 1 + 1 = t.val; omega) _ ?_) (around_own m c t h2) _ r d
    exact cu_after m c (t.val - 1) _ (by omega)

/-- The layer's output, with the kernel's memory attention. -/
def layerK : S4x8192x1024.Idx → EReal := fun i =>
  norm (row (xF m c) (wF m c) (woF m c) (kvF m c) (cwF m c) memK (i 0) (i 1)) (fun d => gA m c (ix2 0 d)) (fun d => bA m c (ix2 0 d)) (i 2)

/-- The kernel's output array is the layer's output. -/
theorem final : (dats m 0 c).arrAt 7 cfg0.N = layerK m c := by
  refine out_array m c _ fun t ht r d => ?_
  have hN : cfg0.N = 65 := N_0
  have hlt := t.isLt
  have hu : (fun x => prevU m c t (ix2 r x)) = row (xF m c) (wF m c) (woF m c) (kvF m c) (cwF m c) memK
      ⟨(t.val - 1) / 16, by omega⟩ ⟨512 * ((t.val - 1) % 16) + r.val, by omega⟩ :=
    funext fun x => u_after m c ⟨t.val - 1, by omega⟩ (by show t.val - 1 < 64; omega) r x
  have h0 : ¬t.val % 65 = 0 := by omega
  show _ = norm (row (xF m c) (wF m c) (woF m c) (kvF m c) (cwF m c) memK ⟨(t.val - 1) / 16, _⟩ ⟨512 * ((t.val - 1) % 16) + r.val, _⟩) _ _ d
  rw [← hu, ← iblk5_eq m c t, ← iblk6_eq m c t]
  by_cases h2 : t.val < 64
  · have h1 : ¬t.val % 65 = 64 := by omega
    by_cases h3 : t.val % 16 = 0
    · rw [out_C m c t h0 h1 h2 h3]
      exact lnLater_at _ _ _ r d
    · rw [out_B m c t h0 h1 h2 h3]
      exact lnLater_at _ _ _ r d
  · rw [out_D m c t h0 (by omega) h2]
    exact lnLast_at _ _ _ r d

end Cert.KernelIdeal.Gen
-- ==== Proof.Ref.lean ====
module

public import proofs.«01_k».proof.Proof.Gen.ReferenceIdeal.Read
public import Idealize.ShloMosaic.Lib.Pointwise
public import proofs.«01_k».proof.Proof.Layer

/-! The reference program, read one entry at a time as the layer's row functions. -/

@[expose] public section
noncomputable section
namespace Cert.ReferenceIdeal.Gen
open Idealize.ShloMosaic Idealize.ShloMosaic.TcCoe Idealize.SL.Sem Layer Cert.ReferenceIdeal Cert.ReferenceIdeal.Read

/-- The largest entry along the last axis, as a fold. -/
theorem reduce_max (y : S4x4x8192x256.Idx → EReal) (z : S_.Idx → EReal) (b : Fin 4) (h : Fin 4) (s : Fin 8192) :
    Host.reduce (α := EReal) (FloatOps.maximumf (F := Ideal) (φ := .f32)) y z reducesTo_S4x4x8192x256_S4x4x8192_d3 h_S_ (ix3 b h s)
      = Finset.univ.fold max (z ix0) (fun m => y (ix4 b h s m)) := by
  pointwise
  rw [show (Shape.Idx.first h_S_ : S_.Idx) = ix0 from funext fun a => a.elim0]

section Read
variable (x0 : (⟨S4x8192x1024, .f32⟩ : BufTy).Contents (Elt Ideal)) (x1 : (⟨S1024x5120, .bf16⟩ : BufTy).Contents (Elt Ideal))
  (x2 : (⟨S1536x1024, .bf16⟩ : BufTy).Contents (Elt Ideal)) (x3 : (⟨S4x256x1024, .bf16⟩ : BufTy).Contents (Elt Ideal))
  (x4 : (⟨S3x1024, .f32⟩ : BufTy).Contents (Elt Ideal)) (x5 x6 : (⟨S1x1024, .f32⟩ : BufTy).Contents (Elt Ideal))

/-- The arguments as functions of their coordinates. -/
abbrev xR (b : Fin 4) (s : Fin 8192) (d : Fin 1024) : EReal := x0 (ix3 b s d)
abbrev wR (d : Fin 1024) (e : Fin 5120) : EReal := x1 (ix2 d e)
abbrev woR (e : Fin 1536) (d : Fin 1024) : EReal := x2 (ix2 e d)
abbrev kvR (b : Fin 4) (j : Fin 256) (d : Fin 1024) : EReal := x3 (ix3 b j d)
abbrev cwR (i : Fin 3) (e : Fin 1024) : EReal := x4 (ix2 i e)

theorem v1_at (b : Fin 4) (s : Fin 8192) (e : Fin 5120) :
    val_main_v1 (F := Ideal) x0 x1 (ix3 b s e) = proj5 (xR x0) (wR x1) b s e := by
  pointwise [val_main_v1, val_main_v0]
  rfl

/-- The query of a memory head. -/
abbrev qR (b : Fin 4) (s : Fin 8192) (h : Fin 4) (i : Fin 128) : EReal :=
  proj5 (xR x0) (wR x1) b s ⟨3072 + (h.val * 128 + i.val), by omega⟩
abbrev kR (b h : Fin 4) (m : Fin 256) (i : Fin 128) : EReal := kvR x3 b m ⟨h.val * 128 + i.val, by omega⟩
abbrev vR (b h : Fin 4) (m : Fin 256) (i : Fin 128) : EReal := kvR x3 b m ⟨512 + (h.val * 128 + i.val), by omega⟩

theorem v41_at (b h : Fin 4) (s : Fin 8192) (m : Fin 256) :
    val_main_v41 (F := Ideal) x0 x1 x3 (ix4 b h s m) = scoreR (qR x0 x1 b s h) (kR x3 b h) m := by
  pointwise [val_main_v41, val_main_v40, val_main_v39, val_main_v38, val_main_v35, val_main_v34, val_main_v33, val_main_v32, val_main_v5,
    val_main_cst_0]
  simp only [v1_at]
  rfl

theorem v44_at (b h : Fin 4) (s : Fin 8192) :
    val_main_v44 (F := Ideal) x0 x1 x3 (ix3 b h s) = max (Ideal.ofBits .f32 4286578688#32)
      (Finset.univ.fold max (Ideal.ofBits .f32 4286578688#32) (scoreR (qR x0 x1 b s h) (kR x3 b h))) := by
  have h42 : val_main_v42 (F := Ideal) x0 x1 x3 (ix3 b h s)
      = Finset.univ.fold max (Ideal.ofBits .f32 4286578688#32) (scoreR (qR x0 x1 b s h) (kR x3 b h)) := by
    unfold val_main_v42
    refine (reduce_max _ _ b h s).trans ?_
    rw [funext (v41_at x0 x1 x3 b h s)]
    rfl
  rw [val_main_v44_apply, h42]
  rfl

theorem v52_at (b h : Fin 4) (s : Fin 8192) (m : Fin 256) :
    val_main_v52 (F := Ideal) x0 x1 x3 (ix4 b h s m) = Ideal.div (weightR (scoreR (qR x0 x1 b s h) (kR x3 b h)) m)
      (∑ m, weightR (scoreR (qR x0 x1 b s h) (kR x3 b h)) m) := by
  pointwise [val_main_v52, val_main_v51, val_main_v50, val_main_v49, val_main_v48, val_main_v47, val_main_v46, val_main_v45, val_main_cst_3]
  simp only [v41_at, v44_at]
  rfl

theorem v55_at (b : Fin 4) (s : Fin 8192) (e : Fin 512) : val_main_v55 (F := Ideal) x0 x1 x3 (ix3 b s e)
    = memR (qR x0 x1 b s ⟨e.val / 128, by omega⟩) (kR x3 b ⟨e.val / 128, by omega⟩) (vR x3 b ⟨e.val / 128, by omega⟩)
        ⟨e.val % 128, by omega⟩ := by
  pointwise [val_main_v55, val_main_v54, val_main_v53, val_main_v37, val_main_v36, val_main_v32]
  simp only [v52_at]
  unfold memR
  refine Finset.sum_congr rfl fun m _ => congrArg₂ (· * ·) (congrArg (fun q => x3 (ix3 b m q)) (Fin.ext ?_)) rfl
  show 512 + e.val = 512 + (e.val / 128 * 128 + e.val % 128)
  omega

/-- The gated input with two rows of zeros before the first token. -/
theorem v8_at (b : Fin 4) (s : Fin 8194) (e : Fin 1024) :
    val_main_v8 (F := Ideal) x0 x1 (ix3 b s e) = hist (xR x0) (wR x1) b (s.val + 6) e := by
  pointwise [val_main_v8, val_main_v7, val_main_v3, val_main_v4, val_main_call0_v0, val_main_c]
  simp only [v1_at]
  unfold hist
  by_cases h : 2 ≤ s.val ∧ s.val - 2 < 8192
  · rw [dif_pos h, dif_pos (by omega)]
    have hs : (⟨s.val + 6 - 8, by omega⟩ : Fin 8192) = ⟨s.val - 2, h.2⟩ := Fin.ext (by show s.val + 6 - 8 = s.val - 2; omega)
    rw [hs]
    rfl
  · rw [dif_neg h, dif_neg (by omega)]
    show (((0#32 : BitVec 32).toInt : ℝ) : EReal) = 0
    simp

theorem v31_at (b : Fin 4) (s : Fin 8192) (e : Fin 1024) : val_main_v31 (F := Ideal) x0 x1 x4 (ix3 b s e)
    = conv (fun e => proj5 (xR x0) (wR x1) b s ⟨e.val, by omega⟩) (hist (xR x0) (wR x1) b (s.val + 8))
        (hist (xR x0) (wR x1) b (s.val + 7)) (hist (xR x0) (wR x1) b (s.val + 6)) (cwR x4) e := by
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_v10, val_main_v9, val_main_v2, val_main_cst]
  simp only [v1_at, v8_at]
  unfold conv
  rw [show s.val + 6 = s.val + 6 from rfl, show 1 + s.val + 6 = s.val + 7 by omega, show 2 + s.val + 6 = s.val + 8 by omega]
  refine congrArg (_ * ·) ?_
  rw [add_comm, add_comm (hist _ _ b (s.val + 6) e * _), ← add_assoc]

theorem v63_at (b : Fin 4) (s : Fin 8192) (d : Fin 1024) : val_main_v63 (F := Ideal) x0 x1 x2 x3 x4 (ix3 b s d)
    = row (xR x0) (wR x1) (woR x2) (kvR x3) (cwR x4) memR b s d := by
  pointwise [val_main_v63, val_main_v62, val_main_v61, val_main_v60, val_main_v59, val_main_v58, val_main_v57, val_main_v56, val_main_v6,
    val_main_cst_4, val_main_call1_v5, val_main_call1_v4, val_main_call1_v3, val_main_call1_v2, val_main_call1_v1, val_main_call1_v0, val_main_call1_cst, val_main_call1_cst_0]
  simp only [v1_at, v31_at, v55_at]
  rfl

theorem v89_at (b : Fin 4) (s : Fin 8192) (d : Fin 1024) : val_main_v89 (F := Ideal) x0 x1 x2 x3 x4 x5 x6 (ix3 b s d)
    = norm (row (xR x0) (wR x1) (woR x2) (kvR x3) (cwR x4) memR b s) (fun d => x5 (ix2 0 d)) (fun d => x6 (ix2 0 d)) d := by
  pointwise [val_main_v89, val_main_v88, val_main_v87, val_main_v86, val_main_v85, val_main_v84, val_main_v83, val_main_v82, val_main_v81,
    val_main_v80, val_main_v79, val_main_v78, val_main_v77, val_main_v76, val_main_v75, val_main_v74, val_main_v73, val_main_v72,
    val_main_v71, val_main_v70, val_main_v69, val_main_v68, val_main_v67, val_main_v66, val_main_v65, val_main_v64, val_main_cst_5,
    val_main_cst_6, val_main_cst_7, val_main_cst_8, val_main_cst_9]
  simp only [v63_at]
  rfl

end Read
end Cert.ReferenceIdeal.Gen
-- ==== Proof.Mem.lean ====
module

public import proofs.«01_k».proof.Proof.Spec
public import Mathlib.Data.EReal.Basic

/-! On real queries, keys and values the kernel's memory attention (powers of two, the division last) is the reference's
(a softmax, then the weighted sum). -/

@[expose] public section
noncomputable section
namespace Layer
open Idealize.ShloMosaic

/-- The sum of real entries is the real sum. -/
theorem coe_sum_fin {n : ℕ} (f : Fin n → ℝ) : ((∑ i, f i : ℝ) : EReal) = ∑ i, (f i : EReal) := by
  induction n with
  | zero => simp
  | succ n ih => rw [Fin.sum_univ_succ, Fin.sum_univ_succ, EReal.coe_add, ih]

/-- The bit pattern of minus infinity. -/
theorem ofBits_neg_inf : Ideal.ofBits .f32 4286578688#32 = ⊥ := by
  simp [Ideal.ofBits, Ideal.ieee]

/-- The bit pattern of 128. -/
theorem ofBits_128 : Ideal.ofBits .f32 1124073472#32 = ((128 : ℝ) : EReal) := by
  simp [Ideal.ofBits, Ideal.ieee]
  norm_num
  exact (EReal.coe_mul 8388608 (1 / 65536)).symm.trans (congrArg _ (by norm_num))

/-- A fold of `max` from minus infinity is the entry that no other exceeds. -/
theorem fold_max_eq {n : ℕ} (t : Fin n → EReal) (m0 : Fin n) (h : ∀ m, t m ≤ t m0) :
    Finset.univ.fold max (Ideal.ofBits .f32 4286578688#32) t = t m0 := by
  rw [ofBits_neg_inf]
  refine le_antisymm ?_ ?_
  · exact (Finset.fold_max_le _).2 ⟨bot_le, fun m _ => h m⟩
  · exact (Finset.le_fold_max _).2 (Or.inr ⟨m0, Finset.mem_univ _, le_rfl⟩)

theorem exp2_real (r : ℝ) : FloatOps.exp2 (F := Ideal) (φ := .f32) (r : EReal) = ((Real.rpow 2 r : ℝ) : EReal) :=
  Ideal.exp2_coe r

/-- The kernel's scores on real queries and keys. -/
theorem scoreK_real (q : Fin 128 → ℝ) (K : Fin 256 → Fin 128 → ℝ) (m : Fin 256) :
    scoreK (fun i => (q i : EReal)) (fun m i => (K m i : EReal)) m
      = (((∑ j, q j * K m j) * ((Real.log 2)⁻¹ * (Real.sqrt 128)⁻¹) : ℝ) : EReal) := by
  unfold scoreK qscale
  rw [Finset.sum_mul, coe_sum_fin]
  refine Finset.sum_congr rfl fun j _ => ?_
  rw [← EReal.coe_mul, ← EReal.coe_mul]
  congr 1
  ring

/-- The reference's scores on real queries and keys. -/
theorem scoreR_real (q : Fin 128 → ℝ) (K : Fin 256 → Fin 128 → ℝ) (m : Fin 256) :
    scoreR (fun i => (q i : EReal)) (fun m i => (K m i : EReal)) m
      = (((∑ j, q j * K m j) * (Real.sqrt 128)⁻¹ : ℝ) : EReal) := by
  unfold scoreR
  have h : Real.sqrt 128 ≠ 0 := (Real.sqrt_pos.2 (by norm_num)).ne'
  rw [ofBits_128, Ideal.sqrt_coe, if_neg (by norm_num), Ideal.div_coe h]
  have e : (∑ j, (q j : EReal) * (K m j : EReal)) = ((∑ j, q j * K m j : ℝ) : EReal) := by
    rw [coe_sum_fin]; exact Finset.sum_congr rfl fun j _ => (EReal.coe_mul _ _).symm
  rw [e, ← EReal.coe_mul, one_div]

/-- Both weights of one score are the same exponential. -/
theorem weights_real (S : Fin 256 → ℝ) (s2 : ℝ) (hs : 0 < s2) : ∃ p : Fin 256 → ℝ, (∀ m, 0 < p m) ∧
    (∀ m, weightK (fun m => ((S m * ((Real.log 2)⁻¹ * s2) : ℝ) : EReal)) m = (p m : EReal)) ∧
    (∀ m, weightR (fun m => ((S m * s2 : ℝ) : EReal)) m = (p m : EReal)) := by
  obtain ⟨m0, -, h0⟩ := Finset.exists_max_image Finset.univ S ⟨0, Finset.mem_univ _⟩
  have hl : 0 < Real.log 2 := Real.log_pos (by norm_num)
  have hK : ∀ m, ((S m * ((Real.log 2)⁻¹ * s2) : ℝ) : EReal) ≤ ((S m0 * ((Real.log 2)⁻¹ * s2) : ℝ) : EReal) := fun m =>
    EReal.coe_le_coe_iff.2 (mul_le_mul_of_nonneg_right (h0 m (Finset.mem_univ _)) (by positivity))
  have hR : ∀ m, ((S m * s2 : ℝ) : EReal) ≤ ((S m0 * s2 : ℝ) : EReal) := fun m =>
    EReal.coe_le_coe_iff.2 (mul_le_mul_of_nonneg_right (h0 m (Finset.mem_univ _)) hs.le)
  refine ⟨fun m => Real.exp (S m * s2 - S m0 * s2), fun m => Real.exp_pos _, fun m => ?_, fun m => ?_⟩
  · unfold weightK
    rw [fold_max_eq _ m0 hK, ← EReal.coe_sub, exp2_real]
    congr 1
    refine (Real.rpow_def_of_pos (by norm_num : (0 : ℝ) < 2) _).trans ?_
    congr 1
    field_simp
  · unfold weightR
    rw [fold_max_eq _ m0 hR, ofBits_neg_inf, max_eq_right bot_le, ← EReal.coe_sub, Ideal.exp_coe]

/-- On real queries, keys and values the two memory attentions are equal. -/
theorem mem_eq (q : Fin 128 → ℝ) (K V : Fin 256 → Fin 128 → ℝ) :
    memK (fun i => (q i : EReal)) (fun m i => (K m i : EReal)) (fun m i => (V m i : EReal))
      = memR (fun i => (q i : EReal)) (fun m i => (K m i : EReal)) (fun m i => (V m i : EReal)) := by
  funext j
  unfold memK memR
  obtain ⟨p, hp, hK, hR⟩ := weights_real (fun m => ∑ j, q j * K m j) (Real.sqrt 128)⁻¹ (inv_pos.2 (Real.sqrt_pos.2 (by norm_num)))
  rw [funext (scoreK_real q K), funext (scoreR_real q K)]
  simp only [hK, hR]
  have hL : (∑ m, p m) ≠ 0 := (Finset.sum_pos (fun m _ => hp m) ⟨0, Finset.mem_univ _⟩).ne'
  rw [← coe_sum_fin p]
  simp only [Ideal.div_coe hL, ← EReal.coe_mul, ← coe_sum_fin]
  congr 1
  rw [Finset.sum_mul]
  exact Finset.sum_congr rfl fun m _ => by ring

/-- Entries that are not infinite are real. -/
def IsReal (a : EReal) : Prop := a ≠ ⊥ ∧ a ≠ ⊤

theorem IsReal.coe {a : EReal} (h : IsReal a) : ((a.toReal : ℝ) : EReal) = a := EReal.coe_toReal h.2 h.1

/-- A row times a matrix, both without infinite entries, has no infinite entries. -/
theorem proj_real {n : ℕ} (x : Fin 1024 → EReal) (w : Fin 1024 → Fin n → EReal) (hx : ∀ k, IsReal (x k)) (hw : ∀ k e, IsReal (w k e))
    (e : Fin n) : IsReal (proj x w e) := by
  have h : proj x w e = ((∑ k, (x k).toReal * (w k e).toReal : ℝ) : EReal) := by
    unfold proj
    rw [coe_sum_fin]
    refine Finset.sum_congr rfl fun k _ => ?_
    rw [EReal.coe_mul, (hx k).coe, (hw k e).coe]
  rw [h]
  exact ⟨EReal.coe_ne_bot _, EReal.coe_ne_top _⟩

/-- Where queries, keys and values have no infinite entries the two memory attentions are equal. -/
theorem mem_eq' (q : Fin 128 → EReal) (K V : Fin 256 → Fin 128 → EReal) (hq : ∀ i, IsReal (q i)) (hK : ∀ m i, IsReal (K m i))
    (hV : ∀ m i, IsReal (V m i)) : memK q K V = memR q K V := by
  have h := mem_eq (fun i => (q i).toReal) (fun m i => (K m i).toReal) (fun m i => (V m i).toReal)
  simpa only [(hq _).coe, (hK _ _).coe, (hV _ _).coe] using h

end Layer
-- ==== Proof.Finite.lean ====
module

public import proofs.«01_k».proof.Pre_finite
public import proofs.«01_k».proof.Proof.Mem
public import proofs.«01_k».proof.Proof.Layer
public import Idealize.ShloMosaic.Lib.ReduceAll
public import Idealize.ShloMosaic.Lib.Pointwise

/-! What the precondition says of the tokens, the input matrix and the memory: none of their entries is infinite. -/

@[expose] public section
noncomputable section
namespace Cert.Pre_finite
open Idealize.ShloMosaic Layer

/-- The bit pattern of plus infinity. -/
theorem ofBits_inf : Ideal.ofBits .f32 0x7F800000#32 = ⊤ := by
  simp [Ideal.ofBits, Ideal.ieee]

/-- An entry whose absolute value is below plus infinity is real. -/
theorem real_of_cmp (a : EReal)
    (h : FloatOps.cmpf (F := Ideal) (φ := .f32) .olt (FloatOps.absf (F := Ideal) (φ := .f32) a) (Ideal.ofBits .f32 0x7F800000#32) = 1#1) :
    IsReal a := by
  rw [ofBits_inf] at h
  have h' : max a (-a) < ⊤ := by
    by_contra hn
    rw [Ideal.cmpf_def, Ideal.absf_def] at h
    simp [Ideal.cmp, hn] at h
  constructor
  · rintro rfl
    simp at h'
  · rintro rfl
    simp at h'

variable [Facts]

instance : Subsingleton S_.Idx := ⟨fun a b => funext fun i => i.elim0⟩

variable (a0 : FVec Ideal S4x8192x1024 .f32) (a1 : FVec Ideal S1024x5120 .bf16) (a2 : FVec Ideal S1536x1024 .bf16)
  (a3 : FVec Ideal S4x256x1024 .bf16) (a4 : FVec Ideal S3x1024 .f32) (a5 a6 : FVec Ideal S1x1024 .f32)

/-- Where the precondition holds the tokens, the input matrix and the memory have no infinite entries. -/
theorem real_of_fn (h : fn (F := Ideal) a0 a1 a2 a3 a4 a5 a6 = fun _ => 1#1) :
    (∀ i, IsReal (a0 i)) ∧ (∀ i, IsReal (a1 i)) ∧ (∀ i, IsReal (a3 i)) := by
  have h0 := congrFun h (fun i => i.elim0)
  obtain ⟨h12, h3⟩ := IntOp.andi_eq_one.1 h0
  obtain ⟨h1, h2⟩ := IntOp.andi_eq_one.1 h12
  exact ⟨fun i => real_of_cmp _ (Host.reduce_andi_all _ _ _ _ _ h1 i), fun i => real_of_cmp _ (Host.reduce_andi_all _ _ _ _ _ h2 i),
    fun i => real_of_cmp _ (Host.reduce_andi_all _ _ _ _ _ h3 i)⟩

end Cert.Pre_finite
namespace Layer
open Idealize.ShloMosaic

/-- With tokens, input matrix and memory free of infinite entries the layer's row is the same with either memory attention. -/
theorem row_eq (x : Fin 4 → Fin 8192 → Fin 1024 → EReal) (w : Fin 1024 → Fin 5120 → EReal) (wo : Fin 1536 → Fin 1024 → EReal)
    (kv : Fin 4 → Fin 256 → Fin 1024 → EReal) (cw : Fin 3 → Fin 1024 → EReal) (hx : ∀ b s d, IsReal (x b s d))
    (hw : ∀ d e, IsReal (w d e)) (hkv : ∀ b m d, IsReal (kv b m d)) : row x w wo kv cw memK = row x w wo kv cw memR := by
  have hp : ∀ b s e, IsReal (proj5 x w b s e) := fun b s e => proj_real _ _ (hx b s) hw e
  funext b s d
  unfold row
  refine congrArg (fun f => pre _ _ _ f wo d) ?_
  funext h j
  exact congrFun (mem_eq' _ _ _ (fun _ => hp _ _ _) (fun _ _ => hkv _ _ _) (fun _ _ => hkv _ _ _)) j

end Layer
-- ==== Proof.Claims.lean ====
module

public import proofs.«01_k».proof.Defs
public import proofs.«01_k».proof.Proof.Gen.Pre_finite
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Sweep
public import proofs.«01_k».proof.Proof.Ref
public import proofs.«01_k».proof.Proof.Finite
public import Idealize.ShloMosaic.Adequacy
public import Idealize.ShloMosaic.Init

/-! The claims about the short convolution layer, one theorem each. -/

@[expose] public section
noncomputable section
namespace ConvClaims
open Idealize.ShloMosaic Idealize.ShloMosaic.TcCoe Idealize.SL.Sem Layer

/-- The kernel runs, leaves its arguments as they were and ends quiescent. -/
theorem frame_p : Cert.quiescent_Kernel := fun m ρ _ => Cert.Kernel.Gen.frame m ρ

/-- So does the idealized kernel, -/
theorem frame_pi : Cert.quiescent_KernelIdeal := fun m ρ _ => Cert.KernelIdeal.Gen.frame m ρ

/-- and so it does where the precondition holds. -/
theorem frame_pi_finite : Cert.quiescent_KernelIdeal_pre_finite := fun m ρ _ => Cert.KernelIdeal.Gen.frame m ρ

/-- The reference runs, leaves its arguments as they were and ends quiescent, -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- and so it does where the precondition holds. -/
theorem frame_ri_finite : Cert.quiescent_ReferenceIdeal_pre_finite := fun m ρ _ => frame_ri m ρ trivial

/-- The idealized kernel is the kernel with its one named constant read as the real number it stands for. -/
theorem preserves : Cert.preserves_Kernel_KernelIdeal := IdealRules.named_const.statement _ _ _ _ _ rfl

/-- What the kernel returns is what the reference computes, where the precondition holds. -/
theorem layer_eq (m : (ℓ : Loc Cert.KernelIdeal.nD Cert.KernelIdeal.τ Cert.KernelIdeal.sig) → Buf (Elt Ideal) ℓ)
    (hp : Cert.Pre_KernelIdeal_finite m) (c : Dev Cert.KernelIdeal.nD) :
    Cert.ReferenceIdeal.Read.val_main_v89 (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      = Cert.KernelIdeal.Gen.layerK m c := by
  obtain ⟨hx, hw, hkv⟩ := Cert.Pre_finite.real_of_fn _ _ _ _ _ _ _ (hp c)
  funext i
  rw [eq_ix3 i]
  refine (Cert.ReferenceIdeal.Gen.v89_at _ _ _ _ _ _ _ (i 0) (i 1) (i 2)).trans ?_
  unfold Cert.KernelIdeal.Gen.layerK
  rw [row_eq (Cert.KernelIdeal.Gen.xF m c) (Cert.KernelIdeal.Gen.wF m c) _ (Cert.KernelIdeal.Gen.kvF m c) _
    (fun _ _ _ => hx _) (fun _ _ => hw _) (fun _ _ _ => hkv _)]
  rfl

/-- The idealized kernel and the reference end with the same array, where the precondition holds. -/
theorem algebraic : Cert.algebraic_KernelIdeal_ReferenceIdeal_pre_finite := fun m g m' g' hp hm =>
  ⟨fun c => Cert.KernelIdeal.Gen.layerK m c,
    (θ_run Cert.KernelIdeal.defs _ _).mono (fun r h c => ⟨(h c).1.trans (Cert.KernelIdeal.Gen.final m c), (h c).2⟩)
      (Cert.KernelIdeal.Value.run_blocks (F := Ideal) m g),
    (θ_run Cert.ReferenceIdeal.defs _ _).mono (fun r h c => ⟨by
        obtain ⟨e0, e1, e2, e3, e4, e5, e6⟩ := hm c
        refine (h c).1.trans ((Cert.ReferenceIdeal.Read.val_main_v89_eq m' c).trans ?_)
        rw [e0, e1, e2, e3, e4, e5, e6]
        exact layer_eq m hp c, (h c).2⟩)
      (Cert.ReferenceIdeal.Value.run (F := Ideal) m' g')⟩

end ConvClaims
-- ==== Proof.AttnCore.lean ====
module

public import proofs.«01_k».proof.Proof.Gen.AttnIdeal.Frame

/-! What the attention of one tile of 256 queries writes, head by head: the scores, their exponentials and the weighted
values, as lists of the pieces in the order they are stored. -/

@[expose] public section
noncomputable section
namespace Cert.AttnIdeal.Gen
open Idealize.ShloMosaic

variable {F : FTy → Type} [FloatOps F] [Named F]

theorem sub_lt (n : ℕ) : n % 2 < 2 := Nat.mod_lt n (by decide)
theorem pair_lt (n : ℕ) : n / 2 % 8 < 8 := Nat.mod_lt _ (by decide)

theorem in_s {e : ℕ} (he : e < 2) (a o : ℕ) (ha : a + 128 ≤ 768) (ho : o + 128 ≤ 256) :
    ∀ x, (![e, a, o] : Fin 3 → Nat) x + S1x128x128.size x ≤ S2x768x256.size x := by
  intro x; fin_cases x
  · exact he
  · exact ha
  · exact ho
theorem in_p {e : ℕ} (he : e < 2) (a o : ℕ) (ha : a + 640 ≤ 768) (ho : o + 128 ≤ 256) :
    ∀ x, (![e, a, o] : Fin 3 → Nat) x + S1x640x128.size x ≤ S2x768x256.size x := by
  intro x; fin_cases x
  · exact he
  · exact ha
  · exact ho
theorem in_pr {e : ℕ} (he : e < 2) : ∀ x, (![e, 0, 0] : Fin 3 → Nat) x + S1x768x256.size x ≤ S2x768x256.size x := by
  intro x; fin_cases x
  · exact he
  · exact le_refl 768
  · exact le_refl 256
theorem in_mix {h e : ℕ} (hh : h < 8) (he : e < 2) : ∀ x, (![h, 64 * e, 0] : Fin 3 → Nat) x + S1x64x256.size x ≤ S8x128x256.size x := by
  intro x; fin_cases x
  · exact hh
  · show 64 * e + 64 ≤ 128; omega
  · exact le_refl 256
theorem in_mixr {h : ℕ} (hh : h < 8) : ∀ x, (![h, 0, 0] : Fin 3 → Nat) x + S1x128x256.size x ≤ S8x128x256.size x := by
  intro x; fin_cases x
  · exact hh
  · exact le_refl 128
  · exact le_refl 256
theorem in_k {h : ℕ} (hh : h < 8) (a : ℕ) (ha : a + 128 ≤ 1024) : ∀ x, (![h, a, 0] : Fin 3 → Nat) x + S1x128x256.size x ≤ S8x1024x256.size x := by
  intro x; fin_cases x
  · exact hh
  · exact ha
  · exact le_refl 256
theorem in_v {h e : ℕ} (hh : h < 8) (he : e < 2) (a : ℕ) (ha : a + 768 ≤ 1024) :
    ∀ x, (![h, 80 * e, a] : Fin 3 → Nat) x + S1x80x768.size x ≤ S8x160x1024.size x := by
  intro x; fin_cases x
  · exact hh
  · show 80 * e + 80 ≤ 160; omega
  · exact ha
theorem in_b {h : ℕ} (hh : h < 16) (a : ℕ) (ha : a + 128 ≤ 640) : ∀ x, (![h, a, 0] : Fin 3 → Nat) x + S1x128x128.size x ≤ S16x640x128.size x := by
  intro x; fin_cases x
  · exact hh
  · exact ha
  · exact le_refl 128

/-- The rows that add the flag of a key to its scores. -/
def flagRows : FVec F S128x256 .bf16 := truncf .bf16 (select k0_pay84 (k0_pay85 (F := F)) (k0_pay86 (F := F))) bitsLt_bf16_f32

/-- The queries of head `e` of a pair, against which the pair's keys are multiplied. -/
def padQ (e : ℕ) (q : Vec F S1x64x256 .bf16) : FVec F S256x256 .bf16 :=
  if e = 0 then concatenate S256x256 0 [⟨S64x256, shapeCast S64x256 q shapeCasts_S1x64x256_S64x256⟩, ⟨S64x256, k0_pay83⟩, ⟨S128x256, flagRows⟩] concatenates_S64x256_S64x256_S128x256_S256x256_d0
  else concatenate S256x256 0 [⟨S64x256, k0_pay83⟩, ⟨S64x256, shapeCast S64x256 q shapeCasts_S1x64x256_S64x256⟩, ⟨S128x256, flagRows⟩] concatenates_S64x256_S64x256_S128x256_S256x256_d0

/-- The scores of 128 keys that only the left 128 queries see. -/
def scoreFirst (Q : FVec F S256x256 .bf16) (k : Vec F S1x128x256 .bf16) (b : Vec F S1x128x128 .f32) : FVec F S128x128 .f32 :=
  addf (matmul dot_S128x256_S256x128_S128x128_1_0_0_1_n_n none (shapeCast S128x256 k shapeCasts_S1x128x256_S128x256)
    (extractStridedSlice S256x128 ![0, 0] Q slices_S256x256_o0_0_S256x128) (constant S128x128 .f32 0x00000000#32))
    (shapeCast S128x128 b shapeCasts_S1x128x128_S128x128)

/-- The scores of 128 keys that only the right 128 queries see. -/
def scoreLast (Q : FVec F S256x256 .bf16) (k : Vec F S1x128x256 .bf16) (b : Vec F S1x128x128 .f32) : FVec F S128x128 .f32 :=
  addf (matmul dot_S128x256_S256x128_S128x128_1_0_0_1_n_n none (shapeCast S128x256 k shapeCasts_S1x128x256_S128x256)
    (extractStridedSlice S256x128 ![0, 128] Q slices_S256x256_o0_128_S256x128) (constant S128x128 .f32 0x00000000#32))
    (shapeCast S128x128 b shapeCasts_S1x128x128_S128x128)

/-- The scores of 128 keys against the left 128 queries. -/
def scoreLeft (Q : FVec F S256x256 .bf16) (k : Vec F S1x128x256 .bf16) (b : Vec F S1x128x128 .f32) : FVec F S128x128 .f32 :=
  addf (extractStridedSlice S128x128 ![0, 0] (matmul dot_S128x256_S256x256_S128x256_1_0_0_1_n_n none
    (shapeCast S128x256 k shapeCasts_S1x128x256_S128x256) Q (constant S128x256 .f32 0x00000000#32)) slices_S128x256_o0_0_S128x128)
    (shapeCast S128x128 b shapeCasts_S1x128x128_S128x128)

/-- The scores of 128 keys against the right 128 queries. -/
def scoreRight (Q : FVec F S256x256 .bf16) (k : Vec F S1x128x256 .bf16) (b : Vec F S1x128x128 .f32) : FVec F S128x128 .f32 :=
  addf (extractStridedSlice S128x128 ![0, 128] (matmul dot_S128x256_S256x256_S128x256_1_0_0_1_n_n none
    (shapeCast S128x256 k shapeCasts_S1x128x256_S128x256) Q (constant S128x256 .f32 0x00000000#32)) slices_S128x256_o0_128_S128x128)
    (shapeCast S128x128 b shapeCasts_S1x128x128_S128x128)

/-- The column maxima of a block of scores. -/
def colMax (t : FVec F S128x128 .f32) : FVec F S1x128 .f32 :=
  shapeCast S1x128 (multiReduction .maximumf [0] S128 t 0xFF800000#32 reduces_S128x128_S128 (.inl rfl) rfl) shapeCasts_S128_S1x128

/-- Scores of one head: keys `k` by block of 128 rows, biases `b` by block of the window, block `i` of the left half. -/
def leftScore (Q : FVec F S256x256 .bf16) (k : ℕ → Vec F S1x128x256 .bf16) (b : ℕ → Vec F S1x128x128 .f32) (i : ℕ) : FVec F S128x128 .f32 :=
  if i = 0 then scoreFirst Q (k 0) (b 0) else scoreLeft Q (k i) (b i)

/-- Block `i` of the window of the right half, whose first key is in block 1. -/
def rightScore (Q : FVec F S256x256 .bf16) (k : ℕ → Vec F S1x128x256 .bf16) (b : ℕ → Vec F S1x128x128 .f32) (i : ℕ) : FVec F S128x128 .f32 :=
  if i = 4 then scoreLast Q (k 5) (b 4) else scoreRight Q (k (i + 1)) (b i)

/-- The largest score of each query of a half. -/
def allMax (t : ℕ → FVec F S128x128 .f32) : FVec F S1x128 .f32 :=
  maximumf (maximumf (maximumf (maximumf (colMax (t 0)) (colMax (t 1))) (colMax (t 2))) (colMax (t 3))) (colMax (t 4))

/-- One stored block of scores. -/
def sPiece {e : ℕ} (he : e < 2) (a o : ℕ) (ha : a + 128 ≤ 768) (ho : o + 128 ≤ 256) (t : FVec F S128x128 .f32) :
    View.Piece (Elt F) S2x768x256 .f32 :=
  ⟨Rect.unit ![e, a, o] S1x128x128.size (in_s he a o ha ho), shapeCast S1x128x128 t shapeCasts_S128x128_S1x128x128⟩

/-- The ten stored blocks of one head's scores. -/
def sPieces {e : ℕ} (he : e < 2) (l r : ℕ → FVec F S128x128 .f32) (rest : List (View.Piece (Elt F) S2x768x256 .f32)) :
    List (View.Piece (Elt F) S2x768x256 .f32) :=
  sPiece he 640 128 (by decide) (by decide) (r 4) :: sPiece he 512 128 (by decide) (by decide) (r 3) ::
  sPiece he 512 0 (by decide) (by decide) (l 4) :: sPiece he 384 128 (by decide) (by decide) (r 2) ::
  sPiece he 384 0 (by decide) (by decide) (l 3) :: sPiece he 256 128 (by decide) (by decide) (r 1) ::
  sPiece he 256 0 (by decide) (by decide) (l 2) :: sPiece he 128 128 (by decide) (by decide) (r 0) ::
  sPiece he 128 0 (by decide) (by decide) (l 1) :: sPiece he 0 0 (by decide) (by decide) (l 0) :: rest

/-- The stored exponentials of one half's scores. -/
def expBlock (t : Vec F S1x640x128 .f32) (m : FVec F S1x128 .f32) : FVec F S1x640x128 .bf16 :=
  shapeCast S1x640x128 (truncf .bf16 (exp2 (subf (shapeCast S640x128 t shapeCasts_S1x640x128_S640x128)
    (broadcastTo S640x128 m broadcasts_S1x128_S640x128))) bitsLt_bf16_f32) shapeCasts_S640x128_S1x640x128

/-- The two stored pieces of one head's exponentials, which read the scores `S`. -/
def pPieces (arg14 : Memref sig .tc .vmem S2x768x256 .f32) {e : ℕ} (he : e < 2) (ml mr : FVec F S1x128 .f32)
    (S : List (View.Piece (Elt F) S2x768x256 .f32)) (rest : List (View.Piece (Elt F) S2x768x256 .bf16)) :
    List (View.Piece (Elt F) S2x768x256 .bf16) :=
  ⟨Rect.unit ![e, 128, 128] S1x640x128.size (in_p he 128 128 (by decide) (by decide)),
    expBlock (arg14.view.readCov S (Rect.unit (s := S2x768x256) ![e, 128, 128] S1x640x128.size (in_p he 128 128 (by decide) (by decide))).toLoadRect) mr⟩ ::
  ⟨Rect.unit ![e, 0, 0] S1x640x128.size (in_p he 0 0 (by decide) (by decide)),
    expBlock (arg14.view.readCov S (Rect.unit (s := S2x768x256) ![e, 0, 0] S1x640x128.size (in_p he 0 0 (by decide) (by decide))).toLoadRect) ml⟩ :: rest

/-- One head's output: the weighted values over the sum of the weights, which a row of ones among the values gives. -/
def weighted (e : ℕ) (v : Vec F S1x80x768 .bf16) (p : Vec F S1x768x256 .bf16) : FVec F S1x64x256 .f32 :=
  if e = 0 then k0_pay158 v p
  else shapeCast S1x64x256 (divf (extractStridedSlice S64x256 ![0, 0] (k0_pay195 v p) slices_S80x256_o0_0_S64x256)
    (broadcastTo S64x256 (k0_pay196 v p) broadcasts_S1x256_S64x256)) shapeCasts_S64x256_S1x64x256

section
variable (arg14 : Memref sig .tc .vmem S2x768x256 .f32) (q : ℕ → Vec F S1x64x256 .bf16)
  (k : ℕ → ℕ → Vec F S1x128x256 .bf16) (b : ℕ → ℕ → Vec F S1x128x128 .f32) (v : ℕ → Vec F S1x80x768 .bf16)
  (rp : ℕ → List (View.Piece (Elt F) S2x768x256 .bf16) → Vec F S1x768x256 .bf16)
  (S0 : List (View.Piece (Elt F) S2x768x256 .f32)) (P0 : List (View.Piece (Elt F) S2x768x256 .bf16))
  (M0 : List (View.Piece (Elt F) S8x128x256 .f32))

/-- Block `i` of the left scores of head `n`. -/
def headL (n i : ℕ) : FVec F S128x128 .f32 := leftScore (padQ (n % 2) (q n)) (k (n / 2 % 8)) (b n) i
/-- Block `i` of the right scores of head `n`. -/
def headR (n i : ℕ) : FVec F S128x128 .f32 := rightScore (padQ (n % 2) (q n)) (k (n / 2 % 8)) (b n) i

/-- The scores stored after `n` heads. -/
def sList (n : ℕ) : List (View.Piece (Elt F) S2x768x256 .f32) :=
  Nat.rec S0 (fun n L => sPieces (sub_lt n) (headL q k b n) (headR q k b n) L) n

/-- The exponentials stored after `n` heads. -/
def pList (n : ℕ) : List (View.Piece (Elt F) S2x768x256 .bf16) :=
  Nat.rec P0 (fun n L => pPieces arg14 (sub_lt n) (allMax (headL q k b n)) (allMax (headR q k b n)) (sList q k b S0 (min (n + 2) 16)) L) n

/-- The outputs stored after `n` heads. -/
def mList (n : ℕ) : List (View.Piece (Elt F) S8x128x256 .f32) :=
  Nat.rec M0 (fun n L => ⟨Rect.unit ![n / 2 % 8, 64 * (n % 2), 0] S1x64x256.size (in_mix (pair_lt n) (sub_lt n)),
    weighted (n % 2) (v n) (rp (n % 2) (pList arg14 q k b S0 P0 (n + 1)))⟩ :: L) n
end

end Cert.AttnIdeal.Gen
-- ==== Proof.AttnTile.lean ====
module

public import proofs.«01_k».proof.Proof.AttnCore

/-! What one grid point of the attention layer reads and stores: queries, keys and values of a half of the block, and
the half's output rows. -/

@[expose] public section
noncomputable section
namespace Cert.AttnIdeal.Gen
open Idealize.ShloMosaic

variable {F : FTy → Type} [FloatOps F] [Named F]

theorem in_kw {h o : ℕ} (hh : h < 8) (ho : o + 256 ≤ 1024) : ∀ x, (![h, o, 0] : Fin 3 → Nat) x + S1x256x128.size x ≤ S8x1024x256.size x := by
  intro x; fin_cases x
  · exact hh
  · exact ho
  · show 0 + 128 ≤ 256; omega
theorem in_vw {a o n : ℕ} (ha : a + n ≤ 160) (ho : o + 256 ≤ 1024) : ∀ x, (![0, a, o] : Fin 3 → Nat) x + (![8, n, 256] : Fin 3 → Nat) x ≤ S8x160x1024.size x := by
  intro x; fin_cases x
  · exact le_refl 8
  · exact ha
  · exact ho
theorem in_kv (i : ℕ) : ∀ x, (![0, 0, 128 * (i % 8)] : Fin 3 → Nat) x + S1x256x128.size x ≤ S1x256x1024.size x := by
  intro x; fin_cases x
  · exact le_refl 1
  · exact le_refl 256
  · show 128 * (i % 8) + 128 ≤ 1024; omega
theorem slices_k {h : ℕ} (hh : h < 8) : S256x1024.Slices ![0, 128 * h] S256x128 := by
  refine ⟨rfl, fun a => ?_⟩
  fin_cases a
  · exact le_refl 256
  · show 128 * h + 128 ≤ 1024; omega

/-- The stored keys of one pair of heads for a half of the block. -/
def kPiece (o : ℕ) (ho : o + 256 ≤ 1024) (x : Vec F S1x256x1024 .f32) (wk : Vec F S1024x1024 .bf16) {h : ℕ} (hh : h < 8) :
    View.Piece (Elt F) S8x1024x256 .bf16 :=
  ⟨Rect.unit ![h, o, 0] S1x256x128.size (in_kw hh ho), shapeCast S1x256x128 (truncf .bf16
    (extractStridedSlice S256x128 ![0, 128 * h] (k0_pay703 (k0_pay697 x) wk) (slices_k hh)) bitsLt_bf16_f32) shapeCasts_S256x128_S1x256x128⟩

/-- The stored keys of a half of the block. -/
def kPieces (o : ℕ) (ho : o + 256 ≤ 1024) (x : Vec F S1x256x1024 .f32) (wk : Vec F S1024x1024 .bf16)
    (L : List (View.Piece (Elt F) S8x1024x256 .bf16)) : List (View.Piece (Elt F) S8x1024x256 .bf16) :=
  kPiece o ho x wk (h := 7) (by decide) :: kPiece o ho x wk (h := 6) (by decide) :: kPiece o ho x wk (h := 5) (by decide) ::
  kPiece o ho x wk (h := 4) (by decide) :: kPiece o ho x wk (h := 3) (by decide) :: kPiece o ho x wk (h := 2) (by decide) ::
  kPiece o ho x wk (h := 1) (by decide) :: kPiece o ho x wk (h := 0) (by decide) :: L

/-- The stored values of a half of the block, between rows of ones. -/
def vPieces (o : ℕ) (ho : o + 256 ≤ 1024) (x : Vec F S1x256x1024 .f32) (wv : Vec F S1024x1024 .bf16)
    (L : List (View.Piece (Elt F) S8x160x1024 .bf16)) : List (View.Piece (Elt F) S8x160x1024 .bf16) :=
  ⟨Rect.unit ![0, 144, o] ![8, 16, 256] (in_vw (by decide) ho), k0_pay701⟩ ::
  ⟨Rect.unit ![0, 0, o] ![8, 16, 256] (in_vw (by decide) ho), k0_pay701⟩ ::
  ⟨Rect.unit ![0, 16, o] ![8, 128, 256] (in_vw (by decide) ho), k0_pay699 x wv⟩ :: L

/-- The stored queries of a half of the block. -/
def qPieces (x : Vec F S1x256x1024 .f32) (wq : Vec F S1024x1024 .bf16)
    (L : List (View.Piece (Elt F) S8x128x256 .bf16)) : List (View.Piece (Elt F) S8x128x256 .bf16) :=
  ⟨Rect.unit ![0, 0, 0] S8x128x256.size inb_S8x128x256_S8x128x256_0_0_0, k0_pay698 x wq⟩ :: L

/-- The corners of the stored exponentials that no half fills. -/
def zeroPieces : List (View.Piece (Elt F) S2x768x256 .bf16) :=
  [⟨Rect.unit ![0, 0, 128] S2x128x128.size inb_S2x768x256_S2x128x128_0_0_128, k0_pay31⟩,
   ⟨Rect.unit ![0, 640, 0] S2x128x128.size inb_S2x768x256_S2x128x128_0_640_0, k0_pay30⟩]

section Reads
variable (arg6 : Memref sig .tc .vmem S16x640x128 .f32) (arg11 : Memref sig .tc .vmem S8x128x256 .bf16) (arg12 : Memref sig .tc .vmem S8x1024x256 .bf16)
  (arg13 : Memref sig .tc .vmem S8x160x1024 .bf16) (arg15 : Memref sig .tc .vmem S2x768x256 .bf16) (arg16 : Memref sig .tc .vmem S8x128x256 .f32)

/-- The queries of head `n`. -/
def qRead (L : List (View.Piece (Elt F) S8x128x256 .bf16)) (n : ℕ) : Vec F S1x64x256 .bf16 :=
  arg11.view.readCov L (Rect.unit (s := S8x128x256) ![n / 2 % 8, 64 * (n % 2), 0] S1x64x256.size (in_mix (pair_lt n) (sub_lt n))).toLoadRect
/-- The biases of head `h` for block `i` of a window. -/
def bRead (f : BufTy.Contents (Elt F) arg6.view.ty) (h i : ℕ) : Vec F S1x128x128 .f32 :=
  View.readAt (Elt F) arg6.view (Rect.unit (s := S16x640x128) ![h % 16, 128 * (i % 5), 0] S1x128x128.size (in_b (Nat.mod_lt _ (by decide)) _ (by have := Nat.mod_lt i (show 5 > 0 by decide); omega))).toLoadRect f
/-- The values of head `n` and its row of ones. -/
def vRead (L : List (View.Piece (Elt F) S8x160x1024 .bf16)) (o : ℕ) (ho : o + 768 ≤ 1024) (n : ℕ) : Vec F S1x80x768 .bf16 :=
  arg13.view.readCov L (Rect.unit (s := S8x160x1024) ![n / 2 % 8, 80 * (n % 2), o] S1x80x768.size (in_v (pair_lt n) (sub_lt n) _ ho)).toLoadRect
/-- The exponentials of head `e` of a pair, stored over the contents `f`. -/
def pRead (f : BufTy.Contents (Elt F) arg15.view.ty) (e : ℕ) (L : List (View.Piece (Elt F) S2x768x256 .bf16)) : Vec F S1x768x256 .bf16 :=
  View.readAt (Elt F) arg15.view (Rect.unit (s := S2x768x256) ![e % 2, 0, 0] S1x768x256.size (in_pr (sub_lt e))).toLoadRect (arg15.view.writes (Elt F) f L)
/-- Block `i` of the keys of a pair of heads from row `o` on, stored over the contents `f i`. -/
def kRead (f : ℕ → BufTy.Contents (Elt F) arg12.view.ty) (o : ℕ) (ho : o ≤ 256) (L : List (View.Piece (Elt F) S8x1024x256 .bf16)) (hp i : ℕ) : Vec F S1x128x256 .bf16 :=
  View.readAt (Elt F) arg12.view (Rect.unit (s := S8x1024x256) ![hp % 8, o + 128 * (i % 6), 0] S1x128x256.size (in_k (Nat.mod_lt _ (by decide)) _ (by have := Nat.mod_lt i (show 6 > 0 by decide); omega))).toLoadRect (arg12.view.writes (Elt F) (f i) L)
/-- The stored outputs of pair `hp` of heads. -/
def mRead (L : List (View.Piece (Elt F) S8x128x256 .f32)) (hp : ℕ) : Vec F S1x128x256 .f32 :=
  arg16.view.readCov L (Rect.unit (s := S8x128x256) ![hp % 8, 0, 0] S1x128x256.size (in_mixr (Nat.mod_lt _ (by decide)))).toLoadRect
end Reads

/-- The output rows of a half of the block from its outputs `mx` of the attention heads, keys and values `kv` of the memory. -/
def tailRows (x : Vec F S1x256x1024 .f32) (mx : ℕ → Vec F S1x128x256 .f32) (wg : Vec F S1024x1536 .bf16) (wq : Vec F S1024x512 .bf16)
    (kv : ℕ → Vec F S1x256x128 .bf16) (wo : Vec F S1536x1024 .bf16) : FVec F S256x1024 .f32 :=
  k0_pay3 (k0_pay696 x) (k0_pay697 x)
    (k0_pay1322 (transpose S256x128 [1, 0] (shapeCast S128x256 (mx 0) shapeCasts_S1x128x256_S128x256) transposes_S128x256_p1_0_S256x128)
      (transpose S256x128 [1, 0] (shapeCast S128x256 (mx 1) shapeCasts_S1x128x256_S128x256) transposes_S128x256_p1_0_S256x128)
      (transpose S256x128 [1, 0] (shapeCast S128x256 (mx 2) shapeCasts_S1x128x256_S128x256) transposes_S128x256_p1_0_S256x128)
      (transpose S256x128 [1, 0] (shapeCast S128x256 (mx 3) shapeCasts_S1x128x256_S128x256) transposes_S128x256_p1_0_S256x128)
      (mx 4) (mx 5) (mx 6) (mx 7)) wg
    (k0_pay1324 (k0_pay697 x) wq (kv 0) (kv 4)) (k0_pay1325 (k0_pay1323 (k0_pay697 x) wq) (kv 1) (kv 5))
    (k0_pay1326 (k0_pay1323 (k0_pay697 x) wq) (kv 2) (kv 6)) (k0_pay1328 (kv 7))
    (k0_pay1329 (k0_pay1327 (k0_pay1323 (k0_pay697 x) wq)) (kv 3)) wo

/-- What one grid point's attention reads: its buffers, their contents before, the two halves of the block and the weights. -/
structure Tile (F : FTy → Type) [FloatOps F] [Named F] where
  arg6 : Memref sig .tc .vmem S16x640x128 .f32
  arg11 : Memref sig .tc .vmem S8x128x256 .bf16
  arg12 : Memref sig .tc .vmem S8x1024x256 .bf16
  arg13 : Memref sig .tc .vmem S8x160x1024 .bf16
  arg14 : Memref sig .tc .vmem S2x768x256 .f32
  arg15 : Memref sig .tc .vmem S2x768x256 .bf16
  arg16 : Memref sig .tc .vmem S8x128x256 .f32
  f6 : BufTy.Contents (Elt F) arg6.view.ty
  f12 : ℕ → ℕ → BufTy.Contents (Elt F) arg12.view.ty
  f15 : BufTy.Contents (Elt F) arg15.view.ty
  Kb : List (View.Piece (Elt F) S8x1024x256 .bf16)
  Vb : List (View.Piece (Elt F) S8x160x1024 .bf16)
  Pb : List (View.Piece (Elt F) S2x768x256 .bf16)
  xa : Vec F S1x256x1024 .f32
  xb : Vec F S1x256x1024 .f32
  wk : Vec F S1024x1024 .bf16
  wq : Vec F S1024x1024 .bf16
  wv : Vec F S1024x1024 .bf16
  wg : Vec F S1024x1536 .bf16
  wm : Vec F S1024x512 .bf16
  kv : ℕ → Vec F S1x256x128 .bf16
  wo : Vec F S1536x1024 .bf16

namespace Tile
variable (T : Tile F)

/-- Queries, keys and values stored by the first half and by both. -/
def q0 := qPieces T.xa T.wq []
def q1 := qPieces T.xb T.wq T.q0
def k0 := kPieces 512 (by decide) T.xa T.wk T.Kb
def k1 := kPieces 768 (by decide) T.xb T.wk T.k0
def v0 := vPieces 512 (by decide) T.xa T.wv T.Vb
def v1 := vPieces 768 (by decide) T.xb T.wv T.v0
/-- Scores, exponentials and outputs of the heads stored by the first half and by both. -/
def s0 := sList (qRead T.arg11 T.q0) (kRead T.arg12 (T.f12 0) 0 (by decide) T.k0) (bRead T.arg6 T.f6) [] 16
def p0 := pList T.arg14 (qRead T.arg11 T.q0) (kRead T.arg12 (T.f12 0) 0 (by decide) T.k0) (bRead T.arg6 T.f6) [] T.Pb 16
def m0 := mList T.arg14 (qRead T.arg11 T.q0) (kRead T.arg12 (T.f12 0) 0 (by decide) T.k0) (bRead T.arg6 T.f6)
  (vRead T.arg13 T.v0 0 (by decide)) (pRead T.arg15 T.f15) [] T.Pb [] 16
def p1 := pList T.arg14 (qRead T.arg11 T.q1) (kRead T.arg12 (T.f12 1) 256 (by decide) T.k1) (bRead T.arg6 T.f6) T.s0 T.p0 16
def m1 := mList T.arg14 (qRead T.arg11 T.q1) (kRead T.arg12 (T.f12 1) 256 (by decide) T.k1) (bRead T.arg6 T.f6)
  (vRead T.arg13 T.v1 256 (by decide)) (pRead T.arg15 T.f15) T.s0 T.p0 T.m0 16
/-- The output rows of the two halves, over what `L` stored. -/
def rows (L : List (View.Piece (Elt F) S512x1024 .f32)) : List (View.Piece (Elt F) S512x1024 .f32) :=
  ⟨Rect.unit ![256, 0] S256x1024.size inb_S512x1024_S256x1024_256_0, tailRows T.xb (mRead T.arg16 T.m1) T.wg T.wm T.kv T.wo⟩ ::
  ⟨Rect.unit ![0, 0] S256x1024.size inb_S512x1024_S256x1024_0_0, tailRows T.xa (mRead T.arg16 T.m0) T.wg T.wm T.kv T.wo⟩ :: L
end Tile

end Cert.AttnIdeal.Gen
-- ==== Proof.AttnMem.lean ====
module

public import proofs.«01_k».proof.Proof.Layer
public import proofs.«01_k».proof.Proof.Mem

/-! The chunked attention of one query over its window of 640 keys, as the kernel and as the reference computes it. -/

@[expose] public section
noncomputable section
namespace Layer
open Idealize.ShloMosaic

/-- The factor the kernel multiplies the attention's queries with. -/
def aqscale : EReal := (((Real.log 2)⁻¹ * (Real.sqrt 64)⁻¹ : ℝ) : EReal)

/-- What the kernel adds to the score of key `p` in the window that starts at row `o`: nothing, or minus infinity for
a row before the sequence. -/
def flag (o : ℕ) (p : Fin 640) : EReal := if 512 ≤ o + p.val then 0 else ⊥

/-- The kernel's score of one query against key `p` of its window. -/
def ascoreK (o : ℕ) (q : Fin 64 → EReal) (K : Fin 640 → Fin 64 → EReal) (B : Fin 640 → EReal) (p : Fin 640) : EReal :=
  ((∑ j, K p j * (q j * aqscale)) + flag o p) + B p

/-- The reference's score. -/
def ascoreR (o : ℕ) (q : Fin 64 → EReal) (K : Fin 640 → Fin 64 → EReal) (B : Fin 640 → EReal) (p : Fin 640) : EReal :=
  if 512 ≤ o + p.val then
    (∑ j, q j * K p j) * Ideal.ofBits .f32 1040187392#32 + B p * Ideal.log (Ideal.ofBits .f32 1073741824#32)
  else Ideal.ofBits .f32 4286578688#32

/-- The kernel's weight of one score of a window. -/
def aweightK (t : Fin 640 → EReal) (p : Fin 640) : EReal :=
  FloatOps.exp2 (F := Ideal) (φ := .f32) (t p - Finset.univ.fold max (Ideal.ofBits .f32 4286578688#32) t)

/-- The reference's weight of one score of a window. -/
def aweightR (t : Fin 640 → EReal) (p : Fin 640) : EReal :=
  Ideal.exp (t p - max (Ideal.ofBits .f32 4286578688#32) (Finset.univ.fold max (Ideal.ofBits .f32 4286578688#32) t))

/-- One entry of the attention's output as the kernel computes it. -/
def attnK (o : ℕ) (q : Fin 64 → EReal) (K V : Fin 640 → Fin 64 → EReal) (B : Fin 640 → EReal) (j : Fin 64) : EReal :=
  Ideal.div (∑ p, V p j * aweightK (ascoreK o q K B) p) (∑ p, aweightK (ascoreK o q K B) p)

/-- One entry of the attention's output as the reference writes it. -/
def attnR (o : ℕ) (q : Fin 64 → EReal) (K V : Fin 640 → Fin 64 → EReal) (B : Fin 640 → EReal) (j : Fin 64) : EReal :=
  ∑ p, V p j * Ideal.div (aweightR (ascoreR o q K B) p) (∑ p, aweightR (ascoreR o q K B) p)

theorem ofBits_eighth : Ideal.ofBits .f32 1040187392#32 = ((1 / 8 : ℝ) : EReal) := by
  simp [Ideal.ofBits, Ideal.ieee]
  norm_num
  exact (EReal.coe_mul 8388608 (1 / 67108864)).symm.trans (congrArg _ (by norm_num))

theorem ofBits_two : Ideal.ofBits .f32 1073741824#32 = ((2 : ℝ) : EReal) := by
  simp [Ideal.ofBits, Ideal.ieee]
  norm_num
  exact (EReal.coe_mul 8388608 (1 / 4194304)).symm.trans (congrArg _ (by norm_num))

theorem sqrt64 : Real.sqrt 64 = 8 := by
  rw [show (64 : ℝ) = 8 ^ 2 by norm_num]; exact Real.sqrt_sq (by norm_num)

/-- The real score of a key, before the division by log 2. -/
def realScore (q : Fin 64 → ℝ) (K : Fin 640 → Fin 64 → ℝ) (B : Fin 640 → ℝ) (p : Fin 640) : ℝ :=
  (∑ j, q j * K p j) * (1 / 8) + B p * Real.log 2

theorem ascoreK_real (o : ℕ) (q : Fin 64 → ℝ) (K : Fin 640 → Fin 64 → ℝ) (B : Fin 640 → ℝ) (p : Fin 640) :
    ascoreK o (fun i => (q i : EReal)) (fun m i => (K m i : EReal)) (fun m => (B m : EReal)) p
      = if 512 ≤ o + p.val then ((realScore q K B p * (Real.log 2)⁻¹ : ℝ) : EReal) else ⊥ := by
  have hl : Real.log 2 ≠ 0 := (Real.log_pos (by norm_num)).ne'
  have e : (∑ j, (K p j : EReal) * ((q j : EReal) * aqscale)) = (((∑ j, q j * K p j) * ((Real.log 2)⁻¹ * (1 / 8)) : ℝ) : EReal) := by
    rw [Finset.sum_mul, coe_sum_fin]
    refine Finset.sum_congr rfl fun j _ => ?_
    unfold aqscale
    rw [← EReal.coe_mul, ← EReal.coe_mul, sqrt64]
    congr 1
    ring
  unfold ascoreK flag
  rw [e]
  split_ifs with h
  · rw [add_zero, ← EReal.coe_add]
    congr 1
    unfold realScore
    field_simp
  · rw [EReal.add_bot, EReal.bot_add]

theorem ascoreR_real (o : ℕ) (q : Fin 64 → ℝ) (K : Fin 640 → Fin 64 → ℝ) (B : Fin 640 → ℝ) (p : Fin 640) :
    ascoreR o (fun i => (q i : EReal)) (fun m i => (K m i : EReal)) (fun m => (B m : EReal)) p
      = if 512 ≤ o + p.val then ((realScore q K B p : ℝ) : EReal) else ⊥ := by
  unfold ascoreR
  have e : (∑ j, (q j : EReal) * (K p j : EReal)) = ((∑ j, q j * K p j : ℝ) : EReal) := by
    rw [coe_sum_fin]; exact Finset.sum_congr rfl fun j _ => (EReal.coe_mul _ _).symm
  have hl : Ideal.log ((2 : ℝ) : EReal) = ((Real.log 2 : ℝ) : EReal) := by rw [Ideal.log_coe, if_neg (by norm_num)]
  simp only [e, ofBits_eighth, ofBits_two, ofBits_neg_inf, hl, ← EReal.coe_mul]
  rfl

/-- Both weights of one score are the same exponential, zero for a key that is left out. -/
theorem aweights_real (v : Fin 640 → Prop) [DecidablePred v] (p1 : Fin 640) (h1 : v p1) (S : Fin 640 → ℝ) :
    ∃ e : Fin 640 → ℝ, 0 < ∑ m, e m ∧
    (∀ m, aweightK (fun m => if v m then ((S m * (Real.log 2)⁻¹ : ℝ) : EReal) else ⊥) m = (e m : EReal)) ∧
    (∀ m, aweightR (fun m => if v m then ((S m : ℝ) : EReal) else ⊥) m = (e m : EReal)) := by
  obtain ⟨m0, hm0, h0⟩ := Finset.exists_max_image (Finset.univ.filter v) S ⟨p1, by simp [h1]⟩
  have hv0 : v m0 := by simpa using hm0
  have hl : 0 < Real.log 2 := Real.log_pos (by norm_num)
  have hK : ∀ m, (fun m => if v m then ((S m * (Real.log 2)⁻¹ : ℝ) : EReal) else ⊥) m
      ≤ (fun m => if v m then ((S m * (Real.log 2)⁻¹ : ℝ) : EReal) else ⊥) m0 := by
    intro m
    simp only [if_pos hv0]
    split_ifs with h
    · exact EReal.coe_le_coe_iff.2 (mul_le_mul_of_nonneg_right (h0 m (by simp [h])) (by positivity))
    · exact bot_le
  have hR : ∀ m, (fun m => if v m then ((S m : ℝ) : EReal) else ⊥) m ≤ (fun m => if v m then ((S m : ℝ) : EReal) else ⊥) m0 := by
    intro m
    simp only [if_pos hv0]
    split_ifs with h
    · exact EReal.coe_le_coe_iff.2 (h0 m (by simp [h]))
    · exact bot_le
  refine ⟨fun m => if v m then Real.exp (S m - S m0) else 0, ?_, fun m => ?_, fun m => ?_⟩
  · refine Finset.sum_pos' (fun m _ => ?_) ⟨p1, Finset.mem_univ _, ?_⟩
    · split_ifs
      · exact (Real.exp_pos _).le
      · exact le_rfl
    · rw [if_pos h1]; exact Real.exp_pos _
  · unfold aweightK
    rw [fold_max_eq _ m0 hK]
    simp only [if_pos hv0]
    split_ifs with h
    · rw [← EReal.coe_sub, exp2_real]
      congr 1
      refine (Real.rpow_def_of_pos (by norm_num : (0 : ℝ) < 2) _).trans ?_
      congr 1
      field_simp
    · rw [sub_eq_add_neg, EReal.bot_add]
      rfl
  · unfold aweightR
    rw [fold_max_eq _ m0 hR, ofBits_neg_inf, max_eq_right bot_le]
    simp only [if_pos hv0]
    split_ifs with h
    · rw [← EReal.coe_sub, Ideal.exp_coe]
    · rw [sub_eq_add_neg, EReal.bot_add]
      rfl

/-- On real queries, keys, values and biases the two attentions are equal. -/
theorem attn_eq (o : ℕ) (q : Fin 64 → ℝ) (K V : Fin 640 → Fin 64 → ℝ) (B : Fin 640 → ℝ) :
    attnK o (fun i => (q i : EReal)) (fun m i => (K m i : EReal)) (fun m i => (V m i : EReal)) (fun m => (B m : EReal))
      = attnR o (fun i => (q i : EReal)) (fun m i => (K m i : EReal)) (fun m i => (V m i : EReal)) (fun m => (B m : EReal)) := by
  funext j
  unfold attnK attnR
  obtain ⟨e, he, hK, hR⟩ := aweights_real (fun p => 512 ≤ o + p.val) ⟨512, by norm_num⟩ (by simp) (realScore q K B)
  rw [funext (ascoreK_real o q K B), funext (ascoreR_real o q K B)]
  simp only [hK, hR]
  have hL : (∑ m, e m) ≠ 0 := he.ne'
  rw [← coe_sum_fin e]
  simp only [Ideal.div_coe hL, ← EReal.coe_mul, ← coe_sum_fin]
  congr 1
  rw [Finset.sum_mul]
  exact Finset.sum_congr rfl fun m _ => by ring

/-- Where queries, keys, values and biases have no infinite entries the two attentions are equal. -/
theorem attn_eq' (o : ℕ) (q : Fin 64 → EReal) (K V : Fin 640 → Fin 64 → EReal) (B : Fin 640 → EReal) (hq : ∀ i, IsReal (q i))
    (hK : ∀ m i, IsReal (K m i)) (hV : ∀ m i, IsReal (V m i)) (hB : ∀ m, IsReal (B m)) : attnK o q K V B = attnR o q K V B := by
  have h := attn_eq o (fun i => (q i).toReal) (fun m i => (K m i).toReal) (fun m i => (V m i).toReal) (fun m => (B m).toReal)
  simpa only [(hq _).coe, (hK _ _).coe, (hV _ _).coe, (hB _).coe] using h

end Layer
-- ==== Proof.AttnSem.lean ====
module

public import proofs.«01_k».proof.Proof.AttnCore
public import proofs.«01_k».proof.Proof.AttnMem
public import Idealize.ShloMosaic.PureOps.IdealRules
public import Idealize.ShloMosaic.Lib.WritesUnit
public import Idealize.ShloMosaic.Lib.KernelVsHost
public import Idealize.ShloMosaic.Lib.Pipeline.CanonAppend

/-! The attention of one tile of 256 queries, entry by entry: scores, weights and outputs of every head. -/

@[expose] public section
noncomputable section
namespace Cert.AttnIdeal.Gen
open Idealize.ShloMosaic Layer Cert.AttnIdeal

theorem named_mask : (Named.named κ "mask" 4048155338#32 : Ideal .f32) = ⊥ :=
  IdealRules.named_const.ideal_named_scalar κ _ _ _ (by rfl)

theorem flagRows_at (l : Fin 128) (c : Fin 256) : flagRows (F := Ideal) (ix2 l c) = if l.val = 0 then ⊥ else 0 := by
  unfold flagRows
  pointwise [k0_pay84, k0_pay85, k0_pay86]
  rw [named_mask]
  have : ∀ l : Fin 128, IntOp.cmpi CmpIPredicate.eq (BitVec.ofNat 32 ↑l) 0#32 = if l.val = 0 then 1#1 else 0#1 := by decide +kernel
  rw [this]
  by_cases h : l.val = 0
  · rw [if_pos h, if_pos h]
    rfl
  · rw [if_neg h, if_neg h]
    rfl

/-- A query of one head against a key row of its pair: the other head's lanes are multiplied by zero, and the flag lane
adds minus infinity when it is set. -/
theorem padQ_sum (e : ℕ) (he : e < 2) (q : Vec Ideal S1x64x256 .bf16) (K : Fin 256 → EReal) (c : Fin 256) :
    ∑ l, K l * padQ (F := Ideal) e q (ix2 l c)
      = (∑ j : Fin 64, K ⟨64 * e + j.val, by omega⟩ * q (ix3 0 j c)) + K 128 * ⊥ := by
  have split : ∀ f : Fin 256 → EReal, ∑ l, f l = (∑ j : Fin 64, f ⟨j.val, by omega⟩)
      + ((∑ j : Fin 64, f ⟨64 + j.val, by omega⟩) + (f 128 + ∑ j : Fin 127, f ⟨128 + (j.val + 1), by omega⟩)) := by
    intro f
    refine (Fin.sum_univ_add (a := 64) (b := 192) f).trans (congrArg₂ (· + ·) rfl ?_)
    refine (Fin.sum_univ_add (a := 64) (b := 128) _).trans (congrArg₂ (· + ·) ?_ ?_)
    · exact Finset.sum_congr rfl fun j _ => congrArg f (Fin.ext rfl)
    · refine (Fin.sum_univ_succ (n := 127) _).trans (congrArg₂ (· + ·) (congrArg f (Fin.ext rfl)) ?_)
      exact Finset.sum_congr rfl fun j _ => congrArg f (Fin.ext (by show 64 + (64 + (j.val + 1)) = 128 + (j.val + 1); omega))
  have tail : ∀ (g : Fin 256 → EReal), (∀ l : Fin 128, g ⟨128 + l.val, by omega⟩ = if l.val = 0 then ⊥ else 0) →
      K 128 * g 128 + ∑ j : Fin 127, K ⟨128 + (j.val + 1), by omega⟩ * g ⟨128 + (j.val + 1), by omega⟩ = K 128 * ⊥ := by
    intro g hg
    rw [Finset.sum_eq_zero, add_zero]
    · exact congrArg (K 128 * ·) ((hg 0).trans (if_pos rfl))
    · intro j _
      rw [hg ⟨j.val + 1, by omega⟩, if_neg (by show ¬(j.val + 1 = 0); omega), mul_zero]
  rw [split]
  have h128 : ∀ l : Fin 128, padQ (F := Ideal) e q (ix2 (⟨128 + l.val, by omega⟩ : Fin 256) c) = if l.val = 0 then ⊥ else 0 := by
    intro l
    rw [← flagRows_at l c]
    unfold padQ
    split_ifs
    · pointwise [k0_pay83]
      rw [dif_neg (by omega), dif_neg (by omega)]
      exact congrArg (fun z => flagRows (F := Ideal) (ix2 z c)) (Fin.ext (by show 128 + l.val - 64 - 64 = l.val; omega))
    · pointwise [k0_pay83]
      rw [dif_neg (by omega), dif_neg (by omega)]
      exact congrArg (fun z => flagRows (F := Ideal) (ix2 z c)) (Fin.ext (by show 128 + l.val - 64 - 64 = l.val; omega))
  rw [tail (fun l => padQ (F := Ideal) e q (ix2 l c)) h128]
  obtain rfl | rfl : e = 0 ∨ e = 1 := by omega
  · have a : ∀ j : Fin 64, padQ (F := Ideal) 0 q (ix2 (⟨j.val, by omega⟩ : Fin 256) c) = q (ix3 0 j c) := by
      intro j
      unfold padQ; rw [if_pos rfl]
      pointwise [k0_pay83]
    have b : ∀ j : Fin 64, padQ (F := Ideal) 0 q (ix2 (⟨64 + j.val, by omega⟩ : Fin 256) c) = 0 := by
      intro j
      unfold padQ; rw [if_pos rfl]
      pointwise [k0_pay83]
    simp only [a, b, mul_zero, Finset.sum_const_zero, zero_add]
  · have a : ∀ j : Fin 64, padQ (F := Ideal) 1 q (ix2 (⟨64 + j.val, by omega⟩ : Fin 256) c) = q (ix3 0 j c) := by
      intro j
      unfold padQ; rw [if_neg (by decide)]
      pointwise [k0_pay83]
    have b : ∀ j : Fin 64, padQ (F := Ideal) 1 q (ix2 (⟨j.val, by omega⟩ : Fin 256) c) = 0 := by
      intro j
      unfold padQ; rw [if_neg (by decide)]
      pointwise [k0_pay83]
    simp only [a, b, mul_zero, Finset.sum_const_zero, zero_add]

/-- The score of key row `w` of the window under query column `c`, before the bias. -/
def rawScore (Q : FVec Ideal S256x256 .bf16) (k : ℕ → Vec Ideal S1x128x256 .bf16) (w : ℕ) (c : Fin 256) : EReal :=
  ∑ l, k (w / 128) (ix3 0 ⟨w % 128, Nat.mod_lt _ (by decide)⟩ l) * Q (ix2 l c)

/-- The bias of key `p` of a query's window. -/
def biasOf (b : ℕ → Vec Ideal S1x128x128 .f32) (p : ℕ) (c : Fin 128) : EReal :=
  b (p / 128) (ix3 0 ⟨p % 128, Nat.mod_lt _ (by decide)⟩ c)

theorem leftScore_at (Q : FVec Ideal S256x256 .bf16) (k : ℕ → Vec Ideal S1x128x256 .bf16) (b : ℕ → Vec Ideal S1x128x128 .f32)
    (i : ℕ) (r c : Fin 128) :
    leftScore Q k b i (ix2 r c) = rawScore Q k (128 * i + r.val) ⟨c.val, by omega⟩ + biasOf b (128 * i + r.val) c := by
  have h1 : (128 * i + r.val) / 128 = i := by omega
  have h2 : (128 * i + r.val) % 128 = r.val := by omega
  unfold rawScore biasOf
  simp only [h1, h2]
  unfold leftScore
  split_ifs with h
  · subst h
    unfold scoreFirst
    pointwise
  · unfold scoreLeft
    pointwise

theorem rightScore_at (Q : FVec Ideal S256x256 .bf16) (k : ℕ → Vec Ideal S1x128x256 .bf16) (b : ℕ → Vec Ideal S1x128x128 .f32)
    (i : ℕ) (r c : Fin 128) :
    rightScore Q k b i (ix2 r c) = rawScore Q k (128 + (128 * i + r.val)) ⟨128 + c.val, by omega⟩ + biasOf b (128 * i + r.val) c := by
  have h1 : (128 * i + r.val) / 128 = i := by omega
  have h2 : (128 * i + r.val) % 128 = r.val := by omega
  have h3 : (128 + (128 * i + r.val)) / 128 = i + 1 := by omega
  have h4 : (128 + (128 * i + r.val)) % 128 = r.val := by omega
  unfold rawScore biasOf
  simp only [h1, h2, h3, h4]
  unfold rightScore
  split_ifs with h
  · subst h
    unfold scoreLast
    pointwise
  · unfold scoreRight
    pointwise

theorem colMax_at (t : FVec Ideal S128x128 .f32) (c : Fin 128) :
    colMax t (ix2 0 c) = Finset.fold max (Ideal.ofBits FTy.f32 4286578688#32) (fun x => t (ix2 x c)) Finset.univ := by
  unfold colMax
  pointwise

/-- The largest of 640 scores, taken block by block. -/
theorem allMax_at (t : ℕ → FVec Ideal S128x128 .f32) (s : Fin 640 → EReal) (c : Fin 128)
    (h : ∀ (i : Fin 5) (r : Fin 128), t i.val (ix2 r c) = s ⟨128 * i.val + r.val, by omega⟩) :
    allMax t (ix2 0 c) = Finset.univ.fold max (Ideal.ofBits .f32 4286578688#32) s := by
  have e : allMax t (ix2 0 c) = max (max (max (max (colMax (t 0) (ix2 0 c)) (colMax (t 1) (ix2 0 c))) (colMax (t 2) (ix2 0 c))) (colMax (t 3) (ix2 0 c))) (colMax (t 4) (ix2 0 c)) := by
    unfold allMax
    pointwise
  rw [e]
  simp only [colMax_at]
  refine eq_of_forall_ge_iff fun z => ?_
  simp only [max_le_iff, Finset.fold_max_le, Finset.mem_univ, true_implies]
  constructor
  · rintro ⟨⟨⟨⟨h0, h1⟩, h2⟩, h3⟩, h4⟩
    refine ⟨h0.1, fun p => ?_⟩
    have key : ∀ i : Fin 5, p.val / 128 = i.val → t i.val (ix2 ⟨p.val % 128, Nat.mod_lt _ (by decide)⟩ c) = s p := by
      intro i hi
      rw [h]
      exact congrArg s (Fin.ext (by show 128 * i.val + p.val % 128 = p.val; omega))
    obtain hp | hp | hp | hp | hp : p.val / 128 = 0 ∨ p.val / 128 = 1 ∨ p.val / 128 = 2 ∨ p.val / 128 = 3 ∨ p.val / 128 = 4 := by omega
    · rw [← key 0 hp]; exact h0.2 _
    · rw [← key 1 hp]; exact h1.2 _
    · rw [← key 2 hp]; exact h2.2 _
    · rw [← key 3 hp]; exact h3.2 _
    · rw [← key 4 hp]; exact h4.2 _
  · rintro ⟨h0, hs⟩
    exact ⟨⟨⟨⟨⟨h0, fun r => (h 0 r).trans_le (hs _)⟩, h0, fun r => (h 1 r).trans_le (hs _)⟩, h0, fun r => (h 2 r).trans_le (hs _)⟩,
      h0, fun r => (h 3 r).trans_le (hs _)⟩, h0, fun r => (h 4 r).trans_le (hs _)⟩

section Lists
variable {sp : Space} (v14 : View sig .tc sp S2x768x256 .f32) (f14 : BufTy.Contents (Elt Ideal) v14.ty)

theorem sPiece_at {e : ℕ} (he : e < 2) (a o : ℕ) (ha : a + 128 ≤ 768) (ho : o + 128 ≤ 256) (t : FVec Ideal S128x128 .f32)
    (L : List (View.Piece (Elt Ideal) S2x768x256 .f32)) (e' : Fin 2) (w : Fin 768) (c : Fin 256) :
    v14.read (Elt Ideal) (v14.writes (Elt Ideal) f14 (sPiece he a o ha ho t :: L)) (ix3 e' w c)
      = if e'.val = e ∧ a ≤ w.val ∧ w.val < a + 128 ∧ o ≤ c.val ∧ c.val < o + 128 then
          t (ix2 ⟨(w.val - a) % 128, Nat.mod_lt _ (by decide)⟩ ⟨(c.val - o) % 128, Nat.mod_lt _ (by decide)⟩)
        else v14.read (Elt Ideal) (v14.writes (Elt Ideal) f14 L) (ix3 e' w c) := by
  split_ifs with h
  · unfold sPiece
    refine (View.read_writes_cons_unit_of_mem v14 f14 _ _ L (ix3 e' w c)
      (ix3 0 ⟨(w.val - a) % 128, Nat.mod_lt _ (by decide)⟩ ⟨(c.val - o) % 128, Nat.mod_lt _ (by decide)⟩) rfl ?_).trans ?_
    · intro x; fin_cases x
      · exact h.1
      · show w.val = a + (w.val - a) % 128; omega
      · show c.val = o + (c.val - o) % 128; omega
    · pointwise
  · unfold sPiece
    by_cases h1 : e'.val = e
    · by_cases h2 : a ≤ w.val ∧ w.val < a + 128
      · refine View.read_writes_cons_unit_of_not_mem v14 f14 _ _ L (ix3 e' w c) rfl 2 ?_
        show c.val < o ∨ o + 128 ≤ c.val; omega
      · refine View.read_writes_cons_unit_of_not_mem v14 f14 _ _ L (ix3 e' w c) rfl 1 ?_
        show w.val < a ∨ a + 128 ≤ w.val; omega
    · refine View.read_writes_cons_unit_of_not_mem v14 f14 _ _ L (ix3 e' w c) rfl 0 ?_
      show e'.val < e ∨ e + 1 ≤ e'.val; omega

theorem sPieces_other {e : ℕ} (he : e < 2) (l r : ℕ → FVec Ideal S128x128 .f32) (L : List (View.Piece (Elt Ideal) S2x768x256 .f32))
    (e' : Fin 2) (h : e'.val ≠ e) (w : Fin 768) (c : Fin 256) :
    v14.read (Elt Ideal) (v14.writes (Elt Ideal) f14 (sPieces he l r L)) (ix3 e' w c)
      = v14.read (Elt Ideal) (v14.writes (Elt Ideal) f14 L) (ix3 e' w c) := by
  unfold sPieces
  simp only [sPiece_at, h, false_and, if_false]

theorem sPieces_left {e : ℕ} (he : e < 2) (l r : ℕ → FVec Ideal S128x128 .f32) (L : List (View.Piece (Elt Ideal) S2x768x256 .f32))
    (p : Fin 640) (c : Fin 128) :
    v14.read (Elt Ideal) (v14.writes (Elt Ideal) f14 (sPieces he l r L)) (ix3 ⟨e, he⟩ ⟨p.val, by omega⟩ ⟨c.val, by omega⟩)
      = l (p.val / 128) (ix2 ⟨p.val % 128, Nat.mod_lt _ (by decide)⟩ c) := by
  unfold sPieces
  simp only [sPiece_at, true_and]
  have hc : ∀ q (hq : q < 128), q = c.val → (⟨q, hq⟩ : Fin 128) = c := fun q hq h => Fin.ext h
  have key : ∀ i a : ℕ, a = 128 * i → a ≤ p.val → p.val < a + 128 →
      l i (ix2 ⟨(p.val - a) % 128, Nat.mod_lt _ (by decide)⟩ ⟨(c.val - 0) % 128, Nat.mod_lt _ (by decide)⟩)
        = l (p.val / 128) (ix2 ⟨p.val % 128, Nat.mod_lt _ (by decide)⟩ c) := by
    intro i a ha h1 h2
    obtain rfl : p.val / 128 = i := by omega
    refine congrArg (l _) (congrArg₂ ix2 (Fin.ext ?_) (Fin.ext ?_))
    · show (p.val - a) % 128 = p.val % 128; omega
    · show (c.val - 0) % 128 = c.val; omega
  obtain hp | hp | hp | hp | hp : p.val / 128 = 0 ∨ p.val / 128 = 1 ∨ p.val / 128 = 2 ∨ p.val / 128 = 3 ∨ p.val / 128 = 4 := by omega
  · rw [if_neg (by omega), if_neg (by omega), if_neg (by omega), if_neg (by omega), if_neg (by omega), if_neg (by omega), if_neg (by omega), if_neg (by omega), if_neg (by omega), if_pos (by omega)]
    exact key 0 0 rfl (by omega) (by omega)
  · rw [if_neg (by omega), if_neg (by omega), if_neg (by omega), if_neg (by omega), if_neg (by omega), if_neg (by omega), if_neg (by omega), if_neg (by omega), if_pos (by omega)]
    exact key 1 128 rfl (by omega) (by omega)
  · rw [if_neg (by omega), if_neg (by omega), if_neg (by omega), if_neg (by omega), if_neg (by omega), if_neg (by omega), if_pos (by omega)]
    exact key 2 256 rfl (by omega) (by omega)
  · rw [if_neg (by omega), if_neg (by omega), if_neg (by omega), if_neg (by omega), if_pos (by omega)]
    exact key 3 384 rfl (by omega) (by omega)
  · rw [if_neg (by omega), if_neg (by omega), if_pos (by omega)]
    exact key 4 512 rfl (by omega) (by omega)

theorem sPieces_right {e : ℕ} (he : e < 2) (l r : ℕ → FVec Ideal S128x128 .f32) (L : List (View.Piece (Elt Ideal) S2x768x256 .f32))
    (p : Fin 640) (c : Fin 128) :
    v14.read (Elt Ideal) (v14.writes (Elt Ideal) f14 (sPieces he l r L)) (ix3 ⟨e, he⟩ ⟨128 + p.val, by omega⟩ ⟨128 + c.val, by omega⟩)
      = r (p.val / 128) (ix2 ⟨p.val % 128, Nat.mod_lt _ (by decide)⟩ c) := by
  unfold sPieces
  simp only [sPiece_at, true_and]
  have key : ∀ i a : ℕ, a = 128 + 128 * i → a ≤ 128 + p.val → 128 + p.val < a + 128 →
      r i (ix2 ⟨(128 + p.val - a) % 128, Nat.mod_lt _ (by decide)⟩ ⟨(128 + c.val - 128) % 128, Nat.mod_lt _ (by decide)⟩)
        = r (p.val / 128) (ix2 ⟨p.val % 128, Nat.mod_lt _ (by decide)⟩ c) := by
    intro i a ha h1 h2
    obtain rfl : p.val / 128 = i := by omega
    refine congrArg (r _) (congrArg₂ ix2 (Fin.ext ?_) (Fin.ext ?_))
    · show (128 + p.val - a) % 128 = p.val % 128; omega
    · show (128 + c.val - 128) % 128 = c.val; omega
  obtain hp | hp | hp | hp | hp : p.val / 128 = 0 ∨ p.val / 128 = 1 ∨ p.val / 128 = 2 ∨ p.val / 128 = 3 ∨ p.val / 128 = 4 := by omega
  · rw [if_neg (by omega), if_neg (by omega), if_neg (by omega), if_neg (by omega), if_neg (by omega), if_neg (by omega), if_neg (by omega), if_pos (by omega)]
    exact key 0 128 rfl (by omega) (by omega)
  · rw [if_neg (by omega), if_neg (by omega), if_neg (by omega), if_neg (by omega), if_neg (by omega), if_pos (by omega)]
    exact key 1 256 rfl (by omega) (by omega)
  · rw [if_neg (by omega), if_neg (by omega), if_neg (by omega), if_pos (by omega)]
    exact key 2 384 rfl (by omega) (by omega)
  · rw [if_neg (by omega), if_pos (by omega)]
    exact key 3 512 rfl (by omega) (by omega)
  · rw [if_pos (by omega)]
    exact key 4 640 rfl (by omega) (by omega)

theorem expBlock_at (t : Vec Ideal S1x640x128 .f32) (m : FVec Ideal S1x128 .f32) (w : Fin 640) (c : Fin 128) :
    expBlock t m (ix3 0 w c) = FloatOps.exp2 (F := Ideal) (φ := .f32) (t (ix3 0 w c) - m (ix2 0 c)) := by
  unfold expBlock
  pointwise

end Lists

section Heads
variable (arg14 : Memref sig .tc .vmem S2x768x256 .f32) (q : ℕ → Vec Ideal S1x64x256 .bf16)
  (k : ℕ → ℕ → Vec Ideal S1x128x256 .bf16) (b : ℕ → ℕ → Vec Ideal S1x128x128 .f32) (v : ℕ → Vec Ideal S1x80x768 .bf16)
  (S0 : List (View.Piece (Elt Ideal) S2x768x256 .f32)) (P0 : List (View.Piece (Elt Ideal) S2x768x256 .bf16))
  (M0 : List (View.Piece (Elt Ideal) S8x128x256 .f32))

/-- The score of key `p` of the window of query `c` of half `half`, for head `n`. -/
def winScore (n half : ℕ) (hh : half < 2) (c : Fin 128) (p : Fin 640) : EReal :=
  rawScore (padQ (n % 2) (q n)) (k (n / 2 % 8)) (128 * half + p.val) ⟨128 * half + c.val, by omega⟩ + biasOf (b n) p.val c

theorem headL_at (n : ℕ) (p : Fin 640) (c : Fin 128) :
    headL q k b n (p.val / 128) (ix2 ⟨p.val % 128, Nat.mod_lt _ (by decide)⟩ c) = winScore q k b n 0 (by decide) c p := by
  have h : 128 * (p.val / 128) + p.val % 128 = p.val := by omega
  unfold headL
  rw [leftScore_at]
  unfold winScore
  simp only [h, Nat.mul_zero, Nat.zero_add]

theorem headR_at (n : ℕ) (p : Fin 640) (c : Fin 128) :
    headR q k b n (p.val / 128) (ix2 ⟨p.val % 128, Nat.mod_lt _ (by decide)⟩ c) = winScore q k b n 1 (by decide) c p := by
  have h : 128 * (p.val / 128) + p.val % 128 = p.val := by omega
  unfold headR
  rw [rightScore_at]
  unfold winScore
  simp only [h, Nat.mul_one]

theorem maxL_at (n : ℕ) (c : Fin 128) :
    allMax (headL q k b n) (ix2 0 c) = Finset.univ.fold max (Ideal.ofBits .f32 4286578688#32) (winScore q k b n 0 (by decide) c) := by
  refine allMax_at _ _ c fun i r => ?_
  refine Eq.trans ?_ (headL_at q k b n ⟨128 * i.val + r.val, by omega⟩ c)
  have h1 : (128 * i.val + r.val) / 128 = i.val := by omega
  have h2 : (128 * i.val + r.val) % 128 = r.val := by omega
  simp only [h1, h2]

theorem maxR_at (n : ℕ) (c : Fin 128) :
    allMax (headR q k b n) (ix2 0 c) = Finset.univ.fold max (Ideal.ofBits .f32 4286578688#32) (winScore q k b n 1 (by decide) c) := by
  refine allMax_at _ _ c fun i r => ?_
  refine Eq.trans ?_ (headR_at q k b n ⟨128 * i.val + r.val, by omega⟩ c)
  have h1 : (128 * i.val + r.val) / 128 = i.val := by omega
  have h2 : (128 * i.val + r.val) % 128 = r.val := by omega
  simp only [h1, h2]

/-- The scores that head `n`'s exponentials read are head `n`'s. -/
theorem sList_skip {sp : Space} (v14 : View sig .tc sp S2x768x256 .f32) (f14 : BufTy.Contents (Elt Ideal) v14.ty) (n : ℕ) (hn : n < 16)
    (w : Fin 768) (c : Fin 256) :
    v14.read (Elt Ideal) (v14.writes (Elt Ideal) f14 (sList q k b S0 (min (n + 2) 16))) (ix3 ⟨n % 2, sub_lt n⟩ w c)
      = v14.read (Elt Ideal) (v14.writes (Elt Ideal) f14 (sList q k b S0 (n + 1))) (ix3 ⟨n % 2, sub_lt n⟩ w c) := by
  by_cases h : n = 15
  · subst h; rfl
  · rw [show min (n + 2) 16 = n + 1 + 1 by omega]
    exact sPieces_other v14 f14 (sub_lt (n + 1)) _ _ (sList q k b S0 (n + 1)) _ (by show n % 2 ≠ (n + 1) % 2; omega) w c

theorem pieceL_at (n : ℕ) (hn : n < 16) (p : Fin 640) (c : Fin 128) :
    expBlock (arg14.view.readCov (sList q k b S0 (min (n + 2) 16)) (Rect.unit (s := S2x768x256) ![n % 2, 0, 0] S1x640x128.size (in_p (sub_lt n) 0 0 (by decide) (by decide))).toLoadRect)
      (allMax (headL q k b n)) (ix3 0 p c) = aweightK (winScore q k b n 0 (by decide) c) p := by
  rw [expBlock_at, maxL_at]
  unfold aweightK
  congr 2
  rw [← headL_at]
  refine Eq.trans ?_ (sPieces_left arg14.view arg14.view.junk (sub_lt n) (headL q k b n) (headR q k b n) (sList q k b S0 n) p c)
  refine Eq.trans ?_ (sList_skip q k b S0 arg14.view arg14.view.junk n hn _ _)
  rw [View.readCov, View.readAt_eq_ld]
  refine congrArg (arg14.view.read (Elt Ideal) _) ?_
  refine funext fun a => Fin.ext ?_
  fin_cases a
  · show n % 2 + 1 * 0 = n % 2; omega
  · show 0 + 1 * p.val = p.val; omega
  · show 0 + 1 * c.val = c.val; omega

theorem pieceR_at (n : ℕ) (hn : n < 16) (p : Fin 640) (c : Fin 128) :
    expBlock (arg14.view.readCov (sList q k b S0 (min (n + 2) 16)) (Rect.unit (s := S2x768x256) ![n % 2, 128, 128] S1x640x128.size (in_p (sub_lt n) 128 128 (by decide) (by decide))).toLoadRect)
      (allMax (headR q k b n)) (ix3 0 p c) = aweightK (winScore q k b n 1 (by decide) c) p := by
  rw [expBlock_at, maxR_at]
  unfold aweightK
  congr 2
  rw [← headR_at]
  refine Eq.trans ?_ (sPieces_right arg14.view arg14.view.junk (sub_lt n) (headL q k b n) (headR q k b n) (sList q k b S0 n) p c)
  refine Eq.trans ?_ (sList_skip q k b S0 arg14.view arg14.view.junk n hn _ _)
  rw [View.readCov, View.readAt_eq_ld]
  refine congrArg (arg14.view.read (Elt Ideal) _) ?_
  refine funext fun a => Fin.ext ?_
  fin_cases a
  · show n % 2 + 1 * 0 = n % 2; omega
  · show 128 + 1 * p.val = 128 + p.val; omega
  · show 128 + 1 * c.val = 128 + c.val; omega

variable {sp : Space} (v15 : View sig .tc sp S2x768x256 .bf16) (f15 : BufTy.Contents (Elt Ideal) v15.ty)

theorem pCorner (m : ℕ) (e : Fin 2) (w : Fin 768) (c : Fin 256) (h : (640 ≤ w.val ∧ c.val < 128) ∨ (w.val < 128 ∧ 128 ≤ c.val)) :
    v15.read (Elt Ideal) (v15.writes (Elt Ideal) f15 (pList arg14 q k b S0 P0 m)) (ix3 e w c)
      = v15.read (Elt Ideal) (v15.writes (Elt Ideal) f15 P0) (ix3 e w c) := by
  induction m with
  | zero => rfl
  | succ m ih =>
    refine Eq.trans ?_ ih
    refine (View.read_writes_cons_unit v15 f15 _ _ _ (ix3 e w c) rfl).trans ?_
    rw [dif_neg (fun hh => by
      have h1 : 128 ≤ w.val ∧ w.val < 128 + 640 := hh 1
      have h2 : 128 ≤ c.val ∧ c.val < 128 + 128 := hh 2
      omega)]
    refine (View.read_writes_cons_unit v15 f15 _ _ _ (ix3 e w c) rfl).trans ?_
    rw [dif_neg (fun hh => by
      have h1 : 0 ≤ w.val ∧ w.val < 0 + 640 := hh 1
      have h2 : 0 ≤ c.val ∧ c.val < 0 + 128 := hh 2
      omega)]
    rfl

theorem pLeft (n : ℕ) (hn : n < 16) (p : Fin 640) (c : Fin 128) :
    v15.read (Elt Ideal) (v15.writes (Elt Ideal) f15 (pList arg14 q k b S0 P0 (n + 1))) (ix3 ⟨n % 2, sub_lt n⟩ ⟨p.val, by omega⟩ ⟨c.val, by omega⟩)
      = aweightK (winScore q k b n 0 (by decide) c) p := by
  refine (View.read_writes_cons_unit_of_not_mem v15 f15 _ _ _ _ rfl 2 ?_).trans ?_
  · left; exact c.isLt
  refine (View.read_writes_cons_unit_of_mem v15 f15 _ _ _ _ (ix3 0 p c) rfl ?_).trans (pieceL_at arg14 q k b S0 n hn p c)
  intro a; fin_cases a
  · rfl
  · show p.val = 0 + p.val; omega
  · show c.val = 0 + c.val; omega

theorem pRight (n : ℕ) (hn : n < 16) (p : Fin 640) (c : Fin 128) :
    v15.read (Elt Ideal) (v15.writes (Elt Ideal) f15 (pList arg14 q k b S0 P0 (n + 1))) (ix3 ⟨n % 2, sub_lt n⟩ ⟨128 + p.val, by omega⟩ ⟨128 + c.val, by omega⟩)
      = aweightK (winScore q k b n 1 (by decide) c) p := by
  refine (View.read_writes_cons_unit_of_mem v15 f15 _ _ _ _ (ix3 0 p c) rfl ?_).trans (pieceR_at arg14 q k b S0 n hn p c)
  intro a; fin_cases a <;> rfl

/-- The row of the values that holds channel `j` of head `e` of a pair. -/
def chanRow (e : ℕ) (j : Fin 64) : Fin 80 := if e = 0 then ⟨16 + j.val, by omega⟩ else ⟨j.val, by omega⟩

/-- The row of the values that holds the ones of head `e` of a pair. -/
def onesRow (e : ℕ) : Fin 80 := if e = 0 then 0 else 64

theorem weighted_at (e : ℕ) (he : e < 2) (vv : Vec Ideal S1x80x768 .bf16) (pp : Vec Ideal S1x768x256 .bf16) (j : Fin 64) (c : Fin 256) :
    weighted e vv pp (ix3 0 j c) = Ideal.div (∑ x, vv (ix3 0 (chanRow e j) x) * pp (ix3 0 x c)) (∑ x, vv (ix3 0 (onesRow e) x) * pp (ix3 0 x c)) := by
  obtain rfl | rfl : e = 0 ∨ e = 1 := by omega
  · unfold weighted
    rw [if_pos rfl]
    pointwise [k0_pay158]
    rfl
  · unfold weighted
    rw [if_neg (by decide)]
    pointwise [k0_pay195, k0_pay196]
    rfl

theorem mList_at {sp : Space} (v16 : View sig .tc sp S8x128x256 .f32) (f16 : BufTy.Contents (Elt Ideal) v16.ty)
    (rp : ℕ → List (View.Piece (Elt Ideal) S2x768x256 .bf16) → Vec Ideal S1x768x256 .bf16) (m : ℕ) (hm : m ≤ 16) (n : ℕ) (hn : n < m)
    (j : Fin 64) (c : Fin 256) :
    v16.read (Elt Ideal) (v16.writes (Elt Ideal) f16 (mList arg14 q k b v rp S0 P0 M0 m)) (ix3 ⟨n / 2, by omega⟩ ⟨64 * (n % 2) + j.val, by omega⟩ c)
      = weighted (n % 2) (v n) (rp (n % 2) (pList arg14 q k b S0 P0 (n + 1))) (ix3 0 j c) := by
  induction m with
  | zero => omega
  | succ m ih =>
    by_cases h : n = m
    · subst h
      refine (View.read_writes_cons_unit_of_mem v16 f16 _ _ _ _ (ix3 0 j c) rfl ?_).trans rfl
      intro a; fin_cases a
      · show n / 2 = n / 2 % 8 + 0; omega
      · rfl
      · show c.val = 0 + c.val; omega
    · refine Eq.trans ?_ (ih (by omega) (by omega))
      by_cases h2 : n / 2 = m / 2
      · refine View.read_writes_cons_unit_of_not_mem v16 f16 _ _ _ _ rfl 1 ?_
        show 64 * (n % 2) + j.val < 64 * (m % 2) ∨ 64 * (m % 2) + 64 ≤ 64 * (n % 2) + j.val
        omega
      · refine View.read_writes_cons_unit_of_not_mem v16 f16 _ _ _ _ rfl 0 ?_
        show n / 2 < m / 2 % 8 ∨ m / 2 % 8 + 1 ≤ n / 2
        omega

theorem sum_768_left (f : Fin 768 → EReal) (h : ∀ x : Fin 128, f ⟨640 + x.val, by omega⟩ = 0) :
    ∑ x, f x = ∑ p : Fin 640, f ⟨p.val, by omega⟩ := by
  refine (Fin.sum_univ_add (a := 640) (b := 128) f).trans ?_
  refine (congrArg (_ + ·) (Finset.sum_eq_zero fun x _ => h x)).trans (add_zero _)

theorem sum_768_right (f : Fin 768 → EReal) (h : ∀ x : Fin 128, f ⟨x.val, by omega⟩ = 0) :
    ∑ x, f x = ∑ p : Fin 640, f ⟨128 + p.val, by omega⟩ := by
  refine (Fin.sum_univ_add (a := 128) (b := 640) f).trans ?_
  refine (congrArg (· + _) (Finset.sum_eq_zero fun x _ => h x)).trans (zero_add _)

/-- One entry of the mixed values: the weighted values over the sum of the weights, over the window of the query. -/
theorem mix_at {sp' : Space} (v16 : View sig .tc sp' S8x128x256 .f32) (f16 : BufTy.Contents (Elt Ideal) v16.ty)
    (rp : ℕ → List (View.Piece (Elt Ideal) S2x768x256 .bf16) → Vec Ideal S1x768x256 .bf16)
    (hrp : ∀ e (he : e < 2) L w c, rp e L (ix3 0 w c) = v15.read (Elt Ideal) (v15.writes (Elt Ideal) f15 L) (ix3 ⟨e, he⟩ w c))
    (hP : ∀ (e : Fin 2) (w : Fin 768) (c : Fin 256), (640 ≤ w.val ∧ c.val < 128) ∨ (w.val < 128 ∧ 128 ≤ c.val) →
      v15.read (Elt Ideal) (v15.writes (Elt Ideal) f15 P0) (ix3 e w c) = 0)
    (n : ℕ) (hn : n < 16) (j : Fin 64) (half : ℕ) (hh : half < 2) (c : Fin 128)
    (hv : ∀ p : Fin 640, v n (ix3 0 (onesRow (n % 2)) ⟨128 * half + p.val, by omega⟩) = 1 ∨ winScore q k b n half hh c p = ⊥) :
    v16.read (Elt Ideal) (v16.writes (Elt Ideal) f16 (mList arg14 q k b v rp S0 P0 M0 16))
        (ix3 ⟨n / 2, by omega⟩ ⟨64 * (n % 2) + j.val, by omega⟩ ⟨128 * half + c.val, by omega⟩)
      = Ideal.div (∑ p : Fin 640, v n (ix3 0 (chanRow (n % 2) j) ⟨128 * half + p.val, by omega⟩) * aweightK (winScore q k b n half hh c) p)
          (∑ p, aweightK (winScore q k b n half hh c) p) := by
  rw [mList_at arg14 q k b v S0 P0 M0 v16 f16 rp 16 le_rfl n hn, weighted_at _ (sub_lt n)]
  simp only [hrp _ (sub_lt n)]
  have h1 : ∀ p : Fin 640, v n (ix3 0 (onesRow (n % 2)) ⟨128 * half + p.val, by omega⟩) * aweightK (winScore q k b n half hh c) p
      = aweightK (winScore q k b n half hh c) p := by
    intro p
    rcases hv p with h | h
    · rw [h, one_mul]
    · have : aweightK (winScore q k b n half hh c) p = 0 := by
        unfold aweightK
        rw [h, sub_eq_add_neg, EReal.bot_add]
        rfl
      rw [this, mul_zero]
  obtain rfl | rfl : half = 0 ∨ half = 1 := by omega
  · have hs : ∀ r : Fin 80, (∑ x, v n (ix3 0 r x) * v15.read (Elt Ideal) (v15.writes (Elt Ideal) f15 (pList arg14 q k b S0 P0 (n + 1))) (ix3 ⟨n % 2, sub_lt n⟩ x ⟨128 * 0 + c.val, by omega⟩))
        = ∑ p : Fin 640, v n (ix3 0 r ⟨128 * 0 + p.val, by omega⟩) * aweightK (winScore q k b n 0 hh c) p := by
      intro r
      refine (sum_768_left _ fun x => ?_).trans (Finset.sum_congr rfl fun p _ => ?_)
      · rw [pCorner arg14 q k b S0 P0 v15 f15 _ _ _ _ (Or.inl ⟨by show 640 ≤ 640 + x.val; omega, by show 128 * 0 + c.val < 128; omega⟩),
          hP _ _ _ (Or.inl ⟨by show 640 ≤ 640 + x.val; omega, by show 128 * 0 + c.val < 128; omega⟩), mul_zero]
      · rw [← pLeft arg14 q k b S0 P0 v15 f15 n hn p c]
        simp only [Nat.mul_zero, Nat.zero_add]
    rw [hs, hs, Finset.sum_congr rfl fun p _ => h1 p]
  · have hs : ∀ r : Fin 80, (∑ x, v n (ix3 0 r x) * v15.read (Elt Ideal) (v15.writes (Elt Ideal) f15 (pList arg14 q k b S0 P0 (n + 1))) (ix3 ⟨n % 2, sub_lt n⟩ x ⟨128 * 1 + c.val, by omega⟩))
        = ∑ p : Fin 640, v n (ix3 0 r ⟨128 * 1 + p.val, by omega⟩) * aweightK (winScore q k b n 1 hh c) p := by
      intro r
      refine (sum_768_right _ fun x => ?_).trans (Finset.sum_congr rfl fun p _ => ?_)
      · rw [pCorner arg14 q k b S0 P0 v15 f15 _ _ _ _ (Or.inr ⟨x.isLt, by show 128 ≤ 128 * 1 + c.val; omega⟩),
          hP _ _ _ (Or.inr ⟨x.isLt, by show 128 ≤ 128 * 1 + c.val; omega⟩), mul_zero]
      · rw [← pRight arg14 q k b S0 P0 v15 f15 n hn p c]
    rw [hs, hs, Finset.sum_congr rfl fun p _ => h1 p]

end Heads

end Cert.AttnIdeal.Gen
-- ==== Proof.AttnPay.lean ====
module

public import proofs.«01_k».proof.Proof.AttnTile
public import proofs.«01_k».proof.Proof.AttnSem

/-! What the stored values of one grid point are, entry by entry. -/

@[expose] public section
noncomputable section
namespace Cert.AttnIdeal.Gen
open Idealize.ShloMosaic Idealize.ShloMosaic.TcCoe Layer Cert.AttnIdeal

theorem named_aqscale : (Named.named κ "q_scale" 0x3E38AA3B#32 : Ideal .f32) = aqscale :=
  IdealRules.named_const.ideal_named_scalar κ _ _ _ (by rfl)
theorem named_mscale : (Named.named κ "qm_scale" 0x3E0293EE#32 : Ideal .f32) = qscale :=
  IdealRules.named_const.ideal_named_scalar κ _ _ _ (by rfl)

theorem q_at (x : Vec Ideal S1x256x1024 .f32) (w : Vec Ideal S1024x1024 .bf16) (h : Fin 8) (d : Fin 128) (r : Fin 256) :
    k0_pay698 x w (ix3 h d r) = (∑ k, w (ix2 ⟨128 * h.val + d.val, by omega⟩ k) * x (ix3 0 r k)) * aqscale := by
  pointwise [k0_pay698, k0_pay697, k0_pay696]
  rw [named_aqscale]
  simp only [Nat.mul_comm h.val 128]
theorem v_at (x : Vec Ideal S1x256x1024 .f32) (w : Vec Ideal S1024x1024 .bf16) (h : Fin 8) (d : Fin 128) (r : Fin 256) :
    k0_pay699 x w (ix3 h d r) = ∑ k, w (ix2 ⟨128 * h.val + d.val, by omega⟩ k) * x (ix3 0 r k) := by
  pointwise [k0_pay699, k0_pay697, k0_pay696]
  simp only [Nat.mul_comm h.val 128]
theorem one_at (h : Fin 8) (d : Fin 16) (r : Fin 256) : k0_pay701 (F := Ideal) (ix3 h d r) = 1 := by
  pointwise [k0_pay701, k0_pay700]
theorem k_at (x : Vec Ideal S1x256x1024 .f32) (w : Vec Ideal S1024x1024 .bf16) {h : ℕ} (hh : h < 8) (r : Fin 256) (d : Fin 128) :
    shapeCast S1x256x128 (truncf .bf16 (extractStridedSlice S256x128 ![0, 128 * h] (k0_pay703 (k0_pay697 x) w) (slices_k hh)) bitsLt_bf16_f32)
      shapeCasts_S256x128_S1x256x128 (ix3 0 r d) = ∑ k, x (ix3 0 r k) * w (ix2 k ⟨128 * h + d.val, by omega⟩) := by
  pointwise [k0_pay703, k0_pay697, k0_pay696]
theorem zeroK_at (h : Fin 8) (w : Fin 1024) (l : Fin 128) : k0_pay29 (F := Ideal) (ix3 h w l) = 0 := by
  pointwise [k0_pay29]
theorem zeroP_at (h : Fin 2) (w : Fin 128) (l : Fin 128) : k0_pay30 (F := Ideal) (ix3 h w l) = 0 := by
  pointwise [k0_pay30]
theorem zeroP'_at (h : Fin 2) (w : Fin 128) (l : Fin 128) : k0_pay31 (F := Ideal) (ix3 h w l) = 0 := by
  pointwise [k0_pay31]
theorem histK_at (h : Fin 8) (w : Fin 512) (l : Fin 256) : k0_pay32 (F := Ideal) (ix3 h w l) = if l.val = 128 then 1 else 0 := by
  pointwise [k0_pay32]
  unfold Scalar.select IntOp.cmpi
  have e : (BitVec.ofNat 32 l.val == 128#32) = decide (l.val = 128) := by
    rw [show (BitVec.ofNat 32 l.val == 128#32) = decide (BitVec.ofNat 32 l.val = 128#32) from rfl, decide_eq_decide, ← BitVec.toNat_inj]
    simp only [BitVec.toNat_ofNat]
    have := l.isLt
    omega
  by_cases h : l.val = 128 <;> simp [e, h]
theorem histV_at (h : Fin 8) (w : Fin 160) (l : Fin 512) : k0_pay33 (F := Ideal) (ix3 h w l) = 0 := by
  pointwise [k0_pay33]
theorem keepK_at (f : Vec Ideal S8x512x256 .bf16) (h : Fin 8) (w : Fin 512) (l : Fin 256) : k0_pay34 f (ix3 h w l) = f (ix3 h w l) := by
  pointwise [k0_pay34]
theorem keepV_at (f : Vec Ideal S8x160x512 .bf16) (h : Fin 8) (w : Fin 160) (l : Fin 512) : k0_pay35 f (ix3 h w l) = f (ix3 h w l) := by
  pointwise [k0_pay35]
theorem mx_at (m : ℕ → Vec Ideal S1x128x256 .f32) (r : Fin 256) (e : Fin 1024) :
  (k0_pay1322 (transpose S256x128 [1, 0] (shapeCast S128x256 (m 0) shapeCasts_S1x128x256_S128x256) transposes_S128x256_p1_0_S256x128)
      (transpose S256x128 [1, 0] (shapeCast S128x256 (m 1) shapeCasts_S1x128x256_S128x256) transposes_S128x256_p1_0_S256x128)
      (transpose S256x128 [1, 0] (shapeCast S128x256 (m 2) shapeCasts_S1x128x256_S128x256) transposes_S128x256_p1_0_S256x128)
      (transpose S256x128 [1, 0] (shapeCast S128x256 (m 3) shapeCasts_S1x128x256_S128x256) transposes_S128x256_p1_0_S256x128)
      (m 4) (m 5) (m 6) (m 7)) (ix2 r e) = m (e.val / 128) (ix3 0 ⟨e.val % 128, by omega⟩ r) := by
  pointwise [k0_pay1322]
  have key : ∀ (a b : ℕ) (hb : b < 128), a * 128 + b = e.val → m a (ix3 0 ⟨b, hb⟩ r) = m (e.val / 128) (ix3 0 ⟨e.val % 128, by omega⟩ r) := by
    intro a b hb hab
    obtain rfl : a = e.val / 128 := by omega
    obtain rfl : b = e.val % 128 := by omega
    rfl
  have he := e.isLt
  by_cases h0 : e.val < 128
  · exact (dif_pos h0).trans (key 0 _ _ (by omega))
  refine (dif_neg h0).trans ?_
  by_cases h1 : e.val - 128 < 128
  · exact (dif_pos h1).trans (key 1 _ _ (by omega))
  refine (dif_neg h1).trans ?_
  by_cases h2 : e.val - 128 - 128 < 128
  · exact (dif_pos h2).trans (key 2 _ _ (by omega))
  refine (dif_neg h2).trans ?_
  by_cases h3 : e.val - 128 - 128 - 128 < 128
  · exact (dif_pos h3).trans (key 3 _ _ (by omega))
  refine (dif_neg h3).trans ?_
  by_cases h4 : e.val - 128 - 128 - 128 - 128 < 128
  · exact (dif_pos h4).trans (key 4 _ _ (by omega))
  refine (dif_neg h4).trans ?_
  by_cases h5 : e.val - 128 - 128 - 128 - 128 - 128 < 128
  · exact (dif_pos h5).trans (key 5 _ _ (by omega))
  refine (dif_neg h5).trans ?_
  by_cases h6 : e.val - 128 - 128 - 128 - 128 - 128 - 128 < 128
  · exact (dif_pos h6).trans (key 6 _ _ (by omega))
  refine (dif_neg h6).trans ?_
  exact key 7 _ _ (by omega)
theorem mem0_at (x : Vec Ideal S1x256x1024 .f32) (w : Vec Ideal S1024x512 .bf16) (k v : Vec Ideal S1x256x128 .bf16) (r : Fin 256) (j : Fin 128) :
    k0_pay1324 (k0_pay697 x) w k v (ix2 r j)
      = memK (fun i => proj (fun d => x (ix3 0 r d)) (fun d e => w (ix2 d e)) ⟨i.val, by omega⟩)
          (fun m i => k (ix3 0 m i)) (fun m i => v (ix3 0 m i)) j := by
  pointwise [k0_pay1324, k0_pay1323, k0_pay697, k0_pay696]
  simp only [named_mscale]
  rfl
theorem mem1_at (x : Vec Ideal S1x256x1024 .f32) (w : Vec Ideal S1024x512 .bf16) (k v : Vec Ideal S1x256x128 .bf16) (r : Fin 256) (j : Fin 128) :
    k0_pay1325 (k0_pay1323 (k0_pay697 x) w) k v (ix2 r j)
      = memK (fun i => proj (fun d => x (ix3 0 r d)) (fun d e => w (ix2 d e)) ⟨128 + i.val, by omega⟩)
          (fun m i => k (ix3 0 m i)) (fun m i => v (ix3 0 m i)) j := by
  pointwise [k0_pay1325, k0_pay1323, k0_pay697, k0_pay696]
  simp only [named_mscale]
  rfl
theorem mem2_at (x : Vec Ideal S1x256x1024 .f32) (w : Vec Ideal S1024x512 .bf16) (k v : Vec Ideal S1x256x128 .bf16) (r : Fin 256) (j : Fin 128) :
    k0_pay1326 (k0_pay1323 (k0_pay697 x) w) k v (ix2 r j)
      = memK (fun i => proj (fun d => x (ix3 0 r d)) (fun d e => w (ix2 d e)) ⟨256 + i.val, by omega⟩)
          (fun m i => k (ix3 0 m i)) (fun m i => v (ix3 0 m i)) j := by
  pointwise [k0_pay1326, k0_pay1323, k0_pay697, k0_pay696]
  simp only [named_mscale]
  rfl
theorem tail_at (x : Vec Ideal S1x256x1024 .f32) (mixv : FVec Ideal S256x1024 .f32) (wg : Vec Ideal S1024x1536 .bf16) (h0 h1 h2 : FVec Ideal S256x128 .f32)
    (wq : Vec Ideal S1024x512 .bf16) (k v : Vec Ideal S1x256x128 .bf16) (wo : Vec Ideal S1536x1024 .bf16) (r : Fin 256) (d : Fin 1024) :
    k0_pay3 (k0_pay696 x) (k0_pay697 x) mixv wg h0 h1 h2 (k0_pay1328 v) (k0_pay1329 (k0_pay1327 (k0_pay1323 (k0_pay697 x) wq)) k) wo (ix2 r d)
      = pre (fun d => x (ix3 0 r d)) (proj (fun d => x (ix3 0 r d)) (fun d e => wg (ix2 d e))) (fun e => mixv (ix2 r e))
          ![fun j => h0 (ix2 r j), fun j => h1 (ix2 r j), fun j => h2 (ix2 r j),
            memK (fun i => proj (fun d => x (ix3 0 r d)) (fun d e => wq (ix2 d e)) ⟨384 + i.val, by omega⟩)
              (fun m i => k (ix3 0 m i)) (fun m i => v (ix3 0 m i))]
          (fun e d => wo (ix2 e d)) d := by
  pointwise [k0_pay3, k0_pay1328, k0_pay1329, k0_pay1327, k0_pay1323, k0_pay697, k0_pay696]
  simp only [named_mscale]
  refine Eq.trans ?_ (pre_joined _ _ _ _ _ _)
  rfl

theorem tailRows_at (x : Vec Ideal S1x256x1024 .f32) (mx : ℕ → Vec Ideal S1x128x256 .f32) (wg : Vec Ideal S1024x1536 .bf16) (wq : Vec Ideal S1024x512 .bf16)
    (kv : ℕ → Vec Ideal S1x256x128 .bf16) (wo : Vec Ideal S1536x1024 .bf16) (r : Fin 256) (d : Fin 1024) :
    tailRows x mx wg wq kv wo (ix2 r d)
      = pre (fun d => x (ix3 0 r d)) (proj (fun d => x (ix3 0 r d)) (fun d e => wg (ix2 d e)))
          (fun e => mx (e.val / 128) (ix3 0 ⟨e.val % 128, by omega⟩ r))
          (fun h => memK (fun i => proj (fun d => x (ix3 0 r d)) (fun d e => wq (ix2 d e)) ⟨h.val * 128 + i.val, by omega⟩)
              (fun m i => kv h.val (ix3 0 m i)) (fun m i => kv (4 + h.val) (ix3 0 m i)))
          (fun e d => wo (ix2 e d)) d := by
  unfold tailRows
  rw [tail_at]
  congr 1
  · funext e; exact mx_at mx r e
  · refine four_eq _ _ _ _ _ (funext fun j => ?_) (funext fun j => ?_) (funext fun j => ?_) ?_
    · rw [mem0_at]; simp only [Fin.val_zero, Nat.zero_mul, Nat.zero_add, Nat.add_zero]
    · rw [mem1_at]; rfl
    · rw [mem2_at]; rfl
    · rfl
end Cert.AttnIdeal.Gen
-- ==== Proof.AttnTileSem.lean ====
module

public import proofs.«01_k».proof.Proof.AttnPay

/-! One grid point of the attention layer, read entry by entry over what it found stored. -/

@[expose] public section
noncomputable section
namespace Cert.AttnIdeal.Gen
open Idealize.ShloMosaic Idealize.ShloMosaic.TcCoe Layer Cert.AttnIdeal

/-- One key entry: a row of the block times a column of the key matrix. -/
def keyAt (wk : Vec Ideal S1024x1024 .bf16) (x : Fin 1024 → EReal) (hp : Fin 8) (l : Fin 128) : EReal :=
  ∑ k, x k * wk (ix2 k ⟨128 * hp.val + l.val, by omega⟩)
/-- One value entry (or query entry before its factor): a row of the matrix times a row of the block. -/
def valAt (wv : Vec Ideal S1024x1024 .bf16) (x : Fin 1024 → EReal) (hp : Fin 8) (d : Fin 128) : EReal :=
  ∑ k, wv (ix2 ⟨128 * hp.val + d.val, by omega⟩ k) * x k

theorem kPiece_at {sp : Space} (v : View sig .tc sp S8x1024x256 .bf16) (f : BufTy.Contents (Elt Ideal) v.ty) (o : ℕ) (ho : o + 256 ≤ 1024)
    (x : Vec Ideal S1x256x1024 .f32) (wk : Vec Ideal S1024x1024 .bf16) {h : ℕ} (hh : h < 8) (L : List (View.Piece (Elt Ideal) S8x1024x256 .bf16))
    (hp : Fin 8) (w : Fin 1024) (l : Fin 256) :
    v.read (Elt Ideal) (v.writes (Elt Ideal) f (kPiece o ho x wk hh :: L)) (ix3 hp w l)
      = if hc : hp.val = h ∧ (o ≤ w.val ∧ w.val < o + 256) ∧ l.val < 128 then keyAt wk (fun k => x (ix3 0 ⟨w.val - o, by omega⟩ k)) hp ⟨l.val, hc.2.2⟩
        else v.read (Elt Ideal) (v.writes (Elt Ideal) f L) (ix3 hp w l) := by
  by_cases hc : hp.val = h ∧ (o ≤ w.val ∧ w.val < o + 256) ∧ l.val < 128
  · rw [dif_pos hc]
    refine (View.read_writes_cons_unit_of_mem v f _ _ L (ix3 hp w l) (ix3 (0 : Fin 1) (⟨w.val - o, by omega⟩ : Fin 256) (⟨l.val, hc.2.2⟩ : Fin 128)) rfl ?_).trans ?_
    · intro a; fin_cases a
      · show hp.val = h + 0; omega
      · show w.val = o + (w.val - o); omega
      · show l.val = 0 + l.val; omega
    · refine (k_at x wk hh _ _).trans ?_
      obtain ⟨rfl, -⟩ := hc
      rfl
  · rw [dif_neg hc]
    by_cases h0 : hp.val = h
    · by_cases h1 : o ≤ w.val ∧ w.val < o + 256
      · refine View.read_writes_cons_unit_of_not_mem v f _ _ L (ix3 hp w l) rfl 2 ?_
        show l.val < 0 ∨ 0 + 128 ≤ l.val; omega
      · refine View.read_writes_cons_unit_of_not_mem v f _ _ L (ix3 hp w l) rfl 1 ?_
        show w.val < o ∨ o + 256 ≤ w.val; omega
    · refine View.read_writes_cons_unit_of_not_mem v f _ _ L (ix3 hp w l) rfl 0 ?_
      show hp.val < h ∨ h + 1 ≤ hp.val; omega

theorem kPieces_at {sp : Space} (v : View sig .tc sp S8x1024x256 .bf16) (f : BufTy.Contents (Elt Ideal) v.ty) (o : ℕ) (ho : o + 256 ≤ 1024)
    (x : Vec Ideal S1x256x1024 .f32) (wk : Vec Ideal S1024x1024 .bf16) (L : List (View.Piece (Elt Ideal) S8x1024x256 .bf16))
    (hp : Fin 8) (w : Fin 1024) (l : Fin 256) :
    v.read (Elt Ideal) (v.writes (Elt Ideal) f (kPieces o ho x wk L)) (ix3 hp w l)
      = if hc : (o ≤ w.val ∧ w.val < o + 256) ∧ l.val < 128 then keyAt wk (fun k => x (ix3 0 ⟨w.val - o, by omega⟩ k)) hp ⟨l.val, hc.2⟩
        else v.read (Elt Ideal) (v.writes (Elt Ideal) f L) (ix3 hp w l) := by
  unfold kPieces
  iterate 8 rw [kPiece_at]
  by_cases hc : (o ≤ w.val ∧ w.val < o + 256) ∧ l.val < 128
  · simp only [hc, and_true, dite_true]
    have := hp.isLt
    split_ifs <;> first | rfl | omega
  · have hn : ∀ h : ℕ, ¬(hp.val = h ∧ (o ≤ w.val ∧ w.val < o + 256) ∧ l.val < 128) := fun h hh => hc hh.2
    simp only [dif_neg (hn _), dif_neg hc]

theorem vPieces_at {sp : Space} (v : View sig .tc sp S8x160x1024 .bf16) (f : BufTy.Contents (Elt Ideal) v.ty) (o : ℕ) (ho : o + 256 ≤ 1024)
    (x : Vec Ideal S1x256x1024 .f32) (wv : Vec Ideal S1024x1024 .bf16) (L : List (View.Piece (Elt Ideal) S8x160x1024 .bf16))
    (hp : Fin 8) (r : Fin 160) (w : Fin 1024) :
    v.read (Elt Ideal) (v.writes (Elt Ideal) f (vPieces o ho x wv L)) (ix3 hp r w)
      = if hc : o ≤ w.val ∧ w.val < o + 256 then
          (if hr : 16 ≤ r.val ∧ r.val < 144 then valAt wv (fun k => x (ix3 0 ⟨w.val - o, by omega⟩ k)) hp ⟨r.val - 16, by omega⟩ else 1)
        else v.read (Elt Ideal) (v.writes (Elt Ideal) f L) (ix3 hp r w) := by
  unfold vPieces
  by_cases hc : o ≤ w.val ∧ w.val < o + 256
  · rw [dif_pos hc]
    rcases lt_or_ge r.val 16 with h1 | h1
    · rw [dif_neg (by omega)]
      refine (View.read_writes_cons_unit_of_not_mem v f _ _ _ (ix3 hp r w) rfl 1 (Or.inl (show r.val < 144 by omega))).trans ?_
      refine (View.read_writes_cons_unit_of_mem v f _ _ _ (ix3 hp r w) (ix3 hp (⟨r.val, h1⟩ : Fin 16) (⟨w.val - o, by omega⟩ : Fin 256)) rfl ?_).trans (one_at _ _ _)
      intro a; fin_cases a
      · show hp.val = 0 + hp.val; omega
      · show r.val = 0 + r.val; omega
      · show w.val = o + (w.val - o); omega
    rcases lt_or_ge r.val 144 with h2 | h2
    · rw [dif_pos ⟨h1, h2⟩]
      refine (View.read_writes_cons_unit_of_not_mem v f _ _ _ (ix3 hp r w) rfl 1 (Or.inl (show r.val < 144 by omega))).trans ?_
      refine (View.read_writes_cons_unit_of_not_mem v f _ _ _ (ix3 hp r w) rfl 1 (Or.inr (show 0 + 16 ≤ r.val by omega))).trans ?_
      refine (View.read_writes_cons_unit_of_mem v f _ _ _ (ix3 hp r w) (ix3 hp (⟨r.val - 16, by omega⟩ : Fin 128) (⟨w.val - o, by omega⟩ : Fin 256)) rfl ?_).trans (v_at _ _ _ _ _)
      intro a; fin_cases a
      · show hp.val = 0 + hp.val; omega
      · show r.val = 16 + (r.val - 16); omega
      · show w.val = o + (w.val - o); omega
    · rw [dif_neg (by omega)]
      have := r.isLt
      refine (View.read_writes_cons_unit_of_mem v f _ _ _ (ix3 hp r w) (ix3 hp (⟨r.val - 144, by omega⟩ : Fin 16) (⟨w.val - o, by omega⟩ : Fin 256)) rfl ?_).trans (one_at _ _ _)
      intro a; fin_cases a
      · show hp.val = 0 + hp.val; omega
      · show r.val = 144 + (r.val - 144); omega
      · show w.val = o + (w.val - o); omega
  · rw [dif_neg hc]
    have hw : w.val < o ∨ o + 256 ≤ w.val := by omega
    refine (View.read_writes_cons_unit_of_not_mem v f _ _ _ (ix3 hp r w) rfl 2 hw).trans ?_
    refine (View.read_writes_cons_unit_of_not_mem v f _ _ _ (ix3 hp r w) rfl 2 hw).trans ?_
    exact View.read_writes_cons_unit_of_not_mem v f _ _ _ (ix3 hp r w) rfl 2 hw

theorem qPieces_at {sp : Space} (v : View sig .tc sp S8x128x256 .bf16) (f : BufTy.Contents (Elt Ideal) v.ty)
    (x : Vec Ideal S1x256x1024 .f32) (wq : Vec Ideal S1024x1024 .bf16) (L : List (View.Piece (Elt Ideal) S8x128x256 .bf16))
    (hp : Fin 8) (d : Fin 128) (c : Fin 256) :
    v.read (Elt Ideal) (v.writes (Elt Ideal) f (qPieces x wq L)) (ix3 hp d c) = valAt wq (fun k => x (ix3 0 c k)) hp d * aqscale := by
  unfold qPieces
  refine (View.read_writes_cons_unit_of_mem v f _ _ _ (ix3 hp d c) (ix3 hp d c) rfl ?_).trans (q_at _ _ _ _ _)
  intro a; fin_cases a
  · show hp.val = 0 + hp.val; omega
  · show d.val = 0 + d.val; omega
  · show c.val = 0 + c.val; omega

section Reads
variable (arg6 : Memref sig .tc .vmem S16x640x128 .f32) (arg11 : Memref sig .tc .vmem S8x128x256 .bf16) (arg12 : Memref sig .tc .vmem S8x1024x256 .bf16)
  (arg13 : Memref sig .tc .vmem S8x160x1024 .bf16) (arg15 : Memref sig .tc .vmem S2x768x256 .bf16) (arg16 : Memref sig .tc .vmem S8x128x256 .f32)

theorem qRead_at (L : List (View.Piece (Elt Ideal) S8x128x256 .bf16)) (n : ℕ) (j : Fin 64) (c : Fin 256) :
    qRead arg11 L n (ix3 0 j c) = arg11.view.read (Elt Ideal) (arg11.view.writes (Elt Ideal) arg11.view.junk L) (ix3 ⟨n / 2 % 8, by omega⟩ ⟨64 * (n % 2) + j.val, by omega⟩ c) := by
  unfold qRead
  rw [View.readCov, View.readAt_eq_ld]
  refine congrArg (arg11.view.read (Elt Ideal) _) (funext fun a => Fin.ext ?_)
  fin_cases a
  · show n / 2 % 8 + 1 * 0 = n / 2 % 8; omega
  · show 64 * (n % 2) + 1 * j.val = _; simp
  · show 0 + 1 * c.val = c.val; omega
theorem bRead_at (f : BufTy.Contents (Elt Ideal) arg6.view.ty) (h i : ℕ) (p : Fin 128) (c : Fin 128) :
    bRead arg6 f h i (ix3 0 p c) = arg6.view.read (Elt Ideal) f (ix3 ⟨h % 16, by omega⟩ ⟨128 * (i % 5) + p.val, by omega⟩ c) := by
  unfold bRead
  rw [View.readAt_eq_ld]
  refine congrArg (arg6.view.read (Elt Ideal) _) (funext fun a => Fin.ext ?_)
  fin_cases a
  · show h % 16 + 1 * 0 = h % 16; omega
  · show 128 * (i % 5) + 1 * p.val = _; simp
  · show 0 + 1 * c.val = c.val; omega
theorem vRead_at (L : List (View.Piece (Elt Ideal) S8x160x1024 .bf16)) (o : ℕ) (ho : o + 768 ≤ 1024) (n : ℕ) (r : Fin 80) (w : Fin 768) :
    vRead arg13 L o ho n (ix3 0 r w) = arg13.view.read (Elt Ideal) (arg13.view.writes (Elt Ideal) arg13.view.junk L)
      (ix3 ⟨n / 2 % 8, by omega⟩ ⟨80 * (n % 2) + r.val, by omega⟩ ⟨o + w.val, by omega⟩) := by
  unfold vRead
  rw [View.readCov, View.readAt_eq_ld]
  refine congrArg (arg13.view.read (Elt Ideal) _) (funext fun a => Fin.ext ?_)
  fin_cases a
  · show n / 2 % 8 + 1 * 0 = n / 2 % 8; omega
  · show 80 * (n % 2) + 1 * r.val = _; simp
  · show o + 1 * w.val = _; simp
theorem pRead_at (f : BufTy.Contents (Elt Ideal) arg15.view.ty) (e : ℕ) (he : e < 2) (L : List (View.Piece (Elt Ideal) S2x768x256 .bf16)) (w : Fin 768) (c : Fin 256) :
    pRead arg15 f e L (ix3 0 w c) = arg15.view.read (Elt Ideal) (arg15.view.writes (Elt Ideal) f L) (ix3 ⟨e, he⟩ w c) := by
  unfold pRead
  rw [View.readAt_eq_ld]
  refine congrArg (arg15.view.read (Elt Ideal) _) (funext fun a => Fin.ext ?_)
  fin_cases a
  · show e % 2 + 1 * 0 = e; omega
  · show 0 + 1 * w.val = w.val; omega
  · show 0 + 1 * c.val = c.val; omega
theorem kRead_at (f : ℕ → BufTy.Contents (Elt Ideal) arg12.view.ty) (o : ℕ) (ho : o ≤ 256) (L : List (View.Piece (Elt Ideal) S8x1024x256 .bf16)) (hp i : ℕ)
    (w : Fin 128) (l : Fin 256) :
    kRead arg12 f o ho L hp i (ix3 0 w l) = arg12.view.read (Elt Ideal) (arg12.view.writes (Elt Ideal) (f i) L)
      (ix3 ⟨hp % 8, by omega⟩ ⟨o + 128 * (i % 6) + w.val, by omega⟩ l) := by
  unfold kRead
  rw [View.readAt_eq_ld]
  refine congrArg (arg12.view.read (Elt Ideal) _) (funext fun a => Fin.ext ?_)
  fin_cases a
  · show hp % 8 + 1 * 0 = hp % 8; omega
  · show o + 128 * (i % 6) + 1 * w.val = _; simp
  · show 0 + 1 * l.val = l.val; omega
theorem mRead_at (L : List (View.Piece (Elt Ideal) S8x128x256 .f32)) (hp : ℕ) (d : Fin 128) (c : Fin 256) :
    mRead arg16 L hp (ix3 0 d c) = arg16.view.read (Elt Ideal) (arg16.view.writes (Elt Ideal) arg16.view.junk L) (ix3 ⟨hp % 8, by omega⟩ d c) := by
  unfold mRead
  rw [View.readCov, View.readAt_eq_ld]
  refine congrArg (arg16.view.read (Elt Ideal) _) (funext fun a => Fin.ext ?_)
  fin_cases a
  · show hp % 8 + 1 * 0 = hp % 8; omega
  · show 0 + 1 * d.val = d.val; omega
  · show 0 + 1 * c.val = c.val; omega
end Reads

namespace Tile
variable (T : Tile Ideal)

/-- Row `r` of the block. -/
def xr (r : ℕ) (k : Fin 1024) : EReal :=
  if r < 256 then T.xa (ix3 0 ⟨r % 256, by omega⟩ k) else T.xb (ix3 0 ⟨r % 256, by omega⟩ k)

/-- The keys the block sees: history rows `HK`, then its own. -/
def KW (HK : Fin 8 → ℕ → Fin 256 → EReal) (hp : Fin 8) (w : ℕ) (l : Fin 256) : EReal :=
  if w < 512 then HK hp w l else if h : l.val < 128 then keyAt T.wk (T.xr (w - 512)) hp ⟨l.val, h⟩ else 0

/-- The values the block sees, with the rows of ones. -/
def VW (HV : Fin 8 → Fin 160 → ℕ → EReal) (hp : Fin 8) (r : Fin 160) (w : ℕ) : EReal :=
  if w < 512 then HV hp r w else if h : 16 ≤ r.val ∧ r.val < 144 then valAt T.wv (T.xr (w - 512)) hp ⟨r.val - 16, by omega⟩ else 1

/-- What the buffers hold beside the block's own stores. -/
structure Base (HK : Fin 8 → ℕ → Fin 256 → EReal) (HV : Fin 8 → Fin 160 → ℕ → EReal) : Prop where
  hk : ∀ f hp (w : Fin 1024) l, w.val < 512 → T.arg12.view.read (Elt Ideal) (T.arg12.view.writes (Elt Ideal) f T.Kb) (ix3 hp w l) = HK hp w.val l
  hz : ∀ s i hp (w : Fin 1024) (l : Fin 256), 2 ≤ i → (s = 0 → 4 ≤ i) → 512 ≤ w.val → 128 ≤ l.val →
    T.arg12.view.read (Elt Ideal) (T.arg12.view.writes (Elt Ideal) (T.f12 s i) T.Kb) (ix3 hp w l) = 0
  hv : ∀ f hp r (w : Fin 1024), w.val < 512 → T.arg13.view.read (Elt Ideal) (T.arg13.view.writes (Elt Ideal) f T.Vb) (ix3 hp r w) = HV hp r w.val
  hp : ∀ e w c, ((640 ≤ w.val ∧ c.val < 128) ∨ (w.val < 128 ∧ 128 ≤ c.val)) →
    T.arg15.view.read (Elt Ideal) (T.arg15.view.writes (Elt Ideal) T.f15 T.Pb) (ix3 e w c) = 0
  h1 : ∀ hp w, w < 512 → (HV hp 0 w = 1 ∧ HV hp 144 w = 1) ∨ HK hp w 128 = 1

variable {T} {HK : Fin 8 → ℕ → Fin 256 → EReal} {HV : Fin 8 → Fin 160 → ℕ → EReal}

theorem xa_eq (r : ℕ) (h : r < 256) : (fun k => T.xa (ix3 0 ⟨r, h⟩ k)) = T.xr r := by
  funext k
  unfold xr
  rw [if_pos h]
  exact congrArg (fun q => T.xa (ix3 0 q k)) (Fin.ext (Nat.mod_eq_of_lt h).symm)
theorem xb_eq (r : ℕ) (h : r - 256 < 256) (h' : 256 ≤ r) : (fun k => T.xb (ix3 0 ⟨r - 256, h⟩ k)) = T.xr r := by
  funext k
  unfold xr
  rw [if_neg (by omega)]
  exact congrArg (fun q => T.xb (ix3 0 q k)) (Fin.ext (by show r - 256 = r % 256; omega))

theorem Base.k0_at (hB : T.Base HK HV) (i : ℕ) (hp : Fin 8) (w : Fin 1024) (l : Fin 256) (hw : w.val < 512 ∨ (w.val < 768 ∧ 4 ≤ i)) :
    T.arg12.view.read (Elt Ideal) (T.arg12.view.writes (Elt Ideal) (T.f12 0 i) T.k0) (ix3 hp w l) = T.KW HK hp w.val l := by
  unfold Tile.k0 KW
  rw [kPieces_at]
  by_cases h : w.val < 512
  · rw [dif_neg (by omega), if_pos h, hB.hk _ _ _ _ h]
  · rw [if_neg h]
    by_cases hl : l.val < 128
    · rw [dif_pos ⟨by omega, hl⟩, dif_pos hl, xa_eq]
    · rw [dif_neg (by omega), dif_neg hl, hB.hz 0 i hp w l (by omega) (by omega) (by omega) (by omega)]

theorem Base.k1_at (hB : T.Base HK HV) (i : ℕ) (hp : Fin 8) (w : Fin 1024) (l : Fin 256) (hw : w.val < 512 ∨ 2 ≤ i) :
    T.arg12.view.read (Elt Ideal) (T.arg12.view.writes (Elt Ideal) (T.f12 1 i) T.k1) (ix3 hp w l) = T.KW HK hp w.val l := by
  unfold Tile.k1 Tile.k0 KW
  rw [kPieces_at, kPieces_at]
  have hw' := w.isLt
  by_cases h : w.val < 512
  · rw [dif_neg (by omega), dif_neg (by omega), if_pos h, hB.hk _ _ _ _ h]
  · rw [if_neg h]
    by_cases hl : l.val < 128
    · rw [dif_pos hl]
      by_cases h7 : 768 ≤ w.val
      · rw [dif_pos ⟨by omega, hl⟩, ← xb_eq (w.val - 512) (by omega) (by omega)]
        simp only [Nat.sub_sub]
      · rw [dif_neg (by omega), dif_pos ⟨by omega, hl⟩, xa_eq]
    · rw [dif_neg (by omega), dif_neg (by omega), dif_neg hl, hB.hz 1 i hp w l (by omega) (by omega) (by omega) (by omega)]

theorem Base.v0_at (hB : T.Base HK HV) (f) (hp : Fin 8) (r : Fin 160) (w : Fin 1024) (hw : w.val < 768) :
    T.arg13.view.read (Elt Ideal) (T.arg13.view.writes (Elt Ideal) f T.v0) (ix3 hp r w) = T.VW HV hp r w.val := by
  unfold Tile.v0 VW
  rw [vPieces_at]
  by_cases h : w.val < 512
  · rw [dif_neg (by omega), if_pos h, hB.hv _ _ _ _ h]
  · rw [if_neg h, dif_pos ⟨by omega, by omega⟩, xa_eq]

theorem Base.v1_at (hB : T.Base HK HV) (f) (hp : Fin 8) (r : Fin 160) (w : Fin 1024) :
    T.arg13.view.read (Elt Ideal) (T.arg13.view.writes (Elt Ideal) f T.v1) (ix3 hp r w) = T.VW HV hp r w.val := by
  unfold Tile.v1 Tile.v0 VW
  rw [vPieces_at, vPieces_at]
  have hw' := w.isLt
  by_cases h : w.val < 512
  · rw [dif_neg (by omega), dif_neg (by omega), if_pos h, hB.hv _ _ _ _ h]
  · rw [if_neg h]
    by_cases h7 : 768 ≤ w.val
    · rw [dif_pos ⟨by omega, by omega⟩, ← xb_eq (w.val - 512) (by omega) (by omega)]
      simp only [Nat.sub_sub]
    · rw [dif_neg (by omega), dif_pos ⟨by omega, by omega⟩, xa_eq]

/-- The kernel's score of the query at row `256 * s + 128 * half + c` against row `p` of its window. -/
def score (T : Tile Ideal) (HK : Fin 8 → ℕ → Fin 256 → EReal) (hp : Fin 8) (e : Fin 2) (o : ℕ) (c : Fin 128) (p : Fin 640) : EReal :=
  ((∑ j : Fin 64, T.KW HK hp (o + p.val) ⟨64 * e.val + j.val, by omega⟩ * (valAt T.wq (T.xr (o + c.val)) hp ⟨64 * e.val + j.val, by omega⟩ * aqscale))
    + T.KW HK hp (o + p.val) 128 * ⊥) + T.arg6.view.read (Elt Ideal) T.f6 (ix3 ⟨2 * hp.val + e.val, by omega⟩ p c)

/-- The scores of one half of the block, whatever its stored keys and queries are named. -/
theorem winScore_at (q : ℕ → Vec Ideal S1x64x256 .bf16) (k : ℕ → ℕ → Vec Ideal S1x128x256 .bf16) (s : ℕ)
    (n : ℕ) (hn : n < 16) (half : ℕ) (hh : half < 2)
    (hk : ∀ i < 6, ∀ (w : Fin 128) l, k (n / 2 % 8) i (ix3 0 w l) = T.KW HK ⟨n / 2, by omega⟩ (256 * s + 128 * i + w.val) l)
    (hq : ∀ (j : Fin 64) (c : Fin 256), q n (ix3 0 j c) = valAt T.wq (T.xr (256 * s + c.val)) ⟨n / 2, by omega⟩ ⟨64 * (n % 2) + j.val, by omega⟩ * aqscale)
    (c : Fin 128) (p : Fin 640) :
    winScore q k (bRead T.arg6 T.f6) n half hh c p = T.score HK ⟨n / 2, by omega⟩ ⟨n % 2, by omega⟩ (256 * s + 128 * half) c p := by
  unfold winScore rawScore biasOf score
  have hp := p.isLt
  have e : ∀ l, k (n / 2 % 8) ((128 * half + p.val) / 128) (ix3 0 ⟨(128 * half + p.val) % 128, by omega⟩ l)
      = T.KW HK ⟨n / 2, by omega⟩ (256 * s + 128 * half + p.val) l := by
    intro l
    rw [hk _ (by omega)]
    congr 1
    show 256 * s + 128 * ((128 * half + p.val) / 128) + (128 * half + p.val) % 128 = _
    omega
  refine congrArg₂ (· + ·) ?_ ?_
  · simp only [e]
    rw [padQ_sum (n % 2) (by omega) (q n)]
    refine congrArg₂ (· + ·) (Finset.sum_congr rfl fun j _ => ?_) rfl
    rw [hq]
    simp only [Nat.add_assoc]
  · rw [bRead_at]
    refine congrArg (T.arg6.view.read (Elt Ideal) T.f6) (funext fun a => Fin.ext ?_)
    fin_cases a
    · show n % 16 = 2 * (n / 2) + n % 2; omega
    · show 128 * (p.val / 128 % 5) + p.val % 128 = p.val; omega
    · rfl

/-- One output entry of a half of the block. -/
def out (T : Tile Ideal) (HK : Fin 8 → ℕ → Fin 256 → EReal) (HV : Fin 8 → Fin 160 → ℕ → EReal) (hp : Fin 8) (e : Fin 2) (o : ℕ) (c : Fin 128) (j : Fin 64) : EReal :=
  Ideal.div (∑ p, T.VW HV hp ⟨16 + (64 * e.val + j.val), by omega⟩ (o + p.val) * aweightK (T.score HK hp e o c) p) (∑ p, aweightK (T.score HK hp e o c) p)

/-- The outputs of one half of the block, whatever its stored keys, queries, values and earlier stores are named. -/
theorem mix_half (hB : T.Base HK HV) (q : ℕ → Vec Ideal S1x64x256 .bf16) (k : ℕ → ℕ → Vec Ideal S1x128x256 .bf16) (v : ℕ → Vec Ideal S1x80x768 .bf16) (S0 P0 M0)
    (s : ℕ) (hs : s < 2) (n : ℕ) (hn : n < 16) (half : ℕ) (hh : half < 2)
    (hk : ∀ i < 6, ∀ (w : Fin 128) l, k (n / 2 % 8) i (ix3 0 w l) = T.KW HK ⟨n / 2, by omega⟩ (256 * s + 128 * i + w.val) l)
    (hq : ∀ (j : Fin 64) (c : Fin 256), q n (ix3 0 j c) = valAt T.wq (T.xr (256 * s + c.val)) ⟨n / 2, by omega⟩ ⟨64 * (n % 2) + j.val, by omega⟩ * aqscale)
    (hv : ∀ (r : Fin 80) (w : Fin 768), v n (ix3 0 r w) = T.VW HV ⟨n / 2, by omega⟩ ⟨80 * (n % 2) + r.val, by omega⟩ (256 * s + w.val))
    (hP : ∀ e w c, ((640 ≤ w.val ∧ c.val < 128) ∨ (w.val < 128 ∧ 128 ≤ c.val)) →
      T.arg15.view.read (Elt Ideal) (T.arg15.view.writes (Elt Ideal) T.f15 P0) (ix3 e w c) = 0)
    (j : Fin 64) (c : Fin 128) :
    T.arg16.view.read (Elt Ideal) (T.arg16.view.writes (Elt Ideal) T.arg16.view.junk
        (mList T.arg14 q k (bRead T.arg6 T.f6) v (pRead T.arg15 T.f15) S0 P0 M0 16))
      (ix3 ⟨n / 2, by omega⟩ ⟨64 * (n % 2) + j.val, by omega⟩ ⟨128 * half + c.val, by omega⟩)
      = T.out HK HV ⟨n / 2, by omega⟩ ⟨n % 2, by omega⟩ (256 * s + 128 * half) c j := by
  have hsc : winScore q k (bRead T.arg6 T.f6) n half hh c = T.score HK ⟨n / 2, by omega⟩ ⟨n % 2, by omega⟩ (256 * s + 128 * half) c :=
    funext fun p => winScore_at q k s n hn half hh hk hq c p
  rw [mix_at T.arg14 q k (bRead T.arg6 T.f6) v S0 P0 M0 T.arg15.view T.f15 T.arg16.view T.arg16.view.junk (pRead T.arg15 T.f15)
    (fun e he L w c => pRead_at T.arg15 T.f15 e he L w c) hP n hn j half hh c ?_, hsc]
  · unfold out
    congr 1
    refine Finset.sum_congr rfl fun p _ => ?_
    rw [hv]
    congr 2
    · refine Fin.ext ?_
      show 80 * (n % 2) + (chanRow (n % 2) j).val = 16 + (64 * (n % 2) + j.val)
      unfold chanRow
      split_ifs <;> simp only <;> omega
    · show 256 * s + (128 * half + p.val) = 256 * s + 128 * half + p.val
      omega
  · intro p
    rw [hsc, hv]
    have hr : (80 * (n % 2) + (onesRow (n % 2)).val = 0) ∨ (80 * (n % 2) + (onesRow (n % 2)).val = 144) := by
      unfold onesRow
      rcases Nat.mod_two_eq_zero_or_one n with h | h <;> rw [h] <;> simp
    by_cases hw : 256 * s + (128 * half + p.val) < 512
    · rcases hB.h1 ⟨n / 2, by omega⟩ _ hw with h | h
      · left
        unfold VW
        rw [if_pos hw]
        rcases hr with hr | hr
        · exact (congrArg (fun r => HV _ r _) (Fin.ext hr)).trans h.1
        · exact (congrArg (fun r => HV _ r _) (Fin.ext hr)).trans h.2
      · right
        unfold score KW
        rw [← Nat.add_assoc] at hw h
        rw [if_pos hw, h, one_mul, EReal.add_bot, EReal.bot_add]
    · left
      unfold VW
      rw [if_neg hw, dif_neg (by show ¬(16 ≤ 80 * (n % 2) + (onesRow (n % 2)).val ∧ 80 * (n % 2) + (onesRow (n % 2)).val < 144); omega)]

theorem Base.m0_at (hB : T.Base HK HV) (n : ℕ) (hn : n < 16) (half : ℕ) (hh : half < 2) (j : Fin 64) (c : Fin 128) :
    T.arg16.view.read (Elt Ideal) (T.arg16.view.writes (Elt Ideal) T.arg16.view.junk T.m0)
      (ix3 ⟨n / 2, by omega⟩ ⟨64 * (n % 2) + j.val, by omega⟩ ⟨128 * half + c.val, by omega⟩)
      = T.out HK HV ⟨n / 2, by omega⟩ ⟨n % 2, by omega⟩ (256 * 0 + 128 * half) c j := by
  refine mix_half hB _ _ _ _ _ _ 0 (by decide) n hn half hh (fun i hi w l => ?_) (fun j c => ?_) (fun r w => ?_) hB.hp j c
  · rw [kRead_at]
    have hw := w.isLt
    refine (hB.k0_at i _ _ l (by show 0 + 128 * (i % 6) + w.val < 512 ∨ (0 + 128 * (i % 6) + w.val < 768 ∧ 4 ≤ i); omega)).trans ?_
    congr 1
    · exact Fin.ext (by show n / 2 % 8 % 8 = n / 2; omega)
    · show 0 + 128 * (i % 6) + w.val = _; omega
  · rw [qRead_at]
    refine (qPieces_at _ _ _ _ _ _ _ _).trans ?_
    rw [xa_eq c.val c.isLt]
    congr 2
    · exact congrArg T.xr (by omega)
    · exact Fin.ext (by show n / 2 % 8 = n / 2; omega)
  · rw [vRead_at]
    refine (hB.v0_at _ _ _ _ (by show 0 + w.val < 768; omega)).trans ?_
    congr 1
    exact Fin.ext (by show n / 2 % 8 = n / 2; omega)

theorem Base.p0_corner (hB : T.Base HK HV) (e w c) (h : (640 ≤ w.val ∧ c.val < 128) ∨ (w.val < 128 ∧ 128 ≤ c.val)) :
    T.arg15.view.read (Elt Ideal) (T.arg15.view.writes (Elt Ideal) T.f15 T.p0) (ix3 e w c) = 0 := by
  unfold Tile.p0
  rw [pCorner _ _ _ _ _ _ _ _ _ _ _ _ h]
  exact hB.hp e w c h
theorem Base.p1_corner (hB : T.Base HK HV) (e w c) (h : (640 ≤ w.val ∧ c.val < 128) ∨ (w.val < 128 ∧ 128 ≤ c.val)) :
    T.arg15.view.read (Elt Ideal) (T.arg15.view.writes (Elt Ideal) T.f15 T.p1) (ix3 e w c) = 0 := by
  unfold Tile.p1
  rw [pCorner _ _ _ _ _ _ _ _ _ _ _ _ h]
  exact hB.p0_corner e w c h

theorem Base.m1_at (hB : T.Base HK HV) (n : ℕ) (hn : n < 16) (half : ℕ) (hh : half < 2) (j : Fin 64) (c : Fin 128) :
    T.arg16.view.read (Elt Ideal) (T.arg16.view.writes (Elt Ideal) T.arg16.view.junk T.m1)
      (ix3 ⟨n / 2, by omega⟩ ⟨64 * (n % 2) + j.val, by omega⟩ ⟨128 * half + c.val, by omega⟩)
      = T.out HK HV ⟨n / 2, by omega⟩ ⟨n % 2, by omega⟩ (256 * 1 + 128 * half) c j := by
  refine mix_half hB _ _ _ _ _ _ 1 (by decide) n hn half hh (fun i hi w l => ?_) (fun j c => ?_) (fun r w => ?_) hB.p0_corner j c
  · rw [kRead_at]
    have hw := w.isLt
    refine (hB.k1_at i _ _ l (by show 256 + 128 * (i % 6) + w.val < 512 ∨ 2 ≤ i; omega)).trans ?_
    congr 1
    · exact Fin.ext (by show n / 2 % 8 % 8 = n / 2; omega)
    · show 256 + 128 * (i % 6) + w.val = _; omega
  · rw [qRead_at]
    refine (qPieces_at _ _ _ _ _ _ _ _).trans ?_
    rw [← xb_eq (256 * 1 + c.val) (by have := c.isLt; omega) (by omega)]
    congr 2
    · funext k
      exact congrArg (fun q => T.xb (ix3 0 q k)) (Fin.ext (by show c.val = 256 * 1 + c.val - 256; omega))
    · exact Fin.ext (by show n / 2 % 8 = n / 2; omega)
  · rw [vRead_at]
    refine (hB.v1_at _ _ _ _).trans ?_
    congr 1
    exact Fin.ext (by show n / 2 % 8 = n / 2; omega)

/-- One output row of the block. -/
def row (T : Tile Ideal) (HK : Fin 8 → ℕ → Fin 256 → EReal) (HV : Fin 8 → Fin 160 → ℕ → EReal) (r : ℕ) (d : Fin 1024) : EReal :=
  pre (T.xr r) (proj (T.xr r) (fun d e => T.wg (ix2 d e)))
    (fun e => T.out HK HV ⟨e.val / 128, by omega⟩ ⟨e.val / 64 % 2, by omega⟩ (128 * (r / 128)) ⟨r % 128, by omega⟩ ⟨e.val % 64, by omega⟩)
    (fun h => memK (fun i => proj (T.xr r) (fun d e => T.wm (ix2 d e)) ⟨h.val * 128 + i.val, by omega⟩)
      (fun m i => T.kv h.val (ix3 0 m i)) (fun m i => T.kv (4 + h.val) (ix3 0 m i)))
    (fun e d => T.wo (ix2 e d)) d

theorem mread_eq (L : List (View.Piece (Elt Ideal) S8x128x256 .f32)) (s : ℕ)
    (h : ∀ (n : ℕ) (hn : n < 16) (half : ℕ) (hh : half < 2) (j : Fin 64) (c : Fin 128),
      T.arg16.view.read (Elt Ideal) (T.arg16.view.writes (Elt Ideal) T.arg16.view.junk L)
        (ix3 ⟨n / 2, by omega⟩ ⟨64 * (n % 2) + j.val, by omega⟩ ⟨128 * half + c.val, by omega⟩)
        = T.out HK HV ⟨n / 2, by omega⟩ ⟨n % 2, by omega⟩ (256 * s + 128 * half) c j) (e : Fin 1024) (r : Fin 256) :
    mRead T.arg16 L (e.val / 128) (ix3 0 ⟨e.val % 128, by omega⟩ r)
      = T.out HK HV ⟨e.val / 128, by omega⟩ ⟨e.val / 64 % 2, by omega⟩ (128 * ((256 * s + r.val) / 128)) ⟨(256 * s + r.val) % 128, by omega⟩ ⟨e.val % 64, by omega⟩ := by
  have he := e.isLt
  have hr := r.isLt
  rw [mRead_at]
  refine Eq.trans ?_ ((h (e.val / 64) (by omega) (r.val / 128) (by omega) ⟨e.val % 64, by omega⟩ ⟨r.val % 128, by omega⟩).trans ?_)
  · refine congrArg (T.arg16.view.read (Elt Ideal) _) (funext fun a => Fin.ext ?_)
    fin_cases a
    · show e.val / 128 % 8 = e.val / 64 / 2; omega
    · show e.val % 128 = 64 * (e.val / 64 % 2) + e.val % 64; omega
    · show r.val = 128 * (r.val / 128) + r.val % 128; omega
  · congr 1
    · exact Fin.ext (by show e.val / 64 / 2 = e.val / 128; omega)
    · omega
    · exact Fin.ext (by show r.val % 128 = (256 * s + r.val) % 128; omega)

theorem Base.rows_at (hB : T.Base HK HV) {sp : Space} (v : View sig .tc sp S512x1024 .f32) (f : BufTy.Contents (Elt Ideal) v.ty) (L) (r : Fin 512) (d : Fin 1024) :
    v.read (Elt Ideal) (v.writes (Elt Ideal) f (T.rows L)) (ix2 r d) = T.row HK HV r.val d := by
  have hr := r.isLt
  unfold Tile.rows
  rcases lt_or_ge r.val 256 with h | h
  · refine (View.read_writes_cons_unit_of_not_mem v f _ _ _ (ix2 r d) rfl 0 (Or.inl h)).trans ?_
    refine (View.read_writes_cons_unit_of_mem v f _ _ _ (ix2 r d) (ix2 (⟨r.val, h⟩ : Fin 256) d) rfl ?_).trans ?_
    · intro a; fin_cases a
      · show r.val = 0 + r.val; omega
      · show d.val = 0 + d.val; omega
    · rw [tailRows_at, xa_eq]
      unfold row
      congr 1
      funext e
      rw [mread_eq T.m0 0 (fun n hn half hh j c => hB.m0_at n hn half hh j c)]
      simp only [Nat.mul_zero, Nat.zero_add]
  · refine (View.read_writes_cons_unit_of_mem v f _ _ _ (ix2 r d) (ix2 (⟨r.val - 256, by omega⟩ : Fin 256) d) rfl ?_).trans ?_
    · intro a; fin_cases a
      · show r.val = 256 + (r.val - 256); omega
      · show d.val = 0 + d.val; omega
    · rw [tailRows_at, xb_eq r.val (by omega) h]
      unfold row
      congr 1
      funext e
      rw [mread_eq T.m1 1 (fun n hn half hh j c => hB.m1_at n hn half hh j c)]
      simp only [show 256 * 1 + (r.val - 256) = r.val by omega]

end Tile
end Cert.AttnIdeal.Gen
-- ==== Proof.AttnRunA.lean ====
module

public import proofs.«01_k».proof.Proof.AttnTile
public import proofs.«01_k».proof.Proof.Gen.AttnIdeal.Frame

/-! The attention's stores in the first grid point are those of its tile. -/

@[expose] public section
set_option maxRecDepth 100000
noncomputable section
namespace Cert.AttnIdeal.Gen
open Idealize.ShloMosaic

variable {F : FTy → Type} [FloatOps F] [Named F]
variable (c : Dev nD) (arg1 : Memref sig .tc .vmem S1x512x1024 .f32) (harg1 : arg1.IsWhole) (arg2 : Memref sig .tc .vmem S1024x5120 .bf16) (harg2 : arg2.IsWhole)
  (arg3 : Memref sig .tc .vmem S2048x1024 .bf16) (harg3 : arg3.IsWhole) (arg4 : Memref sig .tc .vmem S1536x1024 .bf16) (harg4 : arg4.IsWhole)
  (arg5 : Memref sig .tc .vmem S1x256x1024 .bf16) (harg5 : arg5.IsWhole) (arg6 : Memref sig .tc .vmem S16x640x128 .f32) (harg6 : arg6.IsWhole)
  (arg11 : Memref sig .tc .vmem S8x128x256 .bf16) (arg12 : Memref sig .tc .vmem S8x1024x256 .bf16) (arg13 : Memref sig .tc .vmem S8x160x1024 .bf16)
  (arg14 : Memref sig .tc .vmem S2x768x256 .f32) (arg15 : Memref sig .tc .vmem S2x768x256 .bf16) (arg16 : Memref sig .tc .vmem S8x128x256 .f32)
  (x0 : Vec F S1x512x1024 .f32) (x1 : Vec F S1024x5120 .bf16) (x2 : Vec F S2048x1024 .bf16) (x3 : Vec F S1536x1024 .bf16) (x4 : Vec F S1x256x1024 .bf16)
  (x5 : Vec F S16x640x128 .f32)

/-- The tile of a grid point, in the first grid point. -/
def tileA : Tile F where
  arg6 := arg6
  arg11 := arg11
  arg12 := arg12
  arg13 := arg13
  arg14 := arg14
  arg15 := arg15
  arg16 := arg16
  f6 := harg6.unread x5
  f12 := fun _ _ => arg12.view.junk
  f15 := arg15.view.junk
  Kb := [⟨Rect.unit ![0, 0, 0] S8x512x256.size inb_S8x1024x256_S8x512x256_0_0_0, k0_pay32⟩, ⟨Rect.unit ![0, 0, 128] S8x1024x128.size inb_S8x1024x256_S8x1024x128_0_0_128, k0_pay29⟩]
  Vb := [⟨Rect.unit ![0, 0, 0] S8x160x512.size inb_S8x160x1024_S8x160x512_0_0_0, k0_pay33⟩]
  Pb := zeroPieces
  xa := View.readAt (Elt F) arg1.view (Rect.unit (s := S1x512x1024) ![0, 0, 0] S1x256x1024.size inb_S1x512x1024_S1x256x1024_0_0_0).toLoadRect (harg1.unread x0)
  xb := View.readAt (Elt F) arg1.view (Rect.unit (s := S1x512x1024) ![0, 256, 0] S1x256x1024.size inb_S1x512x1024_S1x256x1024_0_256_0).toLoadRect (harg1.unread x0)
  wk := View.readAt (Elt F) arg2.view (Rect.unit (s := S1024x5120) ![0, 1024] S1024x1024.size inb_S1024x5120_S1024x1024_0_1024).toLoadRect (harg2.unread x1)
  wq := View.readAt (Elt F) arg3.view (Rect.unit (s := S2048x1024) ![0, 0] S1024x1024.size inb_S2048x1024_S1024x1024_0_0).toLoadRect (harg3.unread x2)
  wv := View.readAt (Elt F) arg3.view (Rect.unit (s := S2048x1024) ![1024, 0] S1024x1024.size inb_S2048x1024_S1024x1024_1024_0).toLoadRect (harg3.unread x2)
  wg := View.readAt (Elt F) arg2.view (Rect.unit (s := S1024x5120) ![0, 3584] S1024x1536.size inb_S1024x5120_S1024x1536_0_3584).toLoadRect (harg2.unread x1)
  wm := View.readAt (Elt F) arg2.view (Rect.unit (s := S1024x5120) ![0, 3072] S1024x512.size inb_S1024x5120_S1024x512_0_3072).toLoadRect (harg2.unread x1)
  kv i := View.readAt (Elt F) arg5.view (Rect.unit (s := S1x256x1024) ![0, 0, 128 * (i % 8)] S1x256x128.size (in_kv i)).toLoadRect (harg5.unread x4)
  wo := View.readAt (Elt F) arg4.view (Rect.unit (s := S1536x1024) ![0, 0] S1536x1024.size inb_S1536x1024_S1536x1024_0_0).toLoadRect (harg4.unread x3)

theorem q0_A : (kernelRun0_A.sl.HS1_1 c arg1 harg1 arg3 harg3 x0 x2) = (tileA arg1 harg1 arg2 harg2 arg3 harg3 arg4 harg4 arg5 harg5 arg6 harg6 arg11 arg12 arg13 arg14 arg15 arg16 x0 x1 x2 x3 x4 x5).q0 := by rfl
theorem q1_A : (kernelRun0_A.sl.HS1_2 c arg1 harg1 arg3 harg3 x0 x2) = (tileA arg1 harg1 arg2 harg2 arg3 harg3 arg4 harg4 arg5 harg5 arg6 harg6 arg11 arg12 arg13 arg14 arg15 arg16 x0 x1 x2 x3 x4 x5).q1 := by rfl
theorem k0_A : (kernelRun0_A.sl.HS2_10 c arg1 harg1 arg2 harg2 x0 x1) = (tileA arg1 harg1 arg2 harg2 arg3 harg3 arg4 harg4 arg5 harg5 arg6 harg6 arg11 arg12 arg13 arg14 arg15 arg16 x0 x1 x2 x3 x4 x5).k0 := by rfl
theorem k1_A : (kernelRun0_A.sl.HS2_18 c arg1 harg1 arg2 harg2 x0 x1) = (tileA arg1 harg1 arg2 harg2 arg3 harg3 arg4 harg4 arg5 harg5 arg6 harg6 arg11 arg12 arg13 arg14 arg15 arg16 x0 x1 x2 x3 x4 x5).k1 := by rfl
theorem v0_A : (kernelRun0_A.sl.HS3_4 c arg1 harg1 arg3 harg3 x0 x2) = (tileA arg1 harg1 arg2 harg2 arg3 harg3 arg4 harg4 arg5 harg5 arg6 harg6 arg11 arg12 arg13 arg14 arg15 arg16 x0 x1 x2 x3 x4 x5).v0 := by rfl
theorem v1_A : (kernelRun0_A.sl.HS3_7 c arg1 harg1 arg3 harg3 x0 x2) = (tileA arg1 harg1 arg2 harg2 arg3 harg3 arg4 harg4 arg5 harg5 arg6 harg6 arg11 arg12 arg13 arg14 arg15 arg16 x0 x1 x2 x3 x4 x5).v1 := by rfl

set_option maxHeartbeats 20000000 in
theorem s0_raw_A : (kernelRun0_A.sl.HS4_160 c arg1 harg1 arg2 harg2 arg3 harg3 arg6 harg6 arg11 arg12 x0 x1 x2 x5) = sList (qRead arg11 (kernelRun0_A.sl.HS1_1 c arg1 harg1 arg3 harg3 x0 x2)) (kRead arg12 ((fun _ _ => arg12.view.junk) 0) 0 (by decide) (kernelRun0_A.sl.HS2_10 c arg1 harg1 arg2 harg2 x0 x1)) (bRead arg6 (harg6.unread x5)) [] 16 := by rfl
set_option maxHeartbeats 20000000 in
theorem p0_raw_A : (kernelRun0_A.sl.HS5_34 c arg1 harg1 arg2 harg2 arg3 harg3 arg6 harg6 arg11 arg12 arg14 x0 x1 x2 x5) = pList arg14 (qRead arg11 (kernelRun0_A.sl.HS1_1 c arg1 harg1 arg3 harg3 x0 x2)) (kRead arg12 ((fun _ _ => arg12.view.junk) 0) 0 (by decide) (kernelRun0_A.sl.HS2_10 c arg1 harg1 arg2 harg2 x0 x1)) (bRead arg6 (harg6.unread x5)) [] zeroPieces 16 := by rfl
set_option maxHeartbeats 20000000 in
theorem m0_raw_A : (kernelRun0_A.sl.HS6_16 c arg1 harg1 arg2 harg2 arg3 harg3 arg6 harg6 arg11 arg12 arg13 arg14 arg15 x0 x1 x2 x5) = mList arg14 (qRead arg11 (kernelRun0_A.sl.HS1_1 c arg1 harg1 arg3 harg3 x0 x2)) (kRead arg12 ((fun _ _ => arg12.view.junk) 0) 0 (by decide) (kernelRun0_A.sl.HS2_10 c arg1 harg1 arg2 harg2 x0 x1)) (bRead arg6 (harg6.unread x5))
    (vRead arg13 (kernelRun0_A.sl.HS3_4 c arg1 harg1 arg3 harg3 x0 x2) 0 (by decide)) (pRead arg15 (arg15.view.junk)) [] zeroPieces [] 16 := by rfl
set_option maxHeartbeats 20000000 in
theorem p1_raw_A : (kernelRun0_A.sl.HS5_66 c arg1 harg1 arg2 harg2 arg3 harg3 arg6 harg6 arg11 arg12 arg14 x0 x1 x2 x5) = pList arg14 (qRead arg11 (kernelRun0_A.sl.HS1_2 c arg1 harg1 arg3 harg3 x0 x2)) (kRead arg12 ((fun _ _ => arg12.view.junk) 1) 256 (by decide) (kernelRun0_A.sl.HS2_18 c arg1 harg1 arg2 harg2 x0 x1)) (bRead arg6 (harg6.unread x5)) (kernelRun0_A.sl.HS4_160 c arg1 harg1 arg2 harg2 arg3 harg3 arg6 harg6 arg11 arg12 x0 x1 x2 x5) (kernelRun0_A.sl.HS5_34 c arg1 harg1 arg2 harg2 arg3 harg3 arg6 harg6 arg11 arg12 arg14 x0 x1 x2 x5) 16 := by rfl
set_option maxHeartbeats 20000000 in
theorem m1_raw_A : (kernelRun0_A.sl.HS6_32 c arg1 harg1 arg2 harg2 arg3 harg3 arg6 harg6 arg11 arg12 arg13 arg14 arg15 x0 x1 x2 x5) = mList arg14 (qRead arg11 (kernelRun0_A.sl.HS1_2 c arg1 harg1 arg3 harg3 x0 x2)) (kRead arg12 ((fun _ _ => arg12.view.junk) 1) 256 (by decide) (kernelRun0_A.sl.HS2_18 c arg1 harg1 arg2 harg2 x0 x1)) (bRead arg6 (harg6.unread x5))
    (vRead arg13 (kernelRun0_A.sl.HS3_7 c arg1 harg1 arg3 harg3 x0 x2) 256 (by decide)) (pRead arg15 (arg15.view.junk)) (kernelRun0_A.sl.HS4_160 c arg1 harg1 arg2 harg2 arg3 harg3 arg6 harg6 arg11 arg12 x0 x1 x2 x5) (kernelRun0_A.sl.HS5_34 c arg1 harg1 arg2 harg2 arg3 harg3 arg6 harg6 arg11 arg12 arg14 x0 x1 x2 x5) (kernelRun0_A.sl.HS6_16 c arg1 harg1 arg2 harg2 arg3 harg3 arg6 harg6 arg11 arg12 arg13 arg14 arg15 x0 x1 x2 x5) 16 := by rfl

theorem s0_A : (kernelRun0_A.sl.HS4_160 c arg1 harg1 arg2 harg2 arg3 harg3 arg6 harg6 arg11 arg12 x0 x1 x2 x5) = (tileA arg1 harg1 arg2 harg2 arg3 harg3 arg4 harg4 arg5 harg5 arg6 harg6 arg11 arg12 arg13 arg14 arg15 arg16 x0 x1 x2 x3 x4 x5).s0 := by rw [s0_raw_A, q0_A c arg1 harg1 arg2 harg2 arg3 harg3 arg4 harg4 arg5 harg5 arg6 harg6 arg11 arg12 arg13 arg14 arg15 arg16 x0 x1 x2 x3 x4 x5, k0_A c arg1 harg1 arg2 harg2 arg3 harg3 arg4 harg4 arg5 harg5 arg6 harg6 arg11 arg12 arg13 arg14 arg15 arg16 x0 x1 x2 x3 x4 x5]; rfl
theorem p0_A : (kernelRun0_A.sl.HS5_34 c arg1 harg1 arg2 harg2 arg3 harg3 arg6 harg6 arg11 arg12 arg14 x0 x1 x2 x5) = (tileA arg1 harg1 arg2 harg2 arg3 harg3 arg4 harg4 arg5 harg5 arg6 harg6 arg11 arg12 arg13 arg14 arg15 arg16 x0 x1 x2 x3 x4 x5).p0 := by rw [p0_raw_A, q0_A c arg1 harg1 arg2 harg2 arg3 harg3 arg4 harg4 arg5 harg5 arg6 harg6 arg11 arg12 arg13 arg14 arg15 arg16 x0 x1 x2 x3 x4 x5, k0_A c arg1 harg1 arg2 harg2 arg3 harg3 arg4 harg4 arg5 harg5 arg6 harg6 arg11 arg12 arg13 arg14 arg15 arg16 x0 x1 x2 x3 x4 x5]; rfl
theorem m0_A : (kernelRun0_A.sl.HS6_16 c arg1 harg1 arg2 harg2 arg3 harg3 arg6 harg6 arg11 arg12 arg13 arg14 arg15 x0 x1 x2 x5) = (tileA arg1 harg1 arg2 harg2 arg3 harg3 arg4 harg4 arg5 harg5 arg6 harg6 arg11 arg12 arg13 arg14 arg15 arg16 x0 x1 x2 x3 x4 x5).m0 := by rw [m0_raw_A, q0_A c arg1 harg1 arg2 harg2 arg3 harg3 arg4 harg4 arg5 harg5 arg6 harg6 arg11 arg12 arg13 arg14 arg15 arg16 x0 x1 x2 x3 x4 x5, k0_A c arg1 harg1 arg2 harg2 arg3 harg3 arg4 harg4 arg5 harg5 arg6 harg6 arg11 arg12 arg13 arg14 arg15 arg16 x0 x1 x2 x3 x4 x5, v0_A c arg1 harg1 arg2 harg2 arg3 harg3 arg4 harg4 arg5 harg5 arg6 harg6 arg11 arg12 arg13 arg14 arg15 arg16 x0 x1 x2 x3 x4 x5]; rfl
theorem p1_A : (kernelRun0_A.sl.HS5_66 c arg1 harg1 arg2 harg2 arg3 harg3 arg6 harg6 arg11 arg12 arg14 x0 x1 x2 x5) = (tileA arg1 harg1 arg2 harg2 arg3 harg3 arg4 harg4 arg5 harg5 arg6 harg6 arg11 arg12 arg13 arg14 arg15 arg16 x0 x1 x2 x3 x4 x5).p1 := by rw [p1_raw_A, q1_A c arg1 harg1 arg2 harg2 arg3 harg3 arg4 harg4 arg5 harg5 arg6 harg6 arg11 arg12 arg13 arg14 arg15 arg16 x0 x1 x2 x3 x4 x5, k1_A c arg1 harg1 arg2 harg2 arg3 harg3 arg4 harg4 arg5 harg5 arg6 harg6 arg11 arg12 arg13 arg14 arg15 arg16 x0 x1 x2 x3 x4 x5, s0_A c arg1 harg1 arg2 harg2 arg3 harg3 arg4 harg4 arg5 harg5 arg6 harg6 arg11 arg12 arg13 arg14 arg15 arg16 x0 x1 x2 x3 x4 x5, p0_A c arg1 harg1 arg2 harg2 arg3 harg3 arg4 harg4 arg5 harg5 arg6 harg6 arg11 arg12 arg13 arg14 arg15 arg16 x0 x1 x2 x3 x4 x5]; rfl
theorem m1_A : (kernelRun0_A.sl.HS6_32 c arg1 harg1 arg2 harg2 arg3 harg3 arg6 harg6 arg11 arg12 arg13 arg14 arg15 x0 x1 x2 x5) = (tileA arg1 harg1 arg2 harg2 arg3 harg3 arg4 harg4 arg5 harg5 arg6 harg6 arg11 arg12 arg13 arg14 arg15 arg16 x0 x1 x2 x3 x4 x5).m1 := by
  rw [m1_raw_A, q1_A c arg1 harg1 arg2 harg2 arg3 harg3 arg4 harg4 arg5 harg5 arg6 harg6 arg11 arg12 arg13 arg14 arg15 arg16 x0 x1 x2 x3 x4 x5, k1_A c arg1 harg1 arg2 harg2 arg3 harg3 arg4 harg4 arg5 harg5 arg6 harg6 arg11 arg12 arg13 arg14 arg15 arg16 x0 x1 x2 x3 x4 x5, v1_A c arg1 harg1 arg2 harg2 arg3 harg3 arg4 harg4 arg5 harg5 arg6 harg6 arg11 arg12 arg13 arg14 arg15 arg16 x0 x1 x2 x3 x4 x5, s0_A c arg1 harg1 arg2 harg2 arg3 harg3 arg4 harg4 arg5 harg5 arg6 harg6 arg11 arg12 arg13 arg14 arg15 arg16 x0 x1 x2 x3 x4 x5, p0_A c arg1 harg1 arg2 harg2 arg3 harg3 arg4 harg4 arg5 harg5 arg6 harg6 arg11 arg12 arg13 arg14 arg15 arg16 x0 x1 x2 x3 x4 x5, m0_A c arg1 harg1 arg2 harg2 arg3 harg3 arg4 harg4 arg5 harg5 arg6 harg6 arg11 arg12 arg13 arg14 arg15 arg16 x0 x1 x2 x3 x4 x5]; rfl

set_option maxHeartbeats 20000000 in
theorem rowsb_raw_A : k0_pay3 (kernelRun0_A.sl.r_14 c arg1 harg1 x0) (kernelRun0_A.sl.r_15 c arg1 harg1 x0) (kernelRun0_A.sl.r_20 c arg1 harg1 arg2 harg2 arg3 harg3 arg6 harg6 arg11 arg12 arg13 arg14 arg15 arg16 x0 x1 x2 x5) (kernelRun0_A.sl.r_9 c arg2 harg2 x1) (kernelRun0_A.sl.r_22 c arg1 harg1 arg2 harg2 arg5 harg5 x0 x1 x4)
    (kernelRun0_A.sl.v5507 c arg1 harg1 arg2 harg2 arg5 harg5 x0 x1 x4) (kernelRun0_A.sl.v5525 c arg1 harg1 arg2 harg2 arg5 harg5 x0 x1 x4) (kernelRun0_A.sl.r_23 c arg5 harg5 x4) (kernelRun0_A.sl.r_24 c arg1 harg1 arg2 harg2 arg5 harg5 x0 x1 x4) (View.readAt (Elt F) arg4.view (Rect.unit (s := S1536x1024) ![0, 0] ![1536, 1024] inb_S1536x1024_S1536x1024_0_0).toLoadRect (harg4.unread x3))
    = tailRows (tileA arg1 harg1 arg2 harg2 arg3 harg3 arg4 harg4 arg5 harg5 arg6 harg6 arg11 arg12 arg13 arg14 arg15 arg16 x0 x1 x2 x3 x4 x5).xb (mRead arg16 (kernelRun0_A.sl.HS6_32 c arg1 harg1 arg2 harg2 arg3 harg3 arg6 harg6 arg11 arg12 arg13 arg14 arg15 x0 x1 x2 x5)) (tileA arg1 harg1 arg2 harg2 arg3 harg3 arg4 harg4 arg5 harg5 arg6 harg6 arg11 arg12 arg13 arg14 arg15 arg16 x0 x1 x2 x3 x4 x5).wg (tileA arg1 harg1 arg2 harg2 arg3 harg3 arg4 harg4 arg5 harg5 arg6 harg6 arg11 arg12 arg13 arg14 arg15 arg16 x0 x1 x2 x3 x4 x5).wm (tileA arg1 harg1 arg2 harg2 arg3 harg3 arg4 harg4 arg5 harg5 arg6 harg6 arg11 arg12 arg13 arg14 arg15 arg16 x0 x1 x2 x3 x4 x5).kv (tileA arg1 harg1 arg2 harg2 arg3 harg3 arg4 harg4 arg5 harg5 arg6 harg6 arg11 arg12 arg13 arg14 arg15 arg16 x0 x1 x2 x3 x4 x5).wo := by rfl
set_option maxHeartbeats 20000000 in
theorem rowsa_raw_A : k0_pay695 (kernelRun0_A.sl.r_2 c arg1 harg1 x0) (kernelRun0_A.sl.v2971 c arg1 harg1 arg2 harg2 arg3 harg3 arg5 harg5 arg6 harg6 arg11 arg12 arg13 arg14 arg15 arg16 x0 x1 x2 x4 x5) (kernelRun0_A.sl.r_13 c arg4 harg4 x3)
    = tailRows (tileA arg1 harg1 arg2 harg2 arg3 harg3 arg4 harg4 arg5 harg5 arg6 harg6 arg11 arg12 arg13 arg14 arg15 arg16 x0 x1 x2 x3 x4 x5).xa (mRead arg16 (kernelRun0_A.sl.HS6_16 c arg1 harg1 arg2 harg2 arg3 harg3 arg6 harg6 arg11 arg12 arg13 arg14 arg15 x0 x1 x2 x5)) (tileA arg1 harg1 arg2 harg2 arg3 harg3 arg4 harg4 arg5 harg5 arg6 harg6 arg11 arg12 arg13 arg14 arg15 arg16 x0 x1 x2 x3 x4 x5).wg (tileA arg1 harg1 arg2 harg2 arg3 harg3 arg4 harg4 arg5 harg5 arg6 harg6 arg11 arg12 arg13 arg14 arg15 arg16 x0 x1 x2 x3 x4 x5).wm (tileA arg1 harg1 arg2 harg2 arg3 harg3 arg4 harg4 arg5 harg5 arg6 harg6 arg11 arg12 arg13 arg14 arg15 arg16 x0 x1 x2 x3 x4 x5).kv (tileA arg1 harg1 arg2 harg2 arg3 harg3 arg4 harg4 arg5 harg5 arg6 harg6 arg11 arg12 arg13 arg14 arg15 arg16 x0 x1 x2 x3 x4 x5).wo := by rfl

end Cert.AttnIdeal.Gen
-- ==== Proof.AttnRunB.lean ====
module

public import proofs.«01_k».proof.Proof.AttnTile
public import proofs.«01_k».proof.Proof.Gen.AttnIdeal.Frame

/-! The attention's stores in a grid point that continues a sequence are those of its tile. -/

@[expose] public section
set_option maxRecDepth 100000
noncomputable section
namespace Cert.AttnIdeal.Gen
open Idealize.ShloMosaic

variable {F : FTy → Type} [FloatOps F] [Named F]
variable (c : Dev nD) (arg1 : Memref sig .tc .vmem S1x512x1024 .f32) (harg1 : arg1.IsWhole) (arg2 : Memref sig .tc .vmem S1024x5120 .bf16) (harg2 : arg2.IsWhole)
  (arg3 : Memref sig .tc .vmem S2048x1024 .bf16) (harg3 : arg3.IsWhole) (arg4 : Memref sig .tc .vmem S1536x1024 .bf16) (harg4 : arg4.IsWhole)
  (arg5 : Memref sig .tc .vmem S1x256x1024 .bf16) (harg5 : arg5.IsWhole) (arg6 : Memref sig .tc .vmem S16x640x128 .f32) (harg6 : arg6.IsWhole)
  (arg11 : Memref sig .tc .vmem S8x128x256 .bf16) (arg12 : Memref sig .tc .vmem S8x1024x256 .bf16) (harg12 : arg12.IsWhole) (arg13 : Memref sig .tc .vmem S8x160x1024 .bf16) (harg13 : arg13.IsWhole)
  (arg14 : Memref sig .tc .vmem S2x768x256 .f32) (arg15 : Memref sig .tc .vmem S2x768x256 .bf16) (harg15 : arg15.IsWhole) (arg16 : Memref sig .tc .vmem S8x128x256 .f32)
  (x0 : Vec F S1x512x1024 .f32) (x1 : Vec F S1024x5120 .bf16) (x2 : Vec F S2048x1024 .bf16) (x3 : Vec F S1536x1024 .bf16) (x4 : Vec F S1x256x1024 .bf16)
  (x5 : Vec F S16x640x128 .f32) (xs2 : Vec F S8x1024x256 .bf16) (xs3 : Vec F S8x160x1024 .bf16) (xs5 : Vec F S2x768x256 .bf16)

/-- The tile of a grid point, in a grid point that continues a sequence. -/
def tileB : Tile F where
  arg6 := arg6
  arg11 := arg11
  arg12 := arg12
  arg13 := arg13
  arg14 := arg14
  arg15 := arg15
  arg16 := arg16
  f6 := harg6.unread x5
  f12 := fun s i => if s = 0 ∧ i < 4 ∨ i < 2 then arg12.view.junk else harg12.unread xs2
  f15 := harg15.unread xs5
  Kb := [⟨Rect.unit ![0, 0, 0] S8x512x256.size inb_S8x1024x256_S8x512x256_0_0_0, k0_pay34 (View.readAt (Elt F) arg12.view (Rect.unit (s := S8x1024x256) ![0, 512, 0] S8x512x256.size inb_S8x1024x256_S8x512x256_0_512_0).toLoadRect (harg12.unread xs2))⟩]
  Vb := [⟨Rect.unit ![0, 0, 0] S8x160x512.size inb_S8x160x1024_S8x160x512_0_0_0, k0_pay35 (View.readAt (Elt F) arg13.view (Rect.unit (s := S8x160x1024) ![0, 0, 512] S8x160x512.size inb_S8x160x1024_S8x160x512_0_0_512).toLoadRect (harg13.unread xs3))⟩]
  Pb := []
  xa := View.readAt (Elt F) arg1.view (Rect.unit (s := S1x512x1024) ![0, 0, 0] S1x256x1024.size inb_S1x512x1024_S1x256x1024_0_0_0).toLoadRect (harg1.unread x0)
  xb := View.readAt (Elt F) arg1.view (Rect.unit (s := S1x512x1024) ![0, 256, 0] S1x256x1024.size inb_S1x512x1024_S1x256x1024_0_256_0).toLoadRect (harg1.unread x0)
  wk := View.readAt (Elt F) arg2.view (Rect.unit (s := S1024x5120) ![0, 1024] S1024x1024.size inb_S1024x5120_S1024x1024_0_1024).toLoadRect (harg2.unread x1)
  wq := View.readAt (Elt F) arg3.view (Rect.unit (s := S2048x1024) ![0, 0] S1024x1024.size inb_S2048x1024_S1024x1024_0_0).toLoadRect (harg3.unread x2)
  wv := View.readAt (Elt F) arg3.view (Rect.unit (s := S2048x1024) ![1024, 0] S1024x1024.size inb_S2048x1024_S1024x1024_1024_0).toLoadRect (harg3.unread x2)
  wg := View.readAt (Elt F) arg2.view (Rect.unit (s := S1024x5120) ![0, 3584] S1024x1536.size inb_S1024x5120_S1024x1536_0_3584).toLoadRect (harg2.unread x1)
  wm := View.readAt (Elt F) arg2.view (Rect.unit (s := S1024x5120) ![0, 3072] S1024x512.size inb_S1024x5120_S1024x512_0_3072).toLoadRect (harg2.unread x1)
  kv i := View.readAt (Elt F) arg5.view (Rect.unit (s := S1x256x1024) ![0, 0, 128 * (i % 8)] S1x256x128.size (in_kv i)).toLoadRect (harg5.unread x4)
  wo := View.readAt (Elt F) arg4.view (Rect.unit (s := S1536x1024) ![0, 0] S1536x1024.size inb_S1536x1024_S1536x1024_0_0).toLoadRect (harg4.unread x3)

theorem q0_B : (kernelRun0_B.sl.HS1_1 c arg1 harg1 arg3 harg3 x0 x2) = (tileB arg1 harg1 arg2 harg2 arg3 harg3 arg4 harg4 arg5 harg5 arg6 harg6 arg11 arg12 harg12 arg13 harg13 arg14 arg15 harg15 arg16 x0 x1 x2 x3 x4 x5 xs2 xs3 xs5).q0 := by rfl
theorem q1_B : (kernelRun0_B.sl.HS1_2 c arg1 harg1 arg3 harg3 x0 x2) = (tileB arg1 harg1 arg2 harg2 arg3 harg3 arg4 harg4 arg5 harg5 arg6 harg6 arg11 arg12 harg12 arg13 harg13 arg14 arg15 harg15 arg16 x0 x1 x2 x3 x4 x5 xs2 xs3 xs5).q1 := by rfl
theorem k0_B : (kernelRun0_B.sl.HS2_9 c arg1 harg1 arg2 harg2 arg12 harg12 x0 x1 xs2) = (tileB arg1 harg1 arg2 harg2 arg3 harg3 arg4 harg4 arg5 harg5 arg6 harg6 arg11 arg12 harg12 arg13 harg13 arg14 arg15 harg15 arg16 x0 x1 x2 x3 x4 x5 xs2 xs3 xs5).k0 := by rfl
theorem k1_B : (kernelRun0_B.sl.HS2_17 c arg1 harg1 arg2 harg2 arg12 harg12 x0 x1 xs2) = (tileB arg1 harg1 arg2 harg2 arg3 harg3 arg4 harg4 arg5 harg5 arg6 harg6 arg11 arg12 harg12 arg13 harg13 arg14 arg15 harg15 arg16 x0 x1 x2 x3 x4 x5 xs2 xs3 xs5).k1 := by rfl
theorem v0_B : (kernelRun0_B.sl.HS3_4 c arg1 harg1 arg3 harg3 arg13 harg13 x0 x2 xs3) = (tileB arg1 harg1 arg2 harg2 arg3 harg3 arg4 harg4 arg5 harg5 arg6 harg6 arg11 arg12 harg12 arg13 harg13 arg14 arg15 harg15 arg16 x0 x1 x2 x3 x4 x5 xs2 xs3 xs5).v0 := by rfl
theorem v1_B : (kernelRun0_B.sl.HS3_7 c arg1 harg1 arg3 harg3 arg13 harg13 x0 x2 xs3) = (tileB arg1 harg1 arg2 harg2 arg3 harg3 arg4 harg4 arg5 harg5 arg6 harg6 arg11 arg12 harg12 arg13 harg13 arg14 arg15 harg15 arg16 x0 x1 x2 x3 x4 x5 xs2 xs3 xs5).v1 := by rfl

set_option maxHeartbeats 20000000 in
theorem s0_raw_B : (kernelRun0_B.sl.HS4_160 c arg1 harg1 arg2 harg2 arg3 harg3 arg6 harg6 arg11 arg12 harg12 x0 x1 x2 x5 xs2) = sList (qRead arg11 (kernelRun0_B.sl.HS1_1 c arg1 harg1 arg3 harg3 x0 x2)) (kRead arg12 ((fun s i => if s = 0 ∧ i < 4 ∨ i < 2 then arg12.view.junk else harg12.unread xs2) 0) 0 (by decide) (kernelRun0_B.sl.HS2_9 c arg1 harg1 arg2 harg2 arg12 harg12 x0 x1 xs2)) (bRead arg6 (harg6.unread x5)) [] 16 := by rfl
set_option maxHeartbeats 20000000 in
theorem p0_raw_B : (kernelRun0_B.sl.HS5_32 c arg1 harg1 arg2 harg2 arg3 harg3 arg6 harg6 arg11 arg12 harg12 arg14 x0 x1 x2 x5 xs2) = pList arg14 (qRead arg11 (kernelRun0_B.sl.HS1_1 c arg1 harg1 arg3 harg3 x0 x2)) (kRead arg12 ((fun s i => if s = 0 ∧ i < 4 ∨ i < 2 then arg12.view.junk else harg12.unread xs2) 0) 0 (by decide) (kernelRun0_B.sl.HS2_9 c arg1 harg1 arg2 harg2 arg12 harg12 x0 x1 xs2)) (bRead arg6 (harg6.unread x5)) [] [] 16 := by rfl
set_option maxHeartbeats 20000000 in
theorem m0_raw_B : (kernelRun0_B.sl.HS6_16 c arg1 harg1 arg2 harg2 arg3 harg3 arg6 harg6 arg11 arg12 harg12 arg13 harg13 arg14 arg15 harg15 x0 x1 x2 x5 xs2 xs3 xs5) = mList arg14 (qRead arg11 (kernelRun0_B.sl.HS1_1 c arg1 harg1 arg3 harg3 x0 x2)) (kRead arg12 ((fun s i => if s = 0 ∧ i < 4 ∨ i < 2 then arg12.view.junk else harg12.unread xs2) 0) 0 (by decide) (kernelRun0_B.sl.HS2_9 c arg1 harg1 arg2 harg2 arg12 harg12 x0 x1 xs2)) (bRead arg6 (harg6.unread x5))
    (vRead arg13 (kernelRun0_B.sl.HS3_4 c arg1 harg1 arg3 harg3 arg13 harg13 x0 x2 xs3) 0 (by decide)) (pRead arg15 (harg15.unread xs5)) [] [] [] 16 := by rfl
set_option maxHeartbeats 20000000 in
theorem p1_raw_B : (kernelRun0_B.sl.HS5_64 c arg1 harg1 arg2 harg2 arg3 harg3 arg6 harg6 arg11 arg12 harg12 arg14 x0 x1 x2 x5 xs2) = pList arg14 (qRead arg11 (kernelRun0_B.sl.HS1_2 c arg1 harg1 arg3 harg3 x0 x2)) (kRead arg12 ((fun s i => if s = 0 ∧ i < 4 ∨ i < 2 then arg12.view.junk else harg12.unread xs2) 1) 256 (by decide) (kernelRun0_B.sl.HS2_17 c arg1 harg1 arg2 harg2 arg12 harg12 x0 x1 xs2)) (bRead arg6 (harg6.unread x5)) (kernelRun0_B.sl.HS4_160 c arg1 harg1 arg2 harg2 arg3 harg3 arg6 harg6 arg11 arg12 harg12 x0 x1 x2 x5 xs2) (kernelRun0_B.sl.HS5_32 c arg1 harg1 arg2 harg2 arg3 harg3 arg6 harg6 arg11 arg12 harg12 arg14 x0 x1 x2 x5 xs2) 16 := by rfl
set_option maxHeartbeats 20000000 in
theorem m1_raw_B : (kernelRun0_B.sl.HS6_32 c arg1 harg1 arg2 harg2 arg3 harg3 arg6 harg6 arg11 arg12 harg12 arg13 harg13 arg14 arg15 harg15 x0 x1 x2 x5 xs2 xs3 xs5) = mList arg14 (qRead arg11 (kernelRun0_B.sl.HS1_2 c arg1 harg1 arg3 harg3 x0 x2)) (kRead arg12 ((fun s i => if s = 0 ∧ i < 4 ∨ i < 2 then arg12.view.junk else harg12.unread xs2) 1) 256 (by decide) (kernelRun0_B.sl.HS2_17 c arg1 harg1 arg2 harg2 arg12 harg12 x0 x1 xs2)) (bRead arg6 (harg6.unread x5))
    (vRead arg13 (kernelRun0_B.sl.HS3_7 c arg1 harg1 arg3 harg3 arg13 harg13 x0 x2 xs3) 256 (by decide)) (pRead arg15 (harg15.unread xs5)) (kernelRun0_B.sl.HS4_160 c arg1 harg1 arg2 harg2 arg3 harg3 arg6 harg6 arg11 arg12 harg12 x0 x1 x2 x5 xs2) (kernelRun0_B.sl.HS5_32 c arg1 harg1 arg2 harg2 arg3 harg3 arg6 harg6 arg11 arg12 harg12 arg14 x0 x1 x2 x5 xs2) (kernelRun0_B.sl.HS6_16 c arg1 harg1 arg2 harg2 arg3 harg3 arg6 harg6 arg11 arg12 harg12 arg13 harg13 arg14 arg15 harg15 x0 x1 x2 x5 xs2 xs3 xs5) 16 := by rfl

theorem s0_B : (kernelRun0_B.sl.HS4_160 c arg1 harg1 arg2 harg2 arg3 harg3 arg6 harg6 arg11 arg12 harg12 x0 x1 x2 x5 xs2) = (tileB arg1 harg1 arg2 harg2 arg3 harg3 arg4 harg4 arg5 harg5 arg6 harg6 arg11 arg12 harg12 arg13 harg13 arg14 arg15 harg15 arg16 x0 x1 x2 x3 x4 x5 xs2 xs3 xs5).s0 := by rw [s0_raw_B, q0_B c arg1 harg1 arg2 harg2 arg3 harg3 arg4 harg4 arg5 harg5 arg6 harg6 arg11 arg12 harg12 arg13 harg13 arg14 arg15 harg15 arg16 x0 x1 x2 x3 x4 x5 xs2 xs3 xs5, k0_B c arg1 harg1 arg2 harg2 arg3 harg3 arg4 harg4 arg5 harg5 arg6 harg6 arg11 arg12 harg12 arg13 harg13 arg14 arg15 harg15 arg16 x0 x1 x2 x3 x4 x5 xs2 xs3 xs5]; rfl
theorem p0_B : (kernelRun0_B.sl.HS5_32 c arg1 harg1 arg2 harg2 arg3 harg3 arg6 harg6 arg11 arg12 harg12 arg14 x0 x1 x2 x5 xs2) = (tileB arg1 harg1 arg2 harg2 arg3 harg3 arg4 harg4 arg5 harg5 arg6 harg6 arg11 arg12 harg12 arg13 harg13 arg14 arg15 harg15 arg16 x0 x1 x2 x3 x4 x5 xs2 xs3 xs5).p0 := by rw [p0_raw_B, q0_B c arg1 harg1 arg2 harg2 arg3 harg3 arg4 harg4 arg5 harg5 arg6 harg6 arg11 arg12 harg12 arg13 harg13 arg14 arg15 harg15 arg16 x0 x1 x2 x3 x4 x5 xs2 xs3 xs5, k0_B c arg1 harg1 arg2 harg2 arg3 harg3 arg4 harg4 arg5 harg5 arg6 harg6 arg11 arg12 harg12 arg13 harg13 arg14 arg15 harg15 arg16 x0 x1 x2 x3 x4 x5 xs2 xs3 xs5]; rfl
theorem m0_B : (kernelRun0_B.sl.HS6_16 c arg1 harg1 arg2 harg2 arg3 harg3 arg6 harg6 arg11 arg12 harg12 arg13 harg13 arg14 arg15 harg15 x0 x1 x2 x5 xs2 xs3 xs5) = (tileB arg1 harg1 arg2 harg2 arg3 harg3 arg4 harg4 arg5 harg5 arg6 harg6 arg11 arg12 harg12 arg13 harg13 arg14 arg15 harg15 arg16 x0 x1 x2 x3 x4 x5 xs2 xs3 xs5).m0 := by rw [m0_raw_B, q0_B c arg1 harg1 arg2 harg2 arg3 harg3 arg4 harg4 arg5 harg5 arg6 harg6 arg11 arg12 harg12 arg13 harg13 arg14 arg15 harg15 arg16 x0 x1 x2 x3 x4 x5 xs2 xs3 xs5, k0_B c arg1 harg1 arg2 harg2 arg3 harg3 arg4 harg4 arg5 harg5 arg6 harg6 arg11 arg12 harg12 arg13 harg13 arg14 arg15 harg15 arg16 x0 x1 x2 x3 x4 x5 xs2 xs3 xs5, v0_B c arg1 harg1 arg2 harg2 arg3 harg3 arg4 harg4 arg5 harg5 arg6 harg6 arg11 arg12 harg12 arg13 harg13 arg14 arg15 harg15 arg16 x0 x1 x2 x3 x4 x5 xs2 xs3 xs5]; rfl
theorem p1_B : (kernelRun0_B.sl.HS5_64 c arg1 harg1 arg2 harg2 arg3 harg3 arg6 harg6 arg11 arg12 harg12 arg14 x0 x1 x2 x5 xs2) = (tileB arg1 harg1 arg2 harg2 arg3 harg3 arg4 harg4 arg5 harg5 arg6 harg6 arg11 arg12 harg12 arg13 harg13 arg14 arg15 harg15 arg16 x0 x1 x2 x3 x4 x5 xs2 xs3 xs5).p1 := by rw [p1_raw_B, q1_B c arg1 harg1 arg2 harg2 arg3 harg3 arg4 harg4 arg5 harg5 arg6 harg6 arg11 arg12 harg12 arg13 harg13 arg14 arg15 harg15 arg16 x0 x1 x2 x3 x4 x5 xs2 xs3 xs5, k1_B c arg1 harg1 arg2 harg2 arg3 harg3 arg4 harg4 arg5 harg5 arg6 harg6 arg11 arg12 harg12 arg13 harg13 arg14 arg15 harg15 arg16 x0 x1 x2 x3 x4 x5 xs2 xs3 xs5, s0_B c arg1 harg1 arg2 harg2 arg3 harg3 arg4 harg4 arg5 harg5 arg6 harg6 arg11 arg12 harg12 arg13 harg13 arg14 arg15 harg15 arg16 x0 x1 x2 x3 x4 x5 xs2 xs3 xs5, p0_B c arg1 harg1 arg2 harg2 arg3 harg3 arg4 harg4 arg5 harg5 arg6 harg6 arg11 arg12 harg12 arg13 harg13 arg14 arg15 harg15 arg16 x0 x1 x2 x3 x4 x5 xs2 xs3 xs5]; rfl
theorem m1_B : (kernelRun0_B.sl.HS6_32 c arg1 harg1 arg2 harg2 arg3 harg3 arg6 harg6 arg11 arg12 harg12 arg13 harg13 arg14 arg15 harg15 x0 x1 x2 x5 xs2 xs3 xs5) = (tileB arg1 harg1 arg2 harg2 arg3 harg3 arg4 harg4 arg5 harg5 arg6 harg6 arg11 arg12 harg12 arg13 harg13 arg14 arg15 harg15 arg16 x0 x1 x2 x3 x4 x5 xs2 xs3 xs5).m1 := by
  rw [m1_raw_B, q1_B c arg1 harg1 arg2 harg2 arg3 harg3 arg4 harg4 arg5 harg5 arg6 harg6 arg11 arg12 harg12 arg13 harg13 arg14 arg15 harg15 arg16 x0 x1 x2 x3 x4 x5 xs2 xs3 xs5, k1_B c arg1 harg1 arg2 harg2 arg3 harg3 arg4 harg4 arg5 harg5 arg6 harg6 arg11 arg12 harg12 arg13 harg13 arg14 arg15 harg15 arg16 x0 x1 x2 x3 x4 x5 xs2 xs3 xs5, v1_B c arg1 harg1 arg2 harg2 arg3 harg3 arg4 harg4 arg5 harg5 arg6 harg6 arg11 arg12 harg12 arg13 harg13 arg14 arg15 harg15 arg16 x0 x1 x2 x3 x4 x5 xs2 xs3 xs5, s0_B c arg1 harg1 arg2 harg2 arg3 harg3 arg4 harg4 arg5 harg5 arg6 harg6 arg11 arg12 harg12 arg13 harg13 arg14 arg15 harg15 arg16 x0 x1 x2 x3 x4 x5 xs2 xs3 xs5, p0_B c arg1 harg1 arg2 harg2 arg3 harg3 arg4 harg4 arg5 harg5 arg6 harg6 arg11 arg12 harg12 arg13 harg13 arg14 arg15 harg15 arg16 x0 x1 x2 x3 x4 x5 xs2 xs3 xs5, m0_B c arg1 harg1 arg2 harg2 arg3 harg3 arg4 harg4 arg5 harg5 arg6 harg6 arg11 arg12 harg12 arg13 harg13 arg14 arg15 harg15 arg16 x0 x1 x2 x3 x4 x5 xs2 xs3 xs5]; rfl

set_option maxHeartbeats 20000000 in
theorem rowsb_raw_B : k0_pay3 (kernelRun0_B.sl.r_16 c arg1 harg1 x0) (kernelRun0_B.sl.r_17 c arg1 harg1 x0) (kernelRun0_B.sl.r_22 c arg1 harg1 arg2 harg2 arg3 harg3 arg6 harg6 arg11 arg12 harg12 arg13 harg13 arg14 arg15 harg15 arg16 x0 x1 x2 x5 xs2 xs3 xs5) (kernelRun0_B.sl.r_11 c arg2 harg2 x1) (kernelRun0_B.sl.r_24 c arg1 harg1 arg2 harg2 arg5 harg5 x0 x1 x4)
    (kernelRun0_B.sl.v5507 c arg1 harg1 arg2 harg2 arg5 harg5 x0 x1 x4) (kernelRun0_B.sl.v5525 c arg1 harg1 arg2 harg2 arg5 harg5 x0 x1 x4) (kernelRun0_B.sl.r_25 c arg5 harg5 x4) (kernelRun0_B.sl.r_26 c arg1 harg1 arg2 harg2 arg5 harg5 x0 x1 x4) (View.readAt (Elt F) arg4.view (Rect.unit (s := S1536x1024) ![0, 0] ![1536, 1024] inb_S1536x1024_S1536x1024_0_0).toLoadRect (harg4.unread x3))
    = tailRows (tileB arg1 harg1 arg2 harg2 arg3 harg3 arg4 harg4 arg5 harg5 arg6 harg6 arg11 arg12 harg12 arg13 harg13 arg14 arg15 harg15 arg16 x0 x1 x2 x3 x4 x5 xs2 xs3 xs5).xb (mRead arg16 (kernelRun0_B.sl.HS6_32 c arg1 harg1 arg2 harg2 arg3 harg3 arg6 harg6 arg11 arg12 harg12 arg13 harg13 arg14 arg15 harg15 x0 x1 x2 x5 xs2 xs3 xs5)) (tileB arg1 harg1 arg2 harg2 arg3 harg3 arg4 harg4 arg5 harg5 arg6 harg6 arg11 arg12 harg12 arg13 harg13 arg14 arg15 harg15 arg16 x0 x1 x2 x3 x4 x5 xs2 xs3 xs5).wg (tileB arg1 harg1 arg2 harg2 arg3 harg3 arg4 harg4 arg5 harg5 arg6 harg6 arg11 arg12 harg12 arg13 harg13 arg14 arg15 harg15 arg16 x0 x1 x2 x3 x4 x5 xs2 xs3 xs5).wm (tileB arg1 harg1 arg2 harg2 arg3 harg3 arg4 harg4 arg5 harg5 arg6 harg6 arg11 arg12 harg12 arg13 harg13 arg14 arg15 harg15 arg16 x0 x1 x2 x3 x4 x5 xs2 xs3 xs5).kv (tileB arg1 harg1 arg2 harg2 arg3 harg3 arg4 harg4 arg5 harg5 arg6 harg6 arg11 arg12 harg12 arg13 harg13 arg14 arg15 harg15 arg16 x0 x1 x2 x3 x4 x5 xs2 xs3 xs5).wo := by rfl
set_option maxHeartbeats 20000000 in
theorem rowsa_raw_B : k0_pay695 (kernelRun0_B.sl.r_4 c arg1 harg1 x0) (kernelRun0_B.sl.v2971 c arg1 harg1 arg2 harg2 arg3 harg3 arg5 harg5 arg6 harg6 arg11 arg12 harg12 arg13 harg13 arg14 arg15 harg15 arg16 x0 x1 x2 x4 x5 xs2 xs3 xs5) (kernelRun0_B.sl.r_15 c arg4 harg4 x3)
    = tailRows (tileB arg1 harg1 arg2 harg2 arg3 harg3 arg4 harg4 arg5 harg5 arg6 harg6 arg11 arg12 harg12 arg13 harg13 arg14 arg15 harg15 arg16 x0 x1 x2 x3 x4 x5 xs2 xs3 xs5).xa (mRead arg16 (kernelRun0_B.sl.HS6_16 c arg1 harg1 arg2 harg2 arg3 harg3 arg6 harg6 arg11 arg12 harg12 arg13 harg13 arg14 arg15 harg15 x0 x1 x2 x5 xs2 xs3 xs5)) (tileB arg1 harg1 arg2 harg2 arg3 harg3 arg4 harg4 arg5 harg5 arg6 harg6 arg11 arg12 harg12 arg13 harg13 arg14 arg15 harg15 arg16 x0 x1 x2 x3 x4 x5 xs2 xs3 xs5).wg (tileB arg1 harg1 arg2 harg2 arg3 harg3 arg4 harg4 arg5 harg5 arg6 harg6 arg11 arg12 harg12 arg13 harg13 arg14 arg15 harg15 arg16 x0 x1 x2 x3 x4 x5 xs2 xs3 xs5).wm (tileB arg1 harg1 arg2 harg2 arg3 harg3 arg4 harg4 arg5 harg5 arg6 harg6 arg11 arg12 harg12 arg13 harg13 arg14 arg15 harg15 arg16 x0 x1 x2 x3 x4 x5 xs2 xs3 xs5).kv (tileB arg1 harg1 arg2 harg2 arg3 harg3 arg4 harg4 arg5 harg5 arg6 harg6 arg11 arg12 harg12 arg13 harg13 arg14 arg15 harg15 arg16 x0 x1 x2 x3 x4 x5 xs2 xs3 xs5).wo := by rfl

end Cert.AttnIdeal.Gen
-- ==== Proof.AttnRunC.lean ====
module

public import proofs.«01_k».proof.Proof.AttnTile
public import proofs.«01_k».proof.Proof.Gen.AttnIdeal.Frame

/-! The attention's stores in a grid point that starts a sequence are those of its tile. -/

@[expose] public section
set_option maxRecDepth 100000
noncomputable section
namespace Cert.AttnIdeal.Gen
open Idealize.ShloMosaic

variable {F : FTy → Type} [FloatOps F] [Named F]
variable (c : Dev nD) (arg1 : Memref sig .tc .vmem S1x512x1024 .f32) (harg1 : arg1.IsWhole) (arg2 : Memref sig .tc .vmem S1024x5120 .bf16) (harg2 : arg2.IsWhole)
  (arg3 : Memref sig .tc .vmem S2048x1024 .bf16) (harg3 : arg3.IsWhole) (arg4 : Memref sig .tc .vmem S1536x1024 .bf16) (harg4 : arg4.IsWhole)
  (arg5 : Memref sig .tc .vmem S1x256x1024 .bf16) (harg5 : arg5.IsWhole) (arg6 : Memref sig .tc .vmem S16x640x128 .f32) (harg6 : arg6.IsWhole)
  (arg11 : Memref sig .tc .vmem S8x128x256 .bf16) (arg12 : Memref sig .tc .vmem S8x1024x256 .bf16) (harg12 : arg12.IsWhole) (arg13 : Memref sig .tc .vmem S8x160x1024 .bf16)
  (arg14 : Memref sig .tc .vmem S2x768x256 .f32) (arg15 : Memref sig .tc .vmem S2x768x256 .bf16) (harg15 : arg15.IsWhole) (arg16 : Memref sig .tc .vmem S8x128x256 .f32)
  (x0 : Vec F S1x512x1024 .f32) (x1 : Vec F S1024x5120 .bf16) (x2 : Vec F S2048x1024 .bf16) (x3 : Vec F S1536x1024 .bf16) (x4 : Vec F S1x256x1024 .bf16)
  (x5 : Vec F S16x640x128 .f32) (xs2 : Vec F S8x1024x256 .bf16) (xs5 : Vec F S2x768x256 .bf16)

/-- The tile of a grid point, in a grid point that starts a sequence. -/
def tileC : Tile F where
  arg6 := arg6
  arg11 := arg11
  arg12 := arg12
  arg13 := arg13
  arg14 := arg14
  arg15 := arg15
  arg16 := arg16
  f6 := harg6.unread x5
  f12 := fun s i => if s = 0 ∧ i < 4 ∨ i < 2 then arg12.view.junk else harg12.unread xs2
  f15 := harg15.unread xs5
  Kb := [⟨Rect.unit ![0, 0, 0] S8x512x256.size inb_S8x1024x256_S8x512x256_0_0_0, k0_pay32⟩]
  Vb := [⟨Rect.unit ![0, 0, 0] S8x160x512.size inb_S8x160x1024_S8x160x512_0_0_0, k0_pay33⟩]
  Pb := []
  xa := View.readAt (Elt F) arg1.view (Rect.unit (s := S1x512x1024) ![0, 0, 0] S1x256x1024.size inb_S1x512x1024_S1x256x1024_0_0_0).toLoadRect (harg1.unread x0)
  xb := View.readAt (Elt F) arg1.view (Rect.unit (s := S1x512x1024) ![0, 256, 0] S1x256x1024.size inb_S1x512x1024_S1x256x1024_0_256_0).toLoadRect (harg1.unread x0)
  wk := View.readAt (Elt F) arg2.view (Rect.unit (s := S1024x5120) ![0, 1024] S1024x1024.size inb_S1024x5120_S1024x1024_0_1024).toLoadRect (harg2.unread x1)
  wq := View.readAt (Elt F) arg3.view (Rect.unit (s := S2048x1024) ![0, 0] S1024x1024.size inb_S2048x1024_S1024x1024_0_0).toLoadRect (harg3.unread x2)
  wv := View.readAt (Elt F) arg3.view (Rect.unit (s := S2048x1024) ![1024, 0] S1024x1024.size inb_S2048x1024_S1024x1024_1024_0).toLoadRect (harg3.unread x2)
  wg := View.readAt (Elt F) arg2.view (Rect.unit (s := S1024x5120) ![0, 3584] S1024x1536.size inb_S1024x5120_S1024x1536_0_3584).toLoadRect (harg2.unread x1)
  wm := View.readAt (Elt F) arg2.view (Rect.unit (s := S1024x5120) ![0, 3072] S1024x512.size inb_S1024x5120_S1024x512_0_3072).toLoadRect (harg2.unread x1)
  kv i := View.readAt (Elt F) arg5.view (Rect.unit (s := S1x256x1024) ![0, 0, 128 * (i % 8)] S1x256x128.size (in_kv i)).toLoadRect (harg5.unread x4)
  wo := View.readAt (Elt F) arg4.view (Rect.unit (s := S1536x1024) ![0, 0] S1536x1024.size inb_S1536x1024_S1536x1024_0_0).toLoadRect (harg4.unread x3)

theorem q0_C : (kernelRun0_C.sl.HS1_1 c arg1 harg1 arg3 harg3 x0 x2) = (tileC arg1 harg1 arg2 harg2 arg3 harg3 arg4 harg4 arg5 harg5 arg6 harg6 arg11 arg12 harg12 arg13 arg14 arg15 harg15 arg16 x0 x1 x2 x3 x4 x5 xs2 xs5).q0 := by rfl
theorem q1_C : (kernelRun0_C.sl.HS1_2 c arg1 harg1 arg3 harg3 x0 x2) = (tileC arg1 harg1 arg2 harg2 arg3 harg3 arg4 harg4 arg5 harg5 arg6 harg6 arg11 arg12 harg12 arg13 arg14 arg15 harg15 arg16 x0 x1 x2 x3 x4 x5 xs2 xs5).q1 := by rfl
theorem k0_C : (kernelRun0_C.sl.HS2_9 c arg1 harg1 arg2 harg2 x0 x1) = (tileC arg1 harg1 arg2 harg2 arg3 harg3 arg4 harg4 arg5 harg5 arg6 harg6 arg11 arg12 harg12 arg13 arg14 arg15 harg15 arg16 x0 x1 x2 x3 x4 x5 xs2 xs5).k0 := by rfl
theorem k1_C : (kernelRun0_C.sl.HS2_17 c arg1 harg1 arg2 harg2 x0 x1) = (tileC arg1 harg1 arg2 harg2 arg3 harg3 arg4 harg4 arg5 harg5 arg6 harg6 arg11 arg12 harg12 arg13 arg14 arg15 harg15 arg16 x0 x1 x2 x3 x4 x5 xs2 xs5).k1 := by rfl
theorem v0_C : (kernelRun0_C.sl.HS3_4 c arg1 harg1 arg3 harg3 x0 x2) = (tileC arg1 harg1 arg2 harg2 arg3 harg3 arg4 harg4 arg5 harg5 arg6 harg6 arg11 arg12 harg12 arg13 arg14 arg15 harg15 arg16 x0 x1 x2 x3 x4 x5 xs2 xs5).v0 := by rfl
theorem v1_C : (kernelRun0_C.sl.HS3_7 c arg1 harg1 arg3 harg3 x0 x2) = (tileC arg1 harg1 arg2 harg2 arg3 harg3 arg4 harg4 arg5 harg5 arg6 harg6 arg11 arg12 harg12 arg13 arg14 arg15 harg15 arg16 x0 x1 x2 x3 x4 x5 xs2 xs5).v1 := by rfl

set_option maxHeartbeats 20000000 in
theorem s0_raw_C : (kernelRun0_C.sl.HS4_160 c arg1 harg1 arg2 harg2 arg3 harg3 arg6 harg6 arg11 arg12 harg12 x0 x1 x2 x5 xs2) = sList (qRead arg11 (kernelRun0_C.sl.HS1_1 c arg1 harg1 arg3 harg3 x0 x2)) (kRead arg12 ((fun s i => if s = 0 ∧ i < 4 ∨ i < 2 then arg12.view.junk else harg12.unread xs2) 0) 0 (by decide) (kernelRun0_C.sl.HS2_9 c arg1 harg1 arg2 harg2 x0 x1)) (bRead arg6 (harg6.unread x5)) [] 16 := by rfl
set_option maxHeartbeats 20000000 in
theorem p0_raw_C : (kernelRun0_C.sl.HS5_32 c arg1 harg1 arg2 harg2 arg3 harg3 arg6 harg6 arg11 arg12 harg12 arg14 x0 x1 x2 x5 xs2) = pList arg14 (qRead arg11 (kernelRun0_C.sl.HS1_1 c arg1 harg1 arg3 harg3 x0 x2)) (kRead arg12 ((fun s i => if s = 0 ∧ i < 4 ∨ i < 2 then arg12.view.junk else harg12.unread xs2) 0) 0 (by decide) (kernelRun0_C.sl.HS2_9 c arg1 harg1 arg2 harg2 x0 x1)) (bRead arg6 (harg6.unread x5)) [] [] 16 := by rfl
set_option maxHeartbeats 20000000 in
theorem m0_raw_C : (kernelRun0_C.sl.HS6_16 c arg1 harg1 arg2 harg2 arg3 harg3 arg6 harg6 arg11 arg12 harg12 arg13 arg14 arg15 harg15 x0 x1 x2 x5 xs2 xs5) = mList arg14 (qRead arg11 (kernelRun0_C.sl.HS1_1 c arg1 harg1 arg3 harg3 x0 x2)) (kRead arg12 ((fun s i => if s = 0 ∧ i < 4 ∨ i < 2 then arg12.view.junk else harg12.unread xs2) 0) 0 (by decide) (kernelRun0_C.sl.HS2_9 c arg1 harg1 arg2 harg2 x0 x1)) (bRead arg6 (harg6.unread x5))
    (vRead arg13 (kernelRun0_C.sl.HS3_4 c arg1 harg1 arg3 harg3 x0 x2) 0 (by decide)) (pRead arg15 (harg15.unread xs5)) [] [] [] 16 := by rfl
set_option maxHeartbeats 20000000 in
theorem p1_raw_C : (kernelRun0_C.sl.HS5_64 c arg1 harg1 arg2 harg2 arg3 harg3 arg6 harg6 arg11 arg12 harg12 arg14 x0 x1 x2 x5 xs2) = pList arg14 (qRead arg11 (kernelRun0_C.sl.HS1_2 c arg1 harg1 arg3 harg3 x0 x2)) (kRead arg12 ((fun s i => if s = 0 ∧ i < 4 ∨ i < 2 then arg12.view.junk else harg12.unread xs2) 1) 256 (by decide) (kernelRun0_C.sl.HS2_17 c arg1 harg1 arg2 harg2 x0 x1)) (bRead arg6 (harg6.unread x5)) (kernelRun0_C.sl.HS4_160 c arg1 harg1 arg2 harg2 arg3 harg3 arg6 harg6 arg11 arg12 harg12 x0 x1 x2 x5 xs2) (kernelRun0_C.sl.HS5_32 c arg1 harg1 arg2 harg2 arg3 harg3 arg6 harg6 arg11 arg12 harg12 arg14 x0 x1 x2 x5 xs2) 16 := by rfl
set_option maxHeartbeats 20000000 in
theorem m1_raw_C : (kernelRun0_C.sl.HS6_32 c arg1 harg1 arg2 harg2 arg3 harg3 arg6 harg6 arg11 arg12 harg12 arg13 arg14 arg15 harg15 x0 x1 x2 x5 xs2 xs5) = mList arg14 (qRead arg11 (kernelRun0_C.sl.HS1_2 c arg1 harg1 arg3 harg3 x0 x2)) (kRead arg12 ((fun s i => if s = 0 ∧ i < 4 ∨ i < 2 then arg12.view.junk else harg12.unread xs2) 1) 256 (by decide) (kernelRun0_C.sl.HS2_17 c arg1 harg1 arg2 harg2 x0 x1)) (bRead arg6 (harg6.unread x5))
    (vRead arg13 (kernelRun0_C.sl.HS3_7 c arg1 harg1 arg3 harg3 x0 x2) 256 (by decide)) (pRead arg15 (harg15.unread xs5)) (kernelRun0_C.sl.HS4_160 c arg1 harg1 arg2 harg2 arg3 harg3 arg6 harg6 arg11 arg12 harg12 x0 x1 x2 x5 xs2) (kernelRun0_C.sl.HS5_32 c arg1 harg1 arg2 harg2 arg3 harg3 arg6 harg6 arg11 arg12 harg12 arg14 x0 x1 x2 x5 xs2) (kernelRun0_C.sl.HS6_16 c arg1 harg1 arg2 harg2 arg3 harg3 arg6 harg6 arg11 arg12 harg12 arg13 arg14 arg15 harg15 x0 x1 x2 x5 xs2 xs5) 16 := by rfl

theorem s0_C : (kernelRun0_C.sl.HS4_160 c arg1 harg1 arg2 harg2 arg3 harg3 arg6 harg6 arg11 arg12 harg12 x0 x1 x2 x5 xs2) = (tileC arg1 harg1 arg2 harg2 arg3 harg3 arg4 harg4 arg5 harg5 arg6 harg6 arg11 arg12 harg12 arg13 arg14 arg15 harg15 arg16 x0 x1 x2 x3 x4 x5 xs2 xs5).s0 := by rw [s0_raw_C, q0_C c arg1 harg1 arg2 harg2 arg3 harg3 arg4 harg4 arg5 harg5 arg6 harg6 arg11 arg12 harg12 arg13 arg14 arg15 harg15 arg16 x0 x1 x2 x3 x4 x5 xs2 xs5, k0_C c arg1 harg1 arg2 harg2 arg3 harg3 arg4 harg4 arg5 harg5 arg6 harg6 arg11 arg12 harg12 arg13 arg14 arg15 harg15 arg16 x0 x1 x2 x3 x4 x5 xs2 xs5]; rfl
theorem p0_C : (kernelRun0_C.sl.HS5_32 c arg1 harg1 arg2 harg2 arg3 harg3 arg6 harg6 arg11 arg12 harg12 arg14 x0 x1 x2 x5 xs2) = (tileC arg1 harg1 arg2 harg2 arg3 harg3 arg4 harg4 arg5 harg5 arg6 harg6 arg11 arg12 harg12 arg13 arg14 arg15 harg15 arg16 x0 x1 x2 x3 x4 x5 xs2 xs5).p0 := by rw [p0_raw_C, q0_C c arg1 harg1 arg2 harg2 arg3 harg3 arg4 harg4 arg5 harg5 arg6 harg6 arg11 arg12 harg12 arg13 arg14 arg15 harg15 arg16 x0 x1 x2 x3 x4 x5 xs2 xs5, k0_C c arg1 harg1 arg2 harg2 arg3 harg3 arg4 harg4 arg5 harg5 arg6 harg6 arg11 arg12 harg12 arg13 arg14 arg15 harg15 arg16 x0 x1 x2 x3 x4 x5 xs2 xs5]; rfl
theorem m0_C : (kernelRun0_C.sl.HS6_16 c arg1 harg1 arg2 harg2 arg3 harg3 arg6 harg6 arg11 arg12 harg12 arg13 arg14 arg15 harg15 x0 x1 x2 x5 xs2 xs5) = (tileC arg1 harg1 arg2 harg2 arg3 harg3 arg4 harg4 arg5 harg5 arg6 harg6 arg11 arg12 harg12 arg13 arg14 arg15 harg15 arg16 x0 x1 x2 x3 x4 x5 xs2 xs5).m0 := by rw [m0_raw_C, q0_C c arg1 harg1 arg2 harg2 arg3 harg3 arg4 harg4 arg5 harg5 arg6 harg6 arg11 arg12 harg12 arg13 arg14 arg15 harg15 arg16 x0 x1 x2 x3 x4 x5 xs2 xs5, k0_C c arg1 harg1 arg2 harg2 arg3 harg3 arg4 harg4 arg5 harg5 arg6 harg6 arg11 arg12 harg12 arg13 arg14 arg15 harg15 arg16 x0 x1 x2 x3 x4 x5 xs2 xs5, v0_C c arg1 harg1 arg2 harg2 arg3 harg3 arg4 harg4 arg5 harg5 arg6 harg6 arg11 arg12 harg12 arg13 arg14 arg15 harg15 arg16 x0 x1 x2 x3 x4 x5 xs2 xs5]; rfl
theorem p1_C : (kernelRun0_C.sl.HS5_64 c arg1 harg1 arg2 harg2 arg3 harg3 arg6 harg6 arg11 arg12 harg12 arg14 x0 x1 x2 x5 xs2) = (tileC arg1 harg1 arg2 harg2 arg3 harg3 arg4 harg4 arg5 harg5 arg6 harg6 arg11 arg12 harg12 arg13 arg14 arg15 harg15 arg16 x0 x1 x2 x3 x4 x5 xs2 xs5).p1 := by rw [p1_raw_C, q1_C c arg1 harg1 arg2 harg2 arg3 harg3 arg4 harg4 arg5 harg5 arg6 harg6 arg11 arg12 harg12 arg13 arg14 arg15 harg15 arg16 x0 x1 x2 x3 x4 x5 xs2 xs5, k1_C c arg1 harg1 arg2 harg2 arg3 harg3 arg4 harg4 arg5 harg5 arg6 harg6 arg11 arg12 harg12 arg13 arg14 arg15 harg15 arg16 x0 x1 x2 x3 x4 x5 xs2 xs5, s0_C c arg1 harg1 arg2 harg2 arg3 harg3 arg4 harg4 arg5 harg5 arg6 harg6 arg11 arg12 harg12 arg13 arg14 arg15 harg15 arg16 x0 x1 x2 x3 x4 x5 xs2 xs5, p0_C c arg1 harg1 arg2 harg2 arg3 harg3 arg4 harg4 arg5 harg5 arg6 harg6 arg11 arg12 harg12 arg13 arg14 arg15 harg15 arg16 x0 x1 x2 x3 x4 x5 xs2 xs5]; rfl
theorem m1_C : (kernelRun0_C.sl.HS6_32 c arg1 harg1 arg2 harg2 arg3 harg3 arg6 harg6 arg11 arg12 harg12 arg13 arg14 arg15 harg15 x0 x1 x2 x5 xs2 xs5) = (tileC arg1 harg1 arg2 harg2 arg3 harg3 arg4 harg4 arg5 harg5 arg6 harg6 arg11 arg12 harg12 arg13 arg14 arg15 harg15 arg16 x0 x1 x2 x3 x4 x5 xs2 xs5).m1 := by
  rw [m1_raw_C, q1_C c arg1 harg1 arg2 harg2 arg3 harg3 arg4 harg4 arg5 harg5 arg6 harg6 arg11 arg12 harg12 arg13 arg14 arg15 harg15 arg16 x0 x1 x2 x3 x4 x5 xs2 xs5, k1_C c arg1 harg1 arg2 harg2 arg3 harg3 arg4 harg4 arg5 harg5 arg6 harg6 arg11 arg12 harg12 arg13 arg14 arg15 harg15 arg16 x0 x1 x2 x3 x4 x5 xs2 xs5, v1_C c arg1 harg1 arg2 harg2 arg3 harg3 arg4 harg4 arg5 harg5 arg6 harg6 arg11 arg12 harg12 arg13 arg14 arg15 harg15 arg16 x0 x1 x2 x3 x4 x5 xs2 xs5, s0_C c arg1 harg1 arg2 harg2 arg3 harg3 arg4 harg4 arg5 harg5 arg6 harg6 arg11 arg12 harg12 arg13 arg14 arg15 harg15 arg16 x0 x1 x2 x3 x4 x5 xs2 xs5, p0_C c arg1 harg1 arg2 harg2 arg3 harg3 arg4 harg4 arg5 harg5 arg6 harg6 arg11 arg12 harg12 arg13 arg14 arg15 harg15 arg16 x0 x1 x2 x3 x4 x5 xs2 xs5, m0_C c arg1 harg1 arg2 harg2 arg3 harg3 arg4 harg4 arg5 harg5 arg6 harg6 arg11 arg12 harg12 arg13 arg14 arg15 harg15 arg16 x0 x1 x2 x3 x4 x5 xs2 xs5]; rfl

set_option maxHeartbeats 20000000 in
theorem rowsb_raw_C : k0_pay3 (kernelRun0_C.sl.r_16 c arg1 harg1 x0) (kernelRun0_C.sl.r_17 c arg1 harg1 x0) (kernelRun0_C.sl.r_22 c arg1 harg1 arg2 harg2 arg3 harg3 arg6 harg6 arg11 arg12 harg12 arg13 arg14 arg15 harg15 arg16 x0 x1 x2 x5 xs2 xs5) (kernelRun0_C.sl.r_11 c arg2 harg2 x1) (kernelRun0_C.sl.r_24 c arg1 harg1 arg2 harg2 arg5 harg5 x0 x1 x4)
    (kernelRun0_C.sl.v5507 c arg1 harg1 arg2 harg2 arg5 harg5 x0 x1 x4) (kernelRun0_C.sl.v5525 c arg1 harg1 arg2 harg2 arg5 harg5 x0 x1 x4) (kernelRun0_C.sl.r_25 c arg5 harg5 x4) (kernelRun0_C.sl.r_26 c arg1 harg1 arg2 harg2 arg5 harg5 x0 x1 x4) (View.readAt (Elt F) arg4.view (Rect.unit (s := S1536x1024) ![0, 0] ![1536, 1024] inb_S1536x1024_S1536x1024_0_0).toLoadRect (harg4.unread x3))
    = tailRows (tileC arg1 harg1 arg2 harg2 arg3 harg3 arg4 harg4 arg5 harg5 arg6 harg6 arg11 arg12 harg12 arg13 arg14 arg15 harg15 arg16 x0 x1 x2 x3 x4 x5 xs2 xs5).xb (mRead arg16 (kernelRun0_C.sl.HS6_32 c arg1 harg1 arg2 harg2 arg3 harg3 arg6 harg6 arg11 arg12 harg12 arg13 arg14 arg15 harg15 x0 x1 x2 x5 xs2 xs5)) (tileC arg1 harg1 arg2 harg2 arg3 harg3 arg4 harg4 arg5 harg5 arg6 harg6 arg11 arg12 harg12 arg13 arg14 arg15 harg15 arg16 x0 x1 x2 x3 x4 x5 xs2 xs5).wg (tileC arg1 harg1 arg2 harg2 arg3 harg3 arg4 harg4 arg5 harg5 arg6 harg6 arg11 arg12 harg12 arg13 arg14 arg15 harg15 arg16 x0 x1 x2 x3 x4 x5 xs2 xs5).wm (tileC arg1 harg1 arg2 harg2 arg3 harg3 arg4 harg4 arg5 harg5 arg6 harg6 arg11 arg12 harg12 arg13 arg14 arg15 harg15 arg16 x0 x1 x2 x3 x4 x5 xs2 xs5).kv (tileC arg1 harg1 arg2 harg2 arg3 harg3 arg4 harg4 arg5 harg5 arg6 harg6 arg11 arg12 harg12 arg13 arg14 arg15 harg15 arg16 x0 x1 x2 x3 x4 x5 xs2 xs5).wo := by rfl
set_option maxHeartbeats 20000000 in
theorem rowsa_raw_C : k0_pay695 (kernelRun0_C.sl.r_4 c arg1 harg1 x0) (kernelRun0_C.sl.v2971 c arg1 harg1 arg2 harg2 arg3 harg3 arg5 harg5 arg6 harg6 arg11 arg12 harg12 arg13 arg14 arg15 harg15 arg16 x0 x1 x2 x4 x5 xs2 xs5) (kernelRun0_C.sl.r_15 c arg4 harg4 x3)
    = tailRows (tileC arg1 harg1 arg2 harg2 arg3 harg3 arg4 harg4 arg5 harg5 arg6 harg6 arg11 arg12 harg12 arg13 arg14 arg15 harg15 arg16 x0 x1 x2 x3 x4 x5 xs2 xs5).xa (mRead arg16 (kernelRun0_C.sl.HS6_16 c arg1 harg1 arg2 harg2 arg3 harg3 arg6 harg6 arg11 arg12 harg12 arg13 arg14 arg15 harg15 x0 x1 x2 x5 xs2 xs5)) (tileC arg1 harg1 arg2 harg2 arg3 harg3 arg4 harg4 arg5 harg5 arg6 harg6 arg11 arg12 harg12 arg13 arg14 arg15 harg15 arg16 x0 x1 x2 x3 x4 x5 xs2 xs5).wg (tileC arg1 harg1 arg2 harg2 arg3 harg3 arg4 harg4 arg5 harg5 arg6 harg6 arg11 arg12 harg12 arg13 arg14 arg15 harg15 arg16 x0 x1 x2 x3 x4 x5 xs2 xs5).wm (tileC arg1 harg1 arg2 harg2 arg3 harg3 arg4 harg4 arg5 harg5 arg6 harg6 arg11 arg12 harg12 arg13 arg14 arg15 harg15 arg16 x0 x1 x2 x3 x4 x5 xs2 xs5).kv (tileC arg1 harg1 arg2 harg2 arg3 harg3 arg4 harg4 arg5 harg5 arg6 harg6 arg11 arg12 harg12 arg13 arg14 arg15 harg15 arg16 x0 x1 x2 x3 x4 x5 xs2 xs5).wo := by rfl

end Cert.AttnIdeal.Gen
-- ==== Proof.AttnLayer.lean ====
module

public import proofs.«01_k».proof.Proof.AttnMem

/-! The attention layer's rows as functions of the arguments' coordinates. -/

@[expose] public section
noncomputable section

namespace Layer
open Idealize.ShloMosaic

section Rows
variable (x : Fin 4 → Fin 8192 → Fin 1024 → EReal) (w : Fin 1024 → Fin 5120 → EReal) (wo : Fin 1536 → Fin 1024 → EReal)
  (kv : Fin 4 → Fin 256 → Fin 1024 → EReal) (bias : Fin 16 → Fin 640 → Fin 128 → EReal)

/-- Token `n` of a sequence. -/
def tok (b : Fin 4) (n : ℕ) : Fin 1024 → EReal := x b ⟨n % 8192, Nat.mod_lt _ (by decide)⟩

/-- Key channel `e` of row `n`, where 512 rows of zeros stand before the first token. -/
def keyOf (b : Fin 4) (n : ℕ) (e : Fin 1024) : EReal :=
  if 512 ≤ n then ∑ k, tok x b (n - 512) k * w k ⟨1024 + e.val, by omega⟩ else 0
/-- Value channel `e` of row `n`, where 512 rows of zeros stand before the first token. -/
def valOf (b : Fin 4) (n : ℕ) (e : Fin 1024) : EReal :=
  if 512 ≤ n then ∑ k, w k ⟨2048 + e.val, by omega⟩ * tok x b (n - 512) k else 0
/-- Query channel `e` of a token. -/
def queryOf (b : Fin 4) (n : ℕ) (e : Fin 1024) : EReal := ∑ k, w k ⟨e.val, by omega⟩ * tok x b n k

/-- The layer's row of a token before the norm, with the attention `att` of a query over its window and the memory attention `mem`. -/
def attnRow (att : ℕ → (Fin 64 → EReal) → (Fin 640 → Fin 64 → EReal) → (Fin 640 → Fin 64 → EReal) → (Fin 640 → EReal) → Fin 64 → EReal)
    (mem : (Fin 128 → EReal) → (Fin 256 → Fin 128 → EReal) → (Fin 256 → Fin 128 → EReal) → Fin 128 → EReal)
    (b : Fin 4) (s : Fin 8192) (d : Fin 1024) : EReal :=
  pre (x b s) (fun e => proj (x b s) w ⟨3584 + e.val, by omega⟩)
    (fun e => att (128 * (s.val / 128)) (fun j => queryOf x w b s.val ⟨64 * (e.val / 64) + j.val, by omega⟩)
      (fun p j => keyOf x w b (128 * (s.val / 128) + p.val) ⟨64 * (e.val / 64) + j.val, by omega⟩)
      (fun p j => valOf x w b (128 * (s.val / 128) + p.val) ⟨64 * (e.val / 64) + j.val, by omega⟩)
      (fun p => bias ⟨e.val / 64, by omega⟩ p ⟨s.val % 128, by omega⟩) ⟨e.val % 64, by omega⟩)
    (fun h j => mem (fun i => proj (x b s) w ⟨3072 + (h.val * 128 + i.val), by omega⟩)
      (fun m i => kv b m ⟨h.val * 128 + i.val, by omega⟩) (fun m i => kv b m ⟨512 + (h.val * 128 + i.val), by omega⟩) j)
    wo d

end Rows
end Layer
-- ==== Proof.AttnStep.lean ====
module

public import proofs.«01_k».proof.Proof.AttnTileSem
public import proofs.«01_k».proof.Proof.AttnRunA
public import proofs.«01_k».proof.Proof.AttnRunB
public import proofs.«01_k».proof.Proof.AttnRunC
public import proofs.«01_k».proof.Proof.AttnLayer

/-! What each kind of grid point of the attention layer starts from and leaves for the next. -/

@[expose] public section
noncomputable section
namespace Cert.AttnIdeal.Gen
open Idealize.ShloMosaic Idealize.ShloMosaic.TcCoe Layer Cert.AttnIdeal

/-- The first rows of stored keys are those of the piece that fills them. -/
theorem bottomK_lt {sp : Space} (v : View sig .tc sp S8x1024x256 .bf16) (f : BufTy.Contents (Elt Ideal) v.ty) (p : Vec Ideal S8x512x256 .bf16)
    (L : List (View.Piece (Elt Ideal) S8x1024x256 .bf16)) (hp : Fin 8) (w : Fin 1024) (l : Fin 256) (h : w.val < 512) :
    v.read (Elt Ideal) (v.writes (Elt Ideal) f (⟨Rect.unit ![0, 0, 0] S8x512x256.size inb_S8x1024x256_S8x512x256_0_0_0, p⟩ :: L)) (ix3 hp w l) = p (ix3 hp ⟨w.val, h⟩ l) := by
  refine View.read_writes_cons_unit_of_mem v f _ _ _ (ix3 hp w l) (ix3 hp (⟨w.val, h⟩ : Fin 512) l) rfl ?_
  intro a; fin_cases a
  · show hp.val = 0 + hp.val; omega
  · show w.val = 0 + w.val; omega
  · show l.val = 0 + l.val; omega
theorem bottomK_ge {sp : Space} (v : View sig .tc sp S8x1024x256 .bf16) (f : BufTy.Contents (Elt Ideal) v.ty) (p : Vec Ideal S8x512x256 .bf16)
    (L : List (View.Piece (Elt Ideal) S8x1024x256 .bf16)) (hp : Fin 8) (w : Fin 1024) (l : Fin 256) (h : 512 ≤ w.val) :
    v.read (Elt Ideal) (v.writes (Elt Ideal) f (⟨Rect.unit ![0, 0, 0] S8x512x256.size inb_S8x1024x256_S8x512x256_0_0_0, p⟩ :: L)) (ix3 hp w l)
      = v.read (Elt Ideal) (v.writes (Elt Ideal) f L) (ix3 hp w l) :=
  View.read_writes_cons_unit_of_not_mem v f _ _ _ (ix3 hp w l) rfl 1 (Or.inr (show 0 + 512 ≤ w.val by omega))
theorem bottomV_lt {sp : Space} (v : View sig .tc sp S8x160x1024 .bf16) (f : BufTy.Contents (Elt Ideal) v.ty) (p : Vec Ideal S8x160x512 .bf16)
    (L : List (View.Piece (Elt Ideal) S8x160x1024 .bf16)) (hp : Fin 8) (r : Fin 160) (w : Fin 1024) (h : w.val < 512) :
    v.read (Elt Ideal) (v.writes (Elt Ideal) f (⟨Rect.unit ![0, 0, 0] S8x160x512.size inb_S8x160x1024_S8x160x512_0_0_0, p⟩ :: L)) (ix3 hp r w) = p (ix3 hp r ⟨w.val, h⟩) := by
  refine View.read_writes_cons_unit_of_mem v f _ _ _ (ix3 hp r w) (ix3 hp r (⟨w.val, h⟩ : Fin 512)) rfl ?_
  intro a; fin_cases a
  · show hp.val = 0 + hp.val; omega
  · show r.val = 0 + r.val; omega
  · show w.val = 0 + w.val; omega

/-- The keys and values before the block, when they are those the point before left. -/
def histK (xs2 : Vec Ideal S8x1024x256 .bf16) (hp : Fin 8) (w : ℕ) (l : Fin 256) : EReal := xs2 (ix3 hp ⟨(512 + w) % 1024, by omega⟩ l)
def histV (xs3 : Vec Ideal S8x160x1024 .bf16) (hp : Fin 8) (r : Fin 160) (w : ℕ) : EReal := xs3 (ix3 hp r ⟨(512 + w) % 1024, by omega⟩)
/-- The keys and values before a sequence. -/
def firstK (_ : Fin 8) (_ : ℕ) (l : Fin 256) : EReal := if l.val = 128 then 1 else 0
def firstV (_ : Fin 8) (_ : Fin 160) (_ : ℕ) : EReal := 0

/-- What a point must leave for the next one beside keys and values. -/
def ZeroK (xs2 : Vec Ideal S8x1024x256 .bf16) : Prop := ∀ hp (w : Fin 1024) (l : Fin 256), 512 ≤ w.val → 128 ≤ l.val → xs2 (ix3 hp w l) = 0
def ZeroP (xs5 : Vec Ideal S2x768x256 .bf16) : Prop :=
  ∀ e w c, ((640 ≤ w.val ∧ c.val < 128) ∨ (w.val < 128 ∧ 128 ≤ c.val)) → xs5 (ix3 e w c) = 0
def OnesV (xs3 : Vec Ideal S8x160x1024 .bf16) : Prop := ∀ hp (w : Fin 1024), 512 ≤ w.val → xs3 (ix3 hp 0 w) = 1 ∧ xs3 (ix3 hp 144 w) = 1

/-- The weights and inputs of a tile. -/
structure Tile.Data (T : Tile Ideal) (x0 : Vec Ideal S1x512x1024 .f32) (x1 : Vec Ideal S1024x5120 .bf16) (x2 : Vec Ideal S2048x1024 .bf16)
    (x3 : Vec Ideal S1536x1024 .bf16) (x4 : Vec Ideal S1x256x1024 .bf16) (x5 : Vec Ideal S16x640x128 .f32) : Prop where
  x : ∀ (r : Fin 512) k, T.xr r.val k = x0 (ix3 0 r k)
  wk : ∀ k (e : Fin 1024), T.wk (ix2 k e) = x1 (ix2 k ⟨1024 + e.val, by omega⟩)
  wq : ∀ (e : Fin 1024) k, T.wq (ix2 e k) = x2 (ix2 ⟨e.val, by omega⟩ k)
  wv : ∀ (e : Fin 1024) k, T.wv (ix2 e k) = x2 (ix2 ⟨1024 + e.val, by omega⟩ k)
  wg : ∀ k (e : Fin 1536), T.wg (ix2 k e) = x1 (ix2 k ⟨3584 + e.val, by omega⟩)
  wm : ∀ k (e : Fin 512), T.wm (ix2 k e) = x1 (ix2 k ⟨3072 + e.val, by omega⟩)
  kv : ∀ i (hi : i < 8) (a : Fin 256) (b : Fin 128), T.kv i (ix3 0 a b) = x4 (ix3 0 a ⟨128 * i + b.val, by omega⟩)
  wo : ∀ a b, T.wo (ix2 a b) = x3 (ix2 a b)
  b : ∀ i, T.arg6.view.read (Elt Ideal) T.f6 i = x5 i

section Data
variable (arg1 : Memref sig .tc .vmem S1x512x1024 .f32) (harg1 : arg1.IsWhole) (arg2 : Memref sig .tc .vmem S1024x5120 .bf16) (harg2 : arg2.IsWhole)
  (arg3 : Memref sig .tc .vmem S2048x1024 .bf16) (harg3 : arg3.IsWhole) (arg4 : Memref sig .tc .vmem S1536x1024 .bf16) (harg4 : arg4.IsWhole)
  (arg5 : Memref sig .tc .vmem S1x256x1024 .bf16) (harg5 : arg5.IsWhole)
  (x0 : Vec Ideal S1x512x1024 .f32) (x1 : Vec Ideal S1024x5120 .bf16) (x2 : Vec Ideal S2048x1024 .bf16)
  (x3 : Vec Ideal S1536x1024 .bf16) (x4 : Vec Ideal S1x256x1024 .bf16) (x5 : Vec Ideal S16x640x128 .f32)

/-- A tile that reads its inputs and weights from these windows has these data. -/
theorem Tile.data_of (T : Tile Ideal)
    (hxa : T.xa = View.readAt (Elt Ideal) arg1.view (Rect.unit (s := S1x512x1024) ![0, 0, 0] S1x256x1024.size inb_S1x512x1024_S1x256x1024_0_0_0).toLoadRect (harg1.unread x0))
    (hxb : T.xb = View.readAt (Elt Ideal) arg1.view (Rect.unit (s := S1x512x1024) ![0, 256, 0] S1x256x1024.size inb_S1x512x1024_S1x256x1024_0_256_0).toLoadRect (harg1.unread x0))
    (hwk : T.wk = View.readAt (Elt Ideal) arg2.view (Rect.unit (s := S1024x5120) ![0, 1024] S1024x1024.size inb_S1024x5120_S1024x1024_0_1024).toLoadRect (harg2.unread x1))
    (hwq : T.wq = View.readAt (Elt Ideal) arg3.view (Rect.unit (s := S2048x1024) ![0, 0] S1024x1024.size inb_S2048x1024_S1024x1024_0_0).toLoadRect (harg3.unread x2))
    (hwv : T.wv = View.readAt (Elt Ideal) arg3.view (Rect.unit (s := S2048x1024) ![1024, 0] S1024x1024.size inb_S2048x1024_S1024x1024_1024_0).toLoadRect (harg3.unread x2))
    (hwg : T.wg = View.readAt (Elt Ideal) arg2.view (Rect.unit (s := S1024x5120) ![0, 3584] S1024x1536.size inb_S1024x5120_S1024x1536_0_3584).toLoadRect (harg2.unread x1))
    (hwm : T.wm = View.readAt (Elt Ideal) arg2.view (Rect.unit (s := S1024x5120) ![0, 3072] S1024x512.size inb_S1024x5120_S1024x512_0_3072).toLoadRect (harg2.unread x1))
    (hkv : T.kv = fun i => View.readAt (Elt Ideal) arg5.view (Rect.unit (s := S1x256x1024) ![0, 0, 128 * (i % 8)] S1x256x128.size (in_kv i)).toLoadRect (harg5.unread x4))
    (hwo : T.wo = View.readAt (Elt Ideal) arg4.view (Rect.unit (s := S1536x1024) ![0, 0] S1536x1024.size inb_S1536x1024_S1536x1024_0_0).toLoadRect (harg4.unread x3))
    (hb : T.arg6.view.read (Elt Ideal) T.f6 = x5) : T.Data x0 x1 x2 x3 x4 x5 where
  x r k := by
    unfold Tile.xr
    rw [hxa, hxb, View.readAt_eq_ld, View.readAt_eq_ld, harg1.read_unread]
    split_ifs with h
    · refine congrArg x0 (funext fun a => Fin.ext ?_)
      fin_cases a
      · rfl
      · show 0 + 1 * (r.val % 256) = r.val; omega
      · show 0 + 1 * k.val = k.val; omega
    · refine congrArg x0 (funext fun a => Fin.ext ?_)
      have := r.isLt
      fin_cases a
      · rfl
      · show 256 + 1 * (r.val % 256) = r.val; omega
      · show 0 + 1 * k.val = k.val; omega
  wk k e := by
    rw [hwk, View.readAt_eq_ld, harg2.read_unread]
    refine congrArg x1 (funext fun a => Fin.ext ?_)
    fin_cases a
    · show 0 + 1 * k.val = k.val; omega
    · show 1024 + 1 * e.val = 1024 + e.val; omega
  wq e k := by
    rw [hwq, View.readAt_eq_ld, harg3.read_unread]
    refine congrArg x2 (funext fun a => Fin.ext ?_)
    fin_cases a
    · show 0 + 1 * e.val = e.val; omega
    · show 0 + 1 * k.val = k.val; omega
  wv e k := by
    rw [hwv, View.readAt_eq_ld, harg3.read_unread]
    refine congrArg x2 (funext fun a => Fin.ext ?_)
    fin_cases a
    · show 1024 + 1 * e.val = 1024 + e.val; omega
    · show 0 + 1 * k.val = k.val; omega
  wg k e := by
    rw [hwg, View.readAt_eq_ld, harg2.read_unread]
    refine congrArg x1 (funext fun a => Fin.ext ?_)
    fin_cases a
    · show 0 + 1 * k.val = k.val; omega
    · show 3584 + 1 * e.val = 3584 + e.val; omega
  wm k e := by
    rw [hwm, View.readAt_eq_ld, harg2.read_unread]
    refine congrArg x1 (funext fun a => Fin.ext ?_)
    fin_cases a
    · show 0 + 1 * k.val = k.val; omega
    · show 3072 + 1 * e.val = 3072 + e.val; omega
  kv i hi p q := by
    rw [hkv]
    dsimp only
    rw [View.readAt_eq_ld, harg5.read_unread]
    refine congrArg x4 (funext fun a => Fin.ext ?_)
    fin_cases a
    · rfl
    · show 0 + 1 * p.val = p.val; omega
    · show 128 * (i % 8) + 1 * q.val = 128 * i + q.val; omega
  wo p q := by
    rw [hwo, View.readAt_eq_ld, harg4.read_unread]
    refine congrArg x3 (funext fun a => Fin.ext ?_)
    fin_cases a
    · show 0 + 1 * p.val = p.val; omega
    · show 0 + 1 * q.val = q.val; omega
  b i := congrFun hb i
end Data

/-- What one point leaves: the layer's rows, its keys and values, and what the next point needs beside them. -/
structure Tile.Leaves (T : Tile Ideal) (HK : Fin 8 → ℕ → Fin 256 → EReal) (HV : Fin 8 → Fin 160 → ℕ → EReal)
    (u : Vec Ideal S512x1024 .f32) (k : Vec Ideal S8x1024x256 .bf16) (v : Vec Ideal S8x160x1024 .bf16) (p : Vec Ideal S2x768x256 .bf16) : Prop where
  u : ∀ (r : Fin 512) d, u (ix2 r d) = T.row HK HV r.val d
  k : ∀ hp (w : Fin 1024) l, k (ix3 hp w l) = T.KW HK hp w.val l
  v : ∀ hp r (w : Fin 1024), v (ix3 hp r w) = T.VW HV hp r w.val
  p : ZeroP p

section B
variable (c : Dev nD) (i : grid0.Coords) (arg1 : Memref sig .tc .vmem S1x512x1024 .f32) (harg1 : arg1.IsWhole) (arg2 : Memref sig .tc .vmem S1024x5120 .bf16) (harg2 : arg2.IsWhole) (arg3 : Memref sig .tc .vmem S2048x1024 .bf16) (harg3 : arg3.IsWhole) (arg4 : Memref sig .tc .vmem S1536x1024 .bf16) (harg4 : arg4.IsWhole) (arg5 : Memref sig .tc .vmem S1x256x1024 .bf16) (harg5 : arg5.IsWhole) (arg6 : Memref sig .tc .vmem S16x640x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S8x128x256 .bf16) (harg11 : arg11.IsWhole) (arg12 : Memref sig .tc .vmem S8x1024x256 .bf16) (harg12 : arg12.IsWhole) (arg13 : Memref sig .tc .vmem S8x160x1024 .bf16) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S8x128x256 .f32) (harg16 : arg16.IsWhole) (hc0 : ¬cond0_0 i) (hc1 : ¬cond0_1 i) (hc2 : cond0_2 i) (hc3 : ¬cond0_3 i) (hc4 : ¬cond0_4 i)
    (x0 : Vec Ideal S1x512x1024 .f32) (x1 : Vec Ideal S1024x5120 .bf16) (x2 : Vec Ideal S2048x1024 .bf16) (x3 : Vec Ideal S1536x1024 .bf16) (x4 : Vec Ideal S1x256x1024 .bf16) (x5 : Vec Ideal S16x640x128 .f32) (x6 : Vec Ideal S1x1024 .f32) (x7 : Vec Ideal S1x1024 .f32) (xs0 : Vec Ideal S512x1024 .f32) (xs2 : Vec Ideal S8x1024x256 .bf16) (xs3 : Vec Ideal S8x160x1024 .bf16) (xs5 : Vec Ideal S2x768x256 .bf16)

theorem data_B : (tileB (F := Ideal) arg1 harg1 arg2 harg2 arg3 harg3 arg4 harg4 arg5 harg5 arg6 harg6 arg11 arg12 harg12 arg13 harg13 arg14 arg15 harg15 arg16 x0 x1 x2 x3 x4 x5 xs2 xs3 xs5).Data x0 x1 x2 x3 x4 x5 :=
  Tile.data_of arg1 harg1 arg2 harg2 arg3 harg3 arg4 harg4 arg5 harg5 x0 x1 x2 x3 x4 x5 _ rfl rfl rfl rfl rfl rfl rfl rfl rfl (harg6.read_unread x5)

/-- What a point that continues a sequence starts from. -/
theorem base_B (zK : ZeroK xs2) (zP : ZeroP xs5) (oV : OnesV xs3) : (tileB (F := Ideal) arg1 harg1 arg2 harg2 arg3 harg3 arg4 harg4 arg5 harg5 arg6 harg6 arg11 arg12 harg12 arg13 harg13 arg14 arg15 harg15 arg16 x0 x1 x2 x3 x4 x5 xs2 xs3 xs5).Base (histK xs2) (histV xs3) where
  hk f hp w l h := by
    refine (bottomK_lt arg12.view f _ _ hp w l h).trans ((keepK_at _ _ _ _).trans ?_)
    rw [View.readAt_eq_ld, harg12.read_unread]
    refine congrArg xs2 (funext fun a => Fin.ext ?_)
    fin_cases a
    · show 0 + 1 * hp.val = hp.val; omega
    · show 512 + 1 * w.val = (512 + w.val) % 1024; omega
    · show 0 + 1 * l.val = l.val; omega
  hv f hp r w h := by
    refine (bottomV_lt arg13.view f _ _ hp r w h).trans ((keepV_at _ _ _ _).trans ?_)
    rw [View.readAt_eq_ld, harg13.read_unread]
    refine congrArg xs3 (funext fun a => Fin.ext ?_)
    fin_cases a
    · show 0 + 1 * hp.val = hp.val; omega
    · show 0 + 1 * r.val = r.val; omega
    · show 512 + 1 * w.val = (512 + w.val) % 1024; omega
  h1 hp w h := Or.inl (oV hp _ (by show 512 ≤ (512 + w) % 1024; omega))
  hz s i hp w l h2 h4 h l' := by
    refine (bottomK_ge arg12.view _ _ _ hp w l h).trans ?_
    refine Eq.trans ?_ ((congrFun (harg12.read_unread xs2) _).trans (zK hp w l h l'))
    refine congrFun (congrArg (arg12.view.read (Elt Ideal)) ?_) _
    exact if_neg (by omega)
  hp e w c h := (congrFun (harg15.read_unread xs5) _).trans (zP e w c h)

theorem rows_B : ∃ L, (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs3 xs5).2.1 = (tileB (F := Ideal) arg1 harg1 arg2 harg2 arg3 harg3 arg4 harg4 arg5 harg5 arg6 harg6 arg11 arg12 harg12 arg13 harg13 arg14 arg15 harg15 arg16 x0 x1 x2 x3 x4 x5 xs2 xs3 xs5).rows L := by
  refine ⟨_, congrArg₂ (fun a b => (⟨_, a⟩ : View.Piece (Elt Ideal) S512x1024 .f32) :: ⟨_, b⟩ :: _)
    ((rowsb_raw_B c arg1 harg1 arg2 harg2 arg3 harg3 arg4 harg4 arg5 harg5 arg6 harg6 arg11 arg12 harg12 arg13 harg13 arg14 arg15 harg15 arg16 x0 x1 x2 x3 x4 x5 xs2 xs3 xs5).trans ?_) ((rowsa_raw_B c arg1 harg1 arg2 harg2 arg3 harg3 arg4 harg4 arg5 harg5 arg6 harg6 arg11 arg12 harg12 arg13 harg13 arg14 arg15 harg15 arg16 x0 x1 x2 x3 x4 x5 xs2 xs3 xs5).trans ?_)⟩
  · rw [m1_B c arg1 harg1 arg2 harg2 arg3 harg3 arg4 harg4 arg5 harg5 arg6 harg6 arg11 arg12 harg12 arg13 harg13 arg14 arg15 harg15 arg16 x0 x1 x2 x3 x4 x5 xs2 xs3 xs5]; rfl
  · rw [m0_B c arg1 harg1 arg2 harg2 arg3 harg3 arg4 harg4 arg5 harg5 arg6 harg6 arg11 arg12 harg12 arg13 harg13 arg14 arg15 harg15 arg16 x0 x1 x2 x3 x4 x5 xs2 xs3 xs5]; rfl

/-- What a point that continues a sequence leaves. -/
theorem leaves_B (e13 : arg13 = scM0_3) (zK : ZeroK xs2) (zP : ZeroP xs5) (oV : OnesV xs3) :
    (tileB (F := Ideal) arg1 harg1 arg2 harg2 arg3 harg3 arg4 harg4 arg5 harg5 arg6 harg6 arg11 arg12 harg12 arg13 harg13 arg14 arg15 harg15 arg16 x0 x1 x2 x3 x4 x5 xs2 xs3 xs5).Leaves (histK xs2) (histV xs3) (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs3 xs5) (sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs3 xs5) (sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs3 xs5) (sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs3 xs5) := by
  have hB := base_B arg1 harg1 arg2 harg2 arg3 harg3 arg4 harg4 arg5 harg5 arg6 harg6 arg11 arg12 harg12 arg13 harg13 arg14 arg15 harg15 arg16 x0 x1 x2 x3 x4 x5 xs2 xs3 xs5 zK zP oV
  refine ⟨fun r d => ?_, fun hp w l => ?_, fun hp r w => ?_, fun e w q h => ?_⟩
  · obtain ⟨L, hL⟩ := rows_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs3 xs5
    unfold sout0_B_0
    rw [hL]
    exact hB.rows_at VS0_0 VS0_0.junk L r d
  · unfold sout0_B_2
    exact (congrArg (fun L => arg12.view.read (Elt Ideal) (arg12.view.writes (Elt Ideal) (harg12.unread xs2) L) (ix3 hp w l))
      (k1_B c arg1 harg1 arg2 harg2 arg3 harg3 arg4 harg4 arg5 harg5 arg6 harg6 arg11 arg12 harg12 arg13 harg13 arg14 arg15 harg15 arg16 x0 x1 x2 x3 x4 x5 xs2 xs3 xs5)).trans (hB.k1_at 2 hp w l (Or.inr le_rfl))
  · subst e13
    unfold sout0_B_3
    exact (congrArg (fun L => VS0_3.read (Elt Ideal) (VS0_3.writes (Elt Ideal) VS0_3.junk L) (ix3 hp r w)) (v1_B c arg1 harg1 arg2 harg2 arg3 harg3 arg4 harg4 arg5 harg5 arg6 harg6 arg11 arg12 harg12 scM0_3 harg13 arg14 arg15 harg15 arg16 x0 x1 x2 x3 x4 x5 xs2 xs3 xs5)).trans
      (hB.v1_at VS0_3.junk hp r w)
  · unfold sout0_B_5
    exact (congrArg (fun L => arg15.view.read (Elt Ideal) (arg15.view.writes (Elt Ideal) (harg15.unread xs5) L) (ix3 e w q))
      (p1_B c arg1 harg1 arg2 harg2 arg3 harg3 arg4 harg4 arg5 harg5 arg6 harg6 arg11 arg12 harg12 arg13 harg13 arg14 arg15 harg15 arg16 x0 x1 x2 x3 x4 x5 xs2 xs3 xs5)).trans (hB.p1_corner e w q h)
end B

section C
variable (c : Dev nD) (i : grid0.Coords) (arg1 : Memref sig .tc .vmem S1x512x1024 .f32) (harg1 : arg1.IsWhole) (arg2 : Memref sig .tc .vmem S1024x5120 .bf16) (harg2 : arg2.IsWhole) (arg3 : Memref sig .tc .vmem S2048x1024 .bf16) (harg3 : arg3.IsWhole) (arg4 : Memref sig .tc .vmem S1536x1024 .bf16) (harg4 : arg4.IsWhole) (arg5 : Memref sig .tc .vmem S1x256x1024 .bf16) (harg5 : arg5.IsWhole) (arg6 : Memref sig .tc .vmem S16x640x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S8x128x256 .bf16) (harg11 : arg11.IsWhole) (arg12 : Memref sig .tc .vmem S8x1024x256 .bf16) (harg12 : arg12.IsWhole) (arg13 : Memref sig .tc .vmem S8x160x1024 .bf16) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S8x128x256 .f32) (harg16 : arg16.IsWhole) (hc0 : ¬cond0_0 i) (hc1 : ¬cond0_1 i) (hc2 : cond0_2 i) (hc3 : ¬cond0_3 i) (hc4 : cond0_4 i)
    (x0 : Vec Ideal S1x512x1024 .f32) (x1 : Vec Ideal S1024x5120 .bf16) (x2 : Vec Ideal S2048x1024 .bf16) (x3 : Vec Ideal S1536x1024 .bf16) (x4 : Vec Ideal S1x256x1024 .bf16) (x5 : Vec Ideal S16x640x128 .f32) (x6 : Vec Ideal S1x1024 .f32) (x7 : Vec Ideal S1x1024 .f32) (xs0 : Vec Ideal S512x1024 .f32) (xs2 : Vec Ideal S8x1024x256 .bf16) (xs5 : Vec Ideal S2x768x256 .bf16)

theorem data_C : (tileC (F := Ideal) arg1 harg1 arg2 harg2 arg3 harg3 arg4 harg4 arg5 harg5 arg6 harg6 arg11 arg12 harg12 arg13 arg14 arg15 harg15 arg16 x0 x1 x2 x3 x4 x5 xs2 xs5).Data x0 x1 x2 x3 x4 x5 :=
  Tile.data_of arg1 harg1 arg2 harg2 arg3 harg3 arg4 harg4 arg5 harg5 x0 x1 x2 x3 x4 x5 _ rfl rfl rfl rfl rfl rfl rfl rfl rfl (harg6.read_unread x5)

/-- What a point that starts a sequence starts from. -/
theorem base_C (zK : ZeroK xs2) (zP : ZeroP xs5) : (tileC (F := Ideal) arg1 harg1 arg2 harg2 arg3 harg3 arg4 harg4 arg5 harg5 arg6 harg6 arg11 arg12 harg12 arg13 arg14 arg15 harg15 arg16 x0 x1 x2 x3 x4 x5 xs2 xs5).Base firstK firstV where
  hk f hp w l h := (bottomK_lt arg12.view f _ _ hp w l h).trans (histK_at _ _ _)
  hv f hp r w h := (bottomV_lt arg13.view f _ _ hp r w h).trans (histV_at _ _ _)
  h1 hp w h := Or.inr (if_pos rfl)
  hz s i hp w l h2 h4 h l' := by
    refine (bottomK_ge arg12.view _ _ _ hp w l h).trans ?_
    refine Eq.trans ?_ ((congrFun (harg12.read_unread xs2) _).trans (zK hp w l h l'))
    refine congrFun (congrArg (arg12.view.read (Elt Ideal)) ?_) _
    exact if_neg (by omega)
  hp e w c h := (congrFun (harg15.read_unread xs5) _).trans (zP e w c h)

theorem rows_C : ∃ L, (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs5).2.1 = (tileC (F := Ideal) arg1 harg1 arg2 harg2 arg3 harg3 arg4 harg4 arg5 harg5 arg6 harg6 arg11 arg12 harg12 arg13 arg14 arg15 harg15 arg16 x0 x1 x2 x3 x4 x5 xs2 xs5).rows L := by
  refine ⟨_, congrArg₂ (fun a b => (⟨_, a⟩ : View.Piece (Elt Ideal) S512x1024 .f32) :: ⟨_, b⟩ :: _)
    ((rowsb_raw_C c arg1 harg1 arg2 harg2 arg3 harg3 arg4 harg4 arg5 harg5 arg6 harg6 arg11 arg12 harg12 arg13 arg14 arg15 harg15 arg16 x0 x1 x2 x3 x4 x5 xs2 xs5).trans ?_) ((rowsa_raw_C c arg1 harg1 arg2 harg2 arg3 harg3 arg4 harg4 arg5 harg5 arg6 harg6 arg11 arg12 harg12 arg13 arg14 arg15 harg15 arg16 x0 x1 x2 x3 x4 x5 xs2 xs5).trans ?_)⟩
  · rw [m1_C c arg1 harg1 arg2 harg2 arg3 harg3 arg4 harg4 arg5 harg5 arg6 harg6 arg11 arg12 harg12 arg13 arg14 arg15 harg15 arg16 x0 x1 x2 x3 x4 x5 xs2 xs5]; rfl
  · rw [m0_C c arg1 harg1 arg2 harg2 arg3 harg3 arg4 harg4 arg5 harg5 arg6 harg6 arg11 arg12 harg12 arg13 arg14 arg15 harg15 arg16 x0 x1 x2 x3 x4 x5 xs2 xs5]; rfl

/-- What a point that starts a sequence leaves. -/
theorem leaves_C (e13 : arg13 = scM0_3) (zK : ZeroK xs2) (zP : ZeroP xs5) :
    (tileC (F := Ideal) arg1 harg1 arg2 harg2 arg3 harg3 arg4 harg4 arg5 harg5 arg6 harg6 arg11 arg12 harg12 arg13 arg14 arg15 harg15 arg16 x0 x1 x2 x3 x4 x5 xs2 xs5).Leaves firstK firstV (sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs5) (sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs5) (sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs5) (sout0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs5) := by
  have hB := base_C arg1 harg1 arg2 harg2 arg3 harg3 arg4 harg4 arg5 harg5 arg6 harg6 arg11 arg12 harg12 arg13 arg14 arg15 harg15 arg16 x0 x1 x2 x3 x4 x5 xs2 xs5 zK zP
  refine ⟨fun r d => ?_, fun hp w l => ?_, fun hp r w => ?_, fun e w q h => ?_⟩
  · obtain ⟨L, hL⟩ := rows_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs5
    unfold sout0_C_0
    rw [hL]
    exact hB.rows_at VS0_0 VS0_0.junk L r d
  · unfold sout0_C_2
    exact (congrArg (fun L => arg12.view.read (Elt Ideal) (arg12.view.writes (Elt Ideal) (harg12.unread xs2) L) (ix3 hp w l))
      (k1_C c arg1 harg1 arg2 harg2 arg3 harg3 arg4 harg4 arg5 harg5 arg6 harg6 arg11 arg12 harg12 arg13 arg14 arg15 harg15 arg16 x0 x1 x2 x3 x4 x5 xs2 xs5)).trans (hB.k1_at 2 hp w l (Or.inr le_rfl))
  · subst e13
    unfold sout0_C_3
    exact (congrArg (fun L => VS0_3.read (Elt Ideal) (VS0_3.writes (Elt Ideal) VS0_3.junk L) (ix3 hp r w)) (v1_C c arg1 harg1 arg2 harg2 arg3 harg3 arg4 harg4 arg5 harg5 arg6 harg6 arg11 arg12 harg12 scM0_3 arg14 arg15 harg15 arg16 x0 x1 x2 x3 x4 x5 xs2 xs5)).trans
      (hB.v1_at VS0_3.junk hp r w)
  · unfold sout0_C_5
    exact (congrArg (fun L => arg15.view.read (Elt Ideal) (arg15.view.writes (Elt Ideal) (harg15.unread xs5) L) (ix3 e w q))
      (p1_C c arg1 harg1 arg2 harg2 arg3 harg3 arg4 harg4 arg5 harg5 arg6 harg6 arg11 arg12 harg12 arg13 arg14 arg15 harg15 arg16 x0 x1 x2 x3 x4 x5 xs2 xs5)).trans (hB.p1_corner e w q h)
end C

section A
variable (c : Dev nD) (i : grid0.Coords) (arg1 : Memref sig .tc .vmem S1x512x1024 .f32) (harg1 : arg1.IsWhole) (arg2 : Memref sig .tc .vmem S1024x5120 .bf16) (harg2 : arg2.IsWhole) (arg3 : Memref sig .tc .vmem S2048x1024 .bf16) (harg3 : arg3.IsWhole) (arg4 : Memref sig .tc .vmem S1536x1024 .bf16) (harg4 : arg4.IsWhole) (arg5 : Memref sig .tc .vmem S1x256x1024 .bf16) (harg5 : arg5.IsWhole) (arg6 : Memref sig .tc .vmem S16x640x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S8x128x256 .bf16) (harg11 : arg11.IsWhole) (arg12 : Memref sig .tc .vmem S8x1024x256 .bf16) (harg12 : arg12.IsWhole) (arg13 : Memref sig .tc .vmem S8x160x1024 .bf16) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S8x128x256 .f32) (harg16 : arg16.IsWhole) (hc0 : cond0_0 i) (hc1 : ¬cond0_1 i) (hc2 : cond0_2 i) (hc3 : cond0_3 i) (hc4 : cond0_4 i)
    (x0 : Vec Ideal S1x512x1024 .f32) (x1 : Vec Ideal S1024x5120 .bf16) (x2 : Vec Ideal S2048x1024 .bf16) (x3 : Vec Ideal S1536x1024 .bf16) (x4 : Vec Ideal S1x256x1024 .bf16) (x5 : Vec Ideal S16x640x128 .f32) (x6 : Vec Ideal S1x1024 .f32) (x7 : Vec Ideal S1x1024 .f32)

theorem data_A : (tileA (F := Ideal) arg1 harg1 arg2 harg2 arg3 harg3 arg4 harg4 arg5 harg5 arg6 harg6 arg11 arg12 arg13 arg14 arg15 arg16 x0 x1 x2 x3 x4 x5).Data x0 x1 x2 x3 x4 x5 :=
  Tile.data_of arg1 harg1 arg2 harg2 arg3 harg3 arg4 harg4 arg5 harg5 x0 x1 x2 x3 x4 x5 _ rfl rfl rfl rfl rfl rfl rfl rfl rfl (harg6.read_unread x5)

/-- What a point that is the first starts from. -/
theorem base_A  : (tileA (F := Ideal) arg1 harg1 arg2 harg2 arg3 harg3 arg4 harg4 arg5 harg5 arg6 harg6 arg11 arg12 arg13 arg14 arg15 arg16 x0 x1 x2 x3 x4 x5).Base firstK firstV where
  hk f hp w l h := (bottomK_lt arg12.view f _ _ hp w l h).trans (histK_at _ _ _)
  hv f hp r w h := (bottomV_lt arg13.view f _ _ hp r w h).trans (histV_at _ _ _)
  h1 hp w h := Or.inr (if_pos rfl)
  hz s i hp w l h2 h4 h l' := by
    refine (bottomK_ge arg12.view _ _ _ hp w l h).trans ?_
    refine (View.read_writes_cons_unit_of_mem arg12.view _ _ _ _ (ix3 hp w l) (ix3 hp w (⟨l.val - 128, by omega⟩ : Fin 128)) rfl ?_).trans (zeroK_at _ _ _)
    intro a; fin_cases a
    · show hp.val = 0 + hp.val; omega
    · show w.val = 0 + w.val; omega
    · show l.val = 128 + (l.val - 128); omega
  hp e w c h := by
    rcases h with ⟨h, h'⟩ | ⟨h, h'⟩
    · refine (View.read_writes_cons_unit_of_not_mem arg15.view _ _ _ _ (ix3 e w c) rfl 2 (Or.inl h')).trans ?_
      have := w.isLt
      refine (View.read_writes_cons_unit_of_mem arg15.view _ _ _ _ (ix3 e w c) (ix3 e (⟨w.val - 640, by omega⟩ : Fin 128) (⟨c.val, h'⟩ : Fin 128)) rfl ?_).trans (zeroP_at _ _ _)
      intro a; fin_cases a
      · show e.val = 0 + e.val; omega
      · show w.val = 640 + (w.val - 640); omega
      · show c.val = 0 + c.val; omega
    · have := c.isLt
      refine (View.read_writes_cons_unit_of_mem arg15.view _ _ _ _ (ix3 e w c) (ix3 e (⟨w.val, h⟩ : Fin 128) (⟨c.val - 128, by omega⟩ : Fin 128)) rfl ?_).trans (zeroP'_at _ _ _)
      intro a; fin_cases a
      · show e.val = 0 + e.val; omega
      · show w.val = 0 + w.val; omega
      · show c.val = 128 + (c.val - 128); omega

theorem rows_A : ∃ L, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7).2.1 = (tileA (F := Ideal) arg1 harg1 arg2 harg2 arg3 harg3 arg4 harg4 arg5 harg5 arg6 harg6 arg11 arg12 arg13 arg14 arg15 arg16 x0 x1 x2 x3 x4 x5).rows L := by
  refine ⟨_, congrArg₂ (fun a b => (⟨_, a⟩ : View.Piece (Elt Ideal) S512x1024 .f32) :: ⟨_, b⟩ :: _)
    ((rowsb_raw_A c arg1 harg1 arg2 harg2 arg3 harg3 arg4 harg4 arg5 harg5 arg6 harg6 arg11 arg12 arg13 arg14 arg15 arg16 x0 x1 x2 x3 x4 x5).trans ?_) ((rowsa_raw_A c arg1 harg1 arg2 harg2 arg3 harg3 arg4 harg4 arg5 harg5 arg6 harg6 arg11 arg12 arg13 arg14 arg15 arg16 x0 x1 x2 x3 x4 x5).trans ?_)⟩
  · rw [m1_A c arg1 harg1 arg2 harg2 arg3 harg3 arg4 harg4 arg5 harg5 arg6 harg6 arg11 arg12 arg13 arg14 arg15 arg16 x0 x1 x2 x3 x4 x5]; rfl
  · rw [m0_A c arg1 harg1 arg2 harg2 arg3 harg3 arg4 harg4 arg5 harg5 arg6 harg6 arg11 arg12 arg13 arg14 arg15 arg16 x0 x1 x2 x3 x4 x5]; rfl

/-- What a point that is the first leaves. -/
theorem leaves_A (e12 : arg12 = scM0_2) (e15 : arg15 = scM0_5) (e13 : arg13 = scM0_3)  :
    (tileA (F := Ideal) arg1 harg1 arg2 harg2 arg3 harg3 arg4 harg4 arg5 harg5 arg6 harg6 arg11 arg12 arg13 arg14 arg15 arg16 x0 x1 x2 x3 x4 x5).Leaves firstK firstV (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7) (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7) (sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7) (sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7) := by
  have hB := base_A arg1 harg1 arg2 harg2 arg3 harg3 arg4 harg4 arg5 harg5 arg6 harg6 arg11 arg12 arg13 arg14 arg15 arg16 x0 x1 x2 x3 x4 x5
  refine ⟨fun r d => ?_, fun hp w l => ?_, fun hp r w => ?_, fun e w q h => ?_⟩
  · obtain ⟨L, hL⟩ := rows_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7
    unfold sout0_A_0
    rw [hL]
    exact hB.rows_at VS0_0 VS0_0.junk L r d
  · subst e12
    unfold sout0_A_2
    exact (congrArg (fun L => VS0_2.read (Elt Ideal) (VS0_2.writes (Elt Ideal) VS0_2.junk L) (ix3 hp w l))
      (k1_A c arg1 harg1 arg2 harg2 arg3 harg3 arg4 harg4 arg5 harg5 arg6 harg6 arg11 scM0_2 arg13 arg14 arg15 arg16 x0 x1 x2 x3 x4 x5)).trans (hB.k1_at 2 hp w l (Or.inr le_rfl))
  · subst e13
    unfold sout0_A_3
    exact (congrArg (fun L => VS0_3.read (Elt Ideal) (VS0_3.writes (Elt Ideal) VS0_3.junk L) (ix3 hp r w)) (v1_A c arg1 harg1 arg2 harg2 arg3 harg3 arg4 harg4 arg5 harg5 arg6 harg6 arg11 arg12 scM0_3 arg14 arg15 arg16 x0 x1 x2 x3 x4 x5)).trans
      (hB.v1_at VS0_3.junk hp r w)
  · subst e15
    unfold sout0_A_5
    exact (congrArg (fun L => VS0_5.read (Elt Ideal) (VS0_5.writes (Elt Ideal) VS0_5.junk L) (ix3 e w q))
      (p1_A c arg1 harg1 arg2 harg2 arg3 harg3 arg4 harg4 arg5 harg5 arg6 harg6 arg11 arg12 arg13 arg14 scM0_5 arg16 x0 x1 x2 x3 x4 x5)).trans (hB.p1_corner e w q h)
end A

end Cert.AttnIdeal.Gen
-- ==== Proof.AttnOuts.lean ====
module

public import proofs.«01_k».proof.Proof.AttnStep
public import proofs.«01_k».proof.Proof.State

/-! The layer norm of a block's 512 output rows, stored 32 rows at a time. -/

@[expose] public section
noncomputable section
namespace Cert.AttnIdeal.Gen
open Idealize.ShloMosaic Idealize.ShloMosaic.TcCoe Layer Cert.AttnIdeal

theorem in_out (i : Fin 16) : ∀ x, (![0, 32 * i.val, 0] : Fin 3 → Nat) x + S1x32x1024.size x ≤ S1x512x1024.size x := by
  have := i.isLt
  intro x; fin_cases x
  · exact Nat.le_refl _
  · show 32 * i.val + 32 ≤ 512; omega
  · exact Nat.le_refl _
theorem in_u (i : Fin 16) : ∀ x, (![32 * i.val, 0] : Fin 2 → Nat) x + S32x1024.size x ≤ S512x1024.size x := by
  have := i.isLt
  intro x; fin_cases x
  · show 32 * i.val + 32 ≤ 512; omega
  · exact Nat.le_refl _

section Pieces
variable {F : FTy → Type} [FloatOps F]
variable (arg7 : Memref sig .tc .vmem S1x1024 .f32) (harg7 : arg7.IsWhole) (arg8 : Memref sig .tc .vmem S1x1024 .f32) (harg8 : arg8.IsWhole)
  (arg10 : Memref sig .tc .vmem S512x1024 .f32) (harg10 : arg10.IsWhole) (x6 : Vec F S1x1024 .f32) (x7 : Vec F S1x1024 .f32) (xs0 : Vec F S512x1024 .f32)

/-- The store of 32 normed rows. -/
def lnPiece (i : Fin 16) : View.Piece (Elt F) S1x512x1024 .f32 :=
  ⟨Rect.unit (s := S1x512x1024) ![0, 32 * i.val, 0] S1x32x1024.size (in_out i),
    k0_pay64 (View.readAt (Elt F) arg7.view (Rect.unit (s := S1x1024) ![0, 0] S1x1024.size inb_S1x1024_S1x1024_0_0).toLoadRect (harg7.unread x6))
      (View.readAt (Elt F) arg8.view (Rect.unit (s := S1x1024) ![0, 0] S1x1024.size inb_S1x1024_S1x1024_0_0).toLoadRect (harg8.unread x7))
      (View.readAt (Elt F) arg10.view (Rect.unit (s := S512x1024) ![32 * i.val, 0] S32x1024.size (in_u i)).toLoadRect (harg10.unread xs0))⟩
/-- The stores of all rows. -/
def lnPieces : List (View.Piece (Elt F) S1x512x1024 .f32) :=
  [lnPiece arg7 harg7 arg8 harg8 arg10 harg10 x6 x7 xs0 15, lnPiece arg7 harg7 arg8 harg8 arg10 harg10 x6 x7 xs0 14, lnPiece arg7 harg7 arg8 harg8 arg10 harg10 x6 x7 xs0 13, lnPiece arg7 harg7 arg8 harg8 arg10 harg10 x6 x7 xs0 12, lnPiece arg7 harg7 arg8 harg8 arg10 harg10 x6 x7 xs0 11, lnPiece arg7 harg7 arg8 harg8 arg10 harg10 x6 x7 xs0 10, lnPiece arg7 harg7 arg8 harg8 arg10 harg10 x6 x7 xs0 9, lnPiece arg7 harg7 arg8 harg8 arg10 harg10 x6 x7 xs0 8, lnPiece arg7 harg7 arg8 harg8 arg10 harg10 x6 x7 xs0 7, lnPiece arg7 harg7 arg8 harg8 arg10 harg10 x6 x7 xs0 6, lnPiece arg7 harg7 arg8 harg8 arg10 harg10 x6 x7 xs0 5, lnPiece arg7 harg7 arg8 harg8 arg10 harg10 x6 x7 xs0 4, lnPiece arg7 harg7 arg8 harg8 arg10 harg10 x6 x7 xs0 3, lnPiece arg7 harg7 arg8 harg8 arg10 harg10 x6 x7 xs0 2, lnPiece arg7 harg7 arg8 harg8 arg10 harg10 x6 x7 xs0 1, lnPiece arg7 harg7 arg8 harg8 arg10 harg10 x6 x7 xs0 0]
end Pieces

section Rows
variable (arg7 : Memref sig .tc .vmem S1x1024 .f32) (harg7 : arg7.IsWhole) (arg8 : Memref sig .tc .vmem S1x1024 .f32) (harg8 : arg8.IsWhole)
  (arg10 : Memref sig .tc .vmem S512x1024 .f32) (harg10 : arg10.IsWhole) (x6 : Vec Ideal S1x1024 .f32) (x7 : Vec Ideal S1x1024 .f32) (xs0 : Vec Ideal S512x1024 .f32)

theorem ln_mem (i : Fin 16) : lnPiece arg7 harg7 arg8 harg8 arg10 harg10 x6 x7 xs0 i ∈ lnPieces arg7 harg7 arg8 harg8 arg10 harg10 x6 x7 xs0 := by
  unfold lnPieces
  fin_cases i <;> simp only [List.mem_cons, true_or, or_true] <;> simp

theorem ln_pay (g b : Vec Ideal S1x1024 .f32) (u : Vec Ideal S32x1024 .f32) (r : Fin 32) (d : Fin 1024) :
    k0_pay64 g b u (ix3 0 r d) = norm (fun x => u (ix2 r x)) (fun x => g (ix2 0 x)) (fun x => b (ix2 0 x)) d := by
  pointwise [k0_pay64]
  rfl

theorem ln_tile (i : Fin 16) (n : Fin 512) (d : Fin 1024) :
    View.TileAt (S := S1x512x1024) (Val := Elt Ideal) (e := .f32) (ix3 0 n d) ![0, 32 * i.val, 0] S1x32x1024.size
      (k0_pay64 (View.readAt (Elt Ideal) arg7.view (Rect.unit (s := S1x1024) ![0, 0] S1x1024.size inb_S1x1024_S1x1024_0_0).toLoadRect (harg7.unread x6))
      (View.readAt (Elt Ideal) arg8.view (Rect.unit (s := S1x1024) ![0, 0] S1x1024.size inb_S1x1024_S1x1024_0_0).toLoadRect (harg8.unread x7))
      (View.readAt (Elt Ideal) arg10.view (Rect.unit (s := S512x1024) ![32 * i.val, 0] S32x1024.size (in_u i)).toLoadRect (harg10.unread xs0)))
      (norm (fun x => xs0 (ix2 n x)) (fun x => x6 (ix2 0 x)) (fun x => x7 (ix2 0 x)) d) := by
  refine tile3 (N := 512) (n := 32) (o := 32 * i.val) _ (fun n d => norm (fun x => xs0 (ix2 n x)) (fun x => x6 (ix2 0 x)) (fun x => x7 (ix2 0 x)) d) (fun r e hr => ?_) n d
  refine (ln_pay _ _ _ r e).trans ?_
  rw [View.readAt_eq_ld, View.readAt_eq_ld, View.readAt_eq_ld, harg7.read_unread, harg8.read_unread, harg10.read_unread,
    View.ld_unit_zero (by funext a; fin_cases a <;> rfl), View.ld_unit_zero (by funext a; fin_cases a <;> rfl)]
  refine congrArg (fun f => norm f _ _ e) (funext fun x => congrArg xs0 (funext fun a => Fin.ext ?_))
  fin_cases a
  · show 32 * i.val + 1 * r.val = 32 * i.val + r.val; omega
  · show 0 + 1 * x.val = x.val; omega

/-- Each stored row is the layer norm of the row the point before left. -/
theorem ln_at (n : Fin 512) (d : Fin 1024) : View.canon (lnPieces arg7 harg7 arg8 harg8 arg10 harg10 x6 x7 xs0) (ix3 0 n d)
    = norm (fun x => xs0 (ix2 n x)) (fun x => x6 (ix2 0 x)) (fun x => x7 (ix2 0 x)) d := by
  refine View.canon_eq_of_allAt _ _ _ ?_ ?_
  · refine ⟨_, ln_mem arg7 harg7 arg8 harg8 arg10 harg10 x6 x7 xs0 ⟨n.val / 32, by omega⟩, ?_⟩
    show ix3 0 n d ∈ (Rect.unit (s := S1x512x1024) ![0, 32 * (n.val / 32), 0] S1x32x1024.size (in_out ⟨n.val / 32, by omega⟩)).set
    refine Rect.mem_set_unit.mpr ?_
    intro a; fin_cases a
    · exact ⟨Nat.zero_le _, Nat.one_pos⟩
    · exact ⟨by show 32 * (n.val / 32) ≤ n.val; omega, by show n.val < 32 * (n.val / 32) + 32; omega⟩
    · exact ⟨Nat.zero_le _, by show d.val < 0 + 1024; omega⟩
  · have h := fun i => ln_tile arg7 harg7 arg8 harg8 arg10 harg10 x6 x7 xs0 i n d
    unfold lnPieces lnPiece
    exact View.allAt_cons_unit _ _ _ _ _ (h 15) (View.allAt_cons_unit _ _ _ _ _ (h 14) (View.allAt_cons_unit _ _ _ _ _ (h 13) (View.allAt_cons_unit _ _ _ _ _ (h 12) (View.allAt_cons_unit _ _ _ _ _ (h 11) (View.allAt_cons_unit _ _ _ _ _ (h 10) (View.allAt_cons_unit _ _ _ _ _ (h 9) (View.allAt_cons_unit _ _ _ _ _ (h 8) (View.allAt_cons_unit _ _ _ _ _ (h 7) (View.allAt_cons_unit _ _ _ _ _ (h 6) (View.allAt_cons_unit _ _ _ _ _ (h 5) (View.allAt_cons_unit _ _ _ _ _ (h 4) (View.allAt_cons_unit _ _ _ _ _ (h 3) (View.allAt_cons_unit _ _ _ _ _ (h 2) (View.allAt_cons_unit _ _ _ _ _ (h 1) (View.allAt_cons_unit _ _ _ _ _ (h 0) (View.allAt_nil _ _))))))))))))))))
end Rows

section B
/-- The stored rows of a point. -/
theorem lnrun_B {F : FTy → Type} [FloatOps F] [Named F] (c : Dev nD) (i : grid0.Coords) (arg1 : Memref sig .tc .vmem S1x512x1024 .f32) (harg1 : arg1.IsWhole) (arg2 : Memref sig .tc .vmem S1024x5120 .bf16) (harg2 : arg2.IsWhole) (arg3 : Memref sig .tc .vmem S2048x1024 .bf16) (harg3 : arg3.IsWhole) (arg4 : Memref sig .tc .vmem S1536x1024 .bf16) (harg4 : arg4.IsWhole) (arg5 : Memref sig .tc .vmem S1x256x1024 .bf16) (harg5 : arg5.IsWhole) (arg6 : Memref sig .tc .vmem S16x640x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S8x128x256 .bf16) (harg11 : arg11.IsWhole) (arg12 : Memref sig .tc .vmem S8x1024x256 .bf16) (harg12 : arg12.IsWhole) (arg13 : Memref sig .tc .vmem S8x160x1024 .bf16) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S8x128x256 .f32) (harg16 : arg16.IsWhole) (hc0 : ¬cond0_0 i) (hc1 : ¬cond0_1 i) (hc2 : cond0_2 i) (hc3 : ¬cond0_3 i) (hc4 : ¬cond0_4 i)
    (x0 : Vec F S1x512x1024 .f32) (x1 : Vec F S1024x5120 .bf16) (x2 : Vec F S2048x1024 .bf16) (x3 : Vec F S1536x1024 .bf16) (x4 : Vec F S1x256x1024 .bf16) (x5 : Vec F S16x640x128 .f32) (x6 : Vec F S1x1024 .f32) (x7 : Vec F S1x1024 .f32) (xs0 : Vec F S512x1024 .f32) (xs2 : Vec F S8x1024x256 .bf16) (xs3 : Vec F S8x160x1024 .bf16) (xs5 : Vec F S2x768x256 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs3 xs5).1 = lnPieces arg7 harg7 arg8 harg8 arg10 harg10 x6 x7 xs0 := rfl
theorem out_B (c : Dev nD) (i : grid0.Coords) (arg1 : Memref sig .tc .vmem S1x512x1024 .f32) (harg1 : arg1.IsWhole) (arg2 : Memref sig .tc .vmem S1024x5120 .bf16) (harg2 : arg2.IsWhole) (arg3 : Memref sig .tc .vmem S2048x1024 .bf16) (harg3 : arg3.IsWhole) (arg4 : Memref sig .tc .vmem S1536x1024 .bf16) (harg4 : arg4.IsWhole) (arg5 : Memref sig .tc .vmem S1x256x1024 .bf16) (harg5 : arg5.IsWhole) (arg6 : Memref sig .tc .vmem S16x640x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S8x128x256 .bf16) (harg11 : arg11.IsWhole) (arg12 : Memref sig .tc .vmem S8x1024x256 .bf16) (harg12 : arg12.IsWhole) (arg13 : Memref sig .tc .vmem S8x160x1024 .bf16) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S8x128x256 .f32) (harg16 : arg16.IsWhole) (hc0 : ¬cond0_0 i) (hc1 : ¬cond0_1 i) (hc2 : cond0_2 i) (hc3 : ¬cond0_3 i) (hc4 : ¬cond0_4 i)
    (x0 : Vec Ideal S1x512x1024 .f32) (x1 : Vec Ideal S1024x5120 .bf16) (x2 : Vec Ideal S2048x1024 .bf16) (x3 : Vec Ideal S1536x1024 .bf16) (x4 : Vec Ideal S1x256x1024 .bf16) (x5 : Vec Ideal S16x640x128 .f32) (x6 : Vec Ideal S1x1024 .f32) (x7 : Vec Ideal S1x1024 .f32) (xs0 : Vec Ideal S512x1024 .f32) (xs2 : Vec Ideal S8x1024x256 .bf16) (xs3 : Vec Ideal S8x160x1024 .bf16) (xs5 : Vec Ideal S2x768x256 .bf16) (n : Fin 512) (d : Fin 1024) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs3 xs5 (ix3 0 n d) = norm (fun x => xs0 (ix2 n x)) (fun x => x6 (ix2 0 x)) (fun x => x7 (ix2 0 x)) d := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs3 xs5)]
  rw [lnrun_B]
  exact ln_at arg7 harg7 arg8 harg8 arg10 harg10 x6 x7 xs0 n d
end B

section C
/-- The stored rows of a point. -/
theorem lnrun_C {F : FTy → Type} [FloatOps F] [Named F] (c : Dev nD) (i : grid0.Coords) (arg1 : Memref sig .tc .vmem S1x512x1024 .f32) (harg1 : arg1.IsWhole) (arg2 : Memref sig .tc .vmem S1024x5120 .bf16) (harg2 : arg2.IsWhole) (arg3 : Memref sig .tc .vmem S2048x1024 .bf16) (harg3 : arg3.IsWhole) (arg4 : Memref sig .tc .vmem S1536x1024 .bf16) (harg4 : arg4.IsWhole) (arg5 : Memref sig .tc .vmem S1x256x1024 .bf16) (harg5 : arg5.IsWhole) (arg6 : Memref sig .tc .vmem S16x640x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S8x128x256 .bf16) (harg11 : arg11.IsWhole) (arg12 : Memref sig .tc .vmem S8x1024x256 .bf16) (harg12 : arg12.IsWhole) (arg13 : Memref sig .tc .vmem S8x160x1024 .bf16) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S8x128x256 .f32) (harg16 : arg16.IsWhole) (hc0 : ¬cond0_0 i) (hc1 : ¬cond0_1 i) (hc2 : cond0_2 i) (hc3 : ¬cond0_3 i) (hc4 : cond0_4 i)
    (x0 : Vec F S1x512x1024 .f32) (x1 : Vec F S1024x5120 .bf16) (x2 : Vec F S2048x1024 .bf16) (x3 : Vec F S1536x1024 .bf16) (x4 : Vec F S1x256x1024 .bf16) (x5 : Vec F S16x640x128 .f32) (x6 : Vec F S1x1024 .f32) (x7 : Vec F S1x1024 .f32) (xs0 : Vec F S512x1024 .f32) (xs2 : Vec F S8x1024x256 .bf16) (xs5 : Vec F S2x768x256 .bf16) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs5).1 = lnPieces arg7 harg7 arg8 harg8 arg10 harg10 x6 x7 xs0 := rfl
theorem out_C (c : Dev nD) (i : grid0.Coords) (arg1 : Memref sig .tc .vmem S1x512x1024 .f32) (harg1 : arg1.IsWhole) (arg2 : Memref sig .tc .vmem S1024x5120 .bf16) (harg2 : arg2.IsWhole) (arg3 : Memref sig .tc .vmem S2048x1024 .bf16) (harg3 : arg3.IsWhole) (arg4 : Memref sig .tc .vmem S1536x1024 .bf16) (harg4 : arg4.IsWhole) (arg5 : Memref sig .tc .vmem S1x256x1024 .bf16) (harg5 : arg5.IsWhole) (arg6 : Memref sig .tc .vmem S16x640x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S8x128x256 .bf16) (harg11 : arg11.IsWhole) (arg12 : Memref sig .tc .vmem S8x1024x256 .bf16) (harg12 : arg12.IsWhole) (arg13 : Memref sig .tc .vmem S8x160x1024 .bf16) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S8x128x256 .f32) (harg16 : arg16.IsWhole) (hc0 : ¬cond0_0 i) (hc1 : ¬cond0_1 i) (hc2 : cond0_2 i) (hc3 : ¬cond0_3 i) (hc4 : cond0_4 i)
    (x0 : Vec Ideal S1x512x1024 .f32) (x1 : Vec Ideal S1024x5120 .bf16) (x2 : Vec Ideal S2048x1024 .bf16) (x3 : Vec Ideal S1536x1024 .bf16) (x4 : Vec Ideal S1x256x1024 .bf16) (x5 : Vec Ideal S16x640x128 .f32) (x6 : Vec Ideal S1x1024 .f32) (x7 : Vec Ideal S1x1024 .f32) (xs0 : Vec Ideal S512x1024 .f32) (xs2 : Vec Ideal S8x1024x256 .bf16) (xs5 : Vec Ideal S2x768x256 .bf16) (n : Fin 512) (d : Fin 1024) :
    out0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs5 (ix3 0 n d) = norm (fun x => xs0 (ix2 n x)) (fun x => x6 (ix2 0 x)) (fun x => x7 (ix2 0 x)) d := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 hc4 x0 x1 x2 x3 x4 x5 x6 x7 xs0 xs2 xs5)]
  rw [lnrun_C]
  exact ln_at arg7 harg7 arg8 harg8 arg10 harg10 x6 x7 xs0 n d
end C

section D
/-- The stored rows of a point. -/
theorem lnrun_D {F : FTy → Type} [FloatOps F] [Named F] (c : Dev nD) (i : grid0.Coords) (arg1 : Memref sig .tc .vmem S1x512x1024 .f32) (harg1 : arg1.IsWhole) (arg2 : Memref sig .tc .vmem S1024x5120 .bf16) (harg2 : arg2.IsWhole) (arg3 : Memref sig .tc .vmem S2048x1024 .bf16) (harg3 : arg3.IsWhole) (arg4 : Memref sig .tc .vmem S1536x1024 .bf16) (harg4 : arg4.IsWhole) (arg5 : Memref sig .tc .vmem S1x256x1024 .bf16) (harg5 : arg5.IsWhole) (arg6 : Memref sig .tc .vmem S16x640x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S8x128x256 .bf16) (harg11 : arg11.IsWhole) (arg12 : Memref sig .tc .vmem S8x1024x256 .bf16) (harg12 : arg12.IsWhole) (arg13 : Memref sig .tc .vmem S8x160x1024 .bf16) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S8x128x256 .f32) (harg16 : arg16.IsWhole) (hc0 : ¬cond0_0 i) (hc1 : cond0_1 i) (hc2 : ¬cond0_2 i)
    (x0 : Vec F S1x512x1024 .f32) (x1 : Vec F S1024x5120 .bf16) (x2 : Vec F S2048x1024 .bf16) (x3 : Vec F S1536x1024 .bf16) (x4 : Vec F S1x256x1024 .bf16) (x5 : Vec F S16x640x128 .f32) (x6 : Vec F S1x1024 .f32) (x7 : Vec F S1x1024 .f32) (xs0 : Vec F S512x1024 .f32) (xs2 : Vec F S8x1024x256 .bf16) (xs3 : Vec F S8x160x1024 .bf16) (xs5 : Vec F S2x768x256 .bf16) :
    (kernelRun0_D c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2 xs3 xs5).1 = lnPieces arg7 harg7 arg8 harg8 arg10 harg10 x6 x7 xs0 := rfl
theorem out_D (c : Dev nD) (i : grid0.Coords) (arg1 : Memref sig .tc .vmem S1x512x1024 .f32) (harg1 : arg1.IsWhole) (arg2 : Memref sig .tc .vmem S1024x5120 .bf16) (harg2 : arg2.IsWhole) (arg3 : Memref sig .tc .vmem S2048x1024 .bf16) (harg3 : arg3.IsWhole) (arg4 : Memref sig .tc .vmem S1536x1024 .bf16) (harg4 : arg4.IsWhole) (arg5 : Memref sig .tc .vmem S1x256x1024 .bf16) (harg5 : arg5.IsWhole) (arg6 : Memref sig .tc .vmem S16x640x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1024 .f32) (harg10 : arg10.IsWhole) (arg11 : Memref sig .tc .vmem S8x128x256 .bf16) (harg11 : arg11.IsWhole) (arg12 : Memref sig .tc .vmem S8x1024x256 .bf16) (harg12 : arg12.IsWhole) (arg13 : Memref sig .tc .vmem S8x160x1024 .bf16) (harg13 : arg13.IsWhole) (arg14 : Memref sig .tc .vmem S2x768x256 .f32) (harg14 : arg14.IsWhole) (arg15 : Memref sig .tc .vmem S2x768x256 .bf16) (harg15 : arg15.IsWhole) (arg16 : Memref sig .tc .vmem S8x128x256 .f32) (harg16 : arg16.IsWhole) (hc0 : ¬cond0_0 i) (hc1 : cond0_1 i) (hc2 : ¬cond0_2 i)
    (x0 : Vec Ideal S1x512x1024 .f32) (x1 : Vec Ideal S1024x5120 .bf16) (x2 : Vec Ideal S2048x1024 .bf16) (x3 : Vec Ideal S1536x1024 .bf16) (x4 : Vec Ideal S1x256x1024 .bf16) (x5 : Vec Ideal S16x640x128 .f32) (x6 : Vec Ideal S1x1024 .f32) (x7 : Vec Ideal S1x1024 .f32) (xs0 : Vec Ideal S512x1024 .f32) (xs2 : Vec Ideal S8x1024x256 .bf16) (xs3 : Vec Ideal S8x160x1024 .bf16) (xs5 : Vec Ideal S2x768x256 .bf16) (n : Fin 512) (d : Fin 1024) :
    out0_D_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2 xs3 xs5 (ix3 0 n d) = norm (fun x => xs0 (ix2 n x)) (fun x => x6 (ix2 0 x)) (fun x => x7 (ix2 0 x)) d := by
  unfold out0_D_8
  rw [View.read_writes_eq_canon _ _ _ (cover0_D_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 xs0 xs2 xs3 xs5)]
  rw [lnrun_D]
  exact ln_at arg7 harg7 arg8 harg8 arg10 harg10 x6 x7 xs0 n d
end D

end Cert.AttnIdeal.Gen
-- ==== Proof.AttnBlocks.lean ====
module

public import proofs.«01_k».proof.Proof.AttnOuts
public import proofs.«01_k».proof.Proof.Gen.AttnIdeal.Value
public import Idealize.ShloMosaic.Lib.Pipeline.CanonAppend

/-! The blocks of the attention layer's arguments read off the arguments, and the output array after the last point. -/

@[expose] public section
noncomputable section

namespace Cert.AttnIdeal.Gen
open Idealize.ShloMosaic Idealize.ShloMosaic.TcCoe Idealize.SL.Sem Layer Cert.AttnIdeal

/-- The block numbers of each window at a point. -/
theorem idx_facts : ∀ t : Fin cfg0.N,
    (win0_0.index t (0 : Fin 3) = min t.val 63 / 16 ∧ win0_0.index t (1 : Fin 3) = min t.val 63 % 16 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = min t.val 63 / 16 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = (t.val - 1) / 16 ∧ win0_8.index t (1 : Fin 3) = (t.val - 1) % 16 ∧ win0_8.index t (2 : Fin 3) = 0) :=
  (by decide +kernel : ∀ t : Fin grid0.N, _)

/-- The output is written back at every point but the first. -/
theorem flush_out : ∀ t : Fin cfg0.N, (cfg0.win 8).flush t = true ↔ t.val ≠ 0 :=
  (by decide +kernel : ∀ t : Fin grid0.N, win0_8.flush t = true ↔ t.val ≠ 0)

/-- The output block has its full size at every point. -/
theorem full_out : ∀ t : Fin cfg0.N, win0_8.xsize (grid0.coords t) (0 : Fin 3) = 1 ∧ win0_8.xsize (grid0.coords t) (1 : Fin 3) = 512
    ∧ win0_8.xsize (grid0.coords t) (2 : Fin 3) = 1024 :=
  (by decide +kernel : ∀ t : Fin grid0.N, _)

variable (m : (ℓ : Loc nD τ sig) → Buf (Elt Ideal) ℓ) (c : Dev nD) (t : Fin cfg0.N)

/-- The layer's input. -/
abbrev xA : S4x8192x1024.Idx → EReal := m ((c : Thread nD τ).loc main_arg0)
/-- The input matrix. -/
abbrev wA : S1024x5120.Idx → EReal := m ((c : Thread nD τ).loc main_arg1)
/-- The output matrix. -/
abbrev woA : S1536x1024.Idx → EReal := m ((c : Thread nD τ).loc main_arg2)
/-- The keys and values of the memory. -/
abbrev kvA : S4x256x1024.Idx → EReal := m ((c : Thread nD τ).loc main_arg3)
/-- The biases of the attention's scores. -/
abbrev biasA : S16x640x128.Idx → EReal := m ((c : Thread nD τ).loc main_arg4)
/-- The scale of the norm. -/
abbrev gA : S1x1024.Idx → EReal := m ((c : Thread nD τ).loc main_arg5)
/-- The shift of the norm. -/
abbrev bA : S1x1024.Idx → EReal := m ((c : Thread nD τ).loc main_arg6)

theorem V_x : (V m c main_arg0 : S4x8192x1024.Idx → EReal) = xA m c := by unfold V; simp only [hostOps0]; after_results
theorem V_w : (V m c main_arg1 : S1024x5120.Idx → EReal) = wA m c := by unfold V; simp only [hostOps0]; after_results
theorem V_wo : (V m c main_arg2 : S1536x1024.Idx → EReal) = woA m c := by unfold V; simp only [hostOps0]; after_results
theorem V_kv : (V m c main_arg3 : S4x256x1024.Idx → EReal) = kvA m c := by unfold V; simp only [hostOps0]; after_results
theorem V_bias : (V m c main_arg4 : S16x640x128.Idx → EReal) = biasA m c := by unfold V; simp only [hostOps0]; after_results
theorem V_g : (V m c main_arg5 : S1x1024.Idx → EReal) = gA m c := by unfold V; simp only [hostOps0]; after_results
theorem V_b : (V m c main_arg6 : S1x1024.Idx → EReal) = bA m c := by unfold V; simp only [hostOps0]; after_results

/-- The matrix of queries and values: the transposed columns of the input matrix. -/
theorem V_qv (e : Fin 2048) (k : Fin 1024) : (V m c main_v3 : S2048x1024.Idx → EReal) (ix2 e k)
    = wA m c (ix2 k ⟨if e.val < 1024 then e.val else 1024 + e.val, by split_ifs <;> omega⟩) := by
  have h : (V m c main_v3 : S2048x1024.Idx → EReal) = transpose S2048x1024 [1, 0] (concatenate S1024x2048 1 [⟨S1024x1024, extractStridedSlice S1024x1024 ![0, 0] (wA m c) slices_S1024x5120_S1024x1024_0_0⟩,
      ⟨S1024x1024, extractStridedSlice S1024x1024 ![0, 2048] (wA m c) slices_S1024x5120_S1024x1024_0_2048⟩] concatenates_S1024x1024_S1024x1024_S1024x2048_d1) transposes_S1024x2048_S2048x1024_1_0 := by
    unfold V; simp only [hostOps0]; after_results
  rw [h]
  pointwise
  by_cases h' : e.val < 1024
  · refine (dif_pos h').trans ?_
    refine congrArg (fun q => wA m c (ix2 k q)) (Fin.ext ?_)
    show e.val = if e.val < 1024 then e.val else 1024 + e.val
    rw [if_pos h']
  · refine (dif_neg h').trans ?_
    refine congrArg (fun q => wA m c (ix2 k q)) (Fin.ext ?_)
    show 2048 + (e.val - 1024) = if e.val < 1024 then e.val else 1024 + e.val
    rw [if_neg h']; omega

theorem iblk0_at (ht : t.val < 64) (r : Fin 512) (d : Fin 1024) :
    (iblk m c 0 t : Vec Ideal S1x512x1024 .f32) (ix3 0 r d) = xA m c (ix3 ⟨t.val / 16, by omega⟩ ⟨512 * (t.val % 16) + r.val, by omega⟩ d) := by
  obtain ⟨⟨e0, e1, e2⟩, -⟩ := idx_facts t
  rw [← V_x]
  show (V m c main_arg0 : S4x8192x1024.Idx → EReal) (((cfg0.win 0).blk t).view.emb (ix3 0 r d)) = _
  refine congrArg (V m c main_arg0 : S4x8192x1024.Idx → EReal) ?_
  funext a; apply Fin.ext
  match a with
  | ⟨0, _⟩ => show win0_0.index t (0 : Fin 3) * 1 + 1 * 0 = t.val / 16; omega
  | ⟨1, _⟩ => show win0_0.index t (1 : Fin 3) * 512 + 1 * r.val = 512 * (t.val % 16) + r.val; omega
  | ⟨2, _⟩ => show win0_0.index t (2 : Fin 3) * 1024 + 1 * d.val = d.val; omega

theorem iblk4_at (ht : t.val < 64) (r : Fin 256) (d : Fin 1024) :
    (iblk m c 4 t : Vec Ideal S1x256x1024 .bf16) (ix3 0 r d) = kvA m c (ix3 ⟨t.val / 16, by omega⟩ r d) := by
  obtain ⟨-, -, -, -, ⟨e0, e1, e2⟩, -⟩ := idx_facts t
  rw [← V_kv]
  show (V m c main_arg3 : S4x256x1024.Idx → EReal) (((cfg0.win 4).blk t).view.emb (ix3 0 r d)) = _
  refine congrArg (V m c main_arg3 : S4x256x1024.Idx → EReal) ?_
  funext a; apply Fin.ext
  match a with
  | ⟨0, _⟩ => show win0_4.index t (0 : Fin 3) * 1 + 1 * 0 = t.val / 16; omega
  | ⟨1, _⟩ => show win0_4.index t (1 : Fin 3) * 256 + 1 * r.val = r.val; omega
  | ⟨2, _⟩ => show win0_4.index t (2 : Fin 3) * 1024 + 1 * d.val = d.val; omega

theorem iblk5_at (n : Fin 16) (p : Fin 640) (d : Fin 128) :
    (iblk m c 5 t : Vec Ideal S16x640x128 .f32) (ix3 n p d) = biasA m c (ix3 n p d) := by
  obtain ⟨-, -, -, -, -, ⟨e0, e1, e2⟩, -⟩ := idx_facts t
  rw [← V_bias]
  show (V m c main_arg4 : S16x640x128.Idx → EReal) (((cfg0.win 5).blk t).view.emb (ix3 n p d)) = _
  refine congrArg (V m c main_arg4 : S16x640x128.Idx → EReal) ?_
  funext a; apply Fin.ext
  match a with
  | ⟨0, _⟩ => show win0_5.index t (0 : Fin 3) * 16 + 1 * n.val = n.val; omega
  | ⟨1, _⟩ => show win0_5.index t (1 : Fin 3) * 640 + 1 * p.val = p.val; omega
  | ⟨2, _⟩ => show win0_5.index t (2 : Fin 3) * 128 + 1 * d.val = d.val; omega

theorem iblk1_at (i : Fin 1024) (j : Fin 5120) : (iblk m c 1 t : Vec Ideal S1024x5120 .bf16) (ix2 i j) = wA m c (ix2 i j) := by
  obtain ⟨-, ⟨e0, e1⟩, -⟩ := idx_facts t
  rw [← V_w]
  show (V m c main_arg1 : S1024x5120.Idx → EReal) (((cfg0.win 1).blk t).view.emb (ix2 i j)) = _
  refine congrArg (V m c main_arg1 : S1024x5120.Idx → EReal) ?_
  funext a; apply Fin.ext
  match a with
  | ⟨0, _⟩ => show win0_1.index t (0 : Fin 2) * 1024 + 1 * i.val = i.val; omega
  | ⟨1, _⟩ => show win0_1.index t (1 : Fin 2) * 5120 + 1 * j.val = j.val; omega

theorem iblk2_at (i : Fin 2048) (j : Fin 1024) : (iblk m c 2 t : Vec Ideal S2048x1024 .bf16) (ix2 i j)
    = wA m c (ix2 j ⟨if i.val < 1024 then i.val else 1024 + i.val, by split_ifs <;> omega⟩) := by
  obtain ⟨-, -, ⟨e0, e1⟩, -⟩ := idx_facts t
  rw [← V_qv]
  show (V m c main_v3 : S2048x1024.Idx → EReal) (((cfg0.win 2).blk t).view.emb (ix2 i j)) = _
  refine congrArg (V m c main_v3 : S2048x1024.Idx → EReal) ?_
  funext a; apply Fin.ext
  match a with
  | ⟨0, _⟩ => show win0_2.index t (0 : Fin 2) * 2048 + 1 * i.val = i.val; omega
  | ⟨1, _⟩ => show win0_2.index t (1 : Fin 2) * 1024 + 1 * j.val = j.val; omega

theorem iblk3_at (i : Fin 1536) (j : Fin 1024) : (iblk m c 3 t : Vec Ideal S1536x1024 .bf16) (ix2 i j) = woA m c (ix2 i j) := by
  obtain ⟨-, -, -, ⟨e0, e1⟩, -⟩ := idx_facts t
  rw [← V_wo]
  show (V m c main_arg2 : S1536x1024.Idx → EReal) (((cfg0.win 3).blk t).view.emb (ix2 i j)) = _
  refine congrArg (V m c main_arg2 : S1536x1024.Idx → EReal) ?_
  funext a; apply Fin.ext
  match a with
  | ⟨0, _⟩ => show win0_3.index t (0 : Fin 2) * 1536 + 1 * i.val = i.val; omega
  | ⟨1, _⟩ => show win0_3.index t (1 : Fin 2) * 1024 + 1 * j.val = j.val; omega

theorem iblk6_at (i : Fin 1) (j : Fin 1024) : (iblk m c 6 t : Vec Ideal S1x1024 .f32) (ix2 i j) = gA m c (ix2 i j) := by
  obtain ⟨-, -, -, -, -, -, ⟨e0, e1⟩, -⟩ := idx_facts t
  rw [← V_g]
  show (V m c main_arg5 : S1x1024.Idx → EReal) (((cfg0.win 6).blk t).view.emb (ix2 i j)) = _
  refine congrArg (V m c main_arg5 : S1x1024.Idx → EReal) ?_
  funext a; apply Fin.ext
  match a with
  | ⟨0, _⟩ => show win0_6.index t (0 : Fin 2) * 1 + 1 * i.val = i.val; omega
  | ⟨1, _⟩ => show win0_6.index t (1 : Fin 2) * 1024 + 1 * j.val = j.val; omega

theorem iblk7_at (i : Fin 1) (j : Fin 1024) : (iblk m c 7 t : Vec Ideal S1x1024 .f32) (ix2 i j) = bA m c (ix2 i j) := by
  obtain ⟨-, -, -, -, -, -, -, ⟨e0, e1⟩, -⟩ := idx_facts t
  rw [← V_b]
  show (V m c main_arg6 : S1x1024.Idx → EReal) (((cfg0.win 7).blk t).view.emb (ix2 i j)) = _
  refine congrArg (V m c main_arg6 : S1x1024.Idx → EReal) ?_
  funext a; apply Fin.ext
  match a with
  | ⟨0, _⟩ => show win0_7.index t (0 : Fin 2) * 1 + 1 * i.val = i.val; omega
  | ⟨1, _⟩ => show win0_7.index t (1 : Fin 2) * 1024 + 1 * j.val = j.val; omega

/-- Where an entry of the output block of a point lies in the output. -/
theorem emb8 (ht : 0 < t.val) (q : Fin 1) (r : Fin 512) (d : Fin 1024) :
    ((cfg0.win 8).blk t).view.emb (ix3 q r d) = (ix3 ⟨(t.val - 1) / 16, by have := t.isLt; have : cfg0.N = 65 := N_0; omega⟩
      ⟨512 * ((t.val - 1) % 16) + r.val, by omega⟩ d : S4x8192x1024.Idx) := by
  obtain ⟨-, -, -, -, -, -, -, -, e0, e1, e2⟩ := idx_facts t
  obtain rfl : q = 0 := Subsingleton.elim _ _
  funext a; apply Fin.ext
  match a with
  | ⟨0, _⟩ => show win0_8.index t (0 : Fin 3) * 1 + 1 * 0 = (t.val - 1) / 16; omega
  | ⟨1, _⟩ => show win0_8.index t (1 : Fin 3) * 512 + 1 * r.val = 512 * ((t.val - 1) % 16) + r.val; omega
  | ⟨2, _⟩ => show win0_8.index t (2 : Fin 3) * 1024 + 1 * d.val = d.val; omega

/-- Which entries of the output lie in the block of a point. -/
theorem mem_out (i : S4x8192x1024.Idx) (h0 : (i 0).val = (t.val - 1) / 16) (h1 : (i 1).val / 512 = (t.val - 1) % 16) :
    i ∈ ((cfg0.win 8).blk t).view.set := by
  show i ∈ ((View.whole main_v4).slice (win0_8.rect t)).set
  rw [View.set_slice_whole, Rect.mem_set_unit]
  obtain ⟨-, -, -, -, -, -, -, -, e0, e1, e2⟩ := idx_facts t
  obtain ⟨f0, f1, f2⟩ := full_out t
  have h2 : (i 2).val < 1024 := (i 2).isLt
  intro a
  match a with
  | ⟨0, _⟩ => show win0_8.index t (0 : Fin 3) * 1 ≤ (i 0).val ∧ (i 0).val < win0_8.index t (0 : Fin 3) * 1 + win0_8.xsize (grid0.coords t) (0 : Fin 3)
              rw [e0, f0]; omega
  | ⟨1, _⟩ => show win0_8.index t (1 : Fin 3) * 512 ≤ (i 1).val ∧ (i 1).val < win0_8.index t (1 : Fin 3) * 512 + win0_8.xsize (grid0.coords t) (1 : Fin 3)
              rw [e1, f1]; omega
  | ⟨2, _⟩ => show win0_8.index t (2 : Fin 3) * 1024 ≤ (i 2).val ∧ (i 2).val < win0_8.index t (2 : Fin 3) * 1024 + win0_8.xsize (grid0.coords t) (2 : Fin 3)
              rw [e2, f2]; omega

/-- Every entry of the output lies in the block of a point that is written back. -/
theorem cover_out (i : S4x8192x1024.Idx) : ∃ t : Fin cfg0.N, (cfg0.win 8).flush t = true ∧ i ∈ ((cfg0.win 8).blk t).view.set := by
  have h0 : (i 0).val < 4 := (i 0).isLt
  have h1 : (i 1).val < 8192 := (i 1).isLt
  have hN : cfg0.N = 65 := N_0
  refine ⟨⟨16 * (i 0).val + (i 1).val / 512 + 1, by omega⟩, (flush_out _).mpr (Nat.succ_ne_zero _), mem_out _ i ?_ ?_⟩
  · show (i 0).val = (16 * (i 0).val + (i 1).val / 512 + 1 - 1) / 16; omega
  · show (i 1).val / 512 = (16 * (i 0).val + (i 1).val / 512 + 1 - 1) % 16; omega

/-- The output array holds `G` when each point that is written back leaves its block of `G`. -/
theorem out_array (G : S4x8192x1024.Idx → EReal)
    (h : ∀ t : Fin cfg0.N, ∀ ht : 0 < t.val, ∀ (r : Fin 512) (d : Fin 1024), (outsAt0 m c t.val t.isLt).1 (ix3 0 r d)
      = G (ix3 ⟨(t.val - 1) / 16, by have := t.isLt; have : cfg0.N = 65 := N_0; omega⟩ ⟨512 * ((t.val - 1) % 16) + r.val, by omega⟩ d)) :
    (dats m 0 c).arrAt 8 cfg0.N = G := by
  refine (dats m 0 c).arrAt_eq_of_cover 8 G (fun t hf => ?_) cover_out
  have ht : 0 < t.val := Nat.pos_of_ne_zero ((flush_out t).mp hf)
  rw [Value.flushed8]
  funext y
  obtain ⟨q, r, d, rfl⟩ : ∃ (q : Fin 1) (r : Fin 512) (d : Fin 1024), y = ix3 q r d := ⟨_, _, _, eq_ix3 y⟩
  obtain rfl : q = 0 := Subsingleton.elim _ _
  refine Eq.trans ?_ ((h t ht r d).trans (congrArg G (emb8 t ht 0 r d)).symm)
  rfl

end Cert.AttnIdeal.Gen
-- ==== Proof.AttnSweep.lean ====
module

public import proofs.«01_k».proof.Proof.AttnBlocks

/-! The sweep of the attention layer over its grid: what the carried buffers hold after each point, and the array the kernel returns. -/

@[expose] public section
noncomputable section

namespace Cert.AttnIdeal.Gen
open Idealize.ShloMosaic Idealize.ShloMosaic.TcCoe Idealize.SL.Sem Layer Cert.AttnIdeal

section Global
variable {T : Tile Ideal} {X : Vec Ideal S1x512x1024 .f32} {W : Vec Ideal S1024x5120 .bf16} {Q : Vec Ideal S2048x1024 .bf16}
  {O : Vec Ideal S1536x1024 .bf16} {M : Vec Ideal S1x256x1024 .bf16} {BI : Vec Ideal S16x640x128 .f32}
  (x : Fin 4 → Fin 8192 → Fin 1024 → EReal) (w : Fin 1024 → Fin 5120 → EReal) (wo : Fin 1536 → Fin 1024 → EReal)
  (kv : Fin 4 → Fin 256 → Fin 1024 → EReal) (bias : Fin 16 → Fin 640 → Fin 128 → EReal) (b : Fin 4) (n : ℕ)

/-- A tile whose data are block `n` of a sequence. -/
structure Tile.Block (T : Tile Ideal) : Prop where
  hn : n < 16
  x : ∀ (r : Fin 512) k, T.xr r.val k = tok x b (512 * n + r.val) k
  wk : ∀ k (e : Fin 1024), T.wk (ix2 k e) = w k ⟨1024 + e.val, by omega⟩
  wq : ∀ (e : Fin 1024) k, T.wq (ix2 e k) = w k ⟨e.val, by omega⟩
  wv : ∀ (e : Fin 1024) k, T.wv (ix2 e k) = w k ⟨2048 + e.val, by omega⟩
  wg : ∀ k (e : Fin 1536), T.wg (ix2 k e) = w k ⟨3584 + e.val, by omega⟩
  wm : ∀ k (e : Fin 512), T.wm (ix2 k e) = w k ⟨3072 + e.val, by omega⟩
  kv : ∀ i (hi : i < 8) (a : Fin 256) (j : Fin 128), T.kv i (ix3 0 a j) = kv b a ⟨128 * i + j.val, by omega⟩
  wo : ∀ a d, T.wo (ix2 a d) = wo a d
  b : ∀ h p c, T.arg6.view.read (Elt Ideal) T.f6 (ix3 h p c) = bias h p c

/-- The history a tile starts from is that of block `n`. -/
structure Hist (HK : Fin 8 → ℕ → Fin 256 → EReal) (HV : Fin 8 → Fin 160 → ℕ → EReal) : Prop where
  k : ∀ hp r (l : Fin 128), r < 512 → HK hp r ⟨l.val, by omega⟩ = keyOf x w b (512 * n + r) ⟨128 * hp.val + l.val, by omega⟩
  k1 : ∀ hp r, r < 512 → HK hp r 128 = if 512 ≤ 512 * n + r then 0 else 1
  v : ∀ hp r (d : Fin 128), r < 512 → HV hp ⟨16 + d.val, by omega⟩ r = valOf x w b (512 * n + r) ⟨128 * hp.val + d.val, by omega⟩

variable {x w wo kv bias b n} {HK : Fin 8 → ℕ → Fin 256 → EReal} {HV : Fin 8 → Fin 160 → ℕ → EReal}

theorem Tile.Block.KW_at (D : T.Block x w wo kv bias b n) (H : Hist x w b n HK HV) (hp : Fin 8) (r : ℕ) (hr : r < 1024) (l : Fin 128) :
    T.KW HK hp r ⟨l.val, by omega⟩ = keyOf x w b (512 * n + r) ⟨128 * hp.val + l.val, by omega⟩ := by
  unfold Tile.KW
  by_cases h : r < 512
  · rw [if_pos h, H.k hp r l h]
  · rw [if_neg h, dif_pos l.isLt]
    unfold keyAt keyOf
    rw [if_pos (by omega)]
    refine Finset.sum_congr rfl fun k _ => ?_
    rw [D.wk, D.x ⟨r - 512, by omega⟩, show 512 * n + (r - 512) = 512 * n + r - 512 by omega]

theorem Tile.Block.KW_one (H : Hist x w b n HK HV) (hp : Fin 8) (r : ℕ) :
    T.KW HK hp r 128 = if 512 ≤ 512 * n + r then 0 else 1 := by
  unfold Tile.KW
  by_cases h : r < 512
  · rw [if_pos h, H.k1 hp r h]
  · rw [if_neg h, dif_neg (by decide), if_pos (by omega)]

theorem Tile.Block.VW_at (D : T.Block x w wo kv bias b n) (H : Hist x w b n HK HV) (hp : Fin 8) (r : ℕ) (hr : r < 1024) (d : Fin 128) :
    T.VW HV hp ⟨16 + d.val, by omega⟩ r = valOf x w b (512 * n + r) ⟨128 * hp.val + d.val, by omega⟩ := by
  unfold Tile.VW
  by_cases h : r < 512
  · rw [if_pos h, H.v hp r d h]
  · rw [if_neg h, dif_pos ⟨Nat.le_add_right _ _, by show 16 + d.val < 144; omega⟩]
    unfold valAt valOf
    rw [if_pos (by omega)]
    refine Finset.sum_congr rfl fun k _ => ?_
    rw [D.wv, D.x ⟨r - 512, by omega⟩, show 512 * n + (r - 512) = 512 * n + r - 512 by omega]
    refine congrArg (fun e => w k e * _) (Fin.ext ?_)
    show 2048 + (128 * hp.val + (16 + d.val - 16)) = 2048 + (128 * hp.val + d.val)
    omega

/-- The rows a tile stores are the layer's rows of its block. -/
theorem Tile.Block.row_at (D : T.Block x w wo kv bias b n) (H : Hist x w b n HK HV) (r : Fin 512) (d : Fin 1024) :
    T.row HK HV r.val d = attnRow x w wo kv bias attnK memK b ⟨512 * n + r.val, by have := D.hn; omega⟩ d := by
  have hn := D.hn
  have hx : T.xr r.val = x b ⟨512 * n + r.val, by omega⟩ := funext fun k => (D.x r k).trans
    (congrArg (fun s => x b s k) (Fin.ext (show (512 * n + r.val) % 8192 = 512 * n + r.val by omega)))
  have ho : 128 * ((512 * n + r.val) / 128) = 512 * n + 128 * (r.val / 128) := by omega
  have hc : (512 * n + r.val) % 128 = r.val % 128 := by omega
  unfold Tile.row attnRow
  rw [hx]
  refine congr (congr (congr (congr (congrArg (pre _) ?_) ?_) ?_) ?_) rfl
  · refine congrArg (proj _) (funext fun k => funext fun e => D.wg k e)
  · funext e
    unfold Tile.out attnK
    simp only [ho, hc]
    have hs : T.score HK ⟨e.val / 128, by omega⟩ ⟨e.val / 64 % 2, by omega⟩ (128 * (r.val / 128)) ⟨r.val % 128, by omega⟩
        = ascoreK (512 * n + 128 * (r.val / 128)) (fun j => queryOf x w b (512 * n + r.val) ⟨64 * (e.val / 64) + j.val, by omega⟩)
          (fun p j => keyOf x w b (512 * n + 128 * (r.val / 128) + p.val) ⟨64 * (e.val / 64) + j.val, by omega⟩)
          (fun p => bias ⟨e.val / 64, by omega⟩ p ⟨r.val % 128, by omega⟩) := by
      funext p
      unfold Tile.score ascoreK
      refine congrArg₂ (· + ·) (congrArg₂ (· + ·) (Finset.sum_congr rfl fun j _ => ?_) ?_) ?_
      · refine congrArg₂ (· * ·) ?_ (congrArg (· * aqscale) ?_)
        · refine (D.KW_at H ⟨e.val / 128, by omega⟩ (128 * (r.val / 128) + p.val) (by omega) ⟨64 * (e.val / 64 % 2) + j.val, by omega⟩).trans ?_
          rw [← Nat.add_assoc]
          refine congrArg (keyOf x w b _) (Fin.ext ?_)
          show 128 * (e.val / 128) + (64 * (e.val / 64 % 2) + j.val) = 64 * (e.val / 64) + j.val
          omega
        · unfold valAt queryOf
          refine Finset.sum_congr rfl fun k _ => ?_
          rw [D.wq]
          refine congrArg₂ (· * ·) (congrArg (w k) (Fin.ext ?_)) ?_
          · show 128 * (e.val / 128) + (64 * (e.val / 64 % 2) + j.val) = 64 * (e.val / 64) + j.val
            omega
          · have hh : 128 * (r.val / 128) + r.val % 128 = r.val := by omega
            show T.xr (128 * (r.val / 128) + r.val % 128) k = _
            rw [hh]
            exact D.x r k
      · rw [Tile.Block.KW_one H]
        unfold flag
        rw [← Nat.add_assoc]
        split_ifs
        · exact zero_mul _
        · exact one_mul _
      · refine (D.b _ _ _).trans (congrArg (fun h => bias h p _) (Fin.ext ?_))
        show 2 * (e.val / 128) + e.val / 64 % 2 = e.val / 64
        omega
    rw [hs]
    refine congrArg (Ideal.div · _) (Finset.sum_congr rfl fun p _ => congrArg (· * _) ?_)
    refine (D.VW_at H ⟨e.val / 128, by omega⟩ (128 * (r.val / 128) + p.val) (by omega) ⟨64 * (e.val / 64 % 2) + e.val % 64, by omega⟩).trans ?_
    rw [← Nat.add_assoc]
    refine congrArg (valOf x w b _) (Fin.ext ?_)
    show 128 * (e.val / 128) + (64 * (e.val / 64 % 2) + e.val % 64) = 64 * (e.val / 64) + e.val % 64
    omega
  · funext h j
    refine congrFun (memK_congr (fun i => ?_) (fun m i => ?_) (fun m i => ?_)) j
    · exact congrFun (congrArg (proj _) (funext fun k => funext fun e => D.wm k e)) _
    · refine (D.kv h.val (by omega) m i).trans (congrArg (kv b m) (Fin.ext ?_))
      show 128 * h.val + i.val = h.val * 128 + i.val; omega
    · refine (D.kv (4 + h.val) (by omega) m i).trans (congrArg (kv b m) (Fin.ext ?_))
      show 128 * (4 + h.val) + i.val = 512 + (h.val * 128 + i.val); omega
  · exact funext fun a => funext fun d => D.wo a d

end Global

variable (m : (ℓ : Loc nD τ sig) → Buf (Elt Ideal) ℓ) (c : Dev nD) (t : Fin cfg0.N)

/-- The arguments as functions of their coordinates. -/
abbrev xF (b : Fin 4) (s : Fin 8192) (d : Fin 1024) : EReal := xA m c (ix3 b s d)
abbrev wF (d : Fin 1024) (e : Fin 5120) : EReal := wA m c (ix2 d e)
abbrev woF (e : Fin 1536) (d : Fin 1024) : EReal := woA m c (ix2 e d)
abbrev kvF (b : Fin 4) (j : Fin 256) (d : Fin 1024) : EReal := kvA m c (ix3 b j d)
abbrev biasF (h : Fin 16) (p : Fin 640) (d : Fin 128) : EReal := biasA m c (ix3 h p d)

/-- A tile with the data of a point is the point's block. -/
theorem block_of (ht : t.val < 64) {T : Tile Ideal}
    (D : T.Data (iblk m c 0 t) (iblk m c 1 t) (iblk m c 2 t) (iblk m c 3 t) (iblk m c 4 t) (iblk m c 5 t)) :
    T.Block (xF m c) (wF m c) (woF m c) (kvF m c) (biasF m c) ⟨t.val / 16, by omega⟩ (t.val % 16) where
  hn := by show t.val % 16 < 16; omega
  x r k := ((D.x r k).trans (iblk0_at m c t ht r k)).trans (congrArg (fun s => xA m c (ix3 _ s k))
    (Fin.ext (show 512 * (t.val % 16) + r.val = (512 * (t.val % 16) + r.val) % 8192 by omega)))
  wk k e := (D.wk k e).trans (iblk1_at m c t _ _)
  wq e k := ((D.wq e k).trans (iblk2_at m c t _ _)).trans (congrArg (fun q => wA m c (ix2 k q)) (Fin.ext (if_pos e.isLt)))
  wv e k := ((D.wv e k).trans (iblk2_at m c t _ _)).trans (congrArg (fun q => wA m c (ix2 k q)) (Fin.ext
    ((if_neg (show ¬1024 + e.val < 1024 by omega)).trans (show 1024 + (1024 + e.val) = 2048 + e.val by omega))))
  wg k e := (D.wg k e).trans (iblk1_at m c t _ _)
  wm k e := (D.wm k e).trans (iblk1_at m c t _ _)
  kv i hi a j := (D.kv i hi a j).trans (iblk4_at m c t ht _ _)
  wo a d := (D.wo a d).trans (iblk3_at m c t _ _)
  b h p q := (D.b _).trans (iblk5_at m c t _ _ _)

/-- What the buffers hold after point `n`. -/
structure After (n : ℕ) (hn : n < 64) (S : Vec Ideal S1x512x1024 .f32 × Vec Ideal S512x1024 .f32 × Vec Ideal S8x1024x256 .bf16 × Vec Ideal S8x160x1024 .bf16 × Vec Ideal S2x768x256 .bf16) : Prop where
  u : ∀ (r : Fin 512) d, S.2.1 (ix2 r d)
    = attnRow (xF m c) (wF m c) (woF m c) (kvF m c) (biasF m c) attnK memK ⟨n / 16, by omega⟩ ⟨512 * (n % 16) + r.val, by omega⟩ d
  k : ∀ hp (r : Fin 1024) (l : Fin 128), 512 ≤ r.val → S.2.2.1 (ix3 hp r ⟨l.val, by omega⟩)
    = keyOf (xF m c) (wF m c) ⟨n / 16, by omega⟩ (512 * (n % 16) + r.val) ⟨128 * hp.val + l.val, by omega⟩
  k0 : ZeroK S.2.2.1
  v : ∀ hp (r : Fin 1024) (d : Fin 128), 512 ≤ r.val → S.2.2.2.1 (ix3 hp ⟨16 + d.val, by omega⟩ r)
    = valOf (xF m c) (wF m c) ⟨n / 16, by omega⟩ (512 * (n % 16) + r.val) ⟨128 * hp.val + d.val, by omega⟩
  v1 : OnesV S.2.2.2.1
  p : ZeroP S.2.2.2.2

theorem after_of (ht : t.val < 64) {T : Tile Ideal} {HK : Fin 8 → ℕ → Fin 256 → EReal} {HV : Fin 8 → Fin 160 → ℕ → EReal}
    (D : T.Data (iblk m c 0 t) (iblk m c 1 t) (iblk m c 2 t) (iblk m c 3 t) (iblk m c 4 t) (iblk m c 5 t))
    (H : Hist (xF m c) (wF m c) ⟨t.val / 16, by omega⟩ (t.val % 16) HK HV) {o u k v p} (L : T.Leaves HK HV u k v p) :
    After m c t.val ht (o, u, k, v, p) where
  u r d := (L.u r d).trans ((block_of m c t ht D).row_at H r d)
  k hp r l h := (L.k hp r _).trans ((block_of m c t ht D).KW_at H hp r.val r.isLt l)
  k0 hp r l h h' := (L.k hp r l).trans (by unfold Tile.KW; rw [if_neg (by omega), dif_neg (by omega)])
  v hp r d h := (L.v hp _ r).trans ((block_of m c t ht D).VW_at H hp r.val r.isLt d)
  v1 hp r h := ⟨(L.v hp _ r).trans (by unfold Tile.VW; rw [if_neg (by omega), dif_neg (by decide)]),
    (L.v hp _ r).trans (by unfold Tile.VW; rw [if_neg (by omega), dif_neg (by decide)])⟩
  p := L.p

theorem hist_first (b : Fin 4) : Hist (xF m c) (wF m c) b 0 firstK firstV where
  k hp r l h := by
    unfold firstK keyOf
    rw [if_neg (show ¬l.val = 128 by omega), if_neg (by omega)]
  k1 hp r h := by
    exact (if_pos rfl).trans (if_neg (by omega)).symm
  v hp r d h := by
    unfold firstV valOf
    rw [if_neg (by omega)]

theorem hist_next (n : ℕ) (hn : n < 64) (h3 : ¬(n + 1) % 16 = 0) (hn' : (n + 1) / 16 < 4) {S} (A : After m c n hn S) :
    Hist (xF m c) (wF m c) ⟨(n + 1) / 16, hn'⟩ ((n + 1) % 16) (histK S.2.2.1) (histV S.2.2.2.1) where
  k hp r l h := by
    refine (A.k hp ⟨(512 + r) % 1024, by omega⟩ l (by show 512 ≤ (512 + r) % 1024; omega)).trans ?_
    rw [show 512 * (n % 16) + (512 + r) % 1024 = 512 * ((n + 1) % 16) + r by omega]
    exact congrArg (fun b => keyOf (xF m c) (wF m c) b _ _) (Fin.ext (show n / 16 = (n + 1) / 16 by omega))
  k1 hp r h := by
    rw [if_pos (by omega)]
    exact A.k0 hp _ _ (by show 512 ≤ (512 + r) % 1024; omega) (by decide)
  v hp r d h := by
    refine (A.v hp ⟨(512 + r) % 1024, by omega⟩ d (by show 512 ≤ (512 + r) % 1024; omega)).trans ?_
    rw [show 512 * (n % 16) + (512 + r) % 1024 = 512 * ((n + 1) % 16) + r by omega]
    exact congrArg (fun b => valOf (xF m c) (wF m c) b _ _) (Fin.ext (show n / 16 = (n + 1) / 16 by omega))

/-- After each point but the last the buffers hold the layer's rows, keys and values of the point's block. -/
theorem after : ∀ (n : ℕ) (hn : n < cfg0.N) (h2 : n < 64), After m c n h2 (outsAt0 m c n hn) := by
  intro n
  induction n with
  | zero =>
    intro hn h2
    rw [show outsAt0 m c 0 hn = outsAt0 m c (⟨0, hn⟩ : Fin cfg0.N).val (⟨0, hn⟩ : Fin cfg0.N).isLt from rfl,
      outsAt0_A m c ⟨0, hn⟩ rfl (by show ¬0 % 65 = 64; omega) h2 rfl rfl]
    exact after_of m c ⟨0, hn⟩ h2 (data_A ..) (hist_first m c _) (leaves_A (e12 := rfl) (e15 := rfl) (e13 := rfl) ..)
  | succ k ih =>
    intro hn h2
    have h0 : ¬(⟨k + 1, hn⟩ : Fin cfg0.N).val % 65 = 0 := by show ¬(k + 1) % 65 = 0; omega
    have h1 : ¬(⟨k + 1, hn⟩ : Fin cfg0.N).val % 65 = 64 := by show ¬(k + 1) % 65 = 64; omega
    have A := ih (by omega) (by omega)
    by_cases h3 : (k + 1) % 16 = 0
    · refine (outsAt0_C m c ⟨k + 1, hn⟩ h0 h1 h2 h0 h3).symm ▸ ?_
      refine after_of m c ⟨k + 1, hn⟩ h2 (data_C ..) ?_ (leaves_C (e13 := rfl) (zK := A.k0) (zP := A.p) ..)
      have := hist_first m c ⟨(k + 1) / 16, by omega⟩
      rw [← h3] at this
      exact this
    · refine (outsAt0_B m c ⟨k + 1, hn⟩ h0 h1 h2 h0 h3).symm ▸ ?_
      exact after_of m c ⟨k + 1, hn⟩ h2 (data_B ..) (hist_next m c k (by omega) h3 (by omega) A) (leaves_B (e13 := rfl) (zK := A.k0) (zP := A.p) (oV := A.v1) ..)

/-- The layer's output, with the kernel's two attentions. -/
def layerK : S4x8192x1024.Idx → EReal := fun i =>
  norm (attnRow (xF m c) (wF m c) (woF m c) (kvF m c) (biasF m c) attnK memK (i 0) (i 1)) (fun d => gA m c (ix2 0 d)) (fun d => bA m c (ix2 0 d)) (i 2)

/-- The kernel's output array is the layer's output. -/
theorem final : (dats m 0 c).arrAt 8 cfg0.N = layerK m c := by
  refine out_array m c _ fun t ht r d => ?_
  have hN : cfg0.N = 65 := N_0
  have hlt := t.isLt
  have hu : (fun x => (outsAt0 m c (t.val - 1) (Nat.lt_of_le_of_lt (Nat.sub_le _ _) t.isLt)).2.1 (ix2 r x))
      = attnRow (xF m c) (wF m c) (woF m c) (kvF m c) (biasF m c) attnK memK
      ⟨(t.val - 1) / 16, by omega⟩ ⟨512 * ((t.val - 1) % 16) + r.val, by omega⟩ :=
    funext fun x => (after m c (t.val - 1) _ (by omega)).u r x
  have h0 : ¬t.val % 65 = 0 := by omega
  show _ = norm (attnRow (xF m c) (wF m c) (woF m c) (kvF m c) (biasF m c) attnK memK ⟨(t.val - 1) / 16, _⟩ ⟨512 * ((t.val - 1) % 16) + r.val, _⟩) _ _ d
  rw [← hu, ← funext fun d => iblk6_at m c t 0 d, ← funext fun d => iblk7_at m c t 0 d]
  by_cases h2 : t.val < 64
  · have h1 : ¬t.val % 65 = 64 := by omega
    by_cases h3 : t.val % 16 = 0
    · have e := congrArg (fun S => S.1 (ix3 0 r d)) (outsAt0_C m c t h0 h1 h2 h0 h3)
      dsimp only at e
      refine e.trans ?_
      rw [out_C]
    · have e := congrArg (fun S => S.1 (ix3 0 r d)) (outsAt0_B m c t h0 h1 h2 h0 h3)
      dsimp only at e
      refine e.trans ?_
      rw [out_B]
  · have e := congrArg (fun S => S.1 (ix3 0 r d)) (outsAt0_D m c t h0 (by omega) h2)
    dsimp only at e
    refine e.trans ?_
    rw [out_D]

end Cert.AttnIdeal.Gen
-- ==== Proof.AttnPos.lean ====
module

public import Idealize.ShloMosaic.Lib.Pointwise

/-! Which rows of a query's window stand before the sequence, by the reference's integer arithmetic. -/

@[expose] public section
namespace Layer
open Idealize.ShloMosaic

/-- Which rows of a window stand before the sequence. -/
theorem inside_at : ∀ (c : Fin 64) (p : Fin 640),
    IntOp.cmpi .sge (IntOp.addi (IntOp.muli (IntOp.subi (BitVec.ofNat 32 c.val) 4#32) 128#32) (BitVec.ofNat 32 p.val)) 0#32
      = if 512 ≤ 128 * c.val + p.val then 1#1 else 0#1 := by
  decide +kernel
end Layer
-- ==== Proof.AttnRef.lean ====
module

public import proofs.«01_k».proof.Proof.AttnLayer
public import proofs.«01_k».proof.Proof.AttnPos
public import proofs.«01_k».proof.Proof.Gen.AttnReferenceIdeal.Run
public import proofs.«01_k».proof.Proof.Gen.AttnReferenceIdeal.Read

/-! The attention layer's reference, read entry by entry as the layer with its own two attentions. -/

@[expose] public section
noncomputable section

namespace Cert.AttnReferenceIdeal.Gen
open Idealize.ShloMosaic Idealize.ShloMosaic.TcCoe Idealize.SL.Sem Layer Cert.AttnReferenceIdeal Cert.AttnReferenceIdeal.Read

/-- The largest entry along the last axis, as a fold. -/
theorem reduce_max (y : S4x4x8192x256.Idx → EReal) (z : S_.Idx → EReal) (b : Fin 4) (h : Fin 4) (s : Fin 8192) :
    Host.reduce (α := EReal) (FloatOps.maximumf (F := Ideal) (φ := .f32)) y z reducesTo_S4x4x8192x256_S4x4x8192_d3 h_S_ (ix3 b h s)
      = Finset.univ.fold max (z ix0) (fun m => y (ix4 b h s m)) := by
  pointwise
  rw [show (Shape.Idx.first h_S_ : S_.Idx) = ix0 from funext fun a => a.elim0]

section Read
variable (x0 : (⟨S4x8192x1024, .f32⟩ : BufTy).Contents (Elt Ideal)) (x1 : (⟨S1024x5120, .bf16⟩ : BufTy).Contents (Elt Ideal))
  (x2 : (⟨S1536x1024, .bf16⟩ : BufTy).Contents (Elt Ideal)) (x3 : (⟨S4x256x1024, .bf16⟩ : BufTy).Contents (Elt Ideal))
  (x4 : (⟨S16x640x128, .f32⟩ : BufTy).Contents (Elt Ideal)) (x5 x6 : (⟨S1x1024, .f32⟩ : BufTy).Contents (Elt Ideal))

/-- The arguments as functions of their coordinates. -/
abbrev xR (b : Fin 4) (s : Fin 8192) (d : Fin 1024) : EReal := x0 (ix3 b s d)
abbrev wR (d : Fin 1024) (e : Fin 5120) : EReal := x1 (ix2 d e)
abbrev woR (e : Fin 1536) (d : Fin 1024) : EReal := x2 (ix2 e d)
abbrev kvR (b : Fin 4) (j : Fin 256) (d : Fin 1024) : EReal := x3 (ix3 b j d)
abbrev biasR (h : Fin 16) (p : Fin 640) (d : Fin 128) : EReal := x4 (ix3 h p d)

theorem v1_at (b : Fin 4) (s : Fin 8192) (e : Fin 5120) :
    val_main_v1 (F := Ideal) x0 x1 (ix3 b s e) = proj (xR x0 b s) (wR x1) e := by
  pointwise [val_main_v1, val_main_v0]
  rfl

theorem v23_at (b : Fin 4) (i : Fin 68) (r : Fin 128) (h : Fin 16) (j : Fin 64) :
    val_main_v23 (F := Ideal) x0 x1 (ix5 b i r h j) = keyOf (xR x0) (wR x1) b (128 * i.val + r.val) ⟨64 * h.val + j.val, by omega⟩ := by
  pointwise [val_main_v23, val_main_v22, val_main_v5, val_main_v4, val_main_call0_v0, val_main_c_1]
  simp only [v1_at]
  unfold keyOf
  by_cases h' : 512 ≤ i.val * 128 + r.val ∧ i.val * 128 + r.val - 512 < 8192
  · rw [dif_pos h', if_pos (by omega)]
    unfold proj tok
    refine Finset.sum_congr rfl fun k _ => congrArg₂ (· * ·) (congrArg (fun s => xR x0 b s k) (Fin.ext ?_)) (congrArg (wR x1 k) (Fin.ext ?_))
    · show i.val * 128 + r.val - 512 = (128 * i.val + r.val - 512) % 8192; omega
    · show 1024 + (h.val * 64 + j.val) = 1024 + (64 * h.val + j.val); omega
  · rw [dif_neg h', if_neg (by omega)]
    show (((0#32 : BitVec 32).toInt : ℝ) : EReal) = 0
    simp

theorem v56_at (b : Fin 4) (i : Fin 68) (r : Fin 128) (h : Fin 16) (j : Fin 64) :
    val_main_v56 (F := Ideal) x0 x1 (ix5 b i r h j) = valOf (xR x0) (wR x1) b (128 * i.val + r.val) ⟨64 * h.val + j.val, by omega⟩ := by
  pointwise [val_main_v56, val_main_v55, val_main_v7, val_main_v6, val_main_call2_v0, val_main_c_8]
  simp only [v1_at]
  unfold valOf
  by_cases h' : 512 ≤ i.val * 128 + r.val ∧ i.val * 128 + r.val - 512 < 8192
  · rw [dif_pos h', if_pos (by omega)]
    unfold proj tok
    refine Finset.sum_congr rfl fun k _ => (mul_comm _ _).trans (congrArg₂ (· * ·) (congrArg (wR x1 k) (Fin.ext ?_)) (congrArg (fun s => xR x0 b s k) (Fin.ext ?_)))
    rotate_left
    · show i.val * 128 + r.val - 512 = (128 * i.val + r.val - 512) % 8192; omega
    · show 2048 + (h.val * 64 + j.val) = 2048 + (64 * h.val + j.val); omega
  · rw [dif_neg h', if_neg (by omega)]
    show (((0#32 : BitVec 32).toInt : ℝ) : EReal) = 0
    simp

theorem v29_at (b : Fin 4) (c : Fin 64) (p : Fin 640) (h : Fin 16) (j : Fin 64) :
    val_main_v29 (F := Ideal) x0 x1 (ix5 b c p h j) = keyOf (xR x0) (wR x1) b (128 * c.val + p.val) ⟨64 * h.val + j.val, by omega⟩ := by
  pointwise [val_main_v29, val_main_v28, val_main_v27, val_main_v26, val_main_v25, val_main_v24]
  simp only [v23_at]
  split_ifs
  · rfl
  · exact congrArg (fun n => keyOf (xR x0) (wR x1) b n _) (by omega)
  · exact congrArg (fun n => keyOf (xR x0) (wR x1) b n _) (by omega)
  · exact congrArg (fun n => keyOf (xR x0) (wR x1) b n _) (by omega)
  · exact congrArg (fun n => keyOf (xR x0) (wR x1) b n _) (by omega)

theorem v62_at (b : Fin 4) (c : Fin 64) (p : Fin 640) (h : Fin 16) (j : Fin 64) :
    val_main_v62 (F := Ideal) x0 x1 (ix5 b c p h j) = valOf (xR x0) (wR x1) b (128 * c.val + p.val) ⟨64 * h.val + j.val, by omega⟩ := by
  pointwise [val_main_v62, val_main_v61, val_main_v60, val_main_v59, val_main_v58, val_main_v57]
  simp only [v56_at]
  split_ifs
  · rfl
  · exact congrArg (fun n => valOf (xR x0) (wR x1) b n _) (by omega)
  · exact congrArg (fun n => valOf (xR x0) (wR x1) b n _) (by omega)
  · exact congrArg (fun n => valOf (xR x0) (wR x1) b n _) (by omega)
  · exact congrArg (fun n => valOf (xR x0) (wR x1) b n _) (by omega)

theorem v42_at (b : Fin 1) (c : Fin 64) (p : Fin 640) :
    val_main_v42 (F := Ideal) (ix5 b c 0 0 p) = if 512 ≤ 128 * c.val + p.val then 1#1 else 0#1 := by
  pointwise [val_main_v42, val_main_v41, val_main_v40, val_main_v20, val_main_v19, val_main_v18, val_main_v17, val_main_v16, val_main_v15,
    val_main_v14, val_main_v13, val_main_v12, val_main_v11, val_main_v10, val_main_c, val_main_c_0, val_main_c_3]
  exact inside_at c p

/-- The scores of one query over its window. -/
abbrev scoresR (b : Fin 4) (c : Fin 64) (h : Fin 16) (r : Fin 128) : Fin 640 → EReal :=
  ascoreR (128 * c.val)
      (fun j => queryOf (xR x0) (wR x1) b (128 * c.val + r.val) ⟨64 * h.val + j.val, by omega⟩)
      (fun p j => keyOf (xR x0) (wR x1) b (128 * c.val + p.val) ⟨64 * h.val + j.val, by omega⟩) (fun p => biasR x4 h p r)

theorem v43_at (b : Fin 4) (c : Fin 64) (h : Fin 16) (r : Fin 128) (p : Fin 640) :
    val_main_v43 (F := Ideal) x0 x1 x4 (ix5 b c h r p) = scoresR x0 x1 x4 b c h r p := by
  pointwise [val_main_v43, val_main_call1_v2, val_main_call1_v1, val_main_call1_v0, val_main_v39, val_main_v38, val_main_v37, val_main_v36,
    val_main_v35, val_main_v34, val_main_v33, val_main_v32, val_main_v31, val_main_v30, val_main_v21, val_main_v3, val_main_v2, val_main_cst,
    val_main_cst_2, val_main_cst_4]
  simp only [v1_at, v29_at, v42_at]
  unfold scoresR ascoreR
  by_cases h' : 512 ≤ 128 * c.val + p.val
  · rw [if_pos h', if_pos h']
    refine congrArg₂ (· + ·) (congrArg₂ (· * ·) (Finset.sum_congr rfl fun j _ => congrArg₂ (· * ·) ?_ rfl) rfl) rfl
    unfold proj queryOf tok
    refine Finset.sum_congr rfl fun k _ => (mul_comm _ _).trans (congrArg₂ (· * ·) (congrArg (wR x1 k) (Fin.ext ?_)) (congrArg (fun s => xR x0 b s k) (Fin.ext ?_)))
    · show h.val * 64 + j.val = 64 * h.val + j.val; omega
    · show c.val * 128 + r.val = (128 * c.val + r.val) % 8192; omega
  · rw [if_neg h', if_neg h']
    rfl

theorem reduce_max5 (y : S4x64x16x128x640.Idx → EReal) (z : S_.Idx → EReal) (b : Fin 4) (c : Fin 64) (h : Fin 16) (r : Fin 128) :
    Host.reduce (α := EReal) (FloatOps.maximumf (F := Ideal) (φ := .f32)) y z reducesTo_S4x64x16x128x640_S4x64x16x128_d4 h_S_ (ix4 b c h r)
      = Finset.univ.fold max (z ix0) (fun m => y (ix5 b c h r m)) := by
  pointwise
  rw [show (Shape.Idx.first h_S_ : S_.Idx) = ix0 from funext fun a => a.elim0]

theorem v46_at (b : Fin 4) (c : Fin 64) (h : Fin 16) (r : Fin 128) :
    val_main_v46 (F := Ideal) x0 x1 x4 (ix4 b c h r) = max (Ideal.ofBits .f32 4286578688#32)
      (Finset.univ.fold max (Ideal.ofBits .f32 4286578688#32) (scoresR x0 x1 x4 b c h r)) := by
  have h44 : val_main_v44 (F := Ideal) x0 x1 x4 (ix4 b c h r)
      = Finset.univ.fold max (Ideal.ofBits .f32 4286578688#32) (scoresR x0 x1 x4 b c h r) := by
    unfold val_main_v44
    refine (reduce_max5 _ _ b c h r).trans ?_
    rw [funext (v43_at x0 x1 x4 b c h r)]
    rfl
  rw [val_main_v46_apply, h44]
  rfl

theorem v54_at (b : Fin 4) (c : Fin 64) (h : Fin 16) (r : Fin 128) (p : Fin 640) :
    val_main_v54 (F := Ideal) x0 x1 x4 (ix5 b c h r p) = Ideal.div (aweightR (scoresR x0 x1 x4 b c h r) p)
      (∑ p, aweightR (scoresR x0 x1 x4 b c h r) p) := by
  pointwise [val_main_v54, val_main_v53, val_main_v52, val_main_v51, val_main_v50, val_main_v49, val_main_v48, val_main_v47, val_main_cst_7]
  simp only [v43_at, v46_at]
  rfl

theorem v65_at (b : Fin 4) (s : Fin 8192) (e : Fin 1024) : val_main_v65 (F := Ideal) x0 x1 x4 (ix3 b s e)
    = attnR (128 * (s.val / 128)) (fun j => queryOf (xR x0) (wR x1) b s.val ⟨64 * (e.val / 64) + j.val, by omega⟩)
      (fun p j => keyOf (xR x0) (wR x1) b (128 * (s.val / 128) + p.val) ⟨64 * (e.val / 64) + j.val, by omega⟩)
      (fun p j => valOf (xR x0) (wR x1) b (128 * (s.val / 128) + p.val) ⟨64 * (e.val / 64) + j.val, by omega⟩)
      (fun p => biasR x4 ⟨e.val / 64, by omega⟩ p ⟨s.val % 128, by omega⟩) ⟨e.val % 64, by omega⟩ := by
  pointwise [val_main_v65, val_main_v64, val_main_v63]
  simp only [v54_at, v62_at]
  unfold scoresR attnR
  have hs : 128 * (s.val / 128) + s.val % 128 = s.val := by omega
  simp only [hs]

/-- The query of a memory head. -/
abbrev qR (b : Fin 4) (s : Fin 8192) (h : Fin 4) (i : Fin 128) : EReal :=
  proj (xR x0 b s) (wR x1) ⟨3072 + (h.val * 128 + i.val), by omega⟩
abbrev kR (b h : Fin 4) (m : Fin 256) (i : Fin 128) : EReal := kvR x3 b m ⟨h.val * 128 + i.val, by omega⟩
abbrev vR (b h : Fin 4) (m : Fin 256) (i : Fin 128) : EReal := kvR x3 b m ⟨512 + (h.val * 128 + i.val), by omega⟩

theorem v75_at (b h : Fin 4) (s : Fin 8192) (m : Fin 256) :
    val_main_v75 (F := Ideal) x0 x1 x3 (ix4 b h s m) = scoreR (qR x0 x1 b s h) (kR x3 b h) m := by
  pointwise [val_main_v75, val_main_v74, val_main_v73, val_main_v72, val_main_v69, val_main_v68, val_main_v67, val_main_v66, val_main_v8,
    val_main_cst_9]
  simp only [v1_at]
  rfl

theorem v78_at (b h : Fin 4) (s : Fin 8192) :
    val_main_v78 (F := Ideal) x0 x1 x3 (ix3 b h s) = max (Ideal.ofBits .f32 4286578688#32)
      (Finset.univ.fold max (Ideal.ofBits .f32 4286578688#32) (scoreR (qR x0 x1 b s h) (kR x3 b h))) := by
  have h76 : val_main_v76 (F := Ideal) x0 x1 x3 (ix3 b h s)
      = Finset.univ.fold max (Ideal.ofBits .f32 4286578688#32) (scoreR (qR x0 x1 b s h) (kR x3 b h)) := by
    unfold val_main_v76
    refine (reduce_max _ _ b h s).trans ?_
    rw [funext (v75_at x0 x1 x3 b h s)]
    rfl
  rw [val_main_v78_apply, h76]
  rfl

theorem v86_at (b h : Fin 4) (s : Fin 8192) (m : Fin 256) :
    val_main_v86 (F := Ideal) x0 x1 x3 (ix4 b h s m) = Ideal.div (weightR (scoreR (qR x0 x1 b s h) (kR x3 b h)) m)
      (∑ m, weightR (scoreR (qR x0 x1 b s h) (kR x3 b h)) m) := by
  pointwise [val_main_v86, val_main_v85, val_main_v84, val_main_v83, val_main_v82, val_main_v81, val_main_v80, val_main_v79, val_main_cst_12]
  simp only [v75_at, v78_at]
  rfl

theorem v89_at (b : Fin 4) (s : Fin 8192) (e : Fin 512) : val_main_v89 (F := Ideal) x0 x1 x3 (ix3 b s e)
    = memR (qR x0 x1 b s ⟨e.val / 128, by omega⟩) (kR x3 b ⟨e.val / 128, by omega⟩) (vR x3 b ⟨e.val / 128, by omega⟩)
        ⟨e.val % 128, by omega⟩ := by
  pointwise [val_main_v89, val_main_v88, val_main_v87, val_main_v71, val_main_v70, val_main_v66]
  simp only [v86_at]
  unfold memR
  refine Finset.sum_congr rfl fun m _ => congrArg₂ (· * ·) (congrArg (fun q => x3 (ix3 b m q)) (Fin.ext ?_)) rfl
  show 512 + e.val = 512 + (e.val / 128 * 128 + e.val % 128)
  omega

theorem v97_at (b : Fin 4) (s : Fin 8192) (d : Fin 1024) : val_main_v97 (F := Ideal) x0 x1 x2 x3 x4 (ix3 b s d)
    = attnRow (xR x0) (wR x1) (woR x2) (kvR x3) (biasR x4) attnR memR b s d := by
  pointwise [val_main_v97, val_main_v96, val_main_v95, val_main_v94, val_main_v93, val_main_v92, val_main_v91, val_main_v90, val_main_v9,
    val_main_cst_13, val_main_call3_v5, val_main_call3_v4, val_main_call3_v3, val_main_call3_v2, val_main_call3_v1, val_main_call3_v0, val_main_call3_cst, val_main_call3_cst_0]
  simp only [v1_at, v65_at, v89_at]
  unfold attnRow pre
  rfl

theorem v123_at (b : Fin 4) (s : Fin 8192) (d : Fin 1024) : val_main_v123 (F := Ideal) x0 x1 x2 x3 x4 x5 x6 (ix3 b s d)
    = norm (attnRow (xR x0) (wR x1) (woR x2) (kvR x3) (biasR x4) attnR memR b s) (fun d => x5 (ix2 0 d)) (fun d => x6 (ix2 0 d)) d := by
  pointwise [val_main_v123, val_main_v122, val_main_v121, val_main_v120, val_main_v119, val_main_v118, val_main_v117, val_main_v116, val_main_v115,
    val_main_v114, val_main_v113, val_main_v112, val_main_v111, val_main_v110, val_main_v109, val_main_v108, val_main_v107, val_main_v106,
    val_main_v105, val_main_v104, val_main_v103, val_main_v102, val_main_v101, val_main_v100, val_main_v99, val_main_v98, val_main_cst_14,
    val_main_cst_15, val_main_cst_16, val_main_cst_17, val_main_cst_18]
  simp only [v97_at]
  rfl

end Read
end Cert.AttnReferenceIdeal.Gen
-- ==== Proof.AttnFinite.lean ====
module

public import proofs.«01_k».proof.Defs
public import proofs.«01_k».proof.Proof.Finite
public import proofs.«01_k».proof.Proof.AttnLayer
public import proofs.«01_k».proof.Proof.AttnMem
public import Idealize.ShloMosaic.Lib.ReduceAll

/-! What the attention layer's precondition says of the argument arrays, and that the two forms of the attention agree there. -/

@[expose] public section
noncomputable section

namespace Layer
open Idealize.ShloMosaic

section Window
variable (o : ℕ) (q : Fin 64 → ℝ) (K : Fin 640 → Fin 64 → ℝ) (B : Fin 640 → EReal) (hB : ∀ m, B m ≠ ⊤)
include hB

/-- The kernel's score with a bias that may be minus infinity. -/
theorem ascoreK_of (p : Fin 640) : ascoreK o (fun i => (q i : EReal)) (fun m i => (K m i : EReal)) B p
    = if 512 ≤ o + p.val ∧ B p ≠ ⊥ then ((realScore q K (fun m => (B m).toReal) p * (Real.log 2)⁻¹ : ℝ) : EReal) else ⊥ := by
  by_cases hb : B p = ⊥
  · rw [if_neg (fun h => h.2 hb)]
    unfold ascoreK
    rw [hb, EReal.add_bot]
  · have e : ascoreK o (fun i => (q i : EReal)) (fun m i => (K m i : EReal)) B p
        = ascoreK o (fun i => (q i : EReal)) (fun m i => (K m i : EReal)) (fun m => ((B m).toReal : EReal)) p := by
      unfold ascoreK
      simp only [EReal.coe_toReal (hB p) hb]
    rw [e, ascoreK_real]
    simp only [ne_eq, hb, not_false_eq_true, and_true]

/-- The reference's score with a bias that may be minus infinity. -/
theorem ascoreR_of (p : Fin 640) : ascoreR o (fun i => (q i : EReal)) (fun m i => (K m i : EReal)) B p
    = if 512 ≤ o + p.val ∧ B p ≠ ⊥ then ((realScore q K (fun m => (B m).toReal) p : ℝ) : EReal) else ⊥ := by
  by_cases hb : B p = ⊥
  · rw [if_neg (fun h => h.2 hb)]
    unfold ascoreR
    split_ifs
    · rw [hb, ofBits_two, Ideal.log_coe, if_neg (by norm_num), EReal.bot_mul_coe_of_pos (Real.log_pos (by norm_num)), EReal.add_bot]
    · exact ofBits_neg_inf
  · have e : ascoreR o (fun i => (q i : EReal)) (fun m i => (K m i : EReal)) B p
        = ascoreR o (fun i => (q i : EReal)) (fun m i => (K m i : EReal)) (fun m => ((B m).toReal : EReal)) p := by
      unfold ascoreR
      simp only [EReal.coe_toReal (hB p) hb]
    rw [e, ascoreR_real]
    simp only [ne_eq, hb, not_false_eq_true, and_true]

/-- The two attentions are equal where one key of the window has a real score and no score is plus infinity. -/
theorem attn_eq_of (V : Fin 640 → Fin 64 → ℝ) (p1 : Fin 640) (h1 : 512 ≤ o + p1.val) (hp : B p1 ≠ ⊥) :
    attnK o (fun i => (q i : EReal)) (fun m i => (K m i : EReal)) (fun m i => (V m i : EReal)) B
      = attnR o (fun i => (q i : EReal)) (fun m i => (K m i : EReal)) (fun m i => (V m i : EReal)) B := by
  classical
  funext j
  unfold attnK attnR
  obtain ⟨e, he, hK, hR⟩ := aweights_real (fun p => 512 ≤ o + p.val ∧ B p ≠ ⊥) p1 ⟨h1, hp⟩ (realScore q K (fun m => (B m).toReal))
  rw [funext (ascoreK_of o q K B hB), funext (ascoreR_of o q K B hB)]
  simp only [hK, hR]
  have hL : (∑ m, e m) ≠ 0 := he.ne'
  rw [← coe_sum_fin e]
  simp only [Ideal.div_coe hL, ← EReal.coe_mul, ← coe_sum_fin]
  congr 1
  rw [Finset.sum_mul]
  exact Finset.sum_congr rfl fun m _ => by ring

end Window

/-- The same of extended reals without infinite entries. -/
theorem attn_eq_of' (o : ℕ) (q : Fin 64 → EReal) (K V : Fin 640 → Fin 64 → EReal) (B : Fin 640 → EReal) (hq : ∀ i, IsReal (q i))
    (hK : ∀ m i, IsReal (K m i)) (hV : ∀ m i, IsReal (V m i)) (hB : ∀ m, B m ≠ ⊤) (p1 : Fin 640) (h1 : 512 ≤ o + p1.val)
    (hp : B p1 ≠ ⊥) : attnK o q K V B = attnR o q K V B := by
  have h := attn_eq_of o (fun i => (q i).toReal) (fun m i => (K m i).toReal) B hB (fun m i => (V m i).toReal) p1 h1 hp
  simpa only [(hq _).coe, (hK _ _).coe, (hV _ _).coe] using h

section Rows
variable (x : Fin 4 → Fin 8192 → Fin 1024 → EReal) (w : Fin 1024 → Fin 5120 → EReal) (wo : Fin 1536 → Fin 1024 → EReal)
  (kv : Fin 4 → Fin 256 → Fin 1024 → EReal) (bias : Fin 16 → Fin 640 → Fin 128 → EReal) (hx : ∀ b s d, IsReal (x b s d))
  (hw : ∀ d e, IsReal (w d e))
include hx hw

theorem keyOf_real (b : Fin 4) (n : ℕ) (e : Fin 1024) : IsReal (keyOf x w b n e) := by
  unfold keyOf
  split_ifs
  · exact proj_real (tok x b (n - 512)) w (fun k => hx _ _ k) hw _
  · exact ⟨EReal.zero_ne_bot, EReal.zero_ne_top⟩

theorem valOf_real (b : Fin 4) (n : ℕ) (e : Fin 1024) : IsReal (valOf x w b n e) := by
  unfold valOf
  split_ifs
  · rw [Finset.sum_congr rfl fun k _ => mul_comm _ _]
    exact proj_real (tok x b (n - 512)) w (fun k => hx _ _ k) hw _
  · exact ⟨EReal.zero_ne_bot, EReal.zero_ne_top⟩

theorem queryOf_real (b : Fin 4) (n : ℕ) (e : Fin 1024) : IsReal (queryOf x w b n e) := by
  unfold queryOf
  rw [Finset.sum_congr rfl fun k _ => mul_comm _ _]
  exact proj_real (tok x b n) w (fun k => hx _ _ k) hw _

/-- The layer's row is the same with either attention and either memory attention. -/
theorem attnRow_eq (hkv : ∀ b m d, IsReal (kv b m d)) (hT : ∀ h p r, bias h p r ≠ ⊤)
    (hD : ∀ (h : Fin 16) (r : Fin 128), bias h ⟨512 + r.val, by omega⟩ r ≠ ⊥) :
    attnRow x w wo kv bias attnK memK = attnRow x w wo kv bias attnR memR := by
  have hp : ∀ b s e, IsReal (proj (x b s) w e) := fun b s e => proj_real _ _ (hx b s) hw e
  have hA : ∀ (b : Fin 4) (s : Fin 8192) (e : Fin 1024), attnK (128 * (s.val / 128)) (fun j => queryOf x w b s.val ⟨64 * (e.val / 64) + j.val, by omega⟩)
      (fun p j => keyOf x w b (128 * (s.val / 128) + p.val) ⟨64 * (e.val / 64) + j.val, by omega⟩)
      (fun p j => valOf x w b (128 * (s.val / 128) + p.val) ⟨64 * (e.val / 64) + j.val, by omega⟩)
      (fun p => bias ⟨e.val / 64, by omega⟩ p ⟨s.val % 128, by omega⟩)
      = attnR (128 * (s.val / 128)) (fun j => queryOf x w b s.val ⟨64 * (e.val / 64) + j.val, by omega⟩)
      (fun p j => keyOf x w b (128 * (s.val / 128) + p.val) ⟨64 * (e.val / 64) + j.val, by omega⟩)
      (fun p j => valOf x w b (128 * (s.val / 128) + p.val) ⟨64 * (e.val / 64) + j.val, by omega⟩)
      (fun p => bias ⟨e.val / 64, by omega⟩ p ⟨s.val % 128, by omega⟩) := fun b s e =>
    attn_eq_of' _ _ _ _ _ (fun j => queryOf_real x w hx hw b s.val ⟨64 * (e.val / 64) + j.val, by omega⟩)
      (fun p j => keyOf_real x w hx hw b (128 * (s.val / 128) + p.val) ⟨64 * (e.val / 64) + j.val, by omega⟩)
      (fun p j => valOf_real x w hx hw b (128 * (s.val / 128) + p.val) ⟨64 * (e.val / 64) + j.val, by omega⟩)
      (fun p => hT ⟨e.val / 64, by omega⟩ p ⟨s.val % 128, by omega⟩) ⟨512 + s.val % 128, by omega⟩
      (by show 512 ≤ 128 * (s.val / 128) + (512 + s.val % 128); omega) (hD ⟨e.val / 64, by omega⟩ ⟨s.val % 128, by omega⟩)
  have hM : ∀ (b : Fin 4) (s : Fin 8192) (h : Fin 4), memK (fun i => proj (x b s) w ⟨3072 + (h.val * 128 + i.val), by omega⟩)
      (fun m i => kv b m ⟨h.val * 128 + i.val, by omega⟩) (fun m i => kv b m ⟨512 + (h.val * 128 + i.val), by omega⟩)
      = memR (fun i => proj (x b s) w ⟨3072 + (h.val * 128 + i.val), by omega⟩)
      (fun m i => kv b m ⟨h.val * 128 + i.val, by omega⟩) (fun m i => kv b m ⟨512 + (h.val * 128 + i.val), by omega⟩) :=
    fun b s h => mem_eq' _ _ _ (fun i => hp b s ⟨3072 + (h.val * 128 + i.val), by omega⟩)
      (fun m i => hkv b m ⟨h.val * 128 + i.val, by omega⟩) (fun m i => hkv b m ⟨512 + (h.val * 128 + i.val), by omega⟩)
  funext b s d
  unfold attnRow
  simp only [hA, hM]

end Rows
end Layer

namespace Cert.Pre_finite2
open Idealize.ShloMosaic Layer

/-- An entry below plus infinity. -/
theorem ne_top_of_cmp (a : EReal) (h : FloatOps.cmpf (F := Ideal) (φ := .f32) .olt a (Ideal.ofBits .f32 0x7F800000#32) = 1#1) : a ≠ ⊤ := by
  rw [Cert.Pre_finite.ofBits_inf] at h
  rintro rfl
  rw [Ideal.cmpf_def] at h
  simp [Ideal.cmp] at h

/-- An entry above minus infinity. -/
theorem ne_bot_of_cmp (a : EReal) (h : FloatOps.cmpf (F := Ideal) (φ := .f32) .ogt a (Ideal.ofBits .f32 0xFF800000#32) = 1#1) : a ≠ ⊥ := by
  rw [ofBits_neg_inf] at h
  rintro rfl
  rw [Ideal.cmpf_def] at h
  simp [Ideal.cmp] at h

/-- Row `512 + r` of the window is the one the precondition singles out for query `r`. -/
theorem own_row : ∀ r : Fin 128,
    IntOp.cmpi .eq (BitVec.ofNat 32 (512 + r.val)) (IntOp.addi 512#32 (BitVec.ofNat 32 r.val)) = 1#1 := by
  decide +kernel

variable [Facts]

instance : Subsingleton S_.Idx := ⟨fun a b => funext fun i => i.elim0⟩

variable (a0 : FVec Ideal S4x8192x1024 .f32) (a1 : FVec Ideal S1024x5120 .bf16) (a2 : FVec Ideal S1536x1024 .bf16)
  (a3 : FVec Ideal S4x256x1024 .bf16) (a4 : FVec Ideal S16x640x128 .f32) (a5 a6 : FVec Ideal S1x1024 .f32)

/-- Where the precondition holds the tokens, the input matrix and the memory have no infinite entries, the bias has no
entry plus infinity, and no query's bias of its own row is minus infinity. -/
theorem real_of_fn (h : fn (F := Ideal) a0 a1 a2 a3 a4 a5 a6 = fun _ => 1#1) :
    (∀ i, IsReal (a0 i)) ∧ (∀ i, IsReal (a1 i)) ∧ (∀ i, IsReal (a3 i)) ∧ (∀ i, a4 i ≠ ⊤)
      ∧ ∀ (h : Fin 16) (r : Fin 128), a4 (ix3 h ⟨512 + r.val, by omega⟩ r) ≠ ⊥ := by
  have h0 := congrFun h (fun i => i.elim0)
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨fun i => Cert.Pre_finite.real_of_cmp _ (Host.reduce_andi_all _ _ _ _ _ h1 i),
    fun i => Cert.Pre_finite.real_of_cmp _ (Host.reduce_andi_all _ _ _ _ _ h2 i),
    fun i => Cert.Pre_finite.real_of_cmp _ (Host.reduce_andi_all _ _ _ _ _ h3 i),
    fun i => ne_top_of_cmp _ (Host.reduce_andi_all _ _ _ _ _ h4 i), fun h r => ?_⟩
  have e := ne_bot_of_cmp _ (Host.reduce_andi_all _ _ _ _ _ h5 (ix3 h ⟨512 + r.val, by omega⟩ r))
  change Scalar.select (IntOp.cmpi .eq (BitVec.ofNat 32 (512 + r.val)) (IntOp.addi 512#32 (BitVec.ofNat 32 r.val)))
    (a4 (ix3 h ⟨512 + r.val, by omega⟩ r)) _ ≠ _ at e
  rw [own_row r] at e
  exact e

end Cert.Pre_finite2
-- ==== Proof.AttnClaims.lean ====
module

public import proofs.«01_k».proof.Defs
public import proofs.«01_k».proof.Proof.Gen.Attn.Frame
public import proofs.«01_k».proof.Proof.Gen.AttnIdeal.Frame
public import proofs.«01_k».proof.Proof.Gen.AttnReferenceIdeal.Run
public import proofs.«01_k».proof.Proof.Gen.AttnReferenceIdeal.Read
public import proofs.«01_k».proof.Proof.Gen.AttnIdeal.Value
public import proofs.«01_k».proof.Proof.Gen.Pre_finite2
public import proofs.«01_k».proof.Proof.AttnSweep
public import proofs.«01_k».proof.Proof.AttnRef
public import proofs.«01_k».proof.Proof.AttnFinite
public import Idealize.ShloMosaic.Adequacy
public import Idealize.ShloMosaic.Init

/-! The claims about the attention layer, one theorem each. -/

@[expose] public section
noncomputable section
namespace AttnClaims
open Idealize.ShloMosaic Idealize.ShloMosaic.TcCoe Idealize.SL.Sem Layer

/-- The attention kernel runs, leaves its arguments as they were and ends quiescent. -/
theorem frame_p : Cert.quiescent_Attn := fun m ρ _ => Cert.Attn.Gen.frame m ρ

/-- So does the idealized attention kernel. -/
theorem frame_pi : Cert.quiescent_AttnIdeal := fun m ρ _ => Cert.AttnIdeal.Gen.frame m ρ

/-- and so it does where the precondition holds. -/
theorem frame_pi_finite2 : Cert.quiescent_AttnIdeal_pre_finite2 := fun m ρ _ => Cert.AttnIdeal.Gen.frame m ρ

/-- The reference of the attention layer runs, leaves its arguments as they were and ends quiescent. -/
theorem frame_ri : Cert.quiescent_AttnReferenceIdeal := fun m ρ _ =>
  (θ_run Cert.AttnReferenceIdeal.defs _ _).mono (fun r h => ⟨fun c => (h c).2, sem_eq_zero_of_no_sems (by decide) r.2⟩)
    (Cert.AttnReferenceIdeal.Value.run (F := Ideal) m ρ)

/-- and so it does where the precondition holds. -/
theorem frame_ri_finite2 : Cert.quiescent_AttnReferenceIdeal_pre_finite2 := fun m ρ _ => frame_ri m ρ trivial

/-- The idealized attention kernel is the attention kernel with its three named constants read as the extended reals
they stand for. -/
theorem preserves : Cert.preserves_Attn_AttnIdeal :=
  ⟨IdealRules.named_const.statement _ _ _ _ _ rfl, IdealRules.named_const.statement _ _ _ _ _ rfl,
    IdealRules.named_const.statement _ _ _ _ _ rfl⟩

/-- What the attention kernel returns is what its reference computes, where the precondition holds. -/
theorem layer_eq (m : (ℓ : Loc Cert.AttnIdeal.nD Cert.AttnIdeal.τ Cert.AttnIdeal.sig) → Buf (Elt Ideal) ℓ)
    (hp : Cert.Pre_AttnIdeal_finite2 m) (c : Dev Cert.AttnIdeal.nD) :
    Cert.AttnReferenceIdeal.Read.val_main_v123 (F := Ideal) (m ((c : Thread Cert.AttnIdeal.nD Cert.AttnIdeal.τ).loc Cert.AttnIdeal.main_arg0))
      (m ((c : Thread Cert.AttnIdeal.nD Cert.AttnIdeal.τ).loc Cert.AttnIdeal.main_arg1))
      (m ((c : Thread Cert.AttnIdeal.nD Cert.AttnIdeal.τ).loc Cert.AttnIdeal.main_arg2))
      (m ((c : Thread Cert.AttnIdeal.nD Cert.AttnIdeal.τ).loc Cert.AttnIdeal.main_arg3))
      (m ((c : Thread Cert.AttnIdeal.nD Cert.AttnIdeal.τ).loc Cert.AttnIdeal.main_arg4))
      (m ((c : Thread Cert.AttnIdeal.nD Cert.AttnIdeal.τ).loc Cert.AttnIdeal.main_arg5))
      (m ((c : Thread Cert.AttnIdeal.nD Cert.AttnIdeal.τ).loc Cert.AttnIdeal.main_arg6))
      = Cert.AttnIdeal.Gen.layerK m c := by
  obtain ⟨hx, hw, hkv, hT, hD⟩ := Cert.Pre_finite2.real_of_fn _ _ _ _ _ _ _ (hp c)
  funext i
  rw [eq_ix3 i]
  refine (Cert.AttnReferenceIdeal.Gen.v123_at _ _ _ _ _ _ _ (i 0) (i 1) (i 2)).trans ?_
  unfold Cert.AttnIdeal.Gen.layerK
  rw [attnRow_eq (Cert.AttnIdeal.Gen.xF m c) (Cert.AttnIdeal.Gen.wF m c) _ (Cert.AttnIdeal.Gen.kvF m c) (Cert.AttnIdeal.Gen.biasF m c)
    (fun _ _ _ => hx _) (fun _ _ => hw _) (fun _ _ _ => hkv _) (fun _ _ _ => hT _) (fun h r => hD h r)]
  rfl

/-- The idealized attention kernel and its reference end with the same array, where the precondition holds. -/
theorem algebraic : Cert.algebraic_AttnIdeal_AttnReferenceIdeal_pre_finite2 := fun m g m' g' hp hm =>
  ⟨fun c => Cert.AttnIdeal.Gen.layerK m c,
    (θ_run Cert.AttnIdeal.defs _ _).mono (fun r h c => ⟨(h c).1.trans (Cert.AttnIdeal.Gen.final m c), (h c).2⟩)
      (Cert.AttnIdeal.Value.run_blocks (F := Ideal) m g),
    (θ_run Cert.AttnReferenceIdeal.defs _ _).mono (fun r h c => ⟨by
        obtain ⟨e0, e1, e2, e3, e4, e5, e6⟩ := hm c
        refine (h c).1.trans ((Cert.AttnReferenceIdeal.Read.val_main_v123_eq (StableHlo.launchContents m' c)).trans ?_)
        refine Eq.trans ?_ (layer_eq m hp c)
        rw [← e0, ← e1, ← e2, ← e3, ← e4, ← e5, ← e6], (h c).2⟩)
      (Cert.AttnReferenceIdeal.Value.run (F := Ideal) m' g')⟩

end AttnClaims
-- ==== Proof.MemProj.lean ====
module

public import proofs.«01_k».proof.Defs
public import proofs.«01_k».proof.Proof.Gen.MemProj.Frame
public import proofs.«01_k».proof.Proof.Gen.MemProjIdeal.Frame
public import proofs.«01_k».proof.Proof.Gen.MemProjIdeal.Value
public import proofs.«01_k».proof.Proof.Gen.MemProjReferenceIdeal.Run
public import proofs.«01_k».proof.Proof.Gen.MemProjReferenceIdeal.Read
public import Idealize.ShloMosaic.Lib.Pointwise
public import Idealize.ShloMosaic.Lib.Pipeline.CanonAppend
public import Idealize.ShloMosaic.Adequacy
public import Idealize.ShloMosaic.Init

/-! The projection of the memory: what the call returns, what its reference computes, and the claims. -/

@[expose] public section
noncomputable section

namespace MemProj
open Idealize.ShloMosaic Idealize.ShloMosaic.TcCoe Idealize.SL.Sem
open Cert.MemProjIdeal (S4x256x1024 S4x1024x1024)

/-- The projected memory of every layer: row `r` is memory token `r % 256` of batch entry `r / 256`. -/
def proj (x0 : S4x256x1024.Idx → EReal) (x1 : S4x1024x1024.Idx → EReal) (l : Fin 4) (r e : Fin 1024) : EReal :=
  ∑ k : Fin 1024, x0 (ix3 ⟨r.val / 256, by omega⟩ ⟨r.val % 256, by omega⟩ k) * x1 (ix3 l k e)

end MemProj

namespace Cert.MemProjIdeal.Gen
open Idealize.ShloMosaic Idealize.ShloMosaic.TcCoe Idealize.SL.Sem Cert.MemProjIdeal

/-- The block numbers of each window at a point. -/
theorem idx_facts : ∀ t : Fin cfg0.N,
    (win0_0.index t (0 : Fin 2) = 0 ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0) :=
  (by decide +kernel : ∀ t : Fin grid0.N, _)

/-- The output block has its full size at every point. -/
theorem full_out : ∀ t : Fin cfg0.N, win0_2.xsize (grid0.coords t) (0 : Fin 3) = 1 ∧ win0_2.xsize (grid0.coords t) (1 : Fin 3) = 1024
    ∧ win0_2.xsize (grid0.coords t) (2 : Fin 3) = 1024 :=
  (by decide +kernel : ∀ t : Fin grid0.N, _)

theorem N_four : cfg0.N = 4 := by decide

/-- One block of the product, entry by entry. -/
theorem out_at (x0 : Vec Ideal S1024x1024 .f32) (x1 : Vec Ideal S1x1024x1024 .bf16) (r e : Fin 1024) :
    out0_2 (F := Ideal) x0 x1 (ix3 0 r e) = ∑ k : Fin 1024, x0 (ix2 r k) * x1 (ix3 0 k e) := by
  unfold out0_2
  rw [View.canon_unit_zero (by funext a; fin_cases a <;> rfl), View.ld_unit_zero (by funext a; fin_cases a <;> rfl), View.ld_unit_zero (by funext a; fin_cases a <;> rfl)]
  pointwise [k0_pay1]

variable (m : (ℓ : Loc nD τ sig) → Buf (Elt Ideal) ℓ) (c : Dev nD) (t : Fin cfg0.N)

/-- The memory tokens. -/
abbrev memA : S4x256x1024.Idx → EReal := m ((c : Thread nD τ).loc main_arg0)
/-- The weights. -/
abbrev wA : S4x1024x1024.Idx → EReal := m ((c : Thread nD τ).loc main_arg1)

theorem V0_at (r k : Fin 1024) : (V m c main_v0 : S1024x1024.Idx → EReal) (ix2 r k)
    = memA m c (ix3 ⟨r.val / 256, by omega⟩ ⟨r.val % 256, by omega⟩ k) := by
  have h : (V m c main_v0 : S1024x1024.Idx → EReal) = shapeCast S1024x1024 (memA m c) shapeCasts_S4x256x1024_S1024x1024 := by
    unfold V; simp only [hostOps0]; after_results; rfl
  rw [h]
  pointwise

theorem V1_eq : (V m c main_v1 : S4x1024x1024.Idx → EReal) = wA m c := by
  unfold V; simp only [hostOps0]; after_results; rfl

theorem iblk0_at (r k : Fin 1024) : (iblk m c 0 t : Vec Ideal S1024x1024 .f32) (ix2 r k)
    = memA m c (ix3 ⟨r.val / 256, by omega⟩ ⟨r.val % 256, by omega⟩ k) := by
  obtain ⟨⟨e0, e1⟩, -⟩ := idx_facts t
  refine Eq.trans ?_ (V0_at m c r k)
  show (V m c main_v0 : S1024x1024.Idx → EReal) (((cfg0.win 0).blk t).view.emb (ix2 r k)) = _
  refine congrArg (V m c main_v0 : S1024x1024.Idx → EReal) ?_
  funext a; apply Fin.ext
  match a with
  | ⟨0, _⟩ => show win0_0.index t (0 : Fin 2) * 1024 + 1 * r.val = r.val; omega
  | ⟨1, _⟩ => show win0_0.index t (1 : Fin 2) * 1024 + 1 * k.val = k.val; omega

theorem iblk1_at (k e : Fin 1024) : (iblk m c 1 t : Vec Ideal S1x1024x1024 .bf16) (ix3 0 k e)
    = wA m c (ix3 ⟨t.val, N_four ▸ t.isLt⟩ k e) := by
  obtain ⟨-, ⟨e0, e1, e2⟩, -⟩ := idx_facts t
  show (V m c main_v1 : S4x1024x1024.Idx → EReal) (((cfg0.win 1).blk t).view.emb (ix3 0 k e)) = _
  rw [V1_eq]
  refine congrArg (wA m c) ?_
  funext a; apply Fin.ext
  match a with
  | ⟨0, _⟩ => show win0_1.index t (0 : Fin 3) * 1 + 1 * 0 = t.val; omega
  | ⟨1, _⟩ => show win0_1.index t (1 : Fin 3) * 1024 + 1 * k.val = k.val; omega
  | ⟨2, _⟩ => show win0_1.index t (2 : Fin 3) * 1024 + 1 * e.val = e.val; omega

/-- Where an entry of the output block of a point lies in the output. -/
theorem emb2 (r e : Fin 1024) :
    ((cfg0.win 2).blk t).view.emb (ix3 0 r e) = (ix3 ⟨t.val, N_four ▸ t.isLt⟩ r e : S4x1024x1024.Idx) := by
  obtain ⟨-, -, e0, e1, e2⟩ := idx_facts t
  funext a; apply Fin.ext
  match a with
  | ⟨0, _⟩ => show win0_2.index t (0 : Fin 3) * 1 + 1 * 0 = t.val; omega
  | ⟨1, _⟩ => show win0_2.index t (1 : Fin 3) * 1024 + 1 * r.val = r.val; omega
  | ⟨2, _⟩ => show win0_2.index t (2 : Fin 3) * 1024 + 1 * e.val = e.val; omega

/-- Which entries of the output lie in the block of a point. -/
theorem mem_out (i : S4x1024x1024.Idx) (h : (i 0).val = t.val) : i ∈ ((cfg0.win 2).blk t).view.set := by
  have e : ((cfg0.win 2).blk t).view.emb (ix3 0 (i 1) (i 2)) = i := by
    refine (emb2 t (i 1) (i 2)).trans (Eq.trans ?_ (eq_ix3 i).symm)
    funext a; apply Fin.ext
    match a with
    | ⟨0, _⟩ => exact h.symm
    | ⟨1, _⟩ => rfl
    | ⟨2, _⟩ => rfl
  have h' := View.emb_mem_set ((cfg0.win 2).blk t).view (ix3 0 (i 1) (i 2))
  rwa [e] at h'

/-- Every entry of the output lies in the block of a point that is written back. -/
theorem cover_out (i : S4x1024x1024.Idx) : ∃ t : Fin cfg0.N, (cfg0.win 2).flush t = true ∧ i ∈ ((cfg0.win 2).blk t).view.set :=
  have h0 : (i 0).val < cfg0.N := lt_of_lt_of_eq (i 0).isLt N_four.symm
  ⟨⟨(i 0).val, h0⟩, flush0_2 _, mem_out _ i rfl⟩

/-- The kernel's output array is the projected memory. -/
theorem final : (dats m 0 c).arrAt 2 cfg0.N = fun i => MemProj.proj (memA m c) (wA m c) (i 0) (i 1) (i 2) := by
  refine (dats m 0 c).arrAt_eq_of_cover 2 _ (fun t _ => ?_) cover_out
  rw [Value.flushed2]
  funext y
  obtain ⟨q, r, e, rfl⟩ : ∃ (q : Fin 1) (r e : Fin 1024), y = ix3 q r e := ⟨_, _, _, eq_ix3 y⟩
  obtain rfl : q = 0 := Subsingleton.elim _ _
  refine Eq.trans (b := out0_2 (F := Ideal) (iblk m c 0 t) (iblk m c 1 t) (ix3 0 r e)) rfl ?_
  rw [out_at]
  refine Eq.trans (Finset.sum_congr rfl fun k _ => congrArg₂ (· * ·) (iblk0_at m c t r k) (iblk1_at m c t k e)) ?_
  exact congrArg (fun i : S4x1024x1024.Idx => MemProj.proj (memA m c) (wA m c) (i 0) (i 1) (i 2)) (emb2 t r e).symm

end Cert.MemProjIdeal.Gen

namespace Cert.MemProjReferenceIdeal.Gen
open Idealize.ShloMosaic Idealize.ShloMosaic.TcCoe Idealize.SL.Sem Cert.MemProjReferenceIdeal Cert.MemProjReferenceIdeal.Read

/-- The reference, entry by entry. -/
theorem v3_at (x0 : (⟨S4x256x1024, .f32⟩ : BufTy).Contents (Elt Ideal)) (x1 : (⟨S4x1024x1024, .f32⟩ : BufTy).Contents (Elt Ideal))
    (l : Fin 4) (r e : Fin 1024) : val_main_v3 (F := Ideal) x0 x1 (ix3 l r e) = MemProj.proj x0 x1 l r e := by
  pointwise [val_main_v3, val_main_v2, val_main_v1, val_main_v0]
  exact Finset.sum_congr rfl fun k _ => mul_comm _ _

end Cert.MemProjReferenceIdeal.Gen

namespace MemProjClaims
open Idealize.ShloMosaic Idealize.ShloMosaic.TcCoe Idealize.SL.Sem

/-- The kernel runs, leaves its arguments as they were and ends quiescent. -/
theorem frame_p : Cert.quiescent_MemProj := fun m ρ _ => Cert.MemProj.Gen.frame m ρ

/-- So does the idealized kernel. -/
theorem frame_pi : Cert.quiescent_MemProjIdeal := fun m ρ _ => Cert.MemProjIdeal.Gen.frame m ρ

/-- The reference runs, leaves its arguments as they were and ends quiescent. -/
theorem frame_ri : Cert.quiescent_MemProjReferenceIdeal := fun m ρ _ =>
  (θ_run Cert.MemProjReferenceIdeal.defs _ _).mono (fun r h => ⟨fun c => (h c).2, sem_eq_zero_of_no_sems (by decide) r.2⟩)
    (Cert.MemProjReferenceIdeal.Value.run (F := Ideal) m ρ)

/-- The idealized kernel is the kernel. -/
theorem preserves : Cert.preserves_MemProj_MemProjIdeal := by
  unfold Cert.preserves_MemProj_MemProjIdeal
  trivial

/-- The idealized kernel and the reference end with the same array, for all arguments. -/
theorem algebraic : Cert.algebraic_MemProjIdeal_MemProjReferenceIdeal := fun m g m' g' _ hm =>
  ⟨fun c i => MemProj.proj (Cert.MemProjIdeal.Gen.memA m c) (Cert.MemProjIdeal.Gen.wA m c) (i 0) (i 1) (i 2),
    (θ_run Cert.MemProjIdeal.defs _ _).mono (fun r h c => ⟨(h c).1.trans (Cert.MemProjIdeal.Gen.final m c), (h c).2⟩)
      (Cert.MemProjIdeal.Value.run_blocks (F := Ideal) m g),
    (θ_run Cert.MemProjReferenceIdeal.defs _ _).mono (fun r h c => ⟨by
        obtain ⟨e0, e1⟩ := hm c
        refine (h c).1.trans ((Cert.MemProjReferenceIdeal.Read.val_main_v3_eq (F := Ideal) _ _).trans ?_)
        rw [e0, e1]
        funext i
        rw [eq_ix3 i]
        exact Cert.MemProjReferenceIdeal.Gen.v3_at _ _ (i 0) (i 1) (i 2), (h c).2⟩)
      (Cert.MemProjReferenceIdeal.Value.run (F := Ideal) m' g')⟩

end MemProjClaims
-- ==== Proof.Bias.lean ====
module

public import proofs.«01_k».proof.Defs
public import proofs.«01_k».proof.Proof.Gen.Bias.Frame
public import proofs.«01_k».proof.Proof.Gen.BiasIdeal.Frame
public import proofs.«01_k».proof.Proof.Gen.BiasIdeal.Value
public import proofs.«01_k».proof.Proof.Gen.BiasReferenceIdeal.Run
public import proofs.«01_k».proof.Proof.Gen.BiasReferenceIdeal.Read
public import Idealize.ShloMosaic.Lib.Pointwise
public import Idealize.ShloMosaic.Lib.WritesUnit
public import Idealize.ShloMosaic.Lib.KernelVsHost
public import Idealize.ShloMosaic.Lib.Pipeline.CanonAppend
public import Idealize.ShloMosaic.Adequacy
public import Idealize.ShloMosaic.Init

/-! The tile of relative-position biases: what the call returns, what its reference computes, and the claims. -/

@[expose] public section
noncomputable section

namespace BiasTile
open Idealize.ShloMosaic Idealize.ShloMosaic.TcCoe Idealize.SL.Sem
open Cert.BiasIdeal (S16x257)

/-- Whether the query in column `c` attends to the key in row `p`: the key's chunk is the query's or one of the eight
before it. -/
def seen (p c : ℕ) : Prop := 64 * (c / 64) ≤ p ∧ p < 64 * (c / 64) + 576

instance (p c : ℕ) : Decidable (seen p c) := inferInstanceAs (Decidable (_ ∧ _))

/-- The table's entry for a query in column `c` and a key in row `p`: their distance `512 + c - p`, cut off at 128, plus
128. It is at least 1, the rows being fewer than 640. -/
def entry (p c : ℕ) : Fin 257 := ⟨min (640 + c - p) 256, by omega⟩

/-- The tile: the table's entry over `log 2` where the query attends to the key, minus infinity elsewhere. -/
def tile (tb : S16x257.Idx → EReal) (h : Fin 16) (p : Fin 640) (c : Fin 128) : EReal :=
  if seen p.val c.val then tb (ix2 h (entry p.val c.val)) * (((Real.log 2)⁻¹ : ℝ) : EReal) else ⊥

/-- The division by 64 as the kernel writes it, rounding down. -/
def fdiv (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

theorem fdiv_eq : ∀ n : Fin 640, fdiv (BitVec.ofNat 32 n.val) = BitVec.ofNat 32 (n.val / 64) := by decide +kernel

theorem sge_sub : ∀ (a : Fin 10) (b : Fin 2), IntOp.cmpi .sge (IntOp.subi (BitVec.ofNat 32 a.val) (BitVec.ofNat 32 b.val)) 0#32
    = if b.val ≤ a.val then 1#1 else 0#1 := by decide +kernel

theorem sle_sub : ∀ (a : Fin 10) (b : Fin 2), b.val ≤ a.val → IntOp.cmpi .sle (IntOp.subi (BitVec.ofNat 32 a.val) (BitVec.ofNat 32 b.val)) 8#32
    = if a.val ≤ b.val + 8 then 1#1 else 0#1 := by decide +kernel

end BiasTile

namespace Cert.BiasIdeal.Gen
open Idealize.ShloMosaic Idealize.ShloMosaic.TcCoe Idealize.SL.Sem Cert.BiasIdeal

/-- What one trip of the loop writes: one row. -/
theorem tripL_eq (c : Dev nD) (arg0 : Memref sig .tc .vmem S16x384 .f32) (harg0 : arg0.IsWhole)
    (arg1 : Memref sig .tc .vmem S16x640x128 .f32) (harg1 : arg1.IsWhole) (v10 : FVec Ideal S16x384 .f32) (v36 : IVec S16x128 32)
    (k : Fin k0_t1_loop.trips) :
    tripL_k0_t1 (F := Ideal) Variants.none c none arg0 harg0 arg1 harg1 v10 v36 k
      = [⟨Rect.unit (s := S16x640x128) (k0_off1 k) S16x1x128.size (Facts₀.k0_off1_inb k), k0_pay2 v10 v36 k⟩] := by
  unfold tripL_k0_t1 trip_k0_t1
  rfl

theorem trips_eq : k0_t1_loop.trips = 256 := by decide +kernel

/-- The rows written by the first trips, over whatever else was written before: a row of theirs holds its payload. -/
theorem rows_at {sig' : RefSig} {κ' : Kind} {sp' : Space} (v : View sig' κ' sp' S16x640x128 .f32) (f : v.ty.Contents (Elt Ideal))
    (c : Dev nD) (arg0 : Memref sig .tc .vmem S16x384 .f32) (harg0 : arg0.IsWhole)
    (arg1 : Memref sig .tc .vmem S16x640x128 .f32) (harg1 : arg1.IsWhole) (v10 : FVec Ideal S16x384 .f32) (v36 : IVec S16x128 32)
    (L : List (View.Piece (Elt Ideal) S16x640x128 .f32)) (h : Fin 16) (p : Fin 640) (q : Fin 128) (n : ℕ) (hn : n ≤ k0_t1_loop.trips) :
    v.read (Elt Ideal) (v.writes (Elt Ideal) f (pb_k0_t1 Variants.none c none arg0 harg0 arg1 harg1 v10 v36 n ++ L)) (ix3 h p q)
      = if hp : 384 ≤ p.val ∧ p.val < 384 + n then
          k0_pay2 v10 v36 ⟨p.val - 384, by omega⟩ (ix3 h 0 q)
        else v.read (Elt Ideal) (v.writes (Elt Ideal) f L) (ix3 h p q) := by
  induction n with
  | zero => rw [dif_neg (by omega)]; rfl
  | succ n ih =>
    have e := pb_k0_t1_succ (F := Ideal) Variants.none c none arg0 harg0 arg1 harg1 v10 v36 ⟨n, hn⟩
    dsimp only at e
    rw [e, tripL_eq, List.append_assoc, List.singleton_append]
    by_cases hp : p.val = n + 384
    · rw [dif_pos (by omega)]
      refine (View.read_writes_cons_unit_of_mem v f _ _ _ (ix3 h p q) (ix3 h 0 q) (k0_off1_eq ⟨n, hn⟩) ?_).trans ?_
      · intro a
        match a with
        | ⟨0, _⟩ => show h.val = 0 + h.val; omega
        | ⟨1, _⟩ => show p.val = n + 384 + 0; omega
        | ⟨2, _⟩ => show q.val = 0 + q.val; omega
      · have : (⟨n, hn⟩ : Fin k0_t1_loop.trips) = ⟨p.val - 384, by omega⟩ := Fin.ext (by show n = p.val - 384; omega)
        rw [this]
    · refine (View.read_writes_cons_unit_of_not_mem v f _ _ _ (ix3 h p q) (k0_off1_eq ⟨n, hn⟩) (1 : Fin 3) ?_).trans ?_
      · show p.val < n + 384 ∨ n + 384 + 1 ≤ p.val; omega
      · rw [ih (by omega)]
        by_cases h' : 384 ≤ p.val ∧ p.val < 384 + n
        · rw [dif_pos h', dif_pos (by omega)]
        · rw [dif_neg h', dif_neg (by omega)]

/-- The table, scaled, with its last entry repeated. -/
theorem pay3_at (x0 : Vec Ideal S16x384 .f32) (h : Fin 16) (j : Fin 384) :
    k0_pay3 (F := Ideal) x0 (ix2 h j) = x0 (ix2 h (if 256 ≤ j.val then 255 else j)) * (((Real.log 2)⁻¹ : ℝ) : EReal) := by
  have hc : ∀ j : Fin 384, IntOp.cmpi .sge (BitVec.ofNat 32 j.val) 256#32 = if 256 ≤ j.val then 1#1 else 0#1 := by decide +kernel
  pointwise [k0_pay3]
  rw [hc]
  by_cases hj : 256 ≤ j.val
  · rw [if_pos hj, if_pos hj]; rfl
  · rw [if_neg hj, if_neg hj]; rfl

theorem pay9_at (h : Fin 16) (p : Fin 384) (c : Fin 128) :
    k0_pay9 (iota .tc S16x384x128 32 [1] Facts₀.iota_S16x384x128_d1_w32) 64#32 k0_pay6 k0_pay7 k0_pay8 (ix3 h p c)
      = if c.val / 64 ≤ p.val / 64 then 1#1 else 0#1 := by
  have e : k0_pay9 (iota .tc S16x384x128 32 [1] Facts₀.iota_S16x384x128_d1_w32) 64#32 k0_pay6 k0_pay7 k0_pay8 (ix3 h p c)
      = IntOp.cmpi .sge (IntOp.subi (BiasTile.fdiv (BitVec.ofNat 32 (0 * 384 + p.val))) (BiasTile.fdiv (BitVec.ofNat 32 (0 * 128 + c.val)))) 0#32 := rfl
  simp only [Nat.zero_mul, Nat.zero_add] at e
  rw [e, BiasTile.fdiv_eq ⟨p.val, by omega⟩, BiasTile.fdiv_eq ⟨c.val, by omega⟩]
  exact BiasTile.sge_sub ⟨p.val / 64, by omega⟩ ⟨c.val / 64, by omega⟩

theorem pay5_at (h : Fin 16) (c : Fin 128) : k0_pay5 (ix2 h c) = BitVec.ofNat 32 (c.val / 64) := by
  have e : k0_pay5 (ix2 h c) = BiasTile.fdiv (BitVec.ofNat 32 (0 * 128 + c.val)) := rfl
  rw [e, Nat.zero_mul, Nat.zero_add, BiasTile.fdiv_eq ⟨c.val, by omega⟩]

/-- How far the row of trip `k` rotates the table: `k + 129` modulo 384, as the kernel writes it. -/
def shift (k : ℕ) : BitVec 32 :=
  let d := Scalar.select (Scalar.cmpi .eq 384#32 0#32) 1#32 384#32
  let r := Scalar.remsi (Scalar.addi (Scf.iv 384#32 1#32 k) 4294967041#32) d
  Scalar.select (Scalar.andi (Scalar.xori (Scalar.cmpi .slt r 0#32) (Scalar.cmpi .slt d 0#32)) (Scalar.cmpi .ne r 0#32))
    (Scalar.addi r d) r

theorem shift_eq : ∀ k : Fin 256, (shift k.val).toNat = (k.val + 129) % 384 := by decide +kernel

/-- The key chunk of trip `k`, row `k + 384`, as the kernel writes it. -/
def chunk (k : ℕ) : BitVec 32 :=
  let i : BitVec 32 := Scf.iv 384#32 1#32 k
  let sgn (x : BitVec 32) : BitVec 32 := Scalar.subi (Scalar.extui (Scalar.cmpi .sgt x 0#32)) (Scalar.extui (Scalar.cmpi .slt x 0#32))
  Scalar.select (Scalar.andi (Scalar.cmpi .ne (sgn i) (sgn 64#32)) (Scalar.cmpi .ne (Scalar.remsi i 64#32) 0#32))
    (Scalar.subi (Scalar.divsi i 64#32) 1#32) (Scalar.divsi i 64#32)

theorem chunk_eq : ∀ k : Fin 256, chunk k.val = BitVec.ofNat 32 ((k.val + 384) / 64) := by decide +kernel

theorem mask_eq : (Named.named (F := Ideal) κ "mask" 0xF149F2CA#32 : Ideal .f32) = ⊥ := rfl

/-- A row of the near half, entry by entry: the table rotated to it, masked from above. -/
theorem pay2_at (v10 : FVec Ideal S16x384 .f32) (k : Fin k0_t1_loop.trips) (h : Fin 16) (c : Fin 128) (hk : k.val < 256) :
    k0_pay2 (F := Ideal) v10 k0_pay5 k (ix3 h 0 c)
      = if (k.val + 384) / 64 ≤ c.val / 64 + 8 then v10 (ix2 h ⟨c.val + 255 - k.val, by omega⟩) else (⊥ : EReal) := by
  pointwise [k0_pay2]
  show Scalar.select (IntOp.cmpi .sle (IntOp.subi (chunk k.val) (k0_pay5 (ix2 h c))) 8#32)
    (v10 (ix2 h ⟨(c.val + 384 - (shift k.val).toNat % 384) % 384, Nat.mod_lt _ (by omega)⟩)) (Named.named (F := Ideal) κ "mask" 0xF149F2CA#32 : EReal) = _
  have hj : (⟨(c.val + 384 - (shift k.val).toNat % 384) % 384, Nat.mod_lt _ (by omega)⟩ : Fin 384) = ⟨c.val + 255 - k.val, by omega⟩ := by
    apply Fin.ext
    show (c.val + 384 - (shift k.val).toNat % 384) % 384 = c.val + 255 - k.val
    rw [shift_eq ⟨k.val, hk⟩]
    show (c.val + 384 - (k.val + 129) % 384 % 384) % 384 = c.val + 255 - k.val
    omega
  rw [hj, mask_eq, pay5_at, chunk_eq ⟨k.val, hk⟩]
  have e := BiasTile.sle_sub ⟨(k.val + 384) / 64, by omega⟩ ⟨c.val / 64, by omega⟩ (by show c.val / 64 ≤ (k.val + 384) / 64; omega)
  dsimp only at e ⊢
  rw [e]
  by_cases hs : (k.val + 384) / 64 ≤ c.val / 64 + 8
  · rw [if_pos hs, if_pos hs]; rfl
  · rw [if_neg hs, if_neg hs]; rfl

/-- The far half, entry by entry: the table's last entry, masked from below. -/
theorem pay1_at (x0 : Vec Ideal S16x384 .f32) (h : Fin 16) (p : Fin 384) (c : Fin 128) :
    k0_pay1 (F := Ideal) (k0_pay9 (iota .tc S16x384x128 32 [1] Facts₀.iota_S16x384x128_d1_w32) 64#32 k0_pay6 k0_pay7 k0_pay8)
      (Named.named (F := Ideal) κ "mask" 0xF149F2CA#32 : Ideal .f32) (k0_pay10 (k0_pay4 x0)) (ix3 h p c)
      = if c.val / 64 ≤ p.val / 64 then x0 (ix2 h 255) * (((Real.log 2)⁻¹ : ℝ) : EReal) else (⊥ : EReal) := by
  pointwise [k0_pay1, k0_pay10, k0_pay4]
  rw [pay9_at, pay3_at, if_pos (show 256 ≤ 256 + c.val by omega), mask_eq]
  by_cases hs : c.val / 64 ≤ p.val / 64
  · rw [if_pos hs, if_pos hs]; rfl
  · rw [if_neg hs, if_neg hs]; rfl

/-- The tile the kernel's body leaves, over the table it reads. -/
theorem out_at (c : Dev nD) (arg0 : Memref sig .tc .vmem S16x384 .f32) (harg0 : arg0.IsWhole)
    (arg1 : Memref sig .tc .vmem S16x640x128 .f32) (harg1 : arg1.IsWhole) (x0 : Vec Ideal S16x384 .f32)
    (h : Fin 16) (p : Fin 640) (q : Fin 128) :
    out0_A_1 (F := Ideal) c arg0 harg0 arg1 harg1 x0 (ix3 h p q)
      = if BiasTile.seen p.val q.val then x0 (ix2 h ⟨min (639 + q.val - p.val) 255, by omega⟩) * (((Real.log 2)⁻¹ : ℝ) : EReal)
        else (⊥ : EReal) := by
  have ht : Scf.trips 384#32 (Scalar.addi 384#32 256#32) 1#32 = 256 := by decide +kernel
  have e3 : kernelRun0_A.sl.r (F := Ideal) c arg0 harg0 x0 = k0_pay3 x0 := by
    unfold kernelRun0_A.sl.r
    rw [View.readAt_eq_ld, Memref.IsWhole.read_unread, View.ld_unit_zero (by funext a; fin_cases a <;> rfl)]
  have e4 : kernelRun0_A.sl.r_3 (F := Ideal) c arg0 harg0 x0 = k0_pay10 (k0_pay4 x0) := by
    unfold kernelRun0_A.sl.r_3 kernelRun0_A.sl.r_1
    rw [View.readAt_eq_ld, Memref.IsWhole.read_unread, View.ld_unit_zero (by funext a; fin_cases a <;> rfl)]
  unfold out0_A_1 kernelRun0_A
  dsimp only
  rw [rows_at _ _ _ _ _ _ _ _ _ _ _ _ _ _ (le_of_eq (ht.trans trips_eq.symm)), e3, e4]
  by_cases hp : p.val < 384
  · rw [dif_neg (by omega)]
    refine (View.read_writes_cons_unit_of_mem VO0_1 _ _ _ _ (ix3 h p q) (ix3 h ⟨p.val, hp⟩ q) rfl ?_).trans ?_
    · intro a
      match a with
      | ⟨0, _⟩ => show h.val = 0 + h.val; omega
      | ⟨1, _⟩ => show p.val = 0 + p.val; omega
      | ⟨2, _⟩ => show q.val = 0 + q.val; omega
    · refine (pay1_at x0 h ⟨p.val, hp⟩ q).trans ?_
      by_cases hs : q.val / 64 ≤ p.val / 64
      · rw [if_pos hs, if_pos (by unfold BiasTile.seen; omega)]
        refine congrArg (fun j => x0 (ix2 h j) * (((Real.log 2)⁻¹ : ℝ) : EReal)) (Fin.ext ?_)
        show 255 = min (639 + q.val - p.val) 255
        omega
      · rw [if_neg hs, if_neg (by unfold BiasTile.seen; omega)]
  · rw [dif_pos (by omega)]
    refine (pay2_at (k0_pay3 x0) ⟨p.val - 384, _⟩ h q (by show p.val - 384 < 256; omega)).trans ?_
    dsimp only
    by_cases hs : (p.val - 384 + 384) / 64 ≤ q.val / 64 + 8
    · rw [if_pos hs, if_pos (by unfold BiasTile.seen; omega), pay3_at]
      refine congrArg (fun j => x0 (ix2 h j) * (((Real.log 2)⁻¹ : ℝ) : EReal)) (Fin.ext ?_)
      by_cases hj : 256 ≤ q.val + 255 - (p.val - 384)
      · rw [if_pos hj]; show 255 = min (639 + q.val - p.val) 255; omega
      · rw [if_neg hj]; show q.val + 255 - (p.val - 384) = min (639 + q.val - p.val) 255; omega
    · rw [if_neg hs, if_neg (by unfold BiasTile.seen; omega)]

variable (m : (ℓ : Loc nD τ sig) → Buf (Elt Ideal) ℓ) (c : Dev nD) (t : Fin cfg0.N)

/-- The table. -/
abbrev tabA : S16x257.Idx → EReal := m ((c : Thread nD τ).loc main_arg0)

theorem one_point : 0 < cfg0.N := by decide

/-- The table the body reads: the argument without its first column, and zeros. -/
theorem V1_at (h : Fin 16) (j : Fin 384) (hj : j.val < 256) :
    (V m c main_v1 : S16x384.Idx → EReal) (ix2 h j) = tabA m c (ix2 h ⟨j.val + 1, by omega⟩) := by
  have e : (V m c main_v1 : S16x384.Idx → EReal)
      = pad S16x384 ![0, 0] ![0, 128] ![0, 0] (extractStridedSlice S16x256 ![0, 1] (tabA m c) slices_S16x257_S16x256_0_1)
          (sitofp (F := Ideal) .f32 (constantI S_ 32 0#32)) pads_S16x256_S16x384_000_01280 h_S_ := by
    unfold V; simp only [hostOps0, hostOps0_1, List.flatten_cons, List.flatten_nil, List.cons_append, List.nil_append, List.append_nil]; after_results; rfl
  rw [e, pad_apply_of_inside (k := ix2 h ⟨j.val, hj⟩)]
  · pointwise
    exact congrArg (fun k => tabA m c (ix2 h k)) (Fin.ext (Nat.add_comm 1 j.val))
  · intro a
    match a with
    | ⟨0, _⟩ => show h.val = 0 + h.val * 1; omega
    | ⟨1, _⟩ => show j.val = 0 + j.val * 1; omega

theorem idx_facts : ∀ t : Fin cfg0.N,
    (win0_0.index t (0 : Fin 2) = 0 ∧ win0_0.index t (1 : Fin 2) = 0)
    ∧ (win0_1.index t (0 : Fin 3) = 0 ∧ win0_1.index t (1 : Fin 3) = 0 ∧ win0_1.index t (2 : Fin 3) = 0) :=
  (by decide +kernel : ∀ t : Fin grid0.N, _)

theorem iblk0_at (h : Fin 16) (j : Fin 384) (hj : j.val < 256) :
    (iblk m c 0 t : Vec Ideal S16x384 .f32) (ix2 h j) = tabA m c (ix2 h ⟨j.val + 1, by omega⟩) := by
  obtain ⟨⟨e0, e1⟩, -⟩ := idx_facts t
  refine Eq.trans ?_ (V1_at m c h j hj)
  show (V m c main_v1 : S16x384.Idx → EReal) (((cfg0.win 0).blk t).view.emb (ix2 h j)) = _
  refine congrArg (V m c main_v1 : S16x384.Idx → EReal) ?_
  funext a; apply Fin.ext
  match a with
  | ⟨0, _⟩ => show win0_0.index t (0 : Fin 2) * 16 + 1 * h.val = h.val; omega
  | ⟨1, _⟩ => show win0_0.index t (1 : Fin 2) * 384 + 1 * j.val = j.val; omega

/-- The output's only block is the output. -/
theorem emb1 (h : Fin 16) (p : Fin 640) (q : Fin 128) :
    ((cfg0.win 1).blk t).view.emb (ix3 h p q) = (ix3 h p q : S16x640x128.Idx) := by
  obtain ⟨-, e0, e1, e2⟩ := idx_facts t
  funext a; apply Fin.ext
  match a with
  | ⟨0, _⟩ => show win0_1.index t (0 : Fin 3) * 16 + 1 * h.val = h.val; omega
  | ⟨1, _⟩ => show win0_1.index t (1 : Fin 3) * 640 + 1 * p.val = p.val; omega
  | ⟨2, _⟩ => show win0_1.index t (2 : Fin 3) * 128 + 1 * q.val = q.val; omega

/-- Every entry of the output lies in the block that is written back. -/
theorem cover_out (i : S16x640x128.Idx) : ∃ t : Fin cfg0.N, (cfg0.win 1).flush t = true ∧ i ∈ ((cfg0.win 1).blk t).view.set :=
  ⟨⟨0, one_point⟩, flush0_1 _, by
    have h' := View.emb_mem_set ((cfg0.win 1).blk ⟨0, one_point⟩).view (ix3 (i 0) (i 1) (i 2))
    have e := (emb1 ⟨0, one_point⟩ (i 0) (i 1) (i 2)).trans (eq_ix3 i).symm
    rwa [e] at h'⟩

/-- The kernel's output array is the tile of its table. -/
theorem final : (dats m 0 c).arrAt 1 cfg0.N = fun i => BiasTile.tile (tabA m c) (i 0) (i 1) (i 2) := by
  refine (dats m 0 c).arrAt_eq_of_cover 1 _ (fun t _ => ?_) cover_out
  rw [Value.flushed1_A]
  funext y
  obtain ⟨h, p, q, rfl⟩ : ∃ (h : Fin 16) (p : Fin 640) (q : Fin 128), y = ix3 h p q := ⟨_, _, _, eq_ix3 y⟩
  refine Eq.trans (b := out0_A_1 (F := Ideal) c (ms0_0 t) (hs0_0 t) (ms0_1 t) (hs0_1 t) (iblk m c 0 t) (ix3 h p q)) rfl ?_
  rw [out_at]
  refine Eq.trans (b := BiasTile.tile (tabA m c) h p q) ?_
    (congrArg (fun i : S16x640x128.Idx => BiasTile.tile (tabA m c) (i 0) (i 1) (i 2)) (emb1 t h p q).symm)
  unfold BiasTile.tile
  by_cases hs : BiasTile.seen p.val q.val
  · rw [if_pos hs, if_pos hs]
    refine congrArg (· * (((Real.log 2)⁻¹ : ℝ) : EReal)) ((iblk0_at m c t h _ (by show min (639 + q.val - p.val) 255 < 256; omega)).trans ?_)
    refine congrArg (fun j => tabA m c (ix2 h j)) (Fin.ext ?_)
    show min (639 + q.val - p.val) 255 + 1 = min (640 + q.val - p.val) 256
    omega
  · rw [if_neg hs, if_neg hs]

end Cert.BiasIdeal.Gen

namespace Cert.BiasReferenceIdeal.Gen
open Idealize.ShloMosaic Idealize.ShloMosaic.TcCoe Idealize.SL.Sem Cert.BiasReferenceIdeal Cert.BiasReferenceIdeal.Read

/-- The query's chunk. -/
theorem v4_at : ∀ c : Fin 128, (val_main_v4 (F := Ideal) (ix2 0 c) : BitVec 32) = BitVec.ofNat 32 (c.val / 64) := by decide +kernel

/-- The query's place in its chunk. -/
theorem v10_at : ∀ c : Fin 128, (val_main_v10 (F := Ideal) (ix2 0 c) : BitVec 32) = BitVec.ofNat 32 (c.val % 64) := by decide +kernel

/-- The key's row, counted from the first key the query attends to. -/
theorem v9_at (p : Fin 640) (c : Fin 128) :
    (val_main_v9 (F := Ideal) (ix2 p c) : BitVec 32) = BitVec.ofNat 32 (p.val + 64 - 64 * (c.val / 64)) - 64#32 := by
  have e : (val_main_v9 (F := Ideal) (ix2 p c) : BitVec 32) = BitVec.ofNat 32 p.val - 64#32 * (val_main_v4 (F := Ideal) (ix2 0 c) : BitVec 32) := rfl
  rw [e, v4_at]
  apply BitVec.eq_of_toNat_eq
  simp only [BitVec.toNat_sub, BitVec.toNat_mul, BitVec.toNat_ofNat]
  omega

/-- The distance. -/
theorem v14_at (p : Fin 640) (c : Fin 128) :
    (val_main_v14 (F := Ideal) (ix2 p c) : BitVec 32) = BitVec.ofNat 32 (640 + c.val - p.val) - 128#32 := by
  have e : (val_main_v14 (F := Ideal) (ix2 p c) : BitVec 32)
      = 512#32 + (val_main_v10 (F := Ideal) (ix2 0 c) : BitVec 32) - (val_main_v9 (F := Ideal) (ix2 p c) : BitVec 32) := rfl
  rw [e, v10_at, v9_at]
  apply BitVec.eq_of_toNat_eq
  simp only [BitVec.toNat_sub, BitVec.toNat_add, BitVec.toNat_ofNat]
  omega

/-- A distance cut off, shifted and wrapped, as the reference writes it. -/
def wrap (x : BitVec 32) : BitVec 32 :=
  let y := IntOp.addi (IntOp.minsi 128#32 (IntOp.maxsi 4294967168#32 x)) 128#32
  Scalar.select (IntOp.cmpi .slt y 0#32) (IntOp.addi y 257#32) y

theorem wrap_eq : ∀ z : Fin 768, (wrap (BitVec.ofNat 32 z.val - 128#32)).toInt.toNat = min z.val 256 := by decide +kernel

theorem v23_at (p : Fin 640) (c : Fin 128) :
    (val_main_v23 (F := Ideal) (ix3 p c 0) : BitVec 32) = wrap (BitVec.ofNat 32 (640 + c.val - p.val) - 128#32) := by
  have e : (val_main_v23 (F := Ideal) (ix3 p c 0) : BitVec 32) = wrap (val_main_v14 (F := Ideal) (ix2 p c)) := rfl
  rw [e, v14_at]

/-- Which pairs attend. -/
theorem band_eq : ∀ w : Fin 704, IntOp.andi (IntOp.cmpi .sge (BitVec.ofNat 32 w.val - 64#32) 0#32) (IntOp.cmpi .slt (BitVec.ofNat 32 w.val - 64#32) 576#32)
    = if 64 ≤ w.val ∧ w.val < 640 then 1#1 else 0#1 := by decide +kernel

theorem v29_at (p : Fin 640) (c : Fin 128) :
    (val_main_v29 (F := Ideal) (ix2 p c) : BitVec 1) = if BiasTile.seen p.val c.val then 1#1 else 0#1 := by
  have e : (val_main_v29 (F := Ideal) (ix2 p c) : BitVec 1)
      = IntOp.andi (IntOp.cmpi .sge (val_main_v9 (F := Ideal) (ix2 p c)) 0#32) (IntOp.cmpi .slt (val_main_v9 (F := Ideal) (ix2 p c)) 576#32) := rfl
  rw [e, v9_at]
  refine (band_eq ⟨p.val + 64 - 64 * (c.val / 64), by omega⟩).trans ?_
  dsimp only
  by_cases hs : BiasTile.seen p.val c.val
  · rw [if_pos hs, if_pos (by unfold BiasTile.seen at hs; omega)]
  · rw [if_neg hs, if_neg (by unfold BiasTile.seen at hs; omega)]

/-- The lookup in the table: each row of it read at the entry the indices name. -/
theorem gather_at (x0 : S16x257.Idx → EReal) (idx : IVec S640x128x1 32) (h : Fin 16) (p : Fin 640) (c : Fin 128) :
    Host.gather gather_S16x257_S640x128x1_S16x640x128_0_1_n_n_1_2_161 x0 idx (ix3 h p c)
      = x0 (ix2 h ⟨min (idx (ix3 p c 0)).toInt.toNat 256, by omega⟩) := by
  let g := gather_S16x257_S640x128x1_S16x640x128_0_1_n_n_1_2_161
  refine congrArg x0 (funext fun a => Fin.ext ?_)
  match a with
  | ⟨0, _⟩ =>
    show g.start (ix3 h p c) idx (0 : Fin 2) + g.batchCoord (ix3 h p c) (0 : Fin 2) + g.offCoord (ix3 h p c) (0 : Fin 2) = h.val
    rw [GatherDims.batchCoord_eq_zero _ _ _ (fun hm => by cases hm)]
    unfold GatherDims.start
    rw [dif_neg (by decide)]
    rw [Nat.zero_add]
    unfold GatherDims.offCoord
    rw [dif_pos (by decide)]
    rfl
  | ⟨1, _⟩ =>
    show g.start (ix3 h p c) idx (1 : Fin 2) + g.batchCoord (ix3 h p c) (1 : Fin 2) + g.offCoord (ix3 h p c) (1 : Fin 2) = _
    rw [GatherDims.batchCoord_eq_zero _ _ _ (fun hm => by cases hm),
      GatherDims.offCoord_eq_zero _ _ _ (fun hm => ((GatherDims.mem_sKept _ _).mp hm).1 (List.mem_singleton.mpr rfl)), Nat.add_zero]
    unfold GatherDims.start
    have h1 : (1 : Fin 2) ∈ g.startIndexMap := List.mem_singleton.mpr rfl
    have hsi : g.siIdx (ix3 h p c) ⟨List.idxOf (1 : Fin 2) g.startIndexMap, List.idxOf_lt_length_iff.2 h1⟩ = ix3 p c 0 := by
      funext b
      match b with
      | ⟨0, _⟩ => exact Fin.ext rfl
      | ⟨1, _⟩ => exact Fin.ext rfl
      | ⟨2, _⟩ => exact Fin.ext rfl
    refine (dif_pos h1).trans ?_
    rw [hsi]
    rfl

/-- The reference, entry by entry. -/
theorem v34_at (x0 : (⟨S16x257, .f32⟩ : BufTy).Contents (Elt Ideal)) (h : Fin 16) (p : Fin 640) (c : Fin 128) :
    val_main_v34 (F := Ideal) x0 (ix3 h p c) = BiasTile.tile x0 h p c := by
  have e : val_main_v34 (F := Ideal) x0 (ix3 h p c)
      = Scalar.select (val_main_v29 (F := Ideal) (ix2 p c) : BitVec 1)
          (Ideal.div (Host.gather gather_S16x257_S640x128x1_S16x640x128_0_1_n_n_1_2_161 x0 (val_main_v23 (F := Ideal)) (ix3 h p c))
            (val_main_v30 (F := Ideal) ix0)) (val_main_cst_10 (F := Ideal) ix0) := rfl
  have hl : (val_main_v30 (F := Ideal) ix0 : EReal) = ((Real.log 2 : ℝ) : EReal) := by
    have h2 : Ideal.ofBits .f32 1073741824#32 = ((2 : ℝ) : EReal) := by
      simp [Ideal.ofBits, Ideal.ieee]
      rw [← EReal.coe_mul]
      norm_num
    pointwise [val_main_v30, val_main_cst]
    rw [h2, Ideal.log_coe, if_neg (by norm_num)]
  have hb : (val_main_cst_10 (F := Ideal) ix0 : EReal) = ⊥ := by
    pointwise [val_main_cst_10]
    simp [Ideal.ofBits, Ideal.ieee]
  have hg : Host.gather gather_S16x257_S640x128x1_S16x640x128_0_1_n_n_1_2_161 x0 (val_main_v23 (F := Ideal)) (ix3 h p c)
      = x0 (ix2 h (BiasTile.entry p.val c.val)) := by
    refine (gather_at x0 _ h p c).trans (congrArg (fun k => x0 (ix2 h k)) (Fin.ext ?_))
    show min (val_main_v23 (F := Ideal) (ix3 p c 0) : BitVec 32).toInt.toNat 256 = min (640 + c.val - p.val) 256
    have hw := wrap_eq ⟨640 + c.val - p.val, by omega⟩
    rw [v23_at]
    dsimp only at hw
    omega
  rw [e, v29_at, hl, hg, hb, Ideal.div_coe (ne_of_gt (Real.log_pos (by norm_num))), one_div]
  unfold BiasTile.tile
  by_cases hs : BiasTile.seen p.val c.val
  · rw [if_pos hs, if_pos hs]; rfl
  · rw [if_neg hs, if_neg hs]; rfl

end Cert.BiasReferenceIdeal.Gen

namespace BiasClaims
open Idealize.ShloMosaic Idealize.ShloMosaic.TcCoe Idealize.SL.Sem

/-- The kernel runs, leaves its argument as it was and ends quiescent. -/
theorem frame_p : Cert.quiescent_Bias := fun m ρ _ => Cert.Bias.Gen.frame m ρ

/-- So does the idealized kernel. -/
theorem frame_pi : Cert.quiescent_BiasIdeal := fun m ρ _ => Cert.BiasIdeal.Gen.frame m ρ

/-- The reference runs, leaves its argument as it was and ends quiescent. -/
theorem frame_ri : Cert.quiescent_BiasReferenceIdeal := fun m ρ _ =>
  (θ_run Cert.BiasReferenceIdeal.defs _ _).mono (fun r h => ⟨fun c => (h c).2, sem_eq_zero_of_no_sems (by decide) r.2⟩)
    (Cert.BiasReferenceIdeal.Value.run (F := Ideal) m ρ)

/-- The idealized kernel is the kernel with its two constants read exactly. -/
theorem preserves : Cert.preserves_Bias_BiasIdeal :=
  ⟨IdealRules.named_const.statement _ _ _ _ _ rfl, IdealRules.named_const.statement _ _ _ _ _ rfl⟩

/-- The idealized kernel and the reference end with the same array, for every table. -/
theorem algebraic : Cert.algebraic_BiasIdeal_BiasReferenceIdeal := fun m g m' g' _ hm =>
  ⟨fun c i => BiasTile.tile (Cert.BiasIdeal.Gen.tabA m c) (i 0) (i 1) (i 2),
    (θ_run Cert.BiasIdeal.defs _ _).mono (fun r h c => ⟨(h c).1.trans (Cert.BiasIdeal.Gen.final m c), (h c).2⟩)
      (Cert.BiasIdeal.Value.run_blocks (F := Ideal) m g),
    (θ_run Cert.BiasReferenceIdeal.defs _ _).mono (fun r h c => ⟨by
        refine (h c).1.trans ((Cert.BiasReferenceIdeal.Read.val_main_v34_eq (F := Ideal) _ _).trans ?_)
        rw [hm c]
        funext i
        rw [eq_ix3 i]
        exact Cert.BiasReferenceIdeal.Gen.v34_at _ (i 0) (i 1) (i 2), (h c).2⟩)
      (Cert.BiasReferenceIdeal.Value.run (F := Ideal) m' g')⟩

end BiasClaims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite2
public import proofs.«01_k».proof.Proof.Gen.AttnIdeal.Value
public import proofs.«01_k».proof.Proof.Gen.AttnReferenceIdeal.Run
public import proofs.«01_k».proof.Proof.Gen.AttnReferenceIdeal.Read
public import proofs.«01_k».proof.Proof.Claims
public import proofs.«01_k».proof.Proof.AttnClaims
public import proofs.«01_k».proof.Proof.MemProj
public import proofs.«01_k».proof.Proof.Bias
public import Idealize.ShloMosaic.Adequacy
public import Idealize.ShloMosaic.Init

@[expose] public section

noncomputable section

namespace Cert.Proof

open Idealize.ShloMosaic Idealize.SL.Sem Cert.Kernel

/-- Everything the statement claims of the kernel. -/
theorem claim : Cert.Claim := ⟨Cert.Kernel.Gen.facts, Cert.KernelIdeal.Gen.facts, Cert.ReferenceIdeal.Gen.facts,
  Cert.Attn.Gen.facts, Cert.AttnIdeal.Gen.facts, Cert.AttnReferenceIdeal.Gen.facts,
  Cert.MemProj.Gen.facts, Cert.MemProjIdeal.Gen.facts, Cert.MemProjReferenceIdeal.Gen.facts,
  Cert.Bias.Gen.facts, Cert.BiasIdeal.Gen.facts, Cert.BiasReferenceIdeal.Gen.facts, Cert.Pre_finite.Gen.facts, Cert.Pre_finite2.Gen.facts,
  ConvClaims.frame_p, ConvClaims.frame_pi, ConvClaims.frame_pi_finite, ConvClaims.frame_ri, ConvClaims.frame_ri_finite,
  AttnClaims.frame_p, AttnClaims.frame_pi, AttnClaims.frame_pi_finite2, AttnClaims.frame_ri, AttnClaims.frame_ri_finite2,
  MemProjClaims.frame_p, MemProjClaims.frame_pi, MemProjClaims.frame_ri,
  BiasClaims.frame_p, BiasClaims.frame_pi, BiasClaims.frame_ri,
  ConvClaims.preserves, ConvClaims.algebraic, AttnClaims.preserves, AttnClaims.algebraic,
  MemProjClaims.preserves, MemProjClaims.algebraic, BiasClaims.preserves, BiasClaims.algebraic⟩

end Cert.Proof

end
